-- ==== Defs.lean ====
def Pre_Kernel [hPre_codes_in_range : Cert.Pre_codes_in_range.Facts] (m : (ℓ : Loc Cert.Kernel.nD Cert.Kernel.τ Cert.Kernel.sig) → Buf (Elt Bits) ℓ) : Prop :=
  ∀ c : Dev Cert.Kernel.nD,
    (Cert.Pre_codes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_range [hPre_codes_in_range : Cert.Pre_codes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateReferenceIdeal (m : (ℓ : Loc Cert.UpdateReferenceIdeal.nD Cert.UpdateReferenceIdeal.τ Cert.UpdateReferenceIdeal.sig) → Buf (Elt Ideal) ℓ) : Prop :=
  True

def quiescent_Kernel [hKernel : Cert.Kernel.Facts] [hPre_codes_in_range : Cert.Pre_codes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_codes_in_range [hReferenceIdeal : Cert.ReferenceIdeal.Facts] [hPre_codes_in_range : Cert.Pre_codes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ r.2.sem = fun _ => 0)

def quiescent_UpdateReferenceIdeal [hUpdateReferenceIdeal : Cert.UpdateReferenceIdeal.Facts] : Prop :=
  ∀ (m : (ℓ : Loc Cert.UpdateReferenceIdeal.nD Cert.UpdateReferenceIdeal.τ Cert.UpdateReferenceIdeal.sig) → Buf (Elt Ideal) ℓ) (g : Dev Cert.UpdateReferenceIdeal.nD → PrngReg), Pre_UpdateReferenceIdeal m →
    θ_run (Cert.UpdateReferenceIdeal.defs (F := Ideal)) (onTc (τ := Cert.UpdateReferenceIdeal.τ) (Cert.UpdateReferenceIdeal.main (F := Ideal))) ⟨m, fun _ => 0, g⟩ (fun r => (∀ c : Dev Cert.UpdateReferenceIdeal.nD,
      r.2.mem ((c.tc : Thread Cert.UpdateReferenceIdeal.nD Cert.UpdateReferenceIdeal.τ).loc Cert.UpdateReferenceIdeal.main_arg0) = m ((c.tc : Thread Cert.UpdateReferenceIdeal.nD Cert.UpdateReferenceIdeal.τ).loc Cert.UpdateReferenceIdeal.main_arg0)
      ∧ r.2.mem ((c.tc : Thread Cert.UpdateReferenceIdeal.nD Cert.UpdateReferenceIdeal.τ).loc Cert.UpdateReferenceIdeal.main_arg1) = m ((c.tc : Thread Cert.UpdateReferenceIdeal.nD Cert.UpdateReferenceIdeal.τ).loc Cert.UpdateReferenceIdeal.main_arg1)
      ∧ r.2.mem ((c.tc : Thread Cert.UpdateReferenceIdeal.nD Cert.UpdateReferenceIdeal.τ).loc Cert.UpdateReferenceIdeal.main_arg2) = m ((c.tc : Thread Cert.UpdateReferenceIdeal.nD Cert.UpdateReferenceIdeal.τ).loc Cert.UpdateReferenceIdeal.main_arg2)
      ∧ r.2.mem ((c.tc : Thread Cert.UpdateReferenceIdeal.nD Cert.UpdateReferenceIdeal.τ).loc Cert.UpdateReferenceIdeal.main_arg3) = m ((c.tc : Thread Cert.UpdateReferenceIdeal.nD Cert.UpdateReferenceIdeal.τ).loc Cert.UpdateReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Update_UpdateIdeal : Prop :=
  True

def algebraic_UpdateIdeal_UpdateReferenceIdeal [hUpdateIdeal : Cert.UpdateIdeal.Facts] [hUpdateReferenceIdeal : Cert.UpdateReferenceIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateReferenceIdeal.nD Cert.UpdateReferenceIdeal.τ Cert.UpdateReferenceIdeal.sig) → Buf (Elt Ideal) ℓ) (g' : Dev Cert.UpdateReferenceIdeal.nD → PrngReg), Pre_UpdateIdeal m →
    (∀ c : Dev Cert.UpdateIdeal.nD,
      m' ((c.tc : Thread Cert.UpdateReferenceIdeal.nD Cert.UpdateReferenceIdeal.τ).loc Cert.UpdateReferenceIdeal.main_arg0) = m ((c.tc : Thread Cert.UpdateIdeal.nD Cert.UpdateIdeal.τ).loc Cert.UpdateIdeal.main_arg0)
      ∧ m' ((c.tc : Thread Cert.UpdateReferenceIdeal.nD Cert.UpdateReferenceIdeal.τ).loc Cert.UpdateReferenceIdeal.main_arg1) = m ((c.tc : Thread Cert.UpdateIdeal.nD Cert.UpdateIdeal.τ).loc Cert.UpdateIdeal.main_arg1)
      ∧ m' ((c.tc : Thread Cert.UpdateReferenceIdeal.nD Cert.UpdateReferenceIdeal.τ).loc Cert.UpdateReferenceIdeal.main_arg2) = m ((c.tc : Thread Cert.UpdateIdeal.nD Cert.UpdateIdeal.τ).loc Cert.UpdateIdeal.main_arg2)
      ∧ m' ((c.tc : Thread Cert.UpdateReferenceIdeal.nD Cert.UpdateReferenceIdeal.τ).loc Cert.UpdateReferenceIdeal.main_arg3) = m ((c.tc : Thread Cert.UpdateIdeal.nD Cert.UpdateIdeal.τ).loc Cert.UpdateIdeal.main_arg3)) →
    ∃ (v0 : (c : Dev Cert.UpdateIdeal.nD) → Buf (Elt Ideal) ((c.tc : Thread Cert.UpdateIdeal.nD Cert.UpdateIdeal.τ).loc Cert.UpdateIdeal.main_v1_0)) (v1 : (c : Dev Cert.UpdateIdeal.nD) → Buf (Elt Ideal) ((c.tc : Thread Cert.UpdateIdeal.nD Cert.UpdateIdeal.τ).loc Cert.UpdateIdeal.main_v1_1)) (v2 : (c : Dev Cert.UpdateIdeal.nD) → Buf (Elt Ideal) ((c.tc : Thread Cert.UpdateIdeal.nD Cert.UpdateIdeal.τ).loc Cert.UpdateIdeal.main_v1_2)) (v3 : (c : Dev Cert.UpdateIdeal.nD) → Buf (Elt Ideal) ((c.tc : Thread Cert.UpdateIdeal.nD Cert.UpdateIdeal.τ).loc Cert.UpdateIdeal.main_v1_3)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v1_0) = v0 c
          ∧ r.2.mem ((c.tc : Thread Cert.UpdateIdeal.nD Cert.UpdateIdeal.τ).loc Cert.UpdateIdeal.main_v1_1) = v1 c
          ∧ r.2.mem ((c.tc : Thread Cert.UpdateIdeal.nD Cert.UpdateIdeal.τ).loc Cert.UpdateIdeal.main_v1_2) = v2 c
          ∧ r.2.mem ((c.tc : Thread Cert.UpdateIdeal.nD Cert.UpdateIdeal.τ).loc Cert.UpdateIdeal.main_v1_3) = v3 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ θ_run (Cert.UpdateReferenceIdeal.defs (F := Ideal)) (onTc (τ := Cert.UpdateReferenceIdeal.τ) (Cert.UpdateReferenceIdeal.main (F := Ideal))) ⟨m', fun _ => 0, g'⟩ (fun r => ∀ c : Dev Cert.UpdateReferenceIdeal.nD,
          r.2.mem ((c.tc : Thread Cert.UpdateReferenceIdeal.nD Cert.UpdateReferenceIdeal.τ).loc Cert.UpdateReferenceIdeal.main_v45) = v0 c
          ∧ r.2.mem ((c.tc : Thread Cert.UpdateReferenceIdeal.nD Cert.UpdateReferenceIdeal.τ).loc Cert.UpdateReferenceIdeal.main_v12) = v1 c
          ∧ r.2.mem ((c.tc : Thread Cert.UpdateReferenceIdeal.nD Cert.UpdateReferenceIdeal.τ).loc Cert.UpdateReferenceIdeal.main_v44) = v2 c
          ∧ r.2.mem ((c.tc : Thread Cert.UpdateReferenceIdeal.nD Cert.UpdateReferenceIdeal.τ).loc Cert.UpdateReferenceIdeal.main_v40) = v3 c
          ∧ r.2.mem ((c.tc : Thread Cert.UpdateReferenceIdeal.nD Cert.UpdateReferenceIdeal.τ).loc Cert.UpdateReferenceIdeal.main_arg0) = m' ((c.tc : Thread Cert.UpdateReferenceIdeal.nD Cert.UpdateReferenceIdeal.τ).loc Cert.UpdateReferenceIdeal.main_arg0)
          ∧ r.2.mem ((c.tc : Thread Cert.UpdateReferenceIdeal.nD Cert.UpdateReferenceIdeal.τ).loc Cert.UpdateReferenceIdeal.main_arg1) = m' ((c.tc : Thread Cert.UpdateReferenceIdeal.nD Cert.UpdateReferenceIdeal.τ).loc Cert.UpdateReferenceIdeal.main_arg1)
          ∧ r.2.mem ((c.tc : Thread Cert.UpdateReferenceIdeal.nD Cert.UpdateReferenceIdeal.τ).loc Cert.UpdateReferenceIdeal.main_arg2) = m' ((c.tc : Thread Cert.UpdateReferenceIdeal.nD Cert.UpdateReferenceIdeal.τ).loc Cert.UpdateReferenceIdeal.main_arg2)
          ∧ r.2.mem ((c.tc : Thread Cert.UpdateReferenceIdeal.nD Cert.UpdateReferenceIdeal.τ).loc Cert.UpdateReferenceIdeal.main_arg3) = m' ((c.tc : Thread Cert.UpdateReferenceIdeal.nD Cert.UpdateReferenceIdeal.τ).loc Cert.UpdateReferenceIdeal.main_arg3))

def Claim : Prop :=
  ∃ (hKernel : Cert.Kernel.Facts) (hKernelIdeal : Cert.KernelIdeal.Facts) (hReferenceIdeal : Cert.ReferenceIdeal.Facts) (hUpdate : Cert.Update.Facts) (hUpdateIdeal : Cert.UpdateIdeal.Facts) (hUpdateReferenceIdeal : Cert.UpdateReferenceIdeal.Facts) (hPre_codes_in_range : Cert.Pre_codes_in_range.Facts),
    quiescent_Kernel (hKernel := hKernel) (hPre_codes_in_range := hPre_codes_in_range)
    ∧ quiescent_KernelIdeal (hKernelIdeal := hKernelIdeal) (hPre_codes_in_range := hPre_codes_in_range)
    ∧ quiescent_ReferenceIdeal (hReferenceIdeal := hReferenceIdeal)
    ∧ quiescent_ReferenceIdeal_pre_codes_in_range (hReferenceIdeal := hReferenceIdeal) (hPre_codes_in_range := hPre_codes_in_range)
    ∧ quiescent_Update (hUpdate := hUpdate)
    ∧ quiescent_UpdateIdeal (hUpdateIdeal := hUpdateIdeal)
    ∧ quiescent_UpdateReferenceIdeal (hUpdateReferenceIdeal := hUpdateReferenceIdeal)
    ∧ preserves_Kernel_KernelIdeal
    ∧ algebraic_KernelIdeal_ReferenceIdeal (hKernelIdeal := hKernelIdeal) (hReferenceIdeal := hReferenceIdeal) (hPre_codes_in_range := hPre_codes_in_range)
    ∧ preserves_Update_UpdateIdeal
    ∧ algebraic_UpdateIdeal_UpdateReferenceIdeal (hUpdateIdeal := hUpdateIdeal) (hUpdateReferenceIdeal := hUpdateReferenceIdeal)
-- ==== Pre_codes_in_range.lean ====
abbrev S18x16x65536 : Shape := ⟨3, ![18, 16, 65536]⟩
abbrev S18x65536x4 : Shape := ⟨3, ![18, 65536, 4]⟩
abbrev S4x8192 : Shape := ⟨2, ![4, 8192]⟩
abbrev S4x8192x16 : Shape := ⟨3, ![4, 8192, 16]⟩
abbrev S_ : Shape := ⟨0, ![]⟩

class Facts : Prop where
  bcast_S_S18x65536x4 : S_.BroadcastsInDim S18x65536x4 (![] : Fin 0 → Fin S18x65536x4.rank)

variable [Facts]

def fn {F : FTy → Type} [FloatOps F] (main_arg0 : IVec S18x16x65536 32) (main_arg1 : FVec F S18x65536x4 .f32) (main_arg2 : IVec S18x65536x4 32) (main_arg3 : FVec F S4x8192 .f32) (main_arg4 : FVec F S4x8192x16 .f32) : IVec S18x65536x4 1 :=
  let main_c : IVec S_ 32 := constantI S_ 32 0#32
  let main_v0 : IVec S18x65536x4 32 := broadcastInDim S18x65536x4 ![] bcast_S_S18x65536x4 main_c
  let main_v1 : IVec S18x65536x4 1 := cmpi .sge main_arg2 main_v0
  let main_c_0 : IVec S_ 32 := constantI S_ 32 8192#32
  let main_v2 : IVec S18x65536x4 32 := broadcastInDim S18x65536x4 ![] bcast_S_S18x65536x4 main_c_0
  let main_v3 : IVec S18x65536x4 1 := cmpi .slt main_arg2 main_v2
  let main_v4 : IVec S18x65536x4 1 := andi main_v1 main_v3
  main_v4
-- ==== Kernel.lean ====
abbrev S18x16x65536 : Shape := ⟨3, ![18, 16, 65536]⟩
abbrev S18x65536x4 : Shape := ⟨3, ![18, 65536, 4]⟩
abbrev S4x8192 : Shape := ⟨2, ![4, 8192]⟩
abbrev S4x8192x16 : Shape := ⟨3, ![4, 8192, 16]⟩
abbrev S18x4x65536 : Shape := ⟨3, ![18, 4, 65536]⟩
abbrev S4x64x8192 : Shape := ⟨3, ![4, 64, 8192]⟩
abbrev S4x8x8192 : Shape := ⟨3, ![4, 8, 8192]⟩
abbrev S65536 : Shape := ⟨1, ![65536]⟩
abbrev S8192 : Shape := ⟨1, ![8192]⟩
abbrev S4096 : Shape := ⟨1, ![4096]⟩
abbrev S2048 : Shape := ⟨1, ![2048]⟩
abbrev S_ : Shape := ⟨0, ![]⟩
abbrev S1x1x2048 : Shape := ⟨3, ![1, 1, 2048]⟩
abbrev S16 : Shape := ⟨1, ![16]⟩
abbrev S1x1x8192 : Shape := ⟨3, ![1, 1, 8192]⟩
abbrev S64x8192 : Shape := ⟨2, ![64, 8192]⟩
abbrev S4x16x8192 : Shape := ⟨3, ![4, 16, 8192]⟩

abbrev nBuf : Table → Nat
  | .hbm => 30
  | .local .scVector .vmem => 8
  | _ => 0

abbrev bufTy : (tb : Table) → Fin (nBuf tb) → BufTy
  | .hbm, ⟨0, _⟩ => ⟨S18x16x65536, .i32⟩
  | .hbm, ⟨1, _⟩ => ⟨S18x65536x4, .f32⟩
  | .hbm, ⟨2, _⟩ => ⟨S18x65536x4, .i32⟩
  | .hbm, ⟨3, _⟩ => ⟨S4x8192, .f32⟩
  | .hbm, ⟨4, _⟩ => ⟨S4x8192x16, .f32⟩
  | .hbm, ⟨5, _⟩ => ⟨S18x4x65536, .f32⟩
  | .hbm, ⟨6, _⟩ => ⟨S18x4x65536, .i32⟩
  | .hbm, ⟨7, _⟩ => ⟨S4x64x8192, .f32⟩
  | .hbm, ⟨8, _⟩ => ⟨S4x8x8192, .f32⟩
  | .hbm, ⟨9, _⟩ => ⟨S_, .f32⟩
  | .hbm, ⟨10, _⟩ => ⟨S4x8192, .f32⟩
  | .hbm, ⟨11, _⟩ => ⟨S4x8192, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192, .f32⟩
  | .hbm, ⟨18, _⟩ => ⟨S_, .f32⟩
  | .hbm, ⟨19, _⟩ => ⟨S64x8192, .f32⟩
  | .hbm, ⟨20, _⟩ => ⟨S4x16x8192, .f32⟩
  | .hbm, ⟨21, _⟩ => ⟨S4x16x8192, .f32⟩
  | .hbm, ⟨22, _⟩ => ⟨S_, .f32⟩
  | .hbm, ⟨23, _⟩ => ⟨S4x16x8192, .f32⟩
  | .hbm, ⟨24, _⟩ => ⟨S4x16x8192, .f32⟩
  | .hbm, ⟨25, _⟩ => ⟨S_, .f32⟩
  | .hbm, ⟨26, _⟩ => ⟨S4x16x8192, .f32⟩
  | .hbm, ⟨27, _⟩ => ⟨S4x16x8192, .f32⟩
  | .hbm, ⟨28, _⟩ => ⟨S4x16x8192, .f32⟩
  | .hbm, ⟨29, _⟩ => ⟨S4x8192x16, .f32⟩
  | .local .scVector .vmem, ⟨0, _⟩ => ⟨S65536, .f32⟩
  | .local .scVector .vmem, ⟨1, _⟩ => ⟨S8192, .f32⟩
  | .local .scVector .vmem, ⟨2, _⟩ => ⟨S4096, .i32⟩
  | .local .scVector .vmem, ⟨3, _⟩ => ⟨S4096, .i32⟩
  | .local .scVector .vmem, ⟨4, _⟩ => ⟨S2048, .f32⟩
  | .local .scVector .vmem, ⟨5, _⟩ => ⟨S2048, .f32⟩
  | .local .scVector .vmem, ⟨6, _⟩ => ⟨S2048, .i32⟩
  | .local .scVector .vmem, ⟨7, _⟩ => ⟨S2048, .i32⟩
  | _, _ => ⟨S18x16x65536, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_arg0_scv : Ref sig .scVector := ⟨.hbm, 0, rfl⟩
abbrev main_v0_scv : Ref sig .scVector := ⟨.hbm, 5, rfl⟩
abbrev main_v1_scv : Ref sig .scVector := ⟨.hbm, 6, rfl⟩
abbrev main_v2_0_scv : Ref sig .scVector := ⟨.hbm, 7, rfl⟩
abbrev main_v2_1_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_38 : BitVec 32) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_16 : BitVec 32 := 2#32
  let c0_i32_17 : BitVec 32 := 0#32
  let v46 : BitVec 1 := Scalar.cmpi .eq c2_i32_16 c0_i32_17
  let c1_i32_18 : BitVec 32 := 1#32
  let v47 : BitVec 32 := Scalar.select v46 c1_i32_18 c2_i32_16
  let v48 : BitVec 32 := Scalar.remsi v1 v47
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let c0_i32_19 : BitVec 32 := 0#32
  let v49 : BitVec 1 := Scalar.cmpi .ne v48 c0_i32_19
  let v53 : BitVec 1 := Scalar.andi v52 v49
  let v54 : BitVec 32 := Scalar.addi v48 v47
  let v55 : BitVec 32 := Scalar.select v53 v54 v48
  let v59 : BitVec 32 := Scalar.xori c0_i32_24 v55
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c8_i32_25 : BitVec 32 := 8#32
  let c0_i32_28 : BitVec 32 := 0#32
  let v66 : BitVec 1 := Scalar.cmpi .sgt c8_i32_25 c0_i32_28
  let v67 : BitVec 32 := Scalar.extui v66
  let c0_i32_29 : BitVec 32 := 0#32
  let v68 : BitVec 1 := Scalar.cmpi .slt c8_i32_25 c0_i32_29
  let v69 : BitVec 32 := Scalar.extui v68
  let v70 : BitVec 32 := Scalar.subi v67 v69
  let v71 : BitVec 1 := Scalar.cmpi .ne v65 v70
  let v72 : BitVec 32 := Scalar.remsi v59 c8_i32_25
  let c0_i32_30 : BitVec 32 := 0#32
  let v73 : BitVec 1 := Scalar.cmpi .ne v72 c0_i32_30
  let v74 : BitVec 1 := Scalar.andi v71 v73
  let v60 : BitVec 32 := Scalar.divsi v59 c8_i32_25
  let c1_i32_31 : BitVec 32 := 1#32
  let v75 : BitVec 32 := Scalar.subi v60 c1_i32_31
  let v76 : BitVec 32 := Scalar.select v74 v75 v60
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c2_i32_4 : BitVec 32 := 2#32
  let c0_i32_7 : BitVec 32 := 0#32
  let v25 : BitVec 1 := Scalar.cmpi .sgt c2_i32_4 c0_i32_7
  let v26 : BitVec 32 := Scalar.extui v25
  let c0_i32_8 : BitVec 32 := 0#32
  let v27 : BitVec 1 := Scalar.cmpi .slt c2_i32_4 c0_i32_8
  let v28 : BitVec 32 := Scalar.extui v27
  let v29 : BitVec 32 := Scalar.subi v26 v28
  let v30 : BitVec 1 := Scalar.cmpi .ne v24 v29
  let v31 : BitVec 32 := Scalar.remsi v1 c2_i32_4
  let c0_i32_9 : BitVec 32 := 0#32
  let v32 : BitVec 1 := Scalar.cmpi .ne v31 c0_i32_9
  let v33 : BitVec 1 := Scalar.andi v30 v32
  let v19 : BitVec 32 := Scalar.divsi v1 c2_i32_4
  let c1_i32_10 : BitVec 32 := 1#32
  let v34 : BitVec 32 := Scalar.subi v19 c1_i32_10
  let v35 : BitVec 32 := Scalar.select v33 v34 v19
  let c4_i32 : BitVec 32 := 4#32
  let c0_i32_11 : BitVec 32 := 0#32
  let v36 : BitVec 1 := Scalar.cmpi .eq c4_i32 c0_i32_11
  let c1_i32_12 : BitVec 32 := 1#32
  let v37 : BitVec 32 := Scalar.select v36 c1_i32_12 c4_i32
  let v38 : BitVec 32 := Scalar.remsi v35 v37
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let c0_i32_13 : BitVec 32 := 0#32
  let v39 : BitVec 1 := Scalar.cmpi .ne v38 c0_i32_13
  let v43 : BitVec 1 := Scalar.andi v42 v39
  let v44 : BitVec 32 := Scalar.addi v38 v37
  let v45 : BitVec 32 := Scalar.select v43 v44 v38
  let c4_i32_22 : BitVec 32 := 4#32
  let v56 : BitVec 32 := Scalar.muli v45 c4_i32_22
  let c2_i32_23 : BitVec 32 := 2#32
  let v57 : BitVec 32 := Scalar.muli v55 c2_i32_23
  let v58 : BitVec 32 := Scalar.addi v56 v57
  let v90 : BitVec 32 := Scalar.addi v58 c0_i32_38
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16384_i32 : BitVec 32 := 16384#32
  let v77 : BitVec 32 := Scalar.muli v18 c16384_i32
  let c8_i32_32 : BitVec 32 := 8#32
  let c0_i32_33 : BitVec 32 := 0#32
  let v78 : BitVec 1 := Scalar.cmpi .eq c8_i32_32 c0_i32_33
  let c1_i32_34 : BitVec 32 := 1#32
  let v79 : BitVec 32 := Scalar.select v78 c1_i32_34 c8_i32_32
  let v80 : BitVec 32 := Scalar.remsi v59 v79
  let c0_i32_36 : BitVec 32 := 0#32
  let v82 : BitVec 1 := Scalar.cmpi .slt v80 c0_i32_36
  let c0_i32_37 : BitVec 32 := 0#32
  let v83 : BitVec 1 := Scalar.cmpi .slt v79 c0_i32_37
  let v84 : BitVec 1 := Scalar.xori v82 v83
  let c0_i32_35 : BitVec 32 := 0#32
  let v81 : BitVec 1 := Scalar.cmpi .ne v80 c0_i32_35
  let v85 : BitVec 1 := Scalar.andi v84 v81
  let v86 : BitVec 32 := Scalar.addi v80 v79
  let v87 : BitVec 32 := Scalar.select v85 v86 v80
  let c2048_i32 : BitVec 32 := 2048#32
  let v88 : BitVec 32 := Scalar.muli v87 c2048_i32
  let v89 : BitVec 32 := Scalar.addi v77 v88
  ![v76.toNat, v90.toNat, v89.toNat]
def k0_off2 (i : grid0.Coords) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_16 : BitVec 32 := 2#32
  let c0_i32_17 : BitVec 32 := 0#32
  let v46 : BitVec 1 := Scalar.cmpi .eq c2_i32_16 c0_i32_17
  let c1_i32_18 : BitVec 32 := 1#32
  let v47 : BitVec 32 := Scalar.select v46 c1_i32_18 c2_i32_16
  let v48 : BitVec 32 := Scalar.remsi v1 v47
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let c0_i32_19 : BitVec 32 := 0#32
  let v49 : BitVec 1 := Scalar.cmpi .ne v48 c0_i32_19
  let v53 : BitVec 1 := Scalar.andi v52 v49
  let v54 : BitVec 32 := Scalar.addi v48 v47
  let v55 : BitVec 32 := Scalar.select v53 v54 v48
  let v59 : BitVec 32 := Scalar.xori c0_i32_24 v55
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c8_i32_25 : BitVec 32 := 8#32
  let c0_i32_28 : BitVec 32 := 0#32
  let v66 : BitVec 1 := Scalar.cmpi .sgt c8_i32_25 c0_i32_28
  let v67 : BitVec 32 := Scalar.extui v66
  let c0_i32_29 : BitVec 32 := 0#32
  let v68 : BitVec 1 := Scalar.cmpi .slt c8_i32_25 c0_i32_29
  let v69 : BitVec 32 := Scalar.extui v68
  let v70 : BitVec 32 := Scalar.subi v67 v69
  let v71 : BitVec 1 := Scalar.cmpi .ne v65 v70
  let v72 : BitVec 32 := Scalar.remsi v59 c8_i32_25
  let c0_i32_30 : BitVec 32 := 0#32
  let v73 : BitVec 1 := Scalar.cmpi .ne v72 c0_i32_30
  let v74 : BitVec 1 := Scalar.andi v71 v73
  let v60 : BitVec 32 := Scalar.divsi v59 c8_i32_25
  let c1_i32_31 : BitVec 32 := 1#32
  let v75 : BitVec 32 := Scalar.subi v60 c1_i32_31
  let v76 : BitVec 32 := Scalar.select v74 v75 v60
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c2_i32_4 : BitVec 32 := 2#32
  let c0_i32_7 : BitVec 32 := 0#32
  let v25 : BitVec 1 := Scalar.cmpi .sgt c2_i32_4 c0_i32_7
  let v26 : BitVec 32 := Scalar.extui v25
  let c0_i32_8 : BitVec 32 := 0#32
  let v27 : BitVec 1 := Scalar.cmpi .slt c2_i32_4 c0_i32_8
  let v28 : BitVec 32 := Scalar.extui v27
  let v29 : BitVec 32 := Scalar.subi v26 v28
  let v30 : BitVec 1 := Scalar.cmpi .ne v24 v29
  let v31 : BitVec 32 := Scalar.remsi v1 c2_i32_4
  let c0_i32_9 : BitVec 32 := 0#32
  let v32 : BitVec 1 := Scalar.cmpi .ne v31 c0_i32_9
  let v33 : BitVec 1 := Scalar.andi v30 v32
  let v19 : BitVec 32 := Scalar.divsi v1 c2_i32_4
  let c1_i32_10 : BitVec 32 := 1#32
  let v34 : BitVec 32 := Scalar.subi v19 c1_i32_10
  let v35 : BitVec 32 := Scalar.select v33 v34 v19
  let c4_i32 : BitVec 32 := 4#32
  let c0_i32_11 : BitVec 32 := 0#32
  let v36 : BitVec 1 := Scalar.cmpi .eq c4_i32 c0_i32_11
  let c1_i32_12 : BitVec 32 := 1#32
  let v37 : BitVec 32 := Scalar.select v36 c1_i32_12 c4_i32
  let v38 : BitVec 32 := Scalar.remsi v35 v37
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let c0_i32_13 : BitVec 32 := 0#32
  let v39 : BitVec 1 := Scalar.cmpi .ne v38 c0_i32_13
  let v43 : BitVec 1 := Scalar.andi v42 v39
  let v44 : BitVec 32 := Scalar.addi v38 v37
  let v45 : BitVec 32 := Scalar.select v43 v44 v38
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16384_i32 : BitVec 32 := 16384#32
  let v77 : BitVec 32 := Scalar.muli v18 c16384_i32
  let c8_i32_32 : BitVec 32 := 8#32
  let c0_i32_33 : BitVec 32 := 0#32
  let v78 : BitVec 1 := Scalar.cmpi .eq c8_i32_32 c0_i32_33
  let c1_i32_34 : BitVec 32 := 1#32
  let v79 : BitVec 32 := Scalar.select v78 c1_i32_34 c8_i32_32
  let v80 : BitVec 32 := Scalar.remsi v59 v79
  let c0_i32_36 : BitVec 32 := 0#32
  let v82 : BitVec 1 := Scalar.cmpi .slt v80 c0_i32_36
  let c0_i32_37 : BitVec 32 := 0#32
  let v83 : BitVec 1 := Scalar.cmpi .slt v79 c0_i32_37
  let v84 : BitVec 1 := Scalar.xori v82 v83
  let c0_i32_35 : BitVec 32 := 0#32
  let v81 : BitVec 1 := Scalar.cmpi .ne v80 c0_i32_35
  let v85 : BitVec 1 := Scalar.andi v84 v81
  let v86 : BitVec 32 := Scalar.addi v80 v79
  let v87 : BitVec 32 := Scalar.select v85 v86 v80
  let c2048_i32 : BitVec 32 := 2048#32
  let v88 : BitVec 32 := Scalar.muli v87 c2048_i32
  let v89 : BitVec 32 := Scalar.addi v77 v88
  ![v76.toNat, v45.toNat, v89.toNat]
@[reducible] def k0_t1_loop : Scf.Loop 32 :=
  let c0_i32_45 : BitVec 32 := 0#32
  let c4096_i32 : BitVec 32 := 4096#32
  let v114 : BitVec 32 := Scalar.addi c0_i32_45 c4096_i32
  let c1_i32_46 : BitVec 32 := 1#32
  ⟨c0_i32_45, v114, c1_i32_46⟩
def k0_off3 (k0_t1 : Fin k0_t1_loop.trips) : Fin 1 → Nat :=
  let c0_i32_75 : BitVec 32 := 0#32
  let c0_i32_45 : BitVec 32 := 0#32
  let c1_i32_46 : BitVec 32 := 1#32
  let arg17 : BitVec 32 := Scf.iv c0_i32_45 c1_i32_46 k0_t1
  let c16_i32_74 : BitVec 32 := 16#32
  let v151 : BitVec 32 := Scalar.muli arg17 c16_i32_74
  let v152 : BitVec 32 := Scalar.addi c0_i32_75 v151
  let v153 : Index := Scalar.indexCast v152
  ![v153.toNat]
@[reducible] def k0_t2_loop : Scf.Loop 32 :=
  let c0_i32_48 : BitVec 32 := 0#32
  let c512_i32 : BitVec 32 := 512#32
  let v115 : BitVec 32 := Scalar.addi c0_i32_48 c512_i32
  let c1_i32_49 : BitVec 32 := 1#32
  ⟨c0_i32_48, v115, c1_i32_49⟩
def k0_off4 (k0_t2 : Fin k0_t2_loop.trips) : Fin 1 → Nat :=
  let c0_i32_75 : BitVec 32 := 0#32
  let c0_i32_48 : BitVec 32 := 0#32
  let c1_i32_49 : BitVec 32 := 1#32
  let arg17 : BitVec 32 := Scf.iv c0_i32_48 c1_i32_49 k0_t2
  let c16_i32_74 : BitVec 32 := 16#32
  let v151 : BitVec 32 := Scalar.muli arg17 c16_i32_74
  let v152 : BitVec 32 := Scalar.addi c0_i32_75 v151
  let v153 : Index := Scalar.indexCast v152
  ![v153.toNat]
@[reducible] def k0_t3_loop : Scf.Loop 32 :=
  let c0_i32_51 : BitVec 32 := 0#32
  let c72_i32 : BitVec 32 := 72#32
  let v116 : BitVec 32 := Scalar.addi c0_i32_51 c72_i32
  let c1_i32_52 : BitVec 32 := 1#32
  ⟨c0_i32_51, v116, c1_i32_52⟩
def k0_off5 (i : grid0.Coords) (k0_t3 : Fin k0_t3_loop.trips) (c0_i32_92 : BitVec 32) : Fin 3 → Nat :=
  let c0_i32_75 : BitVec 32 := 0#32
  let c0_i32_51 : BitVec 32 := 0#32
  let c1_i32_52 : BitVec 32 := 1#32
  let arg17 : BitVec 32 := Scf.iv c0_i32_51 c1_i32_52 k0_t3
  let c2_i32_74 : BitVec 32 := 2#32
  let v151 : BitVec 32 := Scalar.muli arg17 c2_i32_74
  let v152 : BitVec 32 := Scalar.addi c0_i32_75 v151
  let c1_i32_76 : BitVec 32 := 1#32
  let v153 : BitVec 32 := Scalar.addi v152 c1_i32_76
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_16 : BitVec 32 := 2#32
  let c0_i32_17 : BitVec 32 := 0#32
  let v46 : BitVec 1 := Scalar.cmpi .eq c2_i32_16 c0_i32_17
  let c1_i32_18 : BitVec 32 := 1#32
  let v47 : BitVec 32 := Scalar.select v46 c1_i32_18 c2_i32_16
  let v48 : BitVec 32 := Scalar.remsi v1 v47
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let c0_i32_19 : BitVec 32 := 0#32
  let v49 : BitVec 1 := Scalar.cmpi .ne v48 c0_i32_19
  let v53 : BitVec 1 := Scalar.andi v52 v49
  let v54 : BitVec 32 := Scalar.addi v48 v47
  let v55 : BitVec 32 := Scalar.select v53 v54 v48
  let v154 : BitVec 32 := Scalar.xori v153 v55
  let c0_i32_78 : BitVec 32 := 0#32
  let v156 : BitVec 1 := Scalar.cmpi .sgt v154 c0_i32_78
  let v157 : BitVec 32 := Scalar.extui v156
  let c0_i32_79 : BitVec 32 := 0#32
  let v158 : BitVec 1 := Scalar.cmpi .slt v154 c0_i32_79
  let v159 : BitVec 32 := Scalar.extui v158
  let v160 : BitVec 32 := Scalar.subi v157 v159
  let c8_i32_77 : BitVec 32 := 8#32
  let c0_i32_80 : BitVec 32 := 0#32
  let v161 : BitVec 1 := Scalar.cmpi .sgt c8_i32_77 c0_i32_80
  let v162 : BitVec 32 := Scalar.extui v161
  let c0_i32_81 : BitVec 32 := 0#32
  let v163 : BitVec 1 := Scalar.cmpi .slt c8_i32_77 c0_i32_81
  let v164 : BitVec 32 := Scalar.extui v163
  let v165 : BitVec 32 := Scalar.subi v162 v164
  let v166 : BitVec 1 := Scalar.cmpi .ne v160 v165
  let v167 : BitVec 32 := Scalar.remsi v154 c8_i32_77
  let c0_i32_82 : BitVec 32 := 0#32
  let v168 : BitVec 1 := Scalar.cmpi .ne v167 c0_i32_82
  let v169 : BitVec 1 := Scalar.andi v166 v168
  let v155 : BitVec 32 := Scalar.divsi v154 c8_i32_77
  let c1_i32_83 : BitVec 32 := 1#32
  let v170 : BitVec 32 := Scalar.subi v155 c1_i32_83
  let v171 : BitVec 32 := Scalar.select v169 v170 v155
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c2_i32_4 : BitVec 32 := 2#32
  let c0_i32_7 : BitVec 32 := 0#32
  let v25 : BitVec 1 := Scalar.cmpi .sgt c2_i32_4 c0_i32_7
  let v26 : BitVec 32 := Scalar.extui v25
  let c0_i32_8 : BitVec 32 := 0#32
  let v27 : BitVec 1 := Scalar.cmpi .slt c2_i32_4 c0_i32_8
  let v28 : BitVec 32 := Scalar.extui v27
  let v29 : BitVec 32 := Scalar.subi v26 v28
  let v30 : BitVec 1 := Scalar.cmpi .ne v24 v29
  let v31 : BitVec 32 := Scalar.remsi v1 c2_i32_4
  let c0_i32_9 : BitVec 32 := 0#32
  let v32 : BitVec 1 := Scalar.cmpi .ne v31 c0_i32_9
  let v33 : BitVec 1 := Scalar.andi v30 v32
  let v19 : BitVec 32 := Scalar.divsi v1 c2_i32_4
  let c1_i32_10 : BitVec 32 := 1#32
  let v34 : BitVec 32 := Scalar.subi v19 c1_i32_10
  let v35 : BitVec 32 := Scalar.select v33 v34 v19
  let c4_i32 : BitVec 32 := 4#32
  let c0_i32_11 : BitVec 32 := 0#32
  let v36 : BitVec 1 := Scalar.cmpi .eq c4_i32 c0_i32_11
  let c1_i32_12 : BitVec 32 := 1#32
  let v37 : BitVec 32 := Scalar.select v36 c1_i32_12 c4_i32
  let v38 : BitVec 32 := Scalar.remsi v35 v37
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let c0_i32_13 : BitVec 32 := 0#32
  let v39 : BitVec 1 := Scalar.cmpi .ne v38 c0_i32_13
  let v43 : BitVec 1 := Scalar.andi v42 v39
  let v44 : BitVec 32 := Scalar.addi v38 v37
  let v45 : BitVec 32 := Scalar.select v43 v44 v38
  let c4_i32_22 : BitVec 32 := 4#32
  let v56 : BitVec 32 := Scalar.muli v45 c4_i32_22
  let c2_i32_23 : BitVec 32 := 2#32
  let v57 : BitVec 32 := Scalar.muli v55 c2_i32_23
  let v58 : BitVec 32 := Scalar.addi v56 v57
  let v185 : BitVec 32 := Scalar.addi v58 c0_i32_92
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16384_i32_84 : BitVec 32 := 16384#32
  let v172 : BitVec 32 := Scalar.muli v18 c16384_i32_84
  let c8_i32_85 : BitVec 32 := 8#32
  let c0_i32_86 : BitVec 32 := 0#32
  let v173 : BitVec 1 := Scalar.cmpi .eq c8_i32_85 c0_i32_86
  let c1_i32_87 : BitVec 32 := 1#32
  let v174 : BitVec 32 := Scalar.select v173 c1_i32_87 c8_i32_85
  let v175 : BitVec 32 := Scalar.remsi v154 v174
  let c0_i32_89 : BitVec 32 := 0#32
  let v177 : BitVec 1 := Scalar.cmpi .slt v175 c0_i32_89
  let c0_i32_90 : BitVec 32 := 0#32
  let v178 : BitVec 1 := Scalar.cmpi .slt v174 c0_i32_90
  let v179 : BitVec 1 := Scalar.xori v177 v178
  let c0_i32_88 : BitVec 32 := 0#32
  let v176 : BitVec 1 := Scalar.cmpi .ne v175 c0_i32_88
  let v180 : BitVec 1 := Scalar.andi v179 v176
  let v181 : BitVec 32 := Scalar.addi v175 v174
  let v182 : BitVec 32 := Scalar.select v180 v181 v175
  let c2048_i32_91 : BitVec 32 := 2048#32
  let v183 : BitVec 32 := Scalar.muli v182 c2048_i32_91
  let v184 : BitVec 32 := Scalar.addi v172 v183
  ![v171.toNat, v185.toNat, v184.toNat]
def k0_off6 (i : grid0.Coords) (k0_t3 : Fin k0_t3_loop.trips) : Fin 3 → Nat :=
  let c0_i32_75 : BitVec 32 := 0#32
  let c0_i32_51 : BitVec 32 := 0#32
  let c1_i32_52 : BitVec 32 := 1#32
  let arg17 : BitVec 32 := Scf.iv c0_i32_51 c1_i32_52 k0_t3
  let c2_i32_74 : BitVec 32 := 2#32
  let v151 : BitVec 32 := Scalar.muli arg17 c2_i32_74
  let v152 : BitVec 32 := Scalar.addi c0_i32_75 v151
  let c1_i32_76 : BitVec 32 := 1#32
  let v153 : BitVec 32 := Scalar.addi v152 c1_i32_76
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_16 : BitVec 32 := 2#32
  let c0_i32_17 : BitVec 32 := 0#32
  let v46 : BitVec 1 := Scalar.cmpi .eq c2_i32_16 c0_i32_17
  let c1_i32_18 : BitVec 32 := 1#32
  let v47 : BitVec 32 := Scalar.select v46 c1_i32_18 c2_i32_16
  let v48 : BitVec 32 := Scalar.remsi v1 v47
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let c0_i32_19 : BitVec 32 := 0#32
  let v49 : BitVec 1 := Scalar.cmpi .ne v48 c0_i32_19
  let v53 : BitVec 1 := Scalar.andi v52 v49
  let v54 : BitVec 32 := Scalar.addi v48 v47
  let v55 : BitVec 32 := Scalar.select v53 v54 v48
  let v154 : BitVec 32 := Scalar.xori v153 v55
  let c0_i32_78 : BitVec 32 := 0#32
  let v156 : BitVec 1 := Scalar.cmpi .sgt v154 c0_i32_78
  let v157 : BitVec 32 := Scalar.extui v156
  let c0_i32_79 : BitVec 32 := 0#32
  let v158 : BitVec 1 := Scalar.cmpi .slt v154 c0_i32_79
  let v159 : BitVec 32 := Scalar.extui v158
  let v160 : BitVec 32 := Scalar.subi v157 v159
  let c8_i32_77 : BitVec 32 := 8#32
  let c0_i32_80 : BitVec 32 := 0#32
  let v161 : BitVec 1 := Scalar.cmpi .sgt c8_i32_77 c0_i32_80
  let v162 : BitVec 32 := Scalar.extui v161
  let c0_i32_81 : BitVec 32 := 0#32
  let v163 : BitVec 1 := Scalar.cmpi .slt c8_i32_77 c0_i32_81
  let v164 : BitVec 32 := Scalar.extui v163
  let v165 : BitVec 32 := Scalar.subi v162 v164
  let v166 : BitVec 1 := Scalar.cmpi .ne v160 v165
  let v167 : BitVec 32 := Scalar.remsi v154 c8_i32_77
  let c0_i32_82 : BitVec 32 := 0#32
  let v168 : BitVec 1 := Scalar.cmpi .ne v167 c0_i32_82
  let v169 : BitVec 1 := Scalar.andi v166 v168
  let v155 : BitVec 32 := Scalar.divsi v154 c8_i32_77
  let c1_i32_83 : BitVec 32 := 1#32
  let v170 : BitVec 32 := Scalar.subi v155 c1_i32_83
  let v171 : BitVec 32 := Scalar.select v169 v170 v155
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c2_i32_4 : BitVec 32 := 2#32
  let c0_i32_7 : BitVec 32 := 0#32
  let v25 : BitVec 1 := Scalar.cmpi .sgt c2_i32_4 c0_i32_7
  let v26 : BitVec 32 := Scalar.extui v25
  let c0_i32_8 : BitVec 32 := 0#32
  let v27 : BitVec 1 := Scalar.cmpi .slt c2_i32_4 c0_i32_8
  let v28 : BitVec 32 := Scalar.extui v27
  let v29 : BitVec 32 := Scalar.subi v26 v28
  let v30 : BitVec 1 := Scalar.cmpi .ne v24 v29
  let v31 : BitVec 32 := Scalar.remsi v1 c2_i32_4
  let c0_i32_9 : BitVec 32 := 0#32
  let v32 : BitVec 1 := Scalar.cmpi .ne v31 c0_i32_9
  let v33 : BitVec 1 := Scalar.andi v30 v32
  let v19 : BitVec 32 := Scalar.divsi v1 c2_i32_4
  let c1_i32_10 : BitVec 32 := 1#32
  let v34 : BitVec 32 := Scalar.subi v19 c1_i32_10
  let v35 : BitVec 32 := Scalar.select v33 v34 v19
  let c4_i32 : BitVec 32 := 4#32
  let c0_i32_11 : BitVec 32 := 0#32
  let v36 : BitVec 1 := Scalar.cmpi .eq c4_i32 c0_i32_11
  let c1_i32_12 : BitVec 32 := 1#32
  let v37 : BitVec 32 := Scalar.select v36 c1_i32_12 c4_i32
  let v38 : BitVec 32 := Scalar.remsi v35 v37
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let c0_i32_13 : BitVec 32 := 0#32
  let v39 : BitVec 1 := Scalar.cmpi .ne v38 c0_i32_13
  let v43 : BitVec 1 := Scalar.andi v42 v39
  let v44 : BitVec 32 := Scalar.addi v38 v37
  let v45 : BitVec 32 := Scalar.select v43 v44 v38
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16384_i32_84 : BitVec 32 := 16384#32
  let v172 : BitVec 32 := Scalar.muli v18 c16384_i32_84
  let c8_i32_85 : BitVec 32 := 8#32
  let c0_i32_86 : BitVec 32 := 0#32
  let v173 : BitVec 1 := Scalar.cmpi .eq c8_i32_85 c0_i32_86
  let c1_i32_87 : BitVec 32 := 1#32
  let v174 : BitVec 32 := Scalar.select v173 c1_i32_87 c8_i32_85
  let v175 : BitVec 32 := Scalar.remsi v154 v174
  let c0_i32_89 : BitVec 32 := 0#32
  let v177 : BitVec 1 := Scalar.cmpi .slt v175 c0_i32_89
  let c0_i32_90 : BitVec 32 := 0#32
  let v178 : BitVec 1 := Scalar.cmpi .slt v174 c0_i32_90
  let v179 : BitVec 1 := Scalar.xori v177 v178
  let c0_i32_88 : BitVec 32 := 0#32
  let v176 : BitVec 1 := Scalar.cmpi .ne v175 c0_i32_88
  let v180 : BitVec 1 := Scalar.andi v179 v176
  let v181 : BitVec 32 := Scalar.addi v175 v174
  let v182 : BitVec 32 := Scalar.select v180 v181 v175
  let c2048_i32_91 : BitVec 32 := 2048#32
  let v183 : BitVec 32 := Scalar.muli v182 c2048_i32_91
  let v184 : BitVec 32 := Scalar.addi v172 v183
  ![v171.toNat, v45.toNat, v184.toNat]
def k0_off7 (i : grid0.Coords) (k0_t3 : Fin k0_t3_loop.trips) (c0_i32_113 : BitVec 32) : Fin 3 → Nat :=
  let c0_i32_75 : BitVec 32 := 0#32
  let c0_i32_51 : BitVec 32 := 0#32
  let c1_i32_52 : BitVec 32 := 1#32
  let arg17 : BitVec 32 := Scf.iv c0_i32_51 c1_i32_52 k0_t3
  let c2_i32_74 : BitVec 32 := 2#32
  let v151 : BitVec 32 := Scalar.muli arg17 c2_i32_74
  let v152 : BitVec 32 := Scalar.addi c0_i32_75 v151
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_16 : BitVec 32 := 2#32
  let c0_i32_17 : BitVec 32 := 0#32
  let v46 : BitVec 1 := Scalar.cmpi .eq c2_i32_16 c0_i32_17
  let c1_i32_18 : BitVec 32 := 1#32
  let v47 : BitVec 32 := Scalar.select v46 c1_i32_18 c2_i32_16
  let v48 : BitVec 32 := Scalar.remsi v1 v47
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let c0_i32_19 : BitVec 32 := 0#32
  let v49 : BitVec 1 := Scalar.cmpi .ne v48 c0_i32_19
  let v53 : BitVec 1 := Scalar.andi v52 v49
  let v54 : BitVec 32 := Scalar.addi v48 v47
  let v55 : BitVec 32 := Scalar.select v53 v54 v48
  let v207 : BitVec 32 := Scalar.xori v152 v55
  let c0_i32_99 : BitVec 32 := 0#32
  let v209 : BitVec 1 := Scalar.cmpi .sgt v207 c0_i32_99
  let v210 : BitVec 32 := Scalar.extui v209
  let c0_i32_100 : BitVec 32 := 0#32
  let v211 : BitVec 1 := Scalar.cmpi .slt v207 c0_i32_100
  let v212 : BitVec 32 := Scalar.extui v211
  let v213 : BitVec 32 := Scalar.subi v210 v212
  let c8_i32_98 : BitVec 32 := 8#32
  let c0_i32_101 : BitVec 32 := 0#32
  let v214 : BitVec 1 := Scalar.cmpi .sgt c8_i32_98 c0_i32_101
  let v215 : BitVec 32 := Scalar.extui v214
  let c0_i32_102 : BitVec 32 := 0#32
  let v216 : BitVec 1 := Scalar.cmpi .slt c8_i32_98 c0_i32_102
  let v217 : BitVec 32 := Scalar.extui v216
  let v218 : BitVec 32 := Scalar.subi v215 v217
  let v219 : BitVec 1 := Scalar.cmpi .ne v213 v218
  let v220 : BitVec 32 := Scalar.remsi v207 c8_i32_98
  let c0_i32_103 : BitVec 32 := 0#32
  let v221 : BitVec 1 := Scalar.cmpi .ne v220 c0_i32_103
  let v222 : BitVec 1 := Scalar.andi v219 v221
  let v208 : BitVec 32 := Scalar.divsi v207 c8_i32_98
  let c1_i32_104 : BitVec 32 := 1#32
  let v223 : BitVec 32 := Scalar.subi v208 c1_i32_104
  let v224 : BitVec 32 := Scalar.select v222 v223 v208
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c2_i32_4 : BitVec 32 := 2#32
  let c0_i32_7 : BitVec 32 := 0#32
  let v25 : BitVec 1 := Scalar.cmpi .sgt c2_i32_4 c0_i32_7
  let v26 : BitVec 32 := Scalar.extui v25
  let c0_i32_8 : BitVec 32 := 0#32
  let v27 : BitVec 1 := Scalar.cmpi .slt c2_i32_4 c0_i32_8
  let v28 : BitVec 32 := Scalar.extui v27
  let v29 : BitVec 32 := Scalar.subi v26 v28
  let v30 : BitVec 1 := Scalar.cmpi .ne v24 v29
  let v31 : BitVec 32 := Scalar.remsi v1 c2_i32_4
  let c0_i32_9 : BitVec 32 := 0#32
  let v32 : BitVec 1 := Scalar.cmpi .ne v31 c0_i32_9
  let v33 : BitVec 1 := Scalar.andi v30 v32
  let v19 : BitVec 32 := Scalar.divsi v1 c2_i32_4
  let c1_i32_10 : BitVec 32 := 1#32
  let v34 : BitVec 32 := Scalar.subi v19 c1_i32_10
  let v35 : BitVec 32 := Scalar.select v33 v34 v19
  let c4_i32 : BitVec 32 := 4#32
  let c0_i32_11 : BitVec 32 := 0#32
  let v36 : BitVec 1 := Scalar.cmpi .eq c4_i32 c0_i32_11
  let c1_i32_12 : BitVec 32 := 1#32
  let v37 : BitVec 32 := Scalar.select v36 c1_i32_12 c4_i32
  let v38 : BitVec 32 := Scalar.remsi v35 v37
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let c0_i32_13 : BitVec 32 := 0#32
  let v39 : BitVec 1 := Scalar.cmpi .ne v38 c0_i32_13
  let v43 : BitVec 1 := Scalar.andi v42 v39
  let v44 : BitVec 32 := Scalar.addi v38 v37
  let v45 : BitVec 32 := Scalar.select v43 v44 v38
  let c4_i32_22 : BitVec 32 := 4#32
  let v56 : BitVec 32 := Scalar.muli v45 c4_i32_22
  let c2_i32_23 : BitVec 32 := 2#32
  let v57 : BitVec 32 := Scalar.muli v55 c2_i32_23
  let v58 : BitVec 32 := Scalar.addi v56 v57
  let v238 : BitVec 32 := Scalar.addi v58 c0_i32_113
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16384_i32_105 : BitVec 32 := 16384#32
  let v225 : BitVec 32 := Scalar.muli v18 c16384_i32_105
  let c8_i32_106 : BitVec 32 := 8#32
  let c0_i32_107 : BitVec 32 := 0#32
  let v226 : BitVec 1 := Scalar.cmpi .eq c8_i32_106 c0_i32_107
  let c1_i32_108 : BitVec 32 := 1#32
  let v227 : BitVec 32 := Scalar.select v226 c1_i32_108 c8_i32_106
  let v228 : BitVec 32 := Scalar.remsi v207 v227
  let c0_i32_110 : BitVec 32 := 0#32
  let v230 : BitVec 1 := Scalar.cmpi .slt v228 c0_i32_110
  let c0_i32_111 : BitVec 32 := 0#32
  let v231 : BitVec 1 := Scalar.cmpi .slt v227 c0_i32_111
  let v232 : BitVec 1 := Scalar.xori v230 v231
  let c0_i32_109 : BitVec 32 := 0#32
  let v229 : BitVec 1 := Scalar.cmpi .ne v228 c0_i32_109
  let v233 : BitVec 1 := Scalar.andi v232 v229
  let v234 : BitVec 32 := Scalar.addi v228 v227
  let v235 : BitVec 32 := Scalar.select v233 v234 v228
  let c2048_i32_112 : BitVec 32 := 2048#32
  let v236 : BitVec 32 := Scalar.muli v235 c2048_i32_112
  let v237 : BitVec 32 := Scalar.addi v225 v236
  ![v224.toNat, v238.toNat, v237.toNat]
def k0_off8 (i : grid0.Coords) (k0_t3 : Fin k0_t3_loop.trips) : Fin 3 → Nat :=
  let c0_i32_75 : BitVec 32 := 0#32
  let c0_i32_51 : BitVec 32 := 0#32
  let c1_i32_52 : BitVec 32 := 1#32
  let arg17 : BitVec 32 := Scf.iv c0_i32_51 c1_i32_52 k0_t3
  let c2_i32_74 : BitVec 32 := 2#32
  let v151 : BitVec 32 := Scalar.muli arg17 c2_i32_74
  let v152 : BitVec 32 := Scalar.addi c0_i32_75 v151
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_16 : BitVec 32 := 2#32
  let c0_i32_17 : BitVec 32 := 0#32
  let v46 : BitVec 1 := Scalar.cmpi .eq c2_i32_16 c0_i32_17
  let c1_i32_18 : BitVec 32 := 1#32
  let v47 : BitVec 32 := Scalar.select v46 c1_i32_18 c2_i32_16
  let v48 : BitVec 32 := Scalar.remsi v1 v47
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let c0_i32_19 : BitVec 32 := 0#32
  let v49 : BitVec 1 := Scalar.cmpi .ne v48 c0_i32_19
  let v53 : BitVec 1 := Scalar.andi v52 v49
  let v54 : BitVec 32 := Scalar.addi v48 v47
  let v55 : BitVec 32 := Scalar.select v53 v54 v48
  let v207 : BitVec 32 := Scalar.xori v152 v55
  let c0_i32_99 : BitVec 32 := 0#32
  let v209 : BitVec 1 := Scalar.cmpi .sgt v207 c0_i32_99
  let v210 : BitVec 32 := Scalar.extui v209
  let c0_i32_100 : BitVec 32 := 0#32
  let v211 : BitVec 1 := Scalar.cmpi .slt v207 c0_i32_100
  let v212 : BitVec 32 := Scalar.extui v211
  let v213 : BitVec 32 := Scalar.subi v210 v212
  let c8_i32_98 : BitVec 32 := 8#32
  let c0_i32_101 : BitVec 32 := 0#32
  let v214 : BitVec 1 := Scalar.cmpi .sgt c8_i32_98 c0_i32_101
  let v215 : BitVec 32 := Scalar.extui v214
  let c0_i32_102 : BitVec 32 := 0#32
  let v216 : BitVec 1 := Scalar.cmpi .slt c8_i32_98 c0_i32_102
  let v217 : BitVec 32 := Scalar.extui v216
  let v218 : BitVec 32 := Scalar.subi v215 v217
  let v219 : BitVec 1 := Scalar.cmpi .ne v213 v218
  let v220 : BitVec 32 := Scalar.remsi v207 c8_i32_98
  let c0_i32_103 : BitVec 32 := 0#32
  let v221 : BitVec 1 := Scalar.cmpi .ne v220 c0_i32_103
  let v222 : BitVec 1 := Scalar.andi v219 v221
  let v208 : BitVec 32 := Scalar.divsi v207 c8_i32_98
  let c1_i32_104 : BitVec 32 := 1#32
  let v223 : BitVec 32 := Scalar.subi v208 c1_i32_104
  let v224 : BitVec 32 := Scalar.select v222 v223 v208
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c2_i32_4 : BitVec 32 := 2#32
  let c0_i32_7 : BitVec 32 := 0#32
  let v25 : BitVec 1 := Scalar.cmpi .sgt c2_i32_4 c0_i32_7
  let v26 : BitVec 32 := Scalar.extui v25
  let c0_i32_8 : BitVec 32 := 0#32
  let v27 : BitVec 1 := Scalar.cmpi .slt c2_i32_4 c0_i32_8
  let v28 : BitVec 32 := Scalar.extui v27
  let v29 : BitVec 32 := Scalar.subi v26 v28
  let v30 : BitVec 1 := Scalar.cmpi .ne v24 v29
  let v31 : BitVec 32 := Scalar.remsi v1 c2_i32_4
  let c0_i32_9 : BitVec 32 := 0#32
  let v32 : BitVec 1 := Scalar.cmpi .ne v31 c0_i32_9
  let v33 : BitVec 1 := Scalar.andi v30 v32
  let v19 : BitVec 32 := Scalar.divsi v1 c2_i32_4
  let c1_i32_10 : BitVec 32 := 1#32
  let v34 : BitVec 32 := Scalar.subi v19 c1_i32_10
  let v35 : BitVec 32 := Scalar.select v33 v34 v19
  let c4_i32 : BitVec 32 := 4#32
  let c0_i32_11 : BitVec 32 := 0#32
  let v36 : BitVec 1 := Scalar.cmpi .eq c4_i32 c0_i32_11
  let c1_i32_12 : BitVec 32 := 1#32
  let v37 : BitVec 32 := Scalar.select v36 c1_i32_12 c4_i32
  let v38 : BitVec 32 := Scalar.remsi v35 v37
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let c0_i32_13 : BitVec 32 := 0#32
  let v39 : BitVec 1 := Scalar.cmpi .ne v38 c0_i32_13
  let v43 : BitVec 1 := Scalar.andi v42 v39
  let v44 : BitVec 32 := Scalar.addi v38 v37
  let v45 : BitVec 32 := Scalar.select v43 v44 v38
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16384_i32_105 : BitVec 32 := 16384#32
  let v225 : BitVec 32 := Scalar.muli v18 c16384_i32_105
  let c8_i32_106 : BitVec 32 := 8#32
  let c0_i32_107 : BitVec 32 := 0#32
  let v226 : BitVec 1 := Scalar.cmpi .eq c8_i32_106 c0_i32_107
  let c1_i32_108 : BitVec 32 := 1#32
  let v227 : BitVec 32 := Scalar.select v226 c1_i32_108 c8_i32_106
  let v228 : BitVec 32 := Scalar.remsi v207 v227
  let c0_i32_110 : BitVec 32 := 0#32
  let v230 : BitVec 1 := Scalar.cmpi .slt v228 c0_i32_110
  let c0_i32_111 : BitVec 32 := 0#32
  let v231 : BitVec 1 := Scalar.cmpi .slt v227 c0_i32_111
  let v232 : BitVec 1 := Scalar.xori v230 v231
  let c0_i32_109 : BitVec 32 := 0#32
  let v229 : BitVec 1 := Scalar.cmpi .ne v228 c0_i32_109
  let v233 : BitVec 1 := Scalar.andi v232 v229
  let v234 : BitVec 32 := Scalar.addi v228 v227
  let v235 : BitVec 32 := Scalar.select v233 v234 v228
  let c2048_i32_112 : BitVec 32 := 2048#32
  let v236 : BitVec 32 := Scalar.muli v235 c2048_i32_112
  let v237 : BitVec 32 := Scalar.addi v225 v236
  ![v224.toNat, v45.toNat, v237.toNat]
@[reducible] def k0_t4_loop : Scf.Loop 32 :=
  let c0_i32_119 : BitVec 32 := 0#32
  let c128_i32 : BitVec 32 := 128#32
  let v260 : BitVec 32 := Scalar.addi c0_i32_119 c128_i32
  let c1_i32_120 : BitVec 32 := 1#32
  ⟨c0_i32_119, v260, c1_i32_120⟩
def k0_off9 (k0_t4 : Fin k0_t4_loop.trips) : Fin 1 → Nat :=
  let c0_i32_151 : BitVec 32 := 0#32
  let c0_i32_119 : BitVec 32 := 0#32
  let c1_i32_120 : BitVec 32 := 1#32
  let arg18 : BitVec 32 := Scf.iv c0_i32_119 c1_i32_120 k0_t4
  let c16_i32_150 : BitVec 32 := 16#32
  let v320 : BitVec 32 := Scalar.muli arg18 c16_i32_150
  let v321 : BitVec 32 := Scalar.addi c0_i32_151 v320
  let v322 : Index := Scalar.indexCast v321
  ![v322.toNat]
def k0_off10 (k0_t4 : Fin k0_t4_loop.trips) (c0_i32_152 : BitVec 32) : Fin 1 → Nat :=
  let c0_i32_151 : BitVec 32 := 0#32
  let c0_i32_119 : BitVec 32 := 0#32
  let c1_i32_120 : BitVec 32 := 1#32
  let arg18 : BitVec 32 := Scf.iv c0_i32_119 c1_i32_120 k0_t4
  let c16_i32_150 : BitVec 32 := 16#32
  let v320 : BitVec 32 := Scalar.muli arg18 c16_i32_150
  let v321 : BitVec 32 := Scalar.addi c0_i32_151 v320
  let v327 : BitVec 32 := Scalar.addi c0_i32_152 v321
  let v328 : Index := Scalar.indexCast v327
  ![v328.toNat]

def k0_chk1 (v323 : IVec S16 32) : Prop :=
  (∀ a x, ((![v323] : Fin 1 → IVec S16 32) a x).toNat < S8192.size a) ∧
  (∀ a x, ((![v323] : Fin 1 → IVec S16 32) a x).toNat < S8192.size a) ∧
  (∀ a x, ((![v323] : Fin 1 → IVec S16 32) a x).toNat < S8192.size a) ∧
  (∀ a x, ((![v323] : Fin 1 → IVec S16 32) a x).toNat < S8192.size a) ∧
  (∀ a x, ((![v323] : Fin 1 → IVec S16 32) a x).toNat < S8192.size a) ∧
  (∀ a x, ((![v323] : Fin 1 → IVec S16 32) a x).toNat < S8192.size a) ∧
  (∀ a x, ((![v323] : Fin 1 → IVec S16 32) a x).toNat < S8192.size a) ∧
  (∀ a x, ((![v323] : Fin 1 → IVec S16 32) a x).toNat < S8192.size a) ∧
  (∀ a x, ((![v323] : Fin 1 → IVec S16 32) a x).toNat < S8192.size a)
theorem k0_idx1_inb : ∀ (v323 : IVec S16 32) (k0_hw1 : k0_chk1 v323), ∀ a x, ((![v323] : Fin 1 → IVec S16 32) a x).toNat < S8192.size a := fun v323 k0_hw1 => k0_hw1.1
theorem k0_idx2_inb : ∀ (v323 : IVec S16 32) (k0_hw1 : k0_chk1 v323), ∀ a x, ((![v323] : Fin 1 → IVec S16 32) a x).toNat < S8192.size a := fun v323 k0_hw1 => k0_hw1.2.1
theorem k0_idx3_inb : ∀ (v323 : IVec S16 32) (k0_hw1 : k0_chk1 v323), ∀ a x, ((![v323] : Fin 1 → IVec S16 32) a x).toNat < S8192.size a := fun v323 k0_hw1 => k0_hw1.2.2.1
theorem k0_idx4_inb : ∀ (v323 : IVec S16 32) (k0_hw1 : k0_chk1 v323), ∀ a x, ((![v323] : Fin 1 → IVec S16 32) a x).toNat < S8192.size a := fun v323 k0_hw1 => k0_hw1.2.2.2.1
theorem k0_idx5_inb : ∀ (v323 : IVec S16 32) (k0_hw1 : k0_chk1 v323), ∀ a x, ((![v323] : Fin 1 → IVec S16 32) a x).toNat < S8192.size a := fun v323 k0_hw1 => k0_hw1.2.2.2.2.1
theorem k0_idx6_inb : ∀ (v323 : IVec S16 32) (k0_hw1 : k0_chk1 v323), ∀ a x, ((![v323] : Fin 1 → IVec S16 32) a x).toNat < S8192.size a := fun v323 k0_hw1 => k0_hw1.2.2.2.2.2.1
theorem k0_idx7_inb : ∀ (v323 : IVec S16 32) (k0_hw1 : k0_chk1 v323), ∀ a x, ((![v323] : Fin 1 → IVec S16 32) a x).toNat < S8192.size a := fun v323 k0_hw1 => k0_hw1.2.2.2.2.2.2.1
theorem k0_idx8_inb : ∀ (v323 : IVec S16 32) (k0_hw1 : k0_chk1 v323), ∀ a x, ((![v323] : Fin 1 → IVec S16 32) a x).toNat < S8192.size a := fun v323 k0_hw1 => k0_hw1.2.2.2.2.2.2.2.1
theorem k0_idx9_inb : ∀ (v323 : IVec S16 32) (k0_hw1 : k0_chk1 v323), ∀ a x, ((![v323] : Fin 1 → IVec S16 32) a x).toNat < S8192.size a := fun v323 k0_hw1 => k0_hw1.2.2.2.2.2.2.2.2
def k0_cond1 (k0_t3 : Fin k0_t3_loop.trips) : BitVec 1 :=
  let c0_i32_75 : BitVec 32 := 0#32
  let c0_i32_51 : BitVec 32 := 0#32
  let c1_i32_52 : BitVec 32 := 1#32
  let arg17 : BitVec 32 := Scf.iv c0_i32_51 c1_i32_52 k0_t3
  let c2_i32_74 : BitVec 32 := 2#32
  let v151 : BitVec 32 := Scalar.muli arg17 c2_i32_74
  let v152 : BitVec 32 := Scalar.addi c0_i32_75 v151
  let c2_i32_122 : BitVec 32 := 2#32
  let v261 : BitVec 32 := Scalar.addi v152 c2_i32_122
  let c144_i32 : BitVec 32 := 144#32
  let v262 : BitVec 1 := Scalar.cmpi .slt v261 c144_i32
  let v263 : BitVec 32 := Scalar.extui v262
  let c0_i32_123 : BitVec 32 := 0#32
  let v264 : BitVec 1 := Scalar.cmpi .ne v263 c0_i32_123
  v264

def k0_off11 (i : grid0.Coords) (k0_t3 : Fin k0_t3_loop.trips) (c0_i32_166 : BitVec 32) : Fin 3 → Nat :=
  let c0_i32_75 : BitVec 32 := 0#32
  let c0_i32_51 : BitVec 32 := 0#32
  let c1_i32_52 : BitVec 32 := 1#32
  let arg17 : BitVec 32 := Scf.iv c0_i32_51 c1_i32_52 k0_t3
  let c2_i32_74 : BitVec 32 := 2#32
  let v151 : BitVec 32 := Scalar.muli arg17 c2_i32_74
  let v152 : BitVec 32 := Scalar.addi c0_i32_75 v151
  let c2_i32_150 : BitVec 32 := 2#32
  let v320 : BitVec 32 := Scalar.addi v152 c2_i32_150
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_16 : BitVec 32 := 2#32
  let c0_i32_17 : BitVec 32 := 0#32
  let v46 : BitVec 1 := Scalar.cmpi .eq c2_i32_16 c0_i32_17
  let c1_i32_18 : BitVec 32 := 1#32
  let v47 : BitVec 32 := Scalar.select v46 c1_i32_18 c2_i32_16
  let v48 : BitVec 32 := Scalar.remsi v1 v47
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let c0_i32_19 : BitVec 32 := 0#32
  let v49 : BitVec 1 := Scalar.cmpi .ne v48 c0_i32_19
  let v53 : BitVec 1 := Scalar.andi v52 v49
  let v54 : BitVec 32 := Scalar.addi v48 v47
  let v55 : BitVec 32 := Scalar.select v53 v54 v48
  let v321 : BitVec 32 := Scalar.xori v320 v55
  let c0_i32_152 : BitVec 32 := 0#32
  let v323 : BitVec 1 := Scalar.cmpi .sgt v321 c0_i32_152
  let v324 : BitVec 32 := Scalar.extui v323
  let c0_i32_153 : BitVec 32 := 0#32
  let v325 : BitVec 1 := Scalar.cmpi .slt v321 c0_i32_153
  let v326 : BitVec 32 := Scalar.extui v325
  let v327 : BitVec 32 := Scalar.subi v324 v326
  let c8_i32_151 : BitVec 32 := 8#32
  let c0_i32_154 : BitVec 32 := 0#32
  let v328 : BitVec 1 := Scalar.cmpi .sgt c8_i32_151 c0_i32_154
  let v329 : BitVec 32 := Scalar.extui v328
  let c0_i32_155 : BitVec 32 := 0#32
  let v330 : BitVec 1 := Scalar.cmpi .slt c8_i32_151 c0_i32_155
  let v331 : BitVec 32 := Scalar.extui v330
  let v332 : BitVec 32 := Scalar.subi v329 v331
  let v333 : BitVec 1 := Scalar.cmpi .ne v327 v332
  let v334 : BitVec 32 := Scalar.remsi v321 c8_i32_151
  let c0_i32_156 : BitVec 32 := 0#32
  let v335 : BitVec 1 := Scalar.cmpi .ne v334 c0_i32_156
  let v336 : BitVec 1 := Scalar.andi v333 v335
  let v322 : BitVec 32 := Scalar.divsi v321 c8_i32_151
  let c1_i32_157 : BitVec 32 := 1#32
  let v337 : BitVec 32 := Scalar.subi v322 c1_i32_157
  let v338 : BitVec 32 := Scalar.select v336 v337 v322
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c2_i32_4 : BitVec 32 := 2#32
  let c0_i32_7 : BitVec 32 := 0#32
  let v25 : BitVec 1 := Scalar.cmpi .sgt c2_i32_4 c0_i32_7
  let v26 : BitVec 32 := Scalar.extui v25
  let c0_i32_8 : BitVec 32 := 0#32
  let v27 : BitVec 1 := Scalar.cmpi .slt c2_i32_4 c0_i32_8
  let v28 : BitVec 32 := Scalar.extui v27
  let v29 : BitVec 32 := Scalar.subi v26 v28
  let v30 : BitVec 1 := Scalar.cmpi .ne v24 v29
  let v31 : BitVec 32 := Scalar.remsi v1 c2_i32_4
  let c0_i32_9 : BitVec 32 := 0#32
  let v32 : BitVec 1 := Scalar.cmpi .ne v31 c0_i32_9
  let v33 : BitVec 1 := Scalar.andi v30 v32
  let v19 : BitVec 32 := Scalar.divsi v1 c2_i32_4
  let c1_i32_10 : BitVec 32 := 1#32
  let v34 : BitVec 32 := Scalar.subi v19 c1_i32_10
  let v35 : BitVec 32 := Scalar.select v33 v34 v19
  let c4_i32 : BitVec 32 := 4#32
  let c0_i32_11 : BitVec 32 := 0#32
  let v36 : BitVec 1 := Scalar.cmpi .eq c4_i32 c0_i32_11
  let c1_i32_12 : BitVec 32 := 1#32
  let v37 : BitVec 32 := Scalar.select v36 c1_i32_12 c4_i32
  let v38 : BitVec 32 := Scalar.remsi v35 v37
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let c0_i32_13 : BitVec 32 := 0#32
  let v39 : BitVec 1 := Scalar.cmpi .ne v38 c0_i32_13
  let v43 : BitVec 1 := Scalar.andi v42 v39
  let v44 : BitVec 32 := Scalar.addi v38 v37
  let v45 : BitVec 32 := Scalar.select v43 v44 v38
  let c4_i32_22 : BitVec 32 := 4#32
  let v56 : BitVec 32 := Scalar.muli v45 c4_i32_22
  let c2_i32_23 : BitVec 32 := 2#32
  let v57 : BitVec 32 := Scalar.muli v55 c2_i32_23
  let v58 : BitVec 32 := Scalar.addi v56 v57
  let v352 : BitVec 32 := Scalar.addi v58 c0_i32_166
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16384_i32_158 : BitVec 32 := 16384#32
  let v339 : BitVec 32 := Scalar.muli v18 c16384_i32_158
  let c8_i32_159 : BitVec 32 := 8#32
  let c0_i32_160 : BitVec 32 := 0#32
  let v340 : BitVec 1 := Scalar.cmpi .eq c8_i32_159 c0_i32_160
  let c1_i32_161 : BitVec 32 := 1#32
  let v341 : BitVec 32 := Scalar.select v340 c1_i32_161 c8_i32_159
  let v342 : BitVec 32 := Scalar.remsi v321 v341
  let c0_i32_163 : BitVec 32 := 0#32
  let v344 : BitVec 1 := Scalar.cmpi .slt v342 c0_i32_163
  let c0_i32_164 : BitVec 32 := 0#32
  let v345 : BitVec 1 := Scalar.cmpi .slt v341 c0_i32_164
  let v346 : BitVec 1 := Scalar.xori v344 v345
  let c0_i32_162 : BitVec 32 := 0#32
  let v343 : BitVec 1 := Scalar.cmpi .ne v342 c0_i32_162
  let v347 : BitVec 1 := Scalar.andi v346 v343
  let v348 : BitVec 32 := Scalar.addi v342 v341
  let v349 : BitVec 32 := Scalar.select v347 v348 v342
  let c2048_i32_165 : BitVec 32 := 2048#32
  let v350 : BitVec 32 := Scalar.muli v349 c2048_i32_165
  let v351 : BitVec 32 := Scalar.addi v339 v350
  ![v338.toNat, v352.toNat, v351.toNat]
def k0_off12 (i : grid0.Coords) (k0_t3 : Fin k0_t3_loop.trips) : Fin 3 → Nat :=
  let c0_i32_75 : BitVec 32 := 0#32
  let c0_i32_51 : BitVec 32 := 0#32
  let c1_i32_52 : BitVec 32 := 1#32
  let arg17 : BitVec 32 := Scf.iv c0_i32_51 c1_i32_52 k0_t3
  let c2_i32_74 : BitVec 32 := 2#32
  let v151 : BitVec 32 := Scalar.muli arg17 c2_i32_74
  let v152 : BitVec 32 := Scalar.addi c0_i32_75 v151
  let c2_i32_150 : BitVec 32 := 2#32
  let v320 : BitVec 32 := Scalar.addi v152 c2_i32_150
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_16 : BitVec 32 := 2#32
  let c0_i32_17 : BitVec 32 := 0#32
  let v46 : BitVec 1 := Scalar.cmpi .eq c2_i32_16 c0_i32_17
  let c1_i32_18 : BitVec 32 := 1#32
  let v47 : BitVec 32 := Scalar.select v46 c1_i32_18 c2_i32_16
  let v48 : BitVec 32 := Scalar.remsi v1 v47
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let c0_i32_19 : BitVec 32 := 0#32
  let v49 : BitVec 1 := Scalar.cmpi .ne v48 c0_i32_19
  let v53 : BitVec 1 := Scalar.andi v52 v49
  let v54 : BitVec 32 := Scalar.addi v48 v47
  let v55 : BitVec 32 := Scalar.select v53 v54 v48
  let v321 : BitVec 32 := Scalar.xori v320 v55
  let c0_i32_152 : BitVec 32 := 0#32
  let v323 : BitVec 1 := Scalar.cmpi .sgt v321 c0_i32_152
  let v324 : BitVec 32 := Scalar.extui v323
  let c0_i32_153 : BitVec 32 := 0#32
  let v325 : BitVec 1 := Scalar.cmpi .slt v321 c0_i32_153
  let v326 : BitVec 32 := Scalar.extui v325
  let v327 : BitVec 32 := Scalar.subi v324 v326
  let c8_i32_151 : BitVec 32 := 8#32
  let c0_i32_154 : BitVec 32 := 0#32
  let v328 : BitVec 1 := Scalar.cmpi .sgt c8_i32_151 c0_i32_154
  let v329 : BitVec 32 := Scalar.extui v328
  let c0_i32_155 : BitVec 32 := 0#32
  let v330 : BitVec 1 := Scalar.cmpi .slt c8_i32_151 c0_i32_155
  let v331 : BitVec 32 := Scalar.extui v330
  let v332 : BitVec 32 := Scalar.subi v329 v331
  let v333 : BitVec 1 := Scalar.cmpi .ne v327 v332
  let v334 : BitVec 32 := Scalar.remsi v321 c8_i32_151
  let c0_i32_156 : BitVec 32 := 0#32
  let v335 : BitVec 1 := Scalar.cmpi .ne v334 c0_i32_156
  let v336 : BitVec 1 := Scalar.andi v333 v335
  let v322 : BitVec 32 := Scalar.divsi v321 c8_i32_151
  let c1_i32_157 : BitVec 32 := 1#32
  let v337 : BitVec 32 := Scalar.subi v322 c1_i32_157
  let v338 : BitVec 32 := Scalar.select v336 v337 v322
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c2_i32_4 : BitVec 32 := 2#32
  let c0_i32_7 : BitVec 32 := 0#32
  let v25 : BitVec 1 := Scalar.cmpi .sgt c2_i32_4 c0_i32_7
  let v26 : BitVec 32 := Scalar.extui v25
  let c0_i32_8 : BitVec 32 := 0#32
  let v27 : BitVec 1 := Scalar.cmpi .slt c2_i32_4 c0_i32_8
  let v28 : BitVec 32 := Scalar.extui v27
  let v29 : BitVec 32 := Scalar.subi v26 v28
  let v30 : BitVec 1 := Scalar.cmpi .ne v24 v29
  let v31 : BitVec 32 := Scalar.remsi v1 c2_i32_4
  let c0_i32_9 : BitVec 32 := 0#32
  let v32 : BitVec 1 := Scalar.cmpi .ne v31 c0_i32_9
  let v33 : BitVec 1 := Scalar.andi v30 v32
  let v19 : BitVec 32 := Scalar.divsi v1 c2_i32_4
  let c1_i32_10 : BitVec 32 := 1#32
  let v34 : BitVec 32 := Scalar.subi v19 c1_i32_10
  let v35 : BitVec 32 := Scalar.select v33 v34 v19
  let c4_i32 : BitVec 32 := 4#32
  let c0_i32_11 : BitVec 32 := 0#32
  let v36 : BitVec 1 := Scalar.cmpi .eq c4_i32 c0_i32_11
  let c1_i32_12 : BitVec 32 := 1#32
  let v37 : BitVec 32 := Scalar.select v36 c1_i32_12 c4_i32
  let v38 : BitVec 32 := Scalar.remsi v35 v37
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let c0_i32_13 : BitVec 32 := 0#32
  let v39 : BitVec 1 := Scalar.cmpi .ne v38 c0_i32_13
  let v43 : BitVec 1 := Scalar.andi v42 v39
  let v44 : BitVec 32 := Scalar.addi v38 v37
  let v45 : BitVec 32 := Scalar.select v43 v44 v38
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16384_i32_158 : BitVec 32 := 16384#32
  let v339 : BitVec 32 := Scalar.muli v18 c16384_i32_158
  let c8_i32_159 : BitVec 32 := 8#32
  let c0_i32_160 : BitVec 32 := 0#32
  let v340 : BitVec 1 := Scalar.cmpi .eq c8_i32_159 c0_i32_160
  let c1_i32_161 : BitVec 32 := 1#32
  let v341 : BitVec 32 := Scalar.select v340 c1_i32_161 c8_i32_159
  let v342 : BitVec 32 := Scalar.remsi v321 v341
  let c0_i32_163 : BitVec 32 := 0#32
  let v344 : BitVec 1 := Scalar.cmpi .slt v342 c0_i32_163
  let c0_i32_164 : BitVec 32 := 0#32
  let v345 : BitVec 1 := Scalar.cmpi .slt v341 c0_i32_164
  let v346 : BitVec 1 := Scalar.xori v344 v345
  let c0_i32_162 : BitVec 32 := 0#32
  let v343 : BitVec 1 := Scalar.cmpi .ne v342 c0_i32_162
  let v347 : BitVec 1 := Scalar.andi v346 v343
  let v348 : BitVec 32 := Scalar.addi v342 v341
  let v349 : BitVec 32 := Scalar.select v347 v348 v342
  let c2048_i32_165 : BitVec 32 := 2048#32
  let v350 : BitVec 32 := Scalar.muli v349 c2048_i32_165
  let v351 : BitVec 32 := Scalar.addi v339 v350
  ![v338.toNat, v45.toNat, v351.toNat]
@[reducible] def k0_t5_loop : Scf.Loop 32 :=
  let c0_i32_146 : BitVec 32 := 0#32
  let c128_i32_147 : BitVec 32 := 128#32
  let v319 : BitVec 32 := Scalar.addi c0_i32_146 c128_i32_147
  let c1_i32_148 : BitVec 32 := 1#32
  ⟨c0_i32_146, v319, c1_i32_148⟩
def k0_off13 (k0_t5 : Fin k0_t5_loop.trips) : Fin 1 → Nat :=
  let c0_i32_151 : BitVec 32 := 0#32
  let c0_i32_146 : BitVec 32 := 0#32
  let c1_i32_148 : BitVec 32 := 1#32
  let arg18 : BitVec 32 := Scf.iv c0_i32_146 c1_i32_148 k0_t5
  let c16_i32_150 : BitVec 32 := 16#32
  let v320 : BitVec 32 := Scalar.muli arg18 c16_i32_150
  let v321 : BitVec 32 := Scalar.addi c0_i32_151 v320
  let v322 : Index := Scalar.indexCast v321
  ![v322.toNat]
def k0_off14 (k0_t5 : Fin k0_t5_loop.trips) : Fin 1 → Nat :=
  let c0_i32_152 : BitVec 32 := 0#32
  let c0_i32_151 : BitVec 32 := 0#32
  let c0_i32_146 : BitVec 32 := 0#32
  let c1_i32_148 : BitVec 32 := 1#32
  let arg18 : BitVec 32 := Scf.iv c0_i32_146 c1_i32_148 k0_t5
  let c16_i32_150 : BitVec 32 := 16#32
  let v320 : BitVec 32 := Scalar.muli arg18 c16_i32_150
  let v321 : BitVec 32 := Scalar.addi c0_i32_151 v320
  let v327 : BitVec 32 := Scalar.addi c0_i32_152 v321
  let v328 : Index := Scalar.indexCast v327
  ![v328.toNat]
def k0_off15 (k0_t5 : Fin k0_t5_loop.trips) : Fin 1 → Nat :=
  let c2048_i32_158 : BitVec 32 := 2048#32
  let c0_i32_151 : BitVec 32 := 0#32
  let c0_i32_146 : BitVec 32 := 0#32
  let c1_i32_148 : BitVec 32 := 1#32
  let arg18 : BitVec 32 := Scf.iv c0_i32_146 c1_i32_148 k0_t5
  let c16_i32_150 : BitVec 32 := 16#32
  let v320 : BitVec 32 := Scalar.muli arg18 c16_i32_150
  let v321 : BitVec 32 := Scalar.addi c0_i32_151 v320
  let v362 : BitVec 32 := Scalar.addi c2048_i32_158 v321
  let v363 : Index := Scalar.indexCast v362
  ![v363.toNat]

def k0_chk2 (v323 : IVec S16 32) : Prop :=
  (∀ a x, ((![v323] : Fin 1 → IVec S16 32) a x).toNat < S8192.size a) ∧
  (∀ a x, ((![v323] : Fin 1 → IVec S16 32) a x).toNat < S8192.size a) ∧
  (∀ a x, ((![v323] : Fin 1 → IVec S16 32) a x).toNat < S8192.size a) ∧
  (∀ a x, ((![v323] : Fin 1 → IVec S16 32) a x).toNat < S8192.size a) ∧
  (∀ a x, ((![v323] : Fin 1 → IVec S16 32) a x).toNat < S8192.size a) ∧
  (∀ a x, ((![v323] : Fin 1 → IVec S16 32) a x).toNat < S8192.size a) ∧
  (∀ a x, ((![v323] : Fin 1 → IVec S16 32) a x).toNat < S8192.size a) ∧
  (∀ a x, ((![v323] : Fin 1 → IVec S16 32) a x).toNat < S8192.size a)
theorem k0_idx10_inb : ∀ (v323 : IVec S16 32) (k0_hw2 : k0_chk2 v323), ∀ a x, ((![v323] : Fin 1 → IVec S16 32) a x).toNat < S8192.size a := fun v323 k0_hw2 => k0_hw2.1
theorem k0_idx11_inb : ∀ (v323 : IVec S16 32) (k0_hw2 : k0_chk2 v323), ∀ a x, ((![v323] : Fin 1 → IVec S16 32) a x).toNat < S8192.size a := fun v323 k0_hw2 => k0_hw2.2.1
theorem k0_idx12_inb : ∀ (v323 : IVec S16 32) (k0_hw2 : k0_chk2 v323), ∀ a x, ((![v323] : Fin 1 → IVec S16 32) a x).toNat < S8192.size a := fun v323 k0_hw2 => k0_hw2.2.2.1
theorem k0_idx13_inb : ∀ (v323 : IVec S16 32) (k0_hw2 : k0_chk2 v323), ∀ a x, ((![v323] : Fin 1 → IVec S16 32) a x).toNat < S8192.size a := fun v323 k0_hw2 => k0_hw2.2.2.2.1
theorem k0_idx14_inb : ∀ (v323 : IVec S16 32) (k0_hw2 : k0_chk2 v323), ∀ a x, ((![v323] : Fin 1 → IVec S16 32) a x).toNat < S8192.size a := fun v323 k0_hw2 => k0_hw2.2.2.2.2.1
theorem k0_idx15_inb : ∀ (v323 : IVec S16 32) (k0_hw2 : k0_chk2 v323), ∀ a x, ((![v323] : Fin 1 → IVec S16 32) a x).toNat < S8192.size a := fun v323 k0_hw2 => k0_hw2.2.2.2.2.2.1
theorem k0_idx16_inb : ∀ (v323 : IVec S16 32) (k0_hw2 : k0_chk2 v323), ∀ a x, ((![v323] : Fin 1 → IVec S16 32) a x).toNat < S8192.size a := fun v323 k0_hw2 => k0_hw2.2.2.2.2.2.2.1
theorem k0_idx17_inb : ∀ (v323 : IVec S16 32) (k0_hw2 : k0_chk2 v323), ∀ a x, ((![v323] : Fin 1 → IVec S16 32) a x).toNat < S8192.size a := fun v323 k0_hw2 => k0_hw2.2.2.2.2.2.2.2
def k0_off16 (i : grid0.Coords) (c0_i32_55 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c2_i32_4 : BitVec 32 := 2#32
  let c0_i32_7 : BitVec 32 := 0#32
  let v25 : BitVec 1 := Scalar.cmpi .sgt c2_i32_4 c0_i32_7
  let v26 : BitVec 32 := Scalar.extui v25
  let c0_i32_8 : BitVec 32 := 0#32
  let v27 : BitVec 1 := Scalar.cmpi .slt c2_i32_4 c0_i32_8
  let v28 : BitVec 32 := Scalar.extui v27
  let v29 : BitVec 32 := Scalar.subi v26 v28
  let v30 : BitVec 1 := Scalar.cmpi .ne v24 v29
  let v31 : BitVec 32 := Scalar.remsi v1 c2_i32_4
  let c0_i32_9 : BitVec 32 := 0#32
  let v32 : BitVec 1 := Scalar.cmpi .ne v31 c0_i32_9
  let v33 : BitVec 1 := Scalar.andi v30 v32
  let v19 : BitVec 32 := Scalar.divsi v1 c2_i32_4
  let c1_i32_10 : BitVec 32 := 1#32
  let v34 : BitVec 32 := Scalar.subi v19 c1_i32_10
  let v35 : BitVec 32 := Scalar.select v33 v34 v19
  let c4_i32 : BitVec 32 := 4#32
  let c0_i32_11 : BitVec 32 := 0#32
  let v36 : BitVec 1 := Scalar.cmpi .eq c4_i32 c0_i32_11
  let c1_i32_12 : BitVec 32 := 1#32
  let v37 : BitVec 32 := Scalar.select v36 c1_i32_12 c4_i32
  let v38 : BitVec 32 := Scalar.remsi v35 v37
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let c0_i32_13 : BitVec 32 := 0#32
  let v39 : BitVec 1 := Scalar.cmpi .ne v38 c0_i32_13
  let v43 : BitVec 1 := Scalar.andi v42 v39
  let v44 : BitVec 32 := Scalar.addi v38 v37
  let v45 : BitVec 32 := Scalar.select v43 v44 v38
  let c16_i32 : BitVec 32 := 16#32
  let v117 : BitVec 32 := Scalar.muli v45 c16_i32
  let c2_i32_16 : BitVec 32 := 2#32
  let c0_i32_17 : BitVec 32 := 0#32
  let v46 : BitVec 1 := Scalar.cmpi .eq c2_i32_16 c0_i32_17
  let c1_i32_18 : BitVec 32 := 1#32
  let v47 : BitVec 32 := Scalar.select v46 c1_i32_18 c2_i32_16
  let v48 : BitVec 32 := Scalar.remsi v1 v47
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let c0_i32_19 : BitVec 32 := 0#32
  let v49 : BitVec 1 := Scalar.cmpi .ne v48 c0_i32_19
  let v53 : BitVec 1 := Scalar.andi v52 v49
  let v54 : BitVec 32 := Scalar.addi v48 v47
  let v55 : BitVec 32 := Scalar.select v53 v54 v48
  let c8_i32_54 : BitVec 32 := 8#32
  let v118 : BitVec 32 := Scalar.muli v55 c8_i32_54
  let v119 : BitVec 32 := Scalar.addi v117 v118
  let v120 : BitVec 32 := Scalar.addi v119 c0_i32_55
  let c0_i32_75_r0 : BitVec 32 := 0#32
  ![v18.toNat, v120.toNat, 0]
def k0_off17 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c2_i32_4 : BitVec 32 := 2#32
  let c0_i32_7 : BitVec 32 := 0#32
  let v25 : BitVec 1 := Scalar.cmpi .sgt c2_i32_4 c0_i32_7
  let v26 : BitVec 32 := Scalar.extui v25
  let c0_i32_8 : BitVec 32 := 0#32
  let v27 : BitVec 1 := Scalar.cmpi .slt c2_i32_4 c0_i32_8
  let v28 : BitVec 32 := Scalar.extui v27
  let v29 : BitVec 32 := Scalar.subi v26 v28
  let v30 : BitVec 1 := Scalar.cmpi .ne v24 v29
  let v31 : BitVec 32 := Scalar.remsi v1 c2_i32_4
  let c0_i32_9 : BitVec 32 := 0#32
  let v32 : BitVec 1 := Scalar.cmpi .ne v31 c0_i32_9
  let v33 : BitVec 1 := Scalar.andi v30 v32
  let v19 : BitVec 32 := Scalar.divsi v1 c2_i32_4
  let c1_i32_10 : BitVec 32 := 1#32
  let v34 : BitVec 32 := Scalar.subi v19 c1_i32_10
  let v35 : BitVec 32 := Scalar.select v33 v34 v19
  let c4_i32 : BitVec 32 := 4#32
  let c0_i32_11 : BitVec 32 := 0#32
  let v36 : BitVec 1 := Scalar.cmpi .eq c4_i32 c0_i32_11
  let c1_i32_12 : BitVec 32 := 1#32
  let v37 : BitVec 32 := Scalar.select v36 c1_i32_12 c4_i32
  let v38 : BitVec 32 := Scalar.remsi v35 v37
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let c0_i32_13 : BitVec 32 := 0#32
  let v39 : BitVec 1 := Scalar.cmpi .ne v38 c0_i32_13
  let v43 : BitVec 1 := Scalar.andi v42 v39
  let v44 : BitVec 32 := Scalar.addi v38 v37
  let v45 : BitVec 32 := Scalar.select v43 v44 v38
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32_73 : BitVec 32 := 2#32
  let v149 : BitVec 32 := Scalar.muli v18 c2_i32_73
  let c2_i32_16 : BitVec 32 := 2#32
  let c0_i32_17 : BitVec 32 := 0#32
  let v46 : BitVec 1 := Scalar.cmpi .eq c2_i32_16 c0_i32_17
  let c1_i32_18 : BitVec 32 := 1#32
  let v47 : BitVec 32 := Scalar.select v46 c1_i32_18 c2_i32_16
  let v48 : BitVec 32 := Scalar.remsi v1 v47
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let c0_i32_19 : BitVec 32 := 0#32
  let v49 : BitVec 1 := Scalar.cmpi .ne v48 c0_i32_19
  let v53 : BitVec 1 := Scalar.andi v52 v49
  let v54 : BitVec 32 := Scalar.addi v48 v47
  let v55 : BitVec 32 := Scalar.select v53 v54 v48
  let v150 : BitVec 32 := Scalar.addi v149 v55
  let c0_i32_74_r8 : BitVec 32 := 0#32
  ![v45.toNat, v150.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S18x16x65536 : Shape := ⟨3, ![18, 16, 65536]⟩
abbrev S18x65536x4 : Shape := ⟨3, ![18, 65536, 4]⟩
abbrev S4x8192 : Shape := ⟨2, ![4, 8192]⟩
abbrev S4x8192x16 : Shape := ⟨3, ![4, 8192, 16]⟩
abbrev S18x64x65536 : Shape := ⟨3, ![18, 64, 65536]⟩
abbrev S18x65536x64 : Shape := ⟨3, ![18, 65536, 64]⟩
abbrev S18x65536x4x16 : Shape := ⟨4, ![18, 65536, 4, 16]⟩
abbrev S18x65536x4x1 : Shape := ⟨4, ![18, 65536, 4, 1]⟩
abbrev S4718592x16 : Shape := ⟨2, ![4718592, 16]⟩
abbrev S4 : Shape := ⟨1, ![4]⟩
abbrev S_ : Shape := ⟨0, ![]⟩
abbrev S1x1x4 : Shape := ⟨3, ![1, 1, 4]⟩
abbrev S4718592 : Shape := ⟨1, ![4718592]⟩
abbrev S32768 : Shape := ⟨1, ![32768]⟩
abbrev S4718592x1 : Shape := ⟨2, ![4718592, 1]⟩
abbrev S32768x16 : Shape := ⟨2, ![32768, 16]⟩

abbrev nBuf : Space → Nat
  | .hbm => 48
  | .vmem => 2
  | .smem => 0
  | _ => 0

abbrev bufTy : (tb : Table) → Fin (tcTables nBuf tb) → BufTy
  | .hbm, ⟨0, _⟩ => ⟨S18x16x65536, .i32⟩
  | .hbm, ⟨1, _⟩ => ⟨S18x65536x4, .f32⟩
  | .hbm, ⟨2, _⟩ => ⟨S18x65536x4, .i32⟩
  | .hbm, ⟨3, _⟩ => ⟨S4x8192, .f32⟩
  | .hbm, ⟨4, _⟩ => ⟨S4x8192x16, .f32⟩
  | .hbm, ⟨5, _⟩ => ⟨S18x64x65536, .bf16⟩
  | .hbm, ⟨6, _⟩ => ⟨S18x65536x64, .bf16⟩
  | .hbm, ⟨7, _⟩ => ⟨S18x65536x4x16, .bf16⟩
  | .hbm, ⟨8, _⟩ => ⟨S18x65536x4, .bf16⟩
  | .hbm, ⟨9, _⟩ => ⟨S18x65536x4x1, .bf16⟩
  | .hbm, ⟨10, _⟩ => ⟨S18x65536x4x16, .bf16⟩
  | .hbm, ⟨11, _⟩ => ⟨S18x65536x4x16, .bf16⟩
  | .hbm, ⟨12, _⟩ => ⟨S4718592x16, .bf16⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S1x1x4, .i32⟩
  | .hbm, ⟨18, _⟩ => ⟨S18x65536x4, .i32⟩
  | .hbm, ⟨19, _⟩ => ⟨S18x65536x4, .i32⟩
  | .hbm, ⟨20, _⟩ => ⟨S4718592, .i32⟩
  | .hbm, ⟨21, _⟩ => ⟨S_, .f32⟩
  | .hbm, ⟨22, _⟩ => ⟨S4718592, .f32⟩
  | .hbm, ⟨23, _⟩ => ⟨S_, .f32⟩
  | .hbm, ⟨24, _⟩ => ⟨S32768, .f32⟩
  | .hbm, ⟨25, _⟩ => ⟨S4718592x1, .i32⟩
  | .hbm, ⟨26, _⟩ => ⟨S32768, .f32⟩
  | .hbm, ⟨27, _⟩ => ⟨S4718592x16, .f32⟩
  | .hbm, ⟨28, _⟩ => ⟨S_, .f32⟩
  | .hbm, ⟨29, _⟩ => ⟨S32768x16, .f32⟩
  | .hbm, ⟨30, _⟩ => ⟨S4718592x1, .i32⟩
  | .hbm, ⟨31, _⟩ => ⟨S32768x16, .f32⟩
  | .hbm, ⟨32, _⟩ => ⟨S_, .f32⟩
  | .hbm, ⟨33, _⟩ => ⟨S4x8192, .f32⟩
  | .hbm, ⟨34, _⟩ => ⟨S4x8192, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .f32⟩
  | .hbm, ⟨39, _⟩ => ⟨S4x8192, .f32⟩
  | .hbm, ⟨40, _⟩ => ⟨S_, .f32⟩
  | .hbm, ⟨41, _⟩ => ⟨S4x8192x16, .f32⟩
  | .hbm, ⟨42, _⟩ => ⟨S4x8192x16, .f32⟩
  | .hbm, ⟨43, _⟩ => ⟨S4x8192x16, .f32⟩
  | .hbm, ⟨44, _⟩ => ⟨S_, .f32⟩
  | .hbm, ⟨45, _⟩ => ⟨S4x8192x16, .f32⟩
  | .hbm, ⟨46, _⟩ => ⟨S4x8192x16, .f32⟩
  | .hbm, ⟨47, _⟩ => ⟨S4x8192x16, .f32⟩
  | .local _ .vmem, ⟨0, _⟩ => ⟨S18x16x65536, .i32⟩
  | .local _ .vmem, ⟨1, _⟩ => ⟨S18x64x65536, .bf16⟩
  | _, _ => ⟨S18x16x65536, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S18x16x65536 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18x64x65536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Update.lean ====
abbrev S4x64x8192 : Shape := ⟨3, ![4, 64, 8192]⟩
abbrev S4x8x8192 : Shape := ⟨3, ![4, 8, 8192]⟩
abbrev S4x8192 : Shape := ⟨2, ![4, 8192]⟩
abbrev S4x16x8192 : Shape := ⟨3, ![4, 16, 8192]⟩
abbrev S4x1x8192 : Shape := ⟨3, ![4, 1, 8192]⟩
abbrev S1x8x8192 : Shape := ⟨3, ![1, 8, 8192]⟩
abbrev S1x1x8192 : Shape := ⟨3, ![1, 1, 8192]⟩
abbrev S1x16x8192 : Shape := ⟨3, ![1, 16, 8192]⟩
abbrev S8x8192 : Shape := ⟨2, ![8, 8192]⟩
abbrev S8192 : Shape := ⟨1, ![8192]⟩
abbrev S1x8192 : Shape := ⟨2, ![1, 8192]⟩
abbrev S1 : Shape := ⟨1, ![1]⟩
abbrev S1x1 : Shape := ⟨2, ![1, 1]⟩
abbrev S16x8192 : Shape := ⟨2, ![16, 8192]⟩
abbrev S252x8192 : Shape := ⟨2, ![252, 8192]⟩

abbrev nBuf : Space → Nat
  | .hbm => 9
  | .vmem => 16
  | .smem => 0
  | _ => 0

abbrev bufTy : (tb : Table) → Fin (tcTables nBuf tb) → BufTy
  | .hbm, ⟨0, _⟩ => ⟨S4x64x8192, .f32⟩
  | .hbm, ⟨1, _⟩ => ⟨S4x8x8192, .f32⟩
  | .hbm, ⟨2, _⟩ => ⟨S4x8192, .f32⟩
  | .hbm, ⟨3, _⟩ => ⟨S4x16x8192, .f32⟩
  | .hbm, ⟨4, _⟩ => ⟨S4x1x8192, .f32⟩
  | .hbm, ⟨5, _⟩ => ⟨S4x1x8192, .f32⟩
  | .hbm, ⟨6, _⟩ => ⟨S4x16x8192, .f32⟩
  | .hbm, ⟨7, _⟩ => ⟨S4x16x8192, .fp8e4m3⟩
  | .hbm, ⟨8, _⟩ => ⟨S4x1x8192, .f32⟩
  | .local _ .vmem, ⟨0, _⟩ => ⟨S4x16x8192, .f32⟩
  | .local _ .vmem, ⟨1, _⟩ => ⟨S4x16x8192, .f32⟩
  | .local _ .vmem, ⟨2, _⟩ => ⟨S1x8x8192, .f32⟩
  | .local _ .vmem, ⟨3, _⟩ => ⟨S1x8x8192, .f32⟩
  | .local _ .vmem, ⟨4, _⟩ => ⟨S1x1x8192, .f32⟩
  | .local _ .vmem, ⟨5, _⟩ => ⟨S1x1x8192, .f32⟩
  | .local _ .vmem, ⟨6, _⟩ => ⟨S1x16x8192, .f32⟩
  | .local _ .vmem, ⟨7, _⟩ => ⟨S1x16x8192, .f32⟩
  | .local _ .vmem, ⟨8, _⟩ => ⟨S1x1x8192, .f32⟩
  | .local _ .vmem, ⟨9, _⟩ => ⟨S1x1x8192, .f32⟩
  | .local _ .vmem, ⟨10, _⟩ => ⟨S1x16x8192, .f32⟩
  | .local _ .vmem, ⟨11, _⟩ => ⟨S1x16x8192, .f32⟩
  | .local _ .vmem, ⟨12, _⟩ => ⟨S1x16x8192, .fp8e4m3⟩
  | .local _ .vmem, ⟨13, _⟩ => ⟨S1x16x8192, .fp8e4m3⟩
  | .local _ .vmem, ⟨14, _⟩ => ⟨S1x1x8192, .f32⟩
  | .local _ .vmem, ⟨15, _⟩ => ⟨S1x1x8192, .f32⟩
  | _, _ => ⟨S4x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateReferenceIdeal.lean ====
abbrev S4x64x8192 : Shape := ⟨3, ![4, 64, 8192]⟩
abbrev S4x8x8192 : Shape := ⟨3, ![4, 8, 8192]⟩
abbrev S4x8192 : Shape := ⟨2, ![4, 8192]⟩
abbrev S4x16x8192 : Shape := ⟨3, ![4, 16, 8192]⟩
abbrev S253 : Shape := ⟨1, ![253]⟩
abbrev S_ : Shape := ⟨0, ![]⟩
abbrev S64x8192 : Shape := ⟨2, ![64, 8192]⟩
abbrev S4 : Shape := ⟨1, ![4]⟩
abbrev S4x1 : Shape := ⟨2, ![4, 1]⟩
abbrev S4x1x8192 : Shape := ⟨3, ![4, 1, 8192]⟩
abbrev S4x8192x1 : Shape := ⟨3, ![4, 8192, 1]⟩
abbrev S1x1x253 : Shape := ⟨3, ![1, 1, 253]⟩
abbrev S4x8192x253 : Shape := ⟨3, ![4, 8192, 253]⟩

abbrev nBuf : Space → Nat
  | .hbm => 77
  | .vmem => 0
  | .smem => 0
  | _ => 0

abbrev bufTy : (tb : Table) → Fin (tcTables nBuf tb) → BufTy
  | .hbm, ⟨0, _⟩ => ⟨S4x64x8192, .f32⟩
  | .hbm, ⟨1, _⟩ => ⟨S4x8x8192, .f32⟩
  | .hbm, ⟨2, _⟩ => ⟨S4x8192, .f32⟩
  | .hbm, ⟨3, _⟩ => ⟨S4x16x8192, .f32⟩
  | .hbm, ⟨4, _⟩ => ⟨S253, .f32⟩
  | .hbm, ⟨5, _⟩ => ⟨S_, .f32⟩
  | .hbm, ⟨6, _⟩ => ⟨S4x8192, .f32⟩
  | .hbm, ⟨7, _⟩ => ⟨S4x8192, .f32⟩
  | .hbm, ⟨8, _⟩ => ⟨S_, .f32⟩
  | .hbm, ⟨9, _⟩ => ⟨S4x8192, .f32⟩
  | .hbm, ⟨10, _⟩ => ⟨S_, .f32⟩
  | .hbm, ⟨11, _⟩ => ⟨S4x8192, .f32⟩
  | .hbm, ⟨12, _⟩ => ⟨S4x8192, .f32⟩
  | .hbm, ⟨13, _⟩ => ⟨S4x8192, .f32⟩
  | .hbm, ⟨14, _⟩ => ⟨S_, .f32⟩
  | .hbm, ⟨15, _⟩ => ⟨S4x16x8192, .f32⟩
  | .hbm, ⟨16, _⟩ => ⟨S4x16x8192, .f32⟩
  | .hbm, ⟨17, _⟩ => ⟨S_, .f32⟩
  | .hbm, ⟨18, _⟩ => ⟨S64x8192, .f32⟩
  | .hbm, ⟨19, _⟩ => ⟨S4x16x8192, .f32⟩
  | .hbm, ⟨20, _⟩ => ⟨S_, .f32⟩
  | .hbm, ⟨21, _⟩ => ⟨S4x16x8192, .f32⟩
  | .hbm, ⟨22, _⟩ => ⟨S4x16x8192, .f32⟩
  | .hbm, ⟨23, _⟩ => ⟨S4x16x8192, .f32⟩
  | .hbm, ⟨24, _⟩ => ⟨S_, .f32⟩
  | .hbm, ⟨25, _⟩ => ⟨S4, .f32⟩
  | .hbm, ⟨26, _⟩ => ⟨S4x1, .f32⟩
  | .hbm, ⟨27, _⟩ => ⟨S_, .f32⟩
  | .hbm, ⟨28, _⟩ => ⟨S4x8192, .f32⟩
  | .hbm, ⟨29, _⟩ => ⟨S4x8192, .f32⟩
  | .hbm, ⟨30, _⟩ => ⟨S_, .f32⟩
  | .hbm, ⟨31, _⟩ => ⟨S4x1, .f32⟩
  | .hbm, ⟨32, _⟩ => ⟨S4x1, .f32⟩
  | .hbm, ⟨33, _⟩ => ⟨S4x8192, .f32⟩
  | .hbm, ⟨34, _⟩ => ⟨S4x8192, .f32⟩
  | .hbm, ⟨35, _⟩ => ⟨S4x8192, .f32⟩
  | .hbm, ⟨36, _⟩ => ⟨S4x8192, .f32⟩
  | .hbm, ⟨37, _⟩ => ⟨S4x1x8192, .f32⟩
  | .hbm, ⟨38, _⟩ => ⟨S4x16x8192, .f32⟩
  | .hbm, ⟨39, _⟩ => ⟨S4x16x8192, .f32⟩
  | .hbm, ⟨40, _⟩ => ⟨S4x16x8192, .f32⟩
  | .hbm, ⟨41, _⟩ => ⟨S_, .f32⟩
  | .hbm, ⟨42, _⟩ => ⟨S4x8192, .f32⟩
  | .hbm, ⟨43, _⟩ => ⟨S_, .f32⟩
  | .hbm, ⟨44, _⟩ => ⟨S4x8192, .f32⟩
  | .hbm, ⟨45, _⟩ => ⟨S4x8192, .f32⟩
  | .hbm, ⟨46, _⟩ => ⟨S4x8192x1, .f32⟩
  | .hbm, ⟨47, _⟩ => ⟨S1x1x253, .f32⟩
  | .hbm, ⟨48, _⟩ => ⟨S4x8192x253, .f32⟩
  | .hbm, ⟨49, _⟩ => ⟨S4x8192x253, .f32⟩
  | .hbm, ⟨50, _⟩ => ⟨S4x8192x253, .i1⟩
  | .hbm, ⟨51, _⟩ => ⟨S_, .f32⟩
  | .hbm, ⟨52, _⟩ => ⟨S4x8192x253, .f32⟩
  | .hbm, ⟨53, _⟩ => ⟨S4x8192x253, .f32⟩
  | .hbm, ⟨54, _⟩ => ⟨S4x8192x253, .f32⟩
  | .hbm, ⟨55, _⟩ => ⟨S_, .f32⟩
  | .hbm, ⟨56, _⟩ => ⟨S4x8192, .f32⟩
  | .hbm, ⟨57, _⟩ => ⟨S4x8192, .i1⟩
  | .hbm, ⟨58, _⟩ => ⟨S_, .f32⟩
  | .hbm, ⟨59, _⟩ => ⟨S4x8192, .f32⟩
  | .hbm, ⟨60, _⟩ => ⟨S_, .f32⟩
  | .hbm, ⟨61, _⟩ => ⟨S_, .f32⟩
  | .hbm, ⟨62, _⟩ => ⟨S4x8192, .f32⟩
  | .hbm, ⟨63, _⟩ => ⟨S4x8192, .f32⟩
  | .hbm, ⟨64, _⟩ => ⟨S4x1x8192, .f32⟩
  | .hbm, ⟨65, _⟩ => ⟨S4x16x8192, .f32⟩
  | .hbm, ⟨66, _⟩ => ⟨S4x16x8192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S4x16x8192, .f32⟩
  | .hbm, ⟨71, _⟩ => ⟨S4x16x8192, .f32⟩
  | .hbm, ⟨72, _⟩ => ⟨S_, .f32⟩
  | .hbm, ⟨73, _⟩ => ⟨S4x16x8192, .f32⟩
  | .hbm, ⟨74, _⟩ => ⟨S4x16x8192, .f32⟩
  | .hbm, ⟨75, _⟩ => ⟨S4x16x8192, .fp8e4m3⟩
  | .hbm, ⟨76, _⟩ => ⟨S4x1x8192, .f32⟩
  | _, _ => ⟨S4x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_cst_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_cst_7 : Ref sig .tc := ⟨.hbm, 27, rfl⟩
abbrev main_v15 : Ref sig .tc := ⟨.hbm, 28, rfl⟩
abbrev main_v16 : Ref sig .tc := ⟨.hbm, 29, rfl⟩
abbrev main_cst_8 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_call0_v0 : Ref sig .tc := ⟨.hbm, 52, rfl⟩
abbrev main_call0_v1 : Ref sig .tc := ⟨.hbm, 53, rfl⟩
abbrev main_v35 : Ref sig .tc := ⟨.hbm, 54, rfl⟩
abbrev main_cst_12 : Ref sig .tc := ⟨.hbm, 55, rfl⟩
abbrev main_v36 : Ref sig .tc := ⟨.hbm, 56, rfl⟩
abbrev main_v37 : Ref sig .tc := ⟨.hbm, 57, rfl⟩
abbrev main_cst_13 : Ref sig .tc := ⟨.hbm, 58, rfl⟩
abbrev main_v38 : Ref sig .tc := ⟨.hbm, 59, rfl⟩
abbrev main_cst_14 : Ref sig .tc := ⟨.hbm, 60, rfl⟩
abbrev main_call1_v0 : Ref sig .tc := ⟨.hbm, 61, rfl⟩
abbrev main_call1_v1 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_cst_16 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩

abbrev nD : Nat := 1
abbrev τ : Topo := Topo.v7x

variable {F : FTy → Type} [FloatOps F]
-- ==== Proof.ScatterRule.lean ====
/-
  `vector_store_idx` into a window of a buffer that is held over any set of elements covering the window.
-/
module

public import Idealize.ShloMosaic.Lib.SparseCore.Ops
public import Idealize.ShloMosaic.Lib.Batch

@[expose] public section

noncomputable section

namespace Cert.Proof

open Idealize.ShloMosaic
open Idealize.SL
open Idealize.SL.BI (sProp bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {s : Shape} {e : EltTy} {α : Type} {Q : α → sProp (MT nD τ sig Ix (Elt F) Name U Lvl)}

local notation "𝕄" => MT nD τ sig Ix (Elt F) Name U Lvl

/-- `vector_store_idx` at the head of a program, its base memref's buffer held over `S`: the program continues
    holding `S` rewritten to the scatter of what the memref reads. -/
theorem wp_storeIdx_within {d : Fin 1 → Nat} {base : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD τ sig (Elt F) Λ c.2) α} {S : Finset (Idx ((base.access (.whole s)).loc c))}
    (hS : (base.access (.whole s)).set ⊆ S) {f : Buf (Elt F) ((base.access (.whole s)).loc c)} :
    ((base.access (.whole s)).loc c ↦[S]{fullShare} f)
      ⊢ iprop((((base.access (.whole s)).loc c ↦[S]{fullShare}
            ((base.access (.whole s)).write (Elt F) f (storeIdx ((base.access (.whole s)).read (Elt F) f) idxs v mask add h) Finset.univ))
          -∗ wp frame (wpE defs 𝒱 c bd) E (k ⟨⟩) Q)
        -∗ wp frame (wpE defs 𝒱 c bd) E (SparseCore.vectorStoreIdx base idxs v mask add h hs >>= k) Q) := by
  rw [SparseCore.vectorStoreIdx_bind]
  iintro H Hk
  iapply (wp_load_rect (defs := defs) 𝒱 c bd E (Q := Q) (r := Rect.whole s) (hl := View.loadsAt_rect hs.loads)
    (k := fun f' => .op (.store base (.whole s) (storeIdx f' idxs v mask add h) Finset.univ hs (.inl rfl)) k)
    (q := fullShare) (f := f) hS) $$ H
  iintro H
  iapply (wp_store (defs := defs) 𝒱 c bd E (Q := Q) (m := base) (r := .whole s) (Mk := Finset.univ)
    (hx := hs) (hm := .inl rfl) (k := k) (f := f) (S := S) hS) $$ H
  iexact Hk

end Cert.Proof
-- ==== Proof.SumsI.lean ====
/-
  The SparseCore call `segment_sums`: the program as the launch theorem sees it, the buffers a task names, and what
  ONE lane step (sixteen rows) of its inner loops does to the running table and to the running counts.
-/
module

public import proofs.«01_k».proof.KernelIdeal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.ScatterRule
public import proofs.«01_k».proof.Proof.Gen.KernelIdeal
public import proofs.«01_k».proof.Proof.Gen.KernelIdeal.Skeleton

@[expose] public section

noncomputable section

namespace Cert.Proof.SumsI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers a task names -/

local notation "zV" => (Memref.whole Cert.KernelIdeal.main_arg0_scv : Memref Cert.KernelIdeal.sig Kind.scVector Space.hbm Cert.KernelIdeal.S18x16x65536 EltTy.i32)
local notation "sV" => (Memref.whole Cert.KernelIdeal.main_v0_scv : Memref Cert.KernelIdeal.sig Kind.scVector Space.hbm Cert.KernelIdeal.S18x4x65536 EltTy.f32)
local notation "kV" => (Memref.whole Cert.KernelIdeal.main_v1_scv : Memref Cert.KernelIdeal.sig Kind.scVector Space.hbm Cert.KernelIdeal.S18x4x65536 EltTy.i32)
local notation "pV" => (Memref.whole Cert.KernelIdeal.main_v2_0_scv : Memref Cert.KernelIdeal.sig Kind.scVector Space.hbm Cert.KernelIdeal.S4x64x8192 EltTy.f32)
local notation "nV" => (Memref.whole Cert.KernelIdeal.main_v2_1_scv : Memref Cert.KernelIdeal.sig Kind.scVector Space.hbm Cert.KernelIdeal.S4x8x8192 EltTy.f32)
local notation "tabV" => (Memref.whole Cert.KernelIdeal.cc0_scratch0 : Memref Cert.KernelIdeal.sig Kind.scVector Space.vmem Cert.KernelIdeal.S65536 EltTy.f32)
local notation "cntV" => (Memref.whole Cert.KernelIdeal.cc0_scratch1 : Memref Cert.KernelIdeal.sig Kind.scVector Space.vmem Cert.KernelIdeal.S8192 EltTy.f32)
local notation "z0V" => (Memref.whole Cert.KernelIdeal.cc0_scratch2 : Memref Cert.KernelIdeal.sig Kind.scVector Space.vmem Cert.KernelIdeal.S4096 EltTy.i32)
local notation "z1V" => (Memref.whole Cert.KernelIdeal.cc0_scratch3 : Memref Cert.KernelIdeal.sig Kind.scVector Space.vmem Cert.KernelIdeal.S4096 EltTy.i32)
local notation "s0V" => (Memref.whole Cert.KernelIdeal.cc0_scratch4 : Memref Cert.KernelIdeal.sig Kind.scVector Space.vmem Cert.KernelIdeal.S2048 EltTy.f32)
local notation "s1V" => (Memref.whole Cert.KernelIdeal.cc0_scratch5 : Memref Cert.KernelIdeal.sig Kind.scVector Space.vmem Cert.KernelIdeal.S2048 EltTy.f32)
local notation "c0V" => (Memref.whole Cert.KernelIdeal.cc0_scratch6 : Memref Cert.KernelIdeal.sig Kind.scVector Space.vmem Cert.KernelIdeal.S2048 EltTy.i32)
local notation "c1V" => (Memref.whole Cert.KernelIdeal.cc0_scratch7 : Memref Cert.KernelIdeal.sig Kind.scVector Space.vmem Cert.KernelIdeal.S2048 EltTy.i32)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

variable [FloatOps F]

/-! ## One lane step -/

/-- Element `o + x` of a buffer of `n` words. -/
def at16 {n : Nat} {α : Type} (f : (⟨1, ![n]⟩ : Shape).Idx → α) (o : Nat) (h : o + 16 ≤ n) : S16.Idx → α :=
  fun x => f (fun _ => ⟨o + (x 0).val, by have := (x 0).isLt; simp at this ⊢; omega⟩)

/-- Codebook `ch` (of the task's eight) of the table, as the body slices it. -/
abbrev tabS (o : Nat) (h : ∀ a, (![o] : Fin 1 → Nat) a + S8192.size a ≤ S65536.size a) : Memref sig .scVector .vmem S8192 .f32 :=
  (tabV).slice (Rect.unit (s := S65536) ![o] S8192.size h) (fun _ => rfl)

/-- The table after `v` is added, lane by lane, at the positions `c` of the row that starts at `o`. -/
def scat (o : Nat) (h : ∀ a, (![o] : Fin 1 → Nat) a + S8192.size a ≤ S65536.size a) (c : IVec S16 32) (hc : ∀ x, (c x).toNat < 8192)
    (v : FVec F S16 .f32) (f : S65536.Idx → Elt F .f32) : S65536.Idx → Elt F .f32 :=
  ((tabS o h).access (.whole S8192)).write (Elt F) f
    (storeIdx (((tabS o h).access (.whole S8192)).read (Elt F) f) (![c] : Fin 1 → IVec S16 32) v (fun _ => 1#1) true
      (fun a x => by fin_cases a; exact hc x)) Finset.univ

/-- The counts after `v` is added, lane by lane, at the positions `c`. -/
def scatC (c : IVec S16 32) (hc : ∀ x, (c x).toNat < 8192)
    (v : FVec F S16 .f32) (f : S8192.Idx → Elt F .f32) : S8192.Idx → Elt F .f32 :=
  ((cntV).access (.whole S8192)).write (Elt F) f
    (storeIdx (((cntV).access (.whole S8192)).read (Elt F) f) (![c] : Fin 1 → IVec S16 32) v (fun _ => 1#1) true
      (fun a x => by fin_cases a; exact hc x)) Finset.univ

/-- One lane step's table: sixteen rows' four-byte words `za`, `zb`, their scales `s`, their codes `c`. -/
def tab16 (c : IVec S16 32) (hc : ∀ x, (c x).toNat < 8192) (s : Vec F S16 .f32) (za zb : Vec F S16 .i32)
    (f : S65536.Idx → Elt F .f32) : S65536.Idx → Elt F .f32 :=
  scat 57344 inb_S65536_S8192_57344 c hc (k0_pay14 (k0_pay1 s) zb) <|
  scat 49152 inb_S65536_S8192_49152 c hc (k0_pay13 (k0_pay1 s) zb) <|
  scat 40960 inb_S65536_S8192_40960 c hc (k0_pay12 (k0_pay1 s) zb) <|
  scat 32768 inb_S65536_S8192_32768 c hc (k0_pay11 (k0_pay1 s) zb) <|
  scat 24576 inb_S65536_S8192_24576 c hc (k0_pay5 s za) <|
  scat 16384 inb_S65536_S8192_16384 c hc (k0_pay4 s za) <|
  scat 8192 inb_S65536_S8192_8192 c hc (k0_pay3 s za) <|
  scat 0 inb_S65536_S8192_0 c hc (k0_pay2 s za) f

variable (d : Dev nD) (L : grid0.Coords)

/-- `vector_store_idx` into a row of the table, holding the table whole. -/
theorem wp_scat {o : Nat} {h : ∀ a, (![o] : Fin 1 → Nat) a + S8192.size a ≤ S65536.size a} {c : IVec S16 32}
    (hc : ∀ x, (c x).toNat < 8192) {v : FVec F S16 .f32}
    {hi : ∀ a x, ((![c] : Fin 1 → IVec S16 32) a x).toNat < S8192.size a} {hs : ((tabS o h).access (.whole S8192)).Stores Finset.univ}
    {α : Type} {k : PUnit → Prog (TpuEff nD τ sig (Elt F) Λ₀ (VT d L).2) α} {Q : α → sProp 𝕄} (f : Buf (Elt F) ((tabV).view.loc (VT d L))) :
    ((tabV).view.loc (VT d L) ↦{fullShare} f : sProp 𝕄)
      ⊢ iprop((((tabV).view.loc (VT d L) ↦{fullShare} (scat o h c hc v f)) -∗ wp frame (wpE (defs₀ (F := F)) 𝒱₀ (VT d L) none) Set.univ (k ⟨⟩) Q)
          -∗ wp frame (wpE (defs₀ (F := F)) 𝒱₀ (VT d L) none) Set.univ
              (SparseCore.vectorStoreIdx (tabS o h) (![c] : Fin 1 → IVec S16 32) v (fun _ => 1#1) true hi hs >>= k) Q) :=
  wp_storeIdx_within (defs := defs₀ (F := F)) 𝒱₀ (VT d L) none Set.univ (base := tabS o h) (S := Finset.univ) (Finset.subset_univ _) (f := f)

/-- `vector_store_idx` into the counts, holding them whole. -/
theorem wp_scatC {c : IVec S16 32}
    (hc : ∀ x, (c x).toNat < 8192) {v : FVec F S16 .f32}
    {hi : ∀ a x, ((![c] : Fin 1 → IVec S16 32) a x).toNat < S8192.size a} {hs : ((cntV).access (.whole S8192)).Stores Finset.univ}
    {α : Type} {k : PUnit → Prog (TpuEff nD τ sig (Elt F) Λ₀ (VT d L).2) α} {Q : α → sProp 𝕄} (f : Buf (Elt F) ((cntV).view.loc (VT d L))) :
    ((cntV).view.loc (VT d L) ↦{fullShare} f : sProp 𝕄)
      ⊢ iprop((((cntV).view.loc (VT d L) ↦{fullShare} (scatC c hc v f)) -∗ wp frame (wpE (defs₀ (F := F)) 𝒱₀ (VT d L) none) Set.univ (k ⟨⟩) Q)
          -∗ wp frame (wpE (defs₀ (F := F)) 𝒱₀ (VT d L) none) Set.univ
              (SparseCore.vectorStoreIdx (cntV) (![c] : Fin 1 → IVec S16 32) v (fun _ => 1#1) true hi hs >>= k) Q) :=
  wp_storeIdx_within (defs := defs₀ (F := F)) 𝒱₀ (VT d L) none Set.univ (base := cntV) (S := Finset.univ) (Finset.subset_univ _) (f := f)

end Cert.Proof.SumsI
-- ==== Proof.LanesI.lean ====
/-
  ONE trip of each of the call's two inner loops: sixteen rows of the chunk in slot 0 (its counts too), of slot 1.
-/
module

public import proofs.«01_k».proof.Proof.SumsI

@[expose] public section

noncomputable section

namespace Cert.Proof.SumsI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.KernelIdeal.main_arg0_scv : Memref Cert.KernelIdeal.sig Kind.scVector Space.hbm Cert.KernelIdeal.S18x16x65536 EltTy.i32)
local notation "sV" => (Memref.whole Cert.KernelIdeal.main_v0_scv : Memref Cert.KernelIdeal.sig Kind.scVector Space.hbm Cert.KernelIdeal.S18x4x65536 EltTy.f32)
local notation "kV" => (Memref.whole Cert.KernelIdeal.main_v1_scv : Memref Cert.KernelIdeal.sig Kind.scVector Space.hbm Cert.KernelIdeal.S18x4x65536 EltTy.i32)
local notation "pV" => (Memref.whole Cert.KernelIdeal.main_v2_0_scv : Memref Cert.KernelIdeal.sig Kind.scVector Space.hbm Cert.KernelIdeal.S4x64x8192 EltTy.f32)
local notation "nV" => (Memref.whole Cert.KernelIdeal.main_v2_1_scv : Memref Cert.KernelIdeal.sig Kind.scVector Space.hbm Cert.KernelIdeal.S4x8x8192 EltTy.f32)
local notation "tabV" => (Memref.whole Cert.KernelIdeal.cc0_scratch0 : Memref Cert.KernelIdeal.sig Kind.scVector Space.vmem Cert.KernelIdeal.S65536 EltTy.f32)
local notation "cntV" => (Memref.whole Cert.KernelIdeal.cc0_scratch1 : Memref Cert.KernelIdeal.sig Kind.scVector Space.vmem Cert.KernelIdeal.S8192 EltTy.f32)
local notation "z0V" => (Memref.whole Cert.KernelIdeal.cc0_scratch2 : Memref Cert.KernelIdeal.sig Kind.scVector Space.vmem Cert.KernelIdeal.S4096 EltTy.i32)
local notation "z1V" => (Memref.whole Cert.KernelIdeal.cc0_scratch3 : Memref Cert.KernelIdeal.sig Kind.scVector Space.vmem Cert.KernelIdeal.S4096 EltTy.i32)
local notation "s0V" => (Memref.whole Cert.KernelIdeal.cc0_scratch4 : Memref Cert.KernelIdeal.sig Kind.scVector Space.vmem Cert.KernelIdeal.S2048 EltTy.f32)
local notation "s1V" => (Memref.whole Cert.KernelIdeal.cc0_scratch5 : Memref Cert.KernelIdeal.sig Kind.scVector Space.vmem Cert.KernelIdeal.S2048 EltTy.f32)
local notation "c0V" => (Memref.whole Cert.KernelIdeal.cc0_scratch6 : Memref Cert.KernelIdeal.sig Kind.scVector Space.vmem Cert.KernelIdeal.S2048 EltTy.i32)
local notation "c1V" => (Memref.whole Cert.KernelIdeal.cc0_scratch7 : Memref Cert.KernelIdeal.sig Kind.scVector Space.vmem Cert.KernelIdeal.S2048 EltTy.i32)

variable [FloatOps F]

variable (d : Dev nD) (L : grid0.Coords)

/-- A load at the head of a sequence. -/
theorem wp_loadB {sp : CoreSpace} {sh : Shape} {e : EltTy} {m : Memref sig .scVector sp sh e} {r : LoadRect sh} {hl : m.view.LoadsAt r} {α : Type}
    {k : (r.shape.Idx → Elt F e) → Prog (TpuEff nD τ sig (Elt F) Λ₀ (VT d L).2) α} {Q : α → sProp 𝕄}
    (f : Buf (Elt F) (m.view.loc (VT d L))) :
    (m.view.loc (VT d L) ↦{fullShare} f : sProp 𝕄)
      ⊢ iprop((((m.view.loc (VT d L) ↦{fullShare} f)) -∗ wp frame (wpE (defs₀ (F := F)) 𝒱₀ (VT d L) none) Set.univ (k (m.view.readAt (Elt F) r f)) Q)
          -∗ wp frame (wpE (defs₀ (F := F)) 𝒱₀ (VT d L) none) Set.univ (Prog.lift (.load m r hl) >>= k) Q) :=
  wp_load 𝒱₀ (VT d L) none Set.univ (m := m) (S := Finset.univ) (Finset.subset_univ _)

/-- A store at the head of a sequence. -/
theorem wp_storeB {sp : CoreSpace} {sh : Shape} {e : EltTy} {m : Memref sig .scVector sp sh e} {r : Rect sh} {w : r.shape.Idx → Elt F e}
    {hx : (m.access r).Stores Finset.univ} {hm : (Finset.univ : Finset r.shape.Idx) = Finset.univ ∨ ∀ a, r.stride a = 1} {α : Type}
    {k : PUnit → Prog (TpuEff nD τ sig (Elt F) Λ₀ (VT d L).2) α} {Q : α → sProp 𝕄}
    (f : Buf (Elt F) ((m.access r).loc (VT d L))) :
    ((m.access r).loc (VT d L) ↦{fullShare} f : sProp 𝕄)
      ⊢ iprop((((m.access r).loc (VT d L) ↦{fullShare} ((m.access r).write (Elt F) f w Finset.univ)) -∗ wp frame (wpE (defs₀ (F := F)) 𝒱₀ (VT d L) none) Set.univ (k ⟨⟩) Q)
          -∗ wp frame (wpE (defs₀ (F := F)) 𝒱₀ (VT d L) none) Set.univ (Prog.lift (.store m r w Finset.univ hx hm) >>= k) Q) :=
  wp_store 𝒱₀ (VT d L) none Set.univ (S := Finset.univ) (Finset.subset_univ _)

/-- An assumption that holds, at the head of a sequence. -/
theorem wp_assumeB {P : Prop} {dec : Decidable P} (h : P) {α : Type}
    {k : PLift P → Prog (TpuEff nD τ sig (Elt F) Λ₀ (VT d L).2) α} {Q : α → sProp 𝕄} :
    (wp frame (wpE (defs₀ (F := F)) 𝒱₀ (VT d L) none) Set.univ (k ⟨h⟩) Q : sProp 𝕄)
      ⊢ wp frame (wpE (defs₀ (F := F)) 𝒱₀ (VT d L) none) Set.univ (Prog.lift (.assume P dec) >>= k) Q :=
  wp_assume 𝒱₀ (VT d L) none Set.univ h

theorem lt4 (k : Fin k0_t4_loop.trips) : k.val < 128 := lt_of_lt_of_le k.isLt k0_t4_abs.2.1
theorem lt5 (k : Fin k0_t5_loop.trips) : k.val < 128 := lt_of_lt_of_le k.isLt k0_t5_abs.2.1

open Classical in
/-- The table after lane step `k` of a chunk: rows `16 k … 16 k + 15` of the chunk's words `zb`, scales `sb`, codes `cb`. -/
def stepT (zb : S4096.Idx → Elt F .i32) (sb : S2048.Idx → Elt F .f32) (cb : S2048.Idx → Elt F .i32) (k : Nat)
    (f : S65536.Idx → Elt F .f32) : S65536.Idx → Elt F .f32 :=
  if h : ∃ hk : k < 128, ∀ x, (at16 cb (16 * k) (by omega) x).toNat < 8192 then
    tab16 (at16 cb (16 * k) (by have := h.1; omega)) h.2 (at16 sb (16 * k) (by have := h.1; omega))
      (at16 zb (16 * k) (by have := h.1; omega)) (at16 zb (2048 + 16 * k) (by have := h.1; omega)) f
  else f

open Classical in
/-- The counts after lane step `k` of a chunk. -/
def stepC (cb : S2048.Idx → Elt F .i32) (k : Nat) (g : S8192.Idx → Elt F .f32) : S8192.Idx → Elt F .f32 :=
  if h : ∃ hk : k < 128, ∀ x, (at16 cb (16 * k) (by omega) x).toNat < 8192 then
    scatC (at16 cb (16 * k) (by have := h.1; omega)) h.2 k0_pay16 g
  else g

theorem stepT_eq (zb : S4096.Idx → Elt F .i32) (sb : S2048.Idx → Elt F .f32) (cb : S2048.Idx → Elt F .i32) (k : Nat) (hk : k < 128)
    (hcx : ∀ x, (at16 cb (16 * k) (by omega) x).toNat < 8192) (f : S65536.Idx → Elt F .f32) :
    stepT zb sb cb k f = tab16 (at16 cb (16 * k) (by omega)) hcx (at16 sb (16 * k) (by omega))
      (at16 zb (16 * k) (by omega)) (at16 zb (2048 + 16 * k) (by omega)) f := by
  unfold stepT
  exact dif_pos ⟨hk, hcx⟩

theorem stepC_eq (cb : S2048.Idx → Elt F .i32) (k : Nat) (hk : k < 128)
    (hcx : ∀ x, (at16 cb (16 * k) (by omega) x).toNat < 8192) (g : S8192.Idx → Elt F .f32) :
    stepC cb k g = scatC (at16 cb (16 * k) (by omega)) hcx k0_pay16 g := by
  unfold stepC
  exact dif_pos ⟨hk, hcx⟩

omit [FloatOps F] in
theorem ld_c4 (k : Fin k0_t4_loop.trips) (f : S2048.Idx → Elt F .i32) (h : 16 * k.val + 16 ≤ 2048) :
    (c0V).view.readAt (Elt F) (Rect.unit (s := S2048) (k0_off9 k) S16.size (k0_off9_inb k)).toLoadRect f = at16 f (16 * k.val) h := by
  funext x
  show f _ = f _
  congr 1; funext a; apply Fin.ext
  fin_cases a
  show k0_off9 k 0 + 1 * (x 0).val = 16 * k.val + (x 0).val
  exact (congrArg (· + 1 * (x 0).val) (congrFun (k0_off9_eq k) 0)).trans (by simp)
omit [FloatOps F] in
theorem ld_s4 (k : Fin k0_t4_loop.trips) (f : S2048.Idx → Elt F .f32) (h : 16 * k.val + 16 ≤ 2048) :
    (s0V).view.readAt (Elt F) (Rect.unit (s := S2048) (k0_off9 k) S16.size (k0_off9_inb k)).toLoadRect f = at16 f (16 * k.val) h := by
  funext x
  show f _ = f _
  congr 1; funext a; apply Fin.ext
  fin_cases a
  show k0_off9 k 0 + 1 * (x 0).val = 16 * k.val + (x 0).val
  exact (congrArg (· + 1 * (x 0).val) (congrFun (k0_off9_eq k) 0)).trans (by simp)
omit [FloatOps F] in
theorem ld_za4 (k : Fin k0_t4_loop.trips) (f : S4096.Idx → Elt F .i32) (h : 16 * k.val + 16 ≤ 4096) :
    (z0V).view.readAt (Elt F) (Rect.unit (s := S4096) (k0_off10 k 0#32) S16.size (k0_off10_inb k 0)).toLoadRect f = at16 f (16 * k.val) h := by
  funext x
  show f _ = f _
  congr 1; funext a; apply Fin.ext
  fin_cases a
  show k0_off10 k 0#32 0 + 1 * (x 0).val = 16 * k.val + (x 0).val
  exact (congrArg (· + 1 * (x 0).val) (congrFun (show k0_off10 k 0#32 = ![2048 * 0 + 16 * k.val] from k0_off10_eq k 0) 0)).trans (by simp)
omit [FloatOps F] in
theorem ld_zb4 (k : Fin k0_t4_loop.trips) (f : S4096.Idx → Elt F .i32) (h : 2048 + 16 * k.val + 16 ≤ 4096) :
    (z0V).view.readAt (Elt F) (Rect.unit (s := S4096) (k0_off10 k 2048#32) S16.size (k0_off10_inb k 1)).toLoadRect f = at16 f (2048 + 16 * k.val) h := by
  funext x
  show f _ = f _
  congr 1; funext a; apply Fin.ext
  fin_cases a
  show k0_off10 k 2048#32 0 + 1 * (x 0).val = 2048 + 16 * k.val + (x 0).val
  exact (congrArg (· + 1 * (x 0).val) (congrFun (show k0_off10 k 2048#32 = ![2048 * 1 + 16 * k.val] from k0_off10_eq k 1) 0)).trans (by simp; try omega)

theorem k0_chk1_of {v : IVec S16 32} (h : ∀ x, (v x).toNat < 8192) : k0_chk1 v := by
  have h' : ∀ a x, ((![v] : Fin 1 → IVec S16 32) a x).toNat < S8192.size a := fun a x => by fin_cases a; exact h x
  exact ⟨h', h', h', h', h', h', h', h', h'⟩

set_option maxRecDepth 16384 in
/-- One trip of slot 0's lane loop. -/
theorem lane4 (k : Fin k0_t4_loop.trips) (v18 v55 v58 : BitVec 32) (k0_t3 : Fin k0_t3_loop.trips) (v152 v225 v227 v228 : BitVec 32) (v229 : BitVec 1)
    (f : S65536.Idx → Elt F .f32) (g : S8192.Idx → Elt F .f32) (zb : S4096.Idx → Elt F .i32) (sb : S2048.Idx → Elt F .f32) (cb : S2048.Idx → Elt F .i32)
    (hc : ∀ j, (cb j).toNat < 8192) :
    iprop(((tabV).view.loc (VT d L) ↦{fullShare} f) ∗ ((cntV).view.loc (VT d L) ↦{fullShare} g) ∗
        ((z0V).view.loc (VT d L) ↦{fullShare} zb) ∗ ((s0V).view.loc (VT d L) ↦{fullShare} sb) ∗ ((c0V).view.loc (VT d L) ↦{fullShare} cb))
      ⊢ (wp frame (wpE (defs₀ (F := F)) 𝒱₀ (VT d L) none) Set.univ
          (k0_t4_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v55 v58 k0_pay16 k0_t3 v152 v225 v227 v228 v229 k ⟨⟩)
          (fun _ => iprop(((tabV).view.loc (VT d L) ↦{fullShare} stepT zb sb cb k.val f) ∗ ((cntV).view.loc (VT d L) ↦{fullShare} stepC cb k.val g) ∗
        ((z0V).view.loc (VT d L) ↦{fullShare} zb) ∗ ((s0V).view.loc (VT d L) ↦{fullShare} sb) ∗ ((c0V).view.loc (VT d L) ↦{fullShare} cb))) : sProp 𝕄) := by
  have hk := lt4 k
  have hcx : ∀ x, (at16 cb (16 * k.val) (by omega) x).toNat < 8192 := fun x => hc _
  rw [stepT_eq zb sb cb k.val hk hcx f, stepC_eq cb k.val hk hcx g]
  unfold k0_t4_body
  rw [k0_part1_eq_skeleton]; unfold k0_part1_skel
  simp only [bind_assoc, pure_bind]
  iintro ⟨Ht, Hg, Hz, Hs, Hc⟩
  iapply (wp_loadB d L (m := c0V) _) $$ Hc; iintro Hc
  rw [ld_c4 k cb (by omega)]
  iapply (wp_assumeB d L (k0_chk1_of hcx))
  iapply (wp_loadB d L (m := s0V) _) $$ Hs; iintro Hs
  rw [ld_s4 k sb (by omega)]
  iapply (wp_scatC d L hcx g) $$ Hg; iintro Hg
  iapply (wp_loadB d L (m := z0V) _) $$ Hz; iintro Hz
  rw [ld_za4 k zb (by omega)]
  iapply (wp_scat d L hcx f) $$ Ht; iintro Ht
  iapply (wp_scat d L hcx _) $$ Ht; iintro Ht
  iapply (wp_scat d L hcx _) $$ Ht; iintro Ht
  iapply (wp_scat d L hcx _) $$ Ht; iintro Ht
  iapply (wp_loadB d L (m := z0V) _) $$ Hz; iintro Hz
  rw [ld_zb4 k zb (by omega)]
  iapply (wp_scat d L hcx _) $$ Ht; iintro Ht
  iapply (wp_scat d L hcx _) $$ Ht; iintro Ht
  iapply (wp_scat d L hcx _) $$ Ht; iintro Ht
  iapply (wp_scat d L hcx _) $$ Ht; iintro Ht
  sl_step
  isplitl [Ht]; · iexact Ht
  isplitl [Hg]; · iexact Hg
  isplitl [Hz]; · iexact Hz
  isplitl [Hs]; · iexact Hs
  iexact Hc

omit [FloatOps F] in
theorem ld_c5 (k : Fin k0_t5_loop.trips) (f : S2048.Idx → Elt F .i32) (h : 16 * k.val + 16 ≤ 2048) :
    (c1V).view.readAt (Elt F) (Rect.unit (s := S2048) (k0_off13 k) S16.size (k0_off13_inb k)).toLoadRect f = at16 f (16 * k.val) h := by
  funext x
  show f _ = f _
  congr 1; funext a; apply Fin.ext
  fin_cases a
  show k0_off13 k 0 + 1 * (x 0).val = 16 * k.val + (x 0).val
  exact (congrArg (· + 1 * (x 0).val) (congrFun (k0_off13_eq k) 0)).trans (by simp)
omit [FloatOps F] in
theorem ld_s5 (k : Fin k0_t5_loop.trips) (f : S2048.Idx → Elt F .f32) (h : 16 * k.val + 16 ≤ 2048) :
    (s1V).view.readAt (Elt F) (Rect.unit (s := S2048) (k0_off13 k) S16.size (k0_off13_inb k)).toLoadRect f = at16 f (16 * k.val) h := by
  funext x
  show f _ = f _
  congr 1; funext a; apply Fin.ext
  fin_cases a
  show k0_off13 k 0 + 1 * (x 0).val = 16 * k.val + (x 0).val
  exact (congrArg (· + 1 * (x 0).val) (congrFun (k0_off13_eq k) 0)).trans (by simp)
omit [FloatOps F] in
theorem ld_za5 (k : Fin k0_t5_loop.trips) (f : S4096.Idx → Elt F .i32) (h : 16 * k.val + 16 ≤ 4096) :
    (z1V).view.readAt (Elt F) (Rect.unit (s := S4096) (k0_off14 k) S16.size (k0_off14_inb k)).toLoadRect f = at16 f (16 * k.val) h := by
  funext x
  show f _ = f _
  congr 1; funext a; apply Fin.ext
  fin_cases a
  show k0_off14 k 0 + 1 * (x 0).val = 16 * k.val + (x 0).val
  exact (congrArg (· + 1 * (x 0).val) (congrFun (k0_off14_eq k) 0)).trans (by simp)
omit [FloatOps F] in
theorem ld_zb5 (k : Fin k0_t5_loop.trips) (f : S4096.Idx → Elt F .i32) (h : 2048 + 16 * k.val + 16 ≤ 4096) :
    (z1V).view.readAt (Elt F) (Rect.unit (s := S4096) (k0_off15 k) S16.size (k0_off15_inb k)).toLoadRect f = at16 f (2048 + 16 * k.val) h := by
  funext x
  show f _ = f _
  congr 1; funext a; apply Fin.ext
  fin_cases a
  show k0_off15 k 0 + 1 * (x 0).val = 2048 + 16 * k.val + (x 0).val
  exact (congrArg (· + 1 * (x 0).val) (congrFun (k0_off15_eq k) 0)).trans (by simp; try omega)

theorem k0_chk2_of {v : IVec S16 32} (h : ∀ x, (v x).toNat < 8192) : k0_chk2 v := by
  have h' : ∀ a x, ((![v] : Fin 1 → IVec S16 32) a x).toNat < S8192.size a := fun a x => by fin_cases a; exact h x
  exact ⟨h', h', h', h', h', h', h', h'⟩

set_option maxRecDepth 16384 in
/-- One trip of slot 1's lane loop. -/
theorem lane5 (k : Fin k0_t5_loop.trips) (v18 v45 v55 v58 : BitVec 32) (c0_i32_48 : BitVec 32)
    (f : S65536.Idx → Elt F .f32) (zb : S4096.Idx → Elt F .i32) (sb : S2048.Idx → Elt F .f32) (cb : S2048.Idx → Elt F .i32)
    (hc : ∀ j, (cb j).toNat < 8192) :
    iprop(((tabV).view.loc (VT d L) ↦{fullShare} f) ∗
        ((z1V).view.loc (VT d L) ↦{fullShare} zb) ∗ ((s1V).view.loc (VT d L) ↦{fullShare} sb) ∗ ((c1V).view.loc (VT d L) ↦{fullShare} cb))
      ⊢ (wp frame (wpE (defs₀ (F := F)) 𝒱₀ (VT d L) none) Set.univ
          (k0_t5_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48 k ⟨⟩)
          (fun _ => iprop(((tabV).view.loc (VT d L) ↦{fullShare} stepT zb sb cb k.val f) ∗
        ((z1V).view.loc (VT d L) ↦{fullShare} zb) ∗ ((s1V).view.loc (VT d L) ↦{fullShare} sb) ∗ ((c1V).view.loc (VT d L) ↦{fullShare} cb))) : sProp 𝕄) := by
  have hk := lt5 k
  have hcx : ∀ x, (at16 cb (16 * k.val) (by omega) x).toNat < 8192 := fun x => hc _
  rw [stepT_eq zb sb cb k.val hk hcx f]
  unfold k0_t5_body
  rw [k0_part3_eq_skeleton]; unfold k0_part3_skel
  simp only [bind_assoc, pure_bind]
  iintro ⟨Ht, Hz, Hs, Hc⟩
  iapply (wp_loadB d L (m := c1V) _) $$ Hc; iintro Hc
  rw [ld_c5 k cb (by omega)]
  iapply (wp_assumeB d L (k0_chk2_of hcx))
  iapply (wp_loadB d L (m := s1V) _) $$ Hs; iintro Hs
  rw [ld_s5 k sb (by omega)]

  iapply (wp_loadB d L (m := z1V) _) $$ Hz; iintro Hz
  rw [ld_za5 k zb (by omega)]
  iapply (wp_scat d L hcx f) $$ Ht; iintro Ht
  iapply (wp_scat d L hcx _) $$ Ht; iintro Ht
  iapply (wp_scat d L hcx _) $$ Ht; iintro Ht
  iapply (wp_scat d L hcx _) $$ Ht; iintro Ht
  iapply (wp_loadB d L (m := z1V) _) $$ Hz; iintro Hz
  rw [ld_zb5 k zb (by omega)]
  iapply (wp_scat d L hcx _) $$ Ht; iintro Ht
  iapply (wp_scat d L hcx _) $$ Ht; iintro Ht
  iapply (wp_scat d L hcx _) $$ Ht; iintro Ht
  iapply (wp_scat d L hcx _) $$ Ht; iintro Ht
  sl_step
  isplitl [Ht]; · iexact Ht

  isplitl [Hz]; · iexact Hz
  isplitl [Hs]; · iexact Hs
  iexact Hc

end Cert.Proof.SumsI
-- ==== Proof.LoopsI.lean ====
/-
  The call's zeroing loops and lane loops, each as one step at the head of a sequence.
-/
module

public import proofs.«01_k».proof.Proof.LanesI

@[expose] public section

noncomputable section

namespace Cert.Proof.SumsI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.KernelIdeal.main_arg0_scv : Memref Cert.KernelIdeal.sig Kind.scVector Space.hbm Cert.KernelIdeal.S18x16x65536 EltTy.i32)
local notation "sV" => (Memref.whole Cert.KernelIdeal.main_v0_scv : Memref Cert.KernelIdeal.sig Kind.scVector Space.hbm Cert.KernelIdeal.S18x4x65536 EltTy.f32)
local notation "kV" => (Memref.whole Cert.KernelIdeal.main_v1_scv : Memref Cert.KernelIdeal.sig Kind.scVector Space.hbm Cert.KernelIdeal.S18x4x65536 EltTy.i32)
local notation "pV" => (Memref.whole Cert.KernelIdeal.main_v2_0_scv : Memref Cert.KernelIdeal.sig Kind.scVector Space.hbm Cert.KernelIdeal.S4x64x8192 EltTy.f32)
local notation "nV" => (Memref.whole Cert.KernelIdeal.main_v2_1_scv : Memref Cert.KernelIdeal.sig Kind.scVector Space.hbm Cert.KernelIdeal.S4x8x8192 EltTy.f32)
local notation "tabV" => (Memref.whole Cert.KernelIdeal.cc0_scratch0 : Memref Cert.KernelIdeal.sig Kind.scVector Space.vmem Cert.KernelIdeal.S65536 EltTy.f32)
local notation "cntV" => (Memref.whole Cert.KernelIdeal.cc0_scratch1 : Memref Cert.KernelIdeal.sig Kind.scVector Space.vmem Cert.KernelIdeal.S8192 EltTy.f32)
local notation "z0V" => (Memref.whole Cert.KernelIdeal.cc0_scratch2 : Memref Cert.KernelIdeal.sig Kind.scVector Space.vmem Cert.KernelIdeal.S4096 EltTy.i32)
local notation "z1V" => (Memref.whole Cert.KernelIdeal.cc0_scratch3 : Memref Cert.KernelIdeal.sig Kind.scVector Space.vmem Cert.KernelIdeal.S4096 EltTy.i32)
local notation "s0V" => (Memref.whole Cert.KernelIdeal.cc0_scratch4 : Memref Cert.KernelIdeal.sig Kind.scVector Space.vmem Cert.KernelIdeal.S2048 EltTy.f32)
local notation "s1V" => (Memref.whole Cert.KernelIdeal.cc0_scratch5 : Memref Cert.KernelIdeal.sig Kind.scVector Space.vmem Cert.KernelIdeal.S2048 EltTy.f32)
local notation "c0V" => (Memref.whole Cert.KernelIdeal.cc0_scratch6 : Memref Cert.KernelIdeal.sig Kind.scVector Space.vmem Cert.KernelIdeal.S2048 EltTy.i32)
local notation "c1V" => (Memref.whole Cert.KernelIdeal.cc0_scratch7 : Memref Cert.KernelIdeal.sig Kind.scVector Space.vmem Cert.KernelIdeal.S2048 EltTy.i32)

variable [FloatOps F]

variable (d : Dev nD) (L : grid0.Coords)

/-- The table after the first `n` lane steps of a chunk. -/
def chunkT (zb : S4096.Idx → Elt F .i32) (sb : S2048.Idx → Elt F .f32) (cb : S2048.Idx → Elt F .i32) :
    Nat → (S65536.Idx → Elt F .f32) → S65536.Idx → Elt F .f32
  | 0, f => f
  | n + 1, f => stepT zb sb cb n (chunkT zb sb cb n f)

/-- The counts after the first `n` lane steps of a chunk. -/
def chunkC (cb : S2048.Idx → Elt F .i32) : Nat → (S8192.Idx → Elt F .f32) → S8192.Idx → Elt F .f32
  | 0, g => g
  | n + 1, g => stepC cb n (chunkC cb n g)

theorem lt1 (k : Fin k0_t1_loop.trips) : k.val < 4096 := lt_of_lt_of_le k.isLt k0_t1_abs.2.1

theorem zero1 (k : Fin k0_t1_loop.trips) (v58 v59 v77 c8_i32_32 c0_i32_33 : BitVec 32) :
    iprop(∃ f : S65536.Idx → Elt F .f32, ⌜∀ j : S65536.Idx, (j 0).val < 16 * k.val → f j = Scalar.ofBits .f32 0x00000000#32⌝ ∗ ((tabV).view.loc (VT d L) ↦{fullShare} f))
      ⊢ (wp frame (wpE (defs₀ (F := F)) 𝒱₀ (VT d L) none) Set.univ (k0_t1_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v58 v59 v77 c8_i32_32 c0_i32_33 k ⟨⟩)
          (fun _ => iprop(∃ f : S65536.Idx → Elt F .f32, ⌜∀ j : S65536.Idx, (j 0).val < 16 * (k.val + 1) → f j = Scalar.ofBits .f32 0x00000000#32⌝ ∗ ((tabV).view.loc (VT d L) ↦{fullShare} f))) : sProp 𝕄) := by
  unfold k0_t1_body
  iintro ⟨%f, %hf, H⟩
  iapply (wp_loadB d L (m := tabV) _) $$ H; iintro H
  iapply (wp_storeB d L (m := tabV) (r := Rect.unit (s := S65536) (k0_off3 k) S16.size (k0_off3_inb k)) f) $$ H; iintro H
  sl_step
  iexists _
  isplitr
  rotate_left
  · iexact H
  · ipureintro
    intro j hj
    by_cases hm : j ∈ (((tabV).access (Rect.unit (s := S65536) (k0_off3 k) S16.size (k0_off3_inb k))).set)
    · obtain ⟨x, -, hx⟩ := Finset.mem_map.mp hm
      refine (congrArg _ hx.symm).trans (View.write_emb_of_mem (Val := Elt F) (v := (tabV).access (Rect.unit (s := S65536) (k0_off3 k) S16.size (k0_off3_inb k))) f (k0_pay15 (F := F)) (Finset.mem_univ x))
    · refine (View.write_of_not_mem f _ _ hm).trans (hf j ?_)
      by_contra hlt
      apply hm
      have e : k0_off3 k 0 = 16 * k.val := congrFun (k0_off3_eq k) 0
      refine Finset.mem_map.mpr ⟨fun a => ⟨(j 0).val - 16 * k.val, by fin_cases a; show _ < 16; omega⟩, Finset.mem_univ _, ?_⟩
      funext a; fin_cases a
      apply Fin.ext
      show k0_off3 k 0 + 1 * ((j 0).val - 16 * k.val) = (j 0).val
      omega

set_option maxRecDepth 16384 in
/-- The zeroing loop at the head of a sequence. -/
theorem loop1 (v58 v59 v77 c8_i32_32 c0_i32_33 : BitVec 32)
    (f : S65536.Idx → Elt F .f32) {β : Type} {kk : PUnit → Prog (TpuEff nD τ sig (Elt F) Λ₀ (VT d L).2) β} {Q : β → sProp 𝕄} :
    iprop((tabV).view.loc (VT d L) ↦{fullShare} f)
      ⊢ iprop((iprop((tabV).view.loc (VT d L) ↦{fullShare} (fun _ => Scalar.ofBits .f32 0x00000000#32 : S65536.Idx → Elt F .f32)) -∗ wp frame (wpE (defs₀ (F := F)) 𝒱₀ (VT d L) none) Set.univ (kk ⟨⟩) Q)
          -∗ wp frame (wpE (defs₀ (F := F)) 𝒱₀ (VT d L) none) Set.univ (Scf.Loop.for k0_t1_loop k0_t1_ok ⟨⟩ (k0_t1_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v58 v59 v77 c8_i32_32 c0_i32_33) >>= kk) Q) := by
  iintro H Hk
  iapply (Scf.wp_for_bind frame (wpE (defs₀ (F := F)) 𝒱₀ (VT d L) none) Set.univ _ _ _ k0_t1_ok ⟨⟩ (k0_t1_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v58 v59 v77 c8_i32_32 c0_i32_33)
    (fun n _ => iprop(∃ f : S65536.Idx → Elt F .f32, ⌜∀ j : S65536.Idx, (j 0).val < 16 * n → f j = Scalar.ofBits .f32 0x00000000#32⌝ ∗ ((tabV).view.loc (VT d L) ↦{fullShare} f)))
    (fun k _ => zero1 d L k v58 v59 v77 c8_i32_32 c0_i32_33)) $$ [H]
  · iexists f; isplitr
    · ipureintro; intro j hj; omega
    · iexact H
  iintro %_ ⟨%f', %hf', H⟩
  have e : f' = (fun _ => Scalar.ofBits .f32 0x00000000#32 : S65536.Idx → Elt F .f32) := by
    funext j
    refine hf' j ?_
    rw [show Scf.trips k0_t1_loop.lb k0_t1_loop.ub k0_t1_loop.st = 4096 from by decide +kernel]
    exact (j 0).isLt
  rw [e]
  iapply Hk $$ H

theorem lt2 (k : Fin k0_t2_loop.trips) : k.val < 512 := lt_of_lt_of_le k.isLt k0_t2_abs.2.1

theorem zero2 (k : Fin k0_t2_loop.trips) (v18 v45 v55 v58 : BitVec 32) (c0_i32_48 : BitVec 32) :
    iprop(∃ f : S8192.Idx → Elt F .f32, ⌜∀ j : S8192.Idx, (j 0).val < 16 * k.val → f j = Scalar.ofBits .f32 0x00000000#32⌝ ∗ ((cntV).view.loc (VT d L) ↦{fullShare} f))
      ⊢ (wp frame (wpE (defs₀ (F := F)) 𝒱₀ (VT d L) none) Set.univ (k0_t2_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48 k ⟨⟩)
          (fun _ => iprop(∃ f : S8192.Idx → Elt F .f32, ⌜∀ j : S8192.Idx, (j 0).val < 16 * (k.val + 1) → f j = Scalar.ofBits .f32 0x00000000#32⌝ ∗ ((cntV).view.loc (VT d L) ↦{fullShare} f))) : sProp 𝕄) := by
  unfold k0_t2_body
  iintro ⟨%f, %hf, H⟩
  iapply (wp_loadB d L (m := cntV) _) $$ H; iintro H
  iapply (wp_storeB d L (m := cntV) (r := Rect.unit (s := S8192) (k0_off4 k) S16.size (k0_off4_inb k)) f) $$ H; iintro H
  sl_step
  iexists _
  isplitr
  rotate_left
  · iexact H
  · ipureintro
    intro j hj
    by_cases hm : j ∈ (((cntV).access (Rect.unit (s := S8192) (k0_off4 k) S16.size (k0_off4_inb k))).set)
    · obtain ⟨x, -, hx⟩ := Finset.mem_map.mp hm
      refine (congrArg _ hx.symm).trans (View.write_emb_of_mem (Val := Elt F) (v := (cntV).access (Rect.unit (s := S8192) (k0_off4 k) S16.size (k0_off4_inb k))) f (k0_pay15 (F := F)) (Finset.mem_univ x))
    · refine (View.write_of_not_mem f _ _ hm).trans (hf j ?_)
      by_contra hlt
      apply hm
      have e : k0_off4 k 0 = 16 * k.val := congrFun (k0_off4_eq k) 0
      refine Finset.mem_map.mpr ⟨fun a => ⟨(j 0).val - 16 * k.val, by fin_cases a; show _ < 16; omega⟩, Finset.mem_univ _, ?_⟩
      funext a; fin_cases a
      apply Fin.ext
      show k0_off4 k 0 + 1 * ((j 0).val - 16 * k.val) = (j 0).val
      omega

set_option maxRecDepth 16384 in
/-- The zeroing loop at the head of a sequence. -/
theorem loop2 (v18 v45 v55 v58 : BitVec 32) (c0_i32_48 : BitVec 32)
    (f : S8192.Idx → Elt F .f32) {β : Type} {kk : PUnit → Prog (TpuEff nD τ sig (Elt F) Λ₀ (VT d L).2) β} {Q : β → sProp 𝕄} :
    iprop((cntV).view.loc (VT d L) ↦{fullShare} f)
      ⊢ iprop((iprop((cntV).view.loc (VT d L) ↦{fullShare} (fun _ => Scalar.ofBits .f32 0x00000000#32 : S8192.Idx → Elt F .f32)) -∗ wp frame (wpE (defs₀ (F := F)) 𝒱₀ (VT d L) none) Set.univ (kk ⟨⟩) Q)
          -∗ wp frame (wpE (defs₀ (F := F)) 𝒱₀ (VT d L) none) Set.univ (Scf.Loop.for k0_t2_loop k0_t2_ok ⟨⟩ (k0_t2_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48) >>= kk) Q) := by
  iintro H Hk
  iapply (Scf.wp_for_bind frame (wpE (defs₀ (F := F)) 𝒱₀ (VT d L) none) Set.univ _ _ _ k0_t2_ok ⟨⟩ (k0_t2_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48)
    (fun n _ => iprop(∃ f : S8192.Idx → Elt F .f32, ⌜∀ j : S8192.Idx, (j 0).val < 16 * n → f j = Scalar.ofBits .f32 0x00000000#32⌝ ∗ ((cntV).view.loc (VT d L) ↦{fullShare} f)))
    (fun k _ => zero2 d L k v18 v45 v55 v58 c0_i32_48)) $$ [H]
  · iexists f; isplitr
    · ipureintro; intro j hj; omega
    · iexact H
  iintro %_ ⟨%f', %hf', H⟩
  have e : f' = (fun _ => Scalar.ofBits .f32 0x00000000#32 : S8192.Idx → Elt F .f32) := by
    funext j
    refine hf' j ?_
    rw [show Scf.trips k0_t2_loop.lb k0_t2_loop.ub k0_t2_loop.st = 512 from by decide +kernel]
    exact (j 0).isLt
  rw [e]
  iapply Hk $$ H

set_option maxRecDepth 16384 in
/-- Slot 0's whole lane loop at the head of a sequence. -/
theorem loop4 (v18 v55 v58 : BitVec 32) (k0_t3 : Fin k0_t3_loop.trips) (v152 v225 v227 v228 : BitVec 32) (v229 : BitVec 1)
    (f : S65536.Idx → Elt F .f32) (g : S8192.Idx → Elt F .f32) (zb : S4096.Idx → Elt F .i32) (sb : S2048.Idx → Elt F .f32) (cb : S2048.Idx → Elt F .i32)
    (hc : ∀ j, (cb j).toNat < 8192) {β : Type} {kk : PUnit → Prog (TpuEff nD τ sig (Elt F) Λ₀ (VT d L).2) β} {Q : β → sProp 𝕄} :
    iprop(((tabV).view.loc (VT d L) ↦{fullShare} f) ∗ ((cntV).view.loc (VT d L) ↦{fullShare} g) ∗ ((z0V).view.loc (VT d L) ↦{fullShare} zb) ∗ ((s0V).view.loc (VT d L) ↦{fullShare} sb) ∗ ((c0V).view.loc (VT d L) ↦{fullShare} cb))
      ⊢ iprop((iprop(((tabV).view.loc (VT d L) ↦{fullShare} chunkT zb sb cb 128 f) ∗ ((cntV).view.loc (VT d L) ↦{fullShare} chunkC cb 128 g) ∗ ((z0V).view.loc (VT d L) ↦{fullShare} zb) ∗ ((s0V).view.loc (VT d L) ↦{fullShare} sb) ∗ ((c0V).view.loc (VT d L) ↦{fullShare} cb)) -∗ wp frame (wpE (defs₀ (F := F)) 𝒱₀ (VT d L) none) Set.univ (kk ⟨⟩) Q)
          -∗ wp frame (wpE (defs₀ (F := F)) 𝒱₀ (VT d L) none) Set.univ (Scf.Loop.for k0_t4_loop k0_t4_ok ⟨⟩ (k0_t4_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v55 v58 k0_pay16 k0_t3 v152 v225 v227 v228 v229) >>= kk) Q) := by
  iintro H Hk
  iapply (Scf.wp_for_bind frame (wpE (defs₀ (F := F)) 𝒱₀ (VT d L) none) Set.univ _ _ _ k0_t4_ok ⟨⟩ (k0_t4_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v55 v58 k0_pay16 k0_t3 v152 v225 v227 v228 v229)
    (fun n _ => iprop(((tabV).view.loc (VT d L) ↦{fullShare} chunkT zb sb cb n f) ∗ ((cntV).view.loc (VT d L) ↦{fullShare} chunkC cb n g) ∗ ((z0V).view.loc (VT d L) ↦{fullShare} zb) ∗ ((s0V).view.loc (VT d L) ↦{fullShare} sb) ∗ ((c0V).view.loc (VT d L) ↦{fullShare} cb)))
    (fun k _ => lane4 d L k v18 v55 v58 k0_t3 v152 v225 v227 v228 v229 (chunkT zb sb cb k.val f) (chunkC cb k.val g) zb sb cb hc)) $$ [H]
  · iexact H
  iintro %_ H
  rw [show Scf.trips k0_t4_loop.lb k0_t4_loop.ub k0_t4_loop.st = 128 from by decide +kernel]
  iapply Hk $$ H

set_option maxRecDepth 16384 in
/-- Slot 1's whole lane loop at the head of a sequence. -/
theorem loop5 (v18 v45 v55 v58 : BitVec 32) (c0_i32_48 : BitVec 32)
    (f : S65536.Idx → Elt F .f32) (zb : S4096.Idx → Elt F .i32) (sb : S2048.Idx → Elt F .f32) (cb : S2048.Idx → Elt F .i32)
    (hc : ∀ j, (cb j).toNat < 8192) {β : Type} {kk : PUnit → Prog (TpuEff nD τ sig (Elt F) Λ₀ (VT d L).2) β} {Q : β → sProp 𝕄} :
    iprop(((tabV).view.loc (VT d L) ↦{fullShare} f) ∗ ((z1V).view.loc (VT d L) ↦{fullShare} zb) ∗ ((s1V).view.loc (VT d L) ↦{fullShare} sb) ∗ ((c1V).view.loc (VT d L) ↦{fullShare} cb))
      ⊢ iprop((iprop(((tabV).view.loc (VT d L) ↦{fullShare} chunkT zb sb cb 128 f) ∗ ((z1V).view.loc (VT d L) ↦{fullShare} zb) ∗ ((s1V).view.loc (VT d L) ↦{fullShare} sb) ∗ ((c1V).view.loc (VT d L) ↦{fullShare} cb)) -∗ wp frame (wpE (defs₀ (F := F)) 𝒱₀ (VT d L) none) Set.univ (kk ⟨⟩) Q)
          -∗ wp frame (wpE (defs₀ (F := F)) 𝒱₀ (VT d L) none) Set.univ (Scf.Loop.for k0_t5_loop k0_t5_ok ⟨⟩ (k0_t5_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48) >>= kk) Q) := by
  iintro H Hk
  iapply (Scf.wp_for_bind frame (wpE (defs₀ (F := F)) 𝒱₀ (VT d L) none) Set.univ _ _ _ k0_t5_ok ⟨⟩ (k0_t5_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48)
    (fun n _ => iprop(((tabV).view.loc (VT d L) ↦{fullShare} chunkT zb sb cb n f) ∗ ((z1V).view.loc (VT d L) ↦{fullShare} zb) ∗ ((s1V).view.loc (VT d L) ↦{fullShare} sb) ∗ ((c1V).view.loc (VT d L) ↦{fullShare} cb)))
    (fun k _ => lane5 d L k v18 v45 v55 v58 c0_i32_48 (chunkT zb sb cb k.val f) zb sb cb hc)) $$ [H]
  · iexact H
  iintro %_ H
  rw [show Scf.trips k0_t5_loop.lb k0_t5_loop.ub k0_t5_loop.st = 128 from by decide +kernel]
  iapply Hk $$ H

end Cert.Proof.SumsI
-- ==== Proof.OffsI.lean ====
/-
  Where the call's transfers begin, in closed form.
-/
module

public import proofs.«01_k».proof.Proof.LoopsI

@[expose] public section

noncomputable section

namespace Cert.Proof.SumsI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.KernelIdeal.main_arg0_scv : Memref Cert.KernelIdeal.sig Kind.scVector Space.hbm Cert.KernelIdeal.S18x16x65536 EltTy.i32)
local notation "sV" => (Memref.whole Cert.KernelIdeal.main_v0_scv : Memref Cert.KernelIdeal.sig Kind.scVector Space.hbm Cert.KernelIdeal.S18x4x65536 EltTy.f32)
local notation "kV" => (Memref.whole Cert.KernelIdeal.main_v1_scv : Memref Cert.KernelIdeal.sig Kind.scVector Space.hbm Cert.KernelIdeal.S18x4x65536 EltTy.i32)
local notation "pV" => (Memref.whole Cert.KernelIdeal.main_v2_0_scv : Memref Cert.KernelIdeal.sig Kind.scVector Space.hbm Cert.KernelIdeal.S4x64x8192 EltTy.f32)
local notation "nV" => (Memref.whole Cert.KernelIdeal.main_v2_1_scv : Memref Cert.KernelIdeal.sig Kind.scVector Space.hbm Cert.KernelIdeal.S4x8x8192 EltTy.f32)
local notation "tabV" => (Memref.whole Cert.KernelIdeal.cc0_scratch0 : Memref Cert.KernelIdeal.sig Kind.scVector Space.vmem Cert.KernelIdeal.S65536 EltTy.f32)
local notation "cntV" => (Memref.whole Cert.KernelIdeal.cc0_scratch1 : Memref Cert.KernelIdeal.sig Kind.scVector Space.vmem Cert.KernelIdeal.S8192 EltTy.f32)
local notation "z0V" => (Memref.whole Cert.KernelIdeal.cc0_scratch2 : Memref Cert.KernelIdeal.sig Kind.scVector Space.vmem Cert.KernelIdeal.S4096 EltTy.i32)
local notation "z1V" => (Memref.whole Cert.KernelIdeal.cc0_scratch3 : Memref Cert.KernelIdeal.sig Kind.scVector Space.vmem Cert.KernelIdeal.S4096 EltTy.i32)
local notation "s0V" => (Memref.whole Cert.KernelIdeal.cc0_scratch4 : Memref Cert.KernelIdeal.sig Kind.scVector Space.vmem Cert.KernelIdeal.S2048 EltTy.f32)
local notation "s1V" => (Memref.whole Cert.KernelIdeal.cc0_scratch5 : Memref Cert.KernelIdeal.sig Kind.scVector Space.vmem Cert.KernelIdeal.S2048 EltTy.f32)
local notation "c0V" => (Memref.whole Cert.KernelIdeal.cc0_scratch6 : Memref Cert.KernelIdeal.sig Kind.scVector Space.vmem Cert.KernelIdeal.S2048 EltTy.i32)
local notation "c1V" => (Memref.whole Cert.KernelIdeal.cc0_scratch7 : Memref Cert.KernelIdeal.sig Kind.scVector Space.vmem Cert.KernelIdeal.S2048 EltTy.i32)

variable [FloatOps F]

/-! ## The words, scales and codes of a task's chunk `k` -/

/-- Where chunk `k`'s channel words `w` (of two) begin in the words: the chunk's order is turned by the task's core. -/
def zoff (i : grid0.Coords) (k w : Nat) : Fin 3 → Nat :=
  ![(k ^^^ (i 0).val) / 8, (i 1).val % 4 * 4 + (i 0).val * 2 + w, (i 1).val / 4 * 16384 + (k ^^^ (i 0).val) % 8 * 2048]
/-- Where chunk `k`'s scales and codes begin. -/
def soff (i : grid0.Coords) (k : Nat) : Fin 3 → Nat :=
  ![(k ^^^ (i 0).val) / 8, (i 1).val % 4, (i 1).val / 4 * 16384 + (k ^^^ (i 0).val) % 8 * 2048]

theorem off1_eq : ∀ (i : grid0.Coords) (r : Fin 2), k0_off1 i (BitVec.ofNat 32 r.val) = zoff i 0 r.val := by decide +kernel
theorem off2_eq : ∀ (i : grid0.Coords), k0_off2 i = soff i 0 := by decide +kernel
theorem off5_eq : ∀ (i : grid0.Coords) (t : Fin k0_t3_loop.trips) (r : Fin 2), k0_off5 i t (BitVec.ofNat 32 r.val) = zoff i (2 * t.val + 1) r.val := by decide +kernel
theorem off6_eq : ∀ (i : grid0.Coords) (t : Fin k0_t3_loop.trips), k0_off6 i t = soff i (2 * t.val + 1) := by decide +kernel
theorem off11_eq : ∀ (i : grid0.Coords) (t : Fin k0_t3_loop.trips) (r : Fin 2), k0_off11 i t (BitVec.ofNat 32 r.val) = zoff i (2 * (t.val + 1)) r.val := by decide +kernel
theorem off12_eq : ∀ (i : grid0.Coords) (t : Fin k0_t3_loop.trips), k0_off12 i t = soff i (2 * (t.val + 1)) := by decide +kernel
theorem cond1_iff : ∀ (t : Fin k0_t3_loop.trips), k0_cond1 t = 1#1 ↔ t.val + 1 < 72 := by decide +kernel

end Cert.Proof.SumsI
-- ==== Proof.IssueI.lean ====
/-
  A task's chunks: which words, scales and codes chunk `k` is, and the generic steps of the batches that fetch them.
-/
module

public import proofs.«01_k».proof.Proof.OffsI

@[expose] public section

noncomputable section

namespace Cert.Proof.SumsI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.KernelIdeal.main_arg0_scv : Memref Cert.KernelIdeal.sig Kind.scVector Space.hbm Cert.KernelIdeal.S18x16x65536 EltTy.i32)
local notation "sV" => (Memref.whole Cert.KernelIdeal.main_v0_scv : Memref Cert.KernelIdeal.sig Kind.scVector Space.hbm Cert.KernelIdeal.S18x4x65536 EltTy.f32)
local notation "kV" => (Memref.whole Cert.KernelIdeal.main_v1_scv : Memref Cert.KernelIdeal.sig Kind.scVector Space.hbm Cert.KernelIdeal.S18x4x65536 EltTy.i32)
local notation "pV" => (Memref.whole Cert.KernelIdeal.main_v2_0_scv : Memref Cert.KernelIdeal.sig Kind.scVector Space.hbm Cert.KernelIdeal.S4x64x8192 EltTy.f32)
local notation "nV" => (Memref.whole Cert.KernelIdeal.main_v2_1_scv : Memref Cert.KernelIdeal.sig Kind.scVector Space.hbm Cert.KernelIdeal.S4x8x8192 EltTy.f32)
local notation "tabV" => (Memref.whole Cert.KernelIdeal.cc0_scratch0 : Memref Cert.KernelIdeal.sig Kind.scVector Space.vmem Cert.KernelIdeal.S65536 EltTy.f32)
local notation "cntV" => (Memref.whole Cert.KernelIdeal.cc0_scratch1 : Memref Cert.KernelIdeal.sig Kind.scVector Space.vmem Cert.KernelIdeal.S8192 EltTy.f32)
local notation "z0V" => (Memref.whole Cert.KernelIdeal.cc0_scratch2 : Memref Cert.KernelIdeal.sig Kind.scVector Space.vmem Cert.KernelIdeal.S4096 EltTy.i32)
local notation "z1V" => (Memref.whole Cert.KernelIdeal.cc0_scratch3 : Memref Cert.KernelIdeal.sig Kind.scVector Space.vmem Cert.KernelIdeal.S4096 EltTy.i32)
local notation "s0V" => (Memref.whole Cert.KernelIdeal.cc0_scratch4 : Memref Cert.KernelIdeal.sig Kind.scVector Space.vmem Cert.KernelIdeal.S2048 EltTy.f32)
local notation "s1V" => (Memref.whole Cert.KernelIdeal.cc0_scratch5 : Memref Cert.KernelIdeal.sig Kind.scVector Space.vmem Cert.KernelIdeal.S2048 EltTy.f32)
local notation "c0V" => (Memref.whole Cert.KernelIdeal.cc0_scratch6 : Memref Cert.KernelIdeal.sig Kind.scVector Space.vmem Cert.KernelIdeal.S2048 EltTy.i32)
local notation "c1V" => (Memref.whole Cert.KernelIdeal.cc0_scratch7 : Memref Cert.KernelIdeal.sig Kind.scVector Space.vmem Cert.KernelIdeal.S2048 EltTy.i32)

variable [FloatOps F]

variable (d : Dev nD) (L : grid0.Coords)

/-- The element `x` past the offset `o` on the last axis. -/
def zat (o : Fin 3 → Nat) (x : Nat) : S18x16x65536.Idx :=
  fun a => ⟨(o a + (![0, 0, x] : Fin 3 → Nat) a) % S18x16x65536.size a, Nat.mod_lt _ (by fin_cases a <;> decide)⟩
def sat (o : Fin 3 → Nat) (x : Nat) : S18x4x65536.Idx :=
  fun a => ⟨(o a + (![0, 0, x] : Fin 3 → Nat) a) % S18x4x65536.size a, Nat.mod_lt _ (by fin_cases a <;> decide)⟩

/-- Chunk `k`'s words, both channel words one after the other. -/
def zc (zg : S18x16x65536.Idx → Elt F .i32) (k : Nat) : S4096.Idx → Elt F .i32 :=
  fun j => zg (zat (zoff L k ((j 0).val / 2048)) ((j 0).val % 2048))
/-- Chunk `k`'s scales. -/
def scl (sg : S18x4x65536.Idx → Elt F .f32) (k : Nat) : S2048.Idx → Elt F .f32 := fun j => sg (sat (soff L k) (j 0).val)
/-- Chunk `k`'s codes. -/
def cod (cg : S18x4x65536.Idx → Elt F .i32) (k : Nat) : S2048.Idx → Elt F .i32 := fun j => cg (sat (soff L k) (j 0).val)

theorem resh (h : S2048.numel = S1x1x2048.numel) (x : S2048.Idx) (a : Fin 3) :
    ((Shape.reshapeEquiv h x : S1x1x2048.Idx) a).val = (![0, 0, (x 0).val] : Fin 3 → Nat) a := by
  have e : Shape.reshapeEquiv h x = (fun a => ⟨(![0, 0, (x 0).val] : Fin 3 → Nat) a, by fin_cases a; exacts [Nat.one_pos, Nat.one_pos, (x 0).isLt]⟩ : S1x1x2048.Idx) := by
    refine Shape.reshapeEquiv_eq_of_rowMajor h ?_
    rw [Shape.rowMajor_val_three, Shape.rowMajor_val_one]
    simp
  rw [e]

theorem zwin {o : Fin 3 → Nat} (inb : ∀ a, o a + S1x1x2048.size a ≤ S18x16x65536.size a) (x : S2048.Idx) :
    (((zV).slice (Rect.unit (s := S18x16x65536) o S1x1x2048.size inb) (fun _ => rfl)).squeeze S2048 squeezes_S1x1x2048_S2048).view.emb x = zat o (x 0).val := by
  funext a; apply Fin.ext
  show o a + 1 * ((Shape.reshapeEquiv _ x : S1x1x2048.Idx) a).val = (o a + (![0, 0, (x 0).val] : Fin 3 → Nat) a) % S18x16x65536.size a
  rw [resh, Nat.mod_eq_of_lt, Nat.one_mul]
  have h := inb a; have hx : (x 0).val < 2048 := (x 0).isLt
  fin_cases a
  · have h : o 0 + 1 ≤ 18 := inb 0; show o 0 + 0 < 18; omega
  · have h : o 1 + 1 ≤ 16 := inb 1; show o 1 + 0 < 16; omega
  · have h : o 2 + 2048 ≤ 65536 := inb 2; show o 2 + (x 0).val < 65536; omega

theorem swin {o : Fin 3 → Nat} (inb : ∀ a, o a + S1x1x2048.size a ≤ S18x4x65536.size a) (x : S2048.Idx) :
    (((sV).slice (Rect.unit (s := S18x4x65536) o S1x1x2048.size inb) (fun _ => rfl)).squeeze S2048 squeezes_S1x1x2048_S2048).view.emb x = sat o (x 0).val := by
  funext a; apply Fin.ext
  show o a + 1 * ((Shape.reshapeEquiv _ x : S1x1x2048.Idx) a).val = (o a + (![0, 0, (x 0).val] : Fin 3 → Nat) a) % S18x4x65536.size a
  rw [resh, Nat.mod_eq_of_lt, Nat.one_mul]
  have h := inb a; have hx : (x 0).val < 2048 := (x 0).isLt
  fin_cases a
  · have h : o 0 + 1 ≤ 18 := inb 0; show o 0 + 0 < 18; omega
  · have h : o 1 + 1 ≤ 4 := inb 1; show o 1 + 0 < 4; omega
  · have h : o 2 + 2048 ≤ 65536 := inb 2; show o 2 + (x 0).val < 65536; omega

theorem cwin {o : Fin 3 → Nat} (inb : ∀ a, o a + S1x1x2048.size a ≤ S18x4x65536.size a) (x : S2048.Idx) :
    (((kV).slice (Rect.unit (s := S18x4x65536) o S1x1x2048.size inb) (fun _ => rfl)).squeeze S2048 squeezes_S1x1x2048_S2048).view.emb x = sat o (x 0).val := by
  funext a; apply Fin.ext
  show o a + 1 * ((Shape.reshapeEquiv _ x : S1x1x2048.Idx) a).val = (o a + (![0, 0, (x 0).val] : Fin 3 → Nat) a) % S18x4x65536.size a
  rw [resh, Nat.mod_eq_of_lt, Nat.one_mul]
  have h := inb a; have hx : (x 0).val < 2048 := (x 0).isLt
  fin_cases a
  · have h : o 0 + 1 ≤ 18 := inb 0; show o 0 + 0 < 18; omega
  · have h : o 1 + 1 ≤ 4 := inb 1; show o 1 + 0 < 4; omega
  · have h : o 2 + 2048 ≤ 65536 := inb 2; show o 2 + (x 0).val < 65536; omega

/-! ## Generic steps: an input held at some share, a transfer issued into a batch, a wait -/

/-- A buffer held at SOME share. -/
def hold (ℓ : Loc nD τ sig) (f : Buf (Elt F) ℓ) : sProp 𝕄 := iprop(∃ q : PosShare TreeShare, ℓ ↦{q} f)

/-- What the task owes, its own waits apart. -/
def ow (O : CellTallies nD τ sig (HIx 1)) (W₀ : Waits sig (HIx 1)) : sProp 𝕄 :=
  iprop(∃ W, ⌜∀ p ∈ W, p ∈ W₀ ∨ p.2 = none⌝ ∗ owes (VT d L) O W)

abbrev EC : UEmb Counters 𝕄 := countersEmb (U := UU)

theorem hold_split (ℓ : Loc nD τ sig) (f : Buf (Elt F) ℓ) (S : Finset (Idx ℓ)) :
    (hold ℓ f : sProp 𝕄) ⊢ iprop(hold ℓ f ∗ ∃ q : PosShare TreeShare, ℓ ↦[S]{q} f) := by
  unfold hold
  iintro ⟨%q, H⟩
  ihave H := (pointsTo_share (PosShare.mem_left_op_right q)).1 $$ H
  icases H with ⟨H1, H2⟩
  isplitl [H1]; · iexists q.left; iexact H1
  ihave H2 := (pointsTo_split_subset (Finset.subset_univ S)).1 $$ H2
  icases H2 with ⟨H2, -⟩
  iexists q.right; iexact H2

/-- A transfer issued into a batch, from a source held at some share. -/
theorem wp_issue {sp sp' : Space} {s : Shape} {e : EltTy} {src : Memref sig .scVector sp s e} {dst : Memref sig .scVector sp' s e} {sm : SemLoc sig}
    {hsrc : src.view.WordExact} {hdst : dst.view.WordExact} {hsem : DmaTarget.Typed (nD := nD) (p := (VT d L).2) sp sm (.here dst)}
    {α : Type} {k : PUnit → Prog (TpuEff nD τ sig (Elt F) Λ₀ (VT d L).2) α} {Q : α → sProp 𝕄} {n : Nat}
    {fs : Buf (Elt F) (src.view.loc (VT d L))} {fd : Buf (Elt F) (dst.view.loc (VT d L))} {Dl : Fin n → sProp 𝕄} {j : Nat}
    (Sd : Finset (Idx (dst.view.loc (VT d L)))) (N : Nat) (hN : dst.view.amount sm = N) (hSd : dst.view.set ⊆ Sd) (hj : j < n)
    (hD : (dst.view.loc (VT d L) ↦[Sd]{fullShare} (dst.view.write (Elt F) fd (src.view.read (Elt F) fs) Finset.univ)) ⊢ Dl ⟨j, hj⟩) :
    iprop(hold (src.view.loc (VT d L)) fs ∗ (dst.view.loc (VT d L) ↦[Sd]{fullShare} fd) ∗ Transfers.Batch EC (VT d L) sm none N Dl j 0)
      ⊢ iprop((iprop(hold (src.view.loc (VT d L)) fs ∗ Transfers.Batch EC (VT d L) sm none N Dl (j + 1) 0) -∗ wp frame (wpE (defs₀ (F := F)) 𝒱₀ (VT d L) none) Set.univ (k ⟨⟩) Q)
          -∗ wp frame (wpE (defs₀ (F := F)) 𝒱₀ (VT d L) none) Set.univ (Prog.lift (.enqueueDma src (.here dst) sm hsrc hdst hsem) >>= k) Q) := by
  iintro ⟨Hs, Hd, HB⟩ Hk
  ihave Hs := (hold_split (src.view.loc (VT d L)) fs src.view.set) $$ Hs
  icases Hs with ⟨Hs, %q, Hq⟩
  iapply (Transfers.wp_dmaBatch EC 𝒱₀ (VT d L) none (src := src) (dst := dst) (fs := fs) (fd := fd) (q := q) (Sd := Sd) none N hN hSd hj (Nat.zero_le _) (D := Dl)
    (by iintro ⟨H, -⟩; iapply hD; iexact H)) $$ [Hq Hd HB]
  · isplitl [Hq]; · iexact Hq
    isplitl [Hd]; · iexact Hd
    iexact HB
  iintro HB
  iapply Hk
  isplitl [Hs]; · iexact Hs
  iexact HB

/-- A wait of a batch, not the last. -/
theorem wp_waitS {sp sp' : Space} {s s' : Shape} {e e' : EltTy} {κ' : Kind} {sem : DmaSem sig} {srcw : Memref sig .scVector sp' s' e'} {dstw : Memref sig κ' sp s e}
    {hsrc : srcw.view.WordExact} {hdst : dstw.view.WordExact}
    {α : Type} {k : PUnit → Prog (TpuEff nD τ sig (Elt F) Λ₀ (VT d L).2) α} {Q : α → sProp 𝕄} {n : Nat} {Dl : Fin n → sProp 𝕄} {u N : Nat}
    {O : CellTallies nD τ sig (HIx 1)} {W₀ : Waits sig (HIx 1)} (hO : ∀ g, O g none = 0)
    (hN : dstw.view.dmaCredit = N) (hu : u + N < N * n) :
    iprop(levAts (K (F := F)).L (K (F := F)).lev ∗ Transfers.Batch EC (VT d L) (.dma sem) none N Dl n u ∗ ow d L O W₀)
      ⊢ iprop((iprop(Transfers.Batch EC (VT d L) (.dma sem) none N Dl n (u + N) ∗ ow d L O W₀) -∗ wp frame (wpE (defs₀ (F := F)) 𝒱₀ (VT d L) none) Set.univ (k ⟨⟩) Q)
          -∗ wp frame (wpE (defs₀ (F := F)) 𝒱₀ (VT d L) none) Set.univ (Prog.lift (.waitDma2 sem srcw dstw hsrc hdst) >>= k) Q) := by
  unfold ow
  iintro ⟨#Hlv, HB, %W₁, %hW, HO⟩ Hk
  iapply (Transfers.wp_waitBatchO EC 𝒱₀ (VT d L) none (srcw := srcw) (dstw := dstw) none hN hu (D := Dl) (O := O) (W := W₁)) $$ [HB HO]
  · isplitl [HB]; · iexact HB
    isplitl [HO]; · iexact HO
    iapply ((K (F := F)).mayWait_none (thr := VT d L) (SemLoc.dma sem) hO); iexact Hlv
  iintro ⟨HB, HO⟩
  iapply Hk
  isplitl [HB]; · iexact HB
  iexists (insert (SemLoc.dma sem, (none : HIx 1)) W₁); isplitr
  · ipureintro; intro p hp
    rcases Finset.mem_insert.mp hp with hp | hp
    · exact .inr (hp ▸ rfl)
    · exact hW p hp
  · iexact HO

/-- The last wait of a batch: every delivery at once, the cell back at zero. -/
theorem wp_waitL {sp sp' : Space} {s s' : Shape} {e e' : EltTy} {κ' : Kind} {sem : DmaSem sig} {srcw : Memref sig .scVector sp' s' e'} {dstw : Memref sig κ' sp s e}
    {hsrc : srcw.view.WordExact} {hdst : dstw.view.WordExact}
    {α : Type} {k : PUnit → Prog (TpuEff nD τ sig (Elt F) Λ₀ (VT d L).2) α} {Q : α → sProp 𝕄} {n : Nat} {Dl : Fin n → sProp 𝕄} {u N : Nat}
    {O : CellTallies nD τ sig (HIx 1)} {W₀ : Waits sig (HIx 1)} (hO : ∀ g, O g none = 0)
    (hN : dstw.view.dmaCredit = N) (hN0 : 0 < N) (hu : u + N = N * n) :
    iprop(levAts (K (F := F)).L (K (F := F)).lev ∗ Transfers.Batch EC (VT d L) (.dma sem) none N Dl n u ∗ ow d L O W₀)
      ⊢ iprop((iprop(bigSep Finset.univ Dl ∗ semVal (VT d L, .dma sem) 0 ∗ ow d L O W₀) -∗ wp frame (wpE (defs₀ (F := F)) 𝒱₀ (VT d L) none) Set.univ (k ⟨⟩) Q)
          -∗ wp frame (wpE (defs₀ (F := F)) 𝒱₀ (VT d L) none) Set.univ (Prog.lift (.waitDma2 sem srcw dstw hsrc hdst) >>= k) Q) := by
  unfold ow
  iintro ⟨#Hlv, HB, %W₁, %hW, HO⟩ Hk
  iapply (Transfers.wp_waitBatchLastO EC 𝒱₀ (VT d L) none (srcw := srcw) (dstw := dstw) none hN hN0 hu (D := Dl) (O := O) (W := W₁)) $$ [HB HO]
  · isplitl [HB]; · iexact HB
    isplitl [HO]; · iexact HO
    iapply ((K (F := F)).mayWait_none (thr := VT d L) (SemLoc.dma sem) hO); iexact Hlv
  iintro ⟨HB, Hs, HO⟩
  iapply Hk
  isplitl [HB]; · iexact HB
  isplitl [Hs]; · iexact Hs
  iexists (insert (SemLoc.dma sem, (none : HIx 1)) W₁); isplitr
  · ipureintro; intro p hp
    rcases Finset.mem_insert.mp hp with hp | hp
    · exact .inr (hp ▸ rfl)
    · exact hW p hp
  · iexact HO

end Cert.Proof.SumsI
-- ==== Proof.FetchI.lean ====
/-
  The batches that fetch a task's chunks into its two slots: issuing one, waiting for one.
-/
module

public import proofs.«01_k».proof.Proof.IssueI

@[expose] public section

noncomputable section

namespace Cert.Proof.SumsI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.KernelIdeal.main_arg0_scv : Memref Cert.KernelIdeal.sig Kind.scVector Space.hbm Cert.KernelIdeal.S18x16x65536 EltTy.i32)
local notation "sV" => (Memref.whole Cert.KernelIdeal.main_v0_scv : Memref Cert.KernelIdeal.sig Kind.scVector Space.hbm Cert.KernelIdeal.S18x4x65536 EltTy.f32)
local notation "kV" => (Memref.whole Cert.KernelIdeal.main_v1_scv : Memref Cert.KernelIdeal.sig Kind.scVector Space.hbm Cert.KernelIdeal.S18x4x65536 EltTy.i32)
local notation "pV" => (Memref.whole Cert.KernelIdeal.main_v2_0_scv : Memref Cert.KernelIdeal.sig Kind.scVector Space.hbm Cert.KernelIdeal.S4x64x8192 EltTy.f32)
local notation "nV" => (Memref.whole Cert.KernelIdeal.main_v2_1_scv : Memref Cert.KernelIdeal.sig Kind.scVector Space.hbm Cert.KernelIdeal.S4x8x8192 EltTy.f32)
local notation "tabV" => (Memref.whole Cert.KernelIdeal.cc0_scratch0 : Memref Cert.KernelIdeal.sig Kind.scVector Space.vmem Cert.KernelIdeal.S65536 EltTy.f32)
local notation "cntV" => (Memref.whole Cert.KernelIdeal.cc0_scratch1 : Memref Cert.KernelIdeal.sig Kind.scVector Space.vmem Cert.KernelIdeal.S8192 EltTy.f32)
local notation "z0V" => (Memref.whole Cert.KernelIdeal.cc0_scratch2 : Memref Cert.KernelIdeal.sig Kind.scVector Space.vmem Cert.KernelIdeal.S4096 EltTy.i32)
local notation "z1V" => (Memref.whole Cert.KernelIdeal.cc0_scratch3 : Memref Cert.KernelIdeal.sig Kind.scVector Space.vmem Cert.KernelIdeal.S4096 EltTy.i32)
local notation "s0V" => (Memref.whole Cert.KernelIdeal.cc0_scratch4 : Memref Cert.KernelIdeal.sig Kind.scVector Space.vmem Cert.KernelIdeal.S2048 EltTy.f32)
local notation "s1V" => (Memref.whole Cert.KernelIdeal.cc0_scratch5 : Memref Cert.KernelIdeal.sig Kind.scVector Space.vmem Cert.KernelIdeal.S2048 EltTy.f32)
local notation "c0V" => (Memref.whole Cert.KernelIdeal.cc0_scratch6 : Memref Cert.KernelIdeal.sig Kind.scVector Space.vmem Cert.KernelIdeal.S2048 EltTy.i32)
local notation "c1V" => (Memref.whole Cert.KernelIdeal.cc0_scratch7 : Memref Cert.KernelIdeal.sig Kind.scVector Space.vmem Cert.KernelIdeal.S2048 EltTy.i32)

variable [FloatOps F]

variable (d : Dev nD) (L : grid0.Coords)
variable (zg : S18x16x65536.Idx → Elt F .i32) (sg : S18x4x65536.Idx → Elt F .f32) (cg : S18x4x65536.Idx → Elt F .i32)

/-- The inputs a task reads, each at some share. -/
def inp : sProp 𝕄 :=
  iprop(hold ((zV).view.loc (VT d L)) zg ∗ hold ((sV).view.loc (VT d L)) sg ∗ hold ((kV).view.loc (VT d L)) cg)

theorem half_set (r : Nat) (inb : ∀ a, (![2048 * r] : Fin 1 → Nat) a + S2048.size a ≤ S4096.size a) (j : S4096.Idx) :
    j ∈ (Rect.unit (s := S4096) ![2048 * r] S2048.size inb).set ↔ 2048 * r ≤ (j 0).val ∧ (j 0).val < 2048 * r + 2048 := by
  rw [← Rect.map_emb_univ]
  constructor
  · intro h
    obtain ⟨x, -, rfl⟩ := Finset.mem_map.mp h
    have hx : (x 0).val < 2048 := (x 0).isLt
    have e : (((Rect.unit (s := S4096) ![2048 * r] S2048.size inb).emb x) 0).val = 2048 * r + 1 * (x 0).val := rfl
    omega
  · rintro ⟨h1, h2⟩
    refine Finset.mem_map.mpr ⟨fun a => ⟨(j 0).val - 2048 * r, by fin_cases a; show _ < 2048; omega⟩, Finset.mem_univ _, ?_⟩
    funext a; fin_cases a
    apply Fin.ext
    show 2048 * r + 1 * ((j 0).val - 2048 * r) = (j 0).val
    omega

/-! ## Slot 0 -/

theorem halves0_disj : Disjoint ((((z0V).slice (Rect.unit (s := S4096) ![0] S2048.size inb_S4096_S2048_0) (fun _ => rfl)) : Memref sig .scVector .vmem S2048 .i32)).view.set ((((z0V).slice (Rect.unit (s := S4096) ![2048] S2048.size inb_S4096_S2048_2048) (fun _ => rfl)) : Memref sig .scVector .vmem S2048 .i32)).view.set := by
  rw [Finset.disjoint_left]
  intro j h0 h1
  have h0 := (half_set 0 inb_S4096_S2048_0 j).1 (by simpa only [Memref.view_slice, View.set_slice_whole] using h0)
  have h1 := (half_set 1 inb_S4096_S2048_2048 j).1 (by simpa only [Memref.view_slice, View.set_slice_whole] using h1)
  omega

theorem halves0_univ : ((((z0V).slice (Rect.unit (s := S4096) ![0] S2048.size inb_S4096_S2048_0) (fun _ => rfl)) : Memref sig .scVector .vmem S2048 .i32)).view.set ∪ ((((z0V).slice (Rect.unit (s := S4096) ![2048] S2048.size inb_S4096_S2048_2048) (fun _ => rfl)) : Memref sig .scVector .vmem S2048 .i32)).view.set = (Finset.univ : Finset S4096.Idx) := by
  ext j
  simp only [Finset.mem_union, Finset.mem_univ, iff_true]
  have hj : (j 0).val < 4096 := (j 0).isLt
  by_cases h : (j 0).val < 2048
  · left
    have := (half_set 0 inb_S4096_S2048_0 j).2 ⟨by omega, by omega⟩
    simpa only [Memref.view_slice, View.set_slice_whole] using this
  · right
    have := (half_set 1 inb_S4096_S2048_2048 j).2 ⟨by omega, by omega⟩
    simpa only [Memref.view_slice, View.set_slice_whole] using this

/-- What the batch of chunk `k` into slot 0 delivers: the chunk's words (two halves), scales and codes, in the slot's buffers. -/
def del0 (k : Nat) : Fin 4 → sProp 𝕄 :=
  ![iprop(((z0V).view.loc (VT d L) ↦[((((z0V).slice (Rect.unit (s := S4096) ![0] S2048.size inb_S4096_S2048_0) (fun _ => rfl)) : Memref sig .scVector .vmem S2048 .i32)).view.set]{fullShare} zc L zg k)),
    iprop(((z0V).view.loc (VT d L) ↦[((((z0V).slice (Rect.unit (s := S4096) ![2048] S2048.size inb_S4096_S2048_2048) (fun _ => rfl)) : Memref sig .scVector .vmem S2048 .i32)).view.set]{fullShare} zc L zg k)),
    iprop(((s0V).view.loc (VT d L) ↦{fullShare} scl L sg k)),
    iprop(((c0V).view.loc (VT d L) ↦{fullShare} cod L cg k))]

instance del0_storable (k : Nat) (t : Fin 4) : BI.Storable (upEmb : UEmb _ 𝕄) (del0 d L zg sg cg k t) := by
  unfold del0; fin_cases t <;> (simp only [Fin.mk_zero, Fin.zero_eta, Fin.mk_one, Fin.reduceFinMk, Matrix.cons_val]; infer_instance)

/-- The batch in flight for chunk `k` into slot 0. -/
def fly0 (k : Nat) : sProp 𝕄 := Transfers.Batch EC (VT d L) (.dma cc0_scratch8.sem) none 65536 (del0 d L zg sg cg k) 4 0

/-- Slot 0 free: its buffers at any contents, its cell at zero. -/
def free0 : sProp 𝕄 := iprop((∃ f, ((z0V).view.loc (VT d L) ↦{fullShare} f)) ∗ (∃ f, ((s0V).view.loc (VT d L) ↦{fullShare} f)) ∗ (∃ f, ((c0V).view.loc (VT d L) ↦{fullShare} f)) ∗ semVal (VT d L, .dma cc0_scratch8.sem) 0)

/-- Slot 0 landed: its buffers at chunk `k`'s words, scales and codes, its cell at zero. -/
def got0 (k : Nat) : sProp 𝕄 := iprop(((z0V).view.loc (VT d L) ↦{fullShare} zc L zg k) ∗ ((s0V).view.loc (VT d L) ↦{fullShare} scl L sg k) ∗ ((c0V).view.loc (VT d L) ↦{fullShare} cod L cg k) ∗ semVal (VT d L, .dma cc0_scratch8.sem) 0)

theorem lands0_0 {o : Fin 3 → Nat} (inb : ∀ a, o a + S1x1x2048.size a ≤ S18x16x65536.size a) (k : Nat) (ho : o = zoff L k 0) (fd : S4096.Idx → Elt F .i32) :
    (((z0V).view.loc (VT d L) ↦[((((z0V).slice (Rect.unit (s := S4096) ![0] S2048.size inb_S4096_S2048_0) (fun _ => rfl)) : Memref sig .scVector .vmem S2048 .i32)).view.set]{fullShare} (((((z0V).slice (Rect.unit (s := S4096) ![0] S2048.size inb_S4096_S2048_0) (fun _ => rfl)) : Memref sig .scVector .vmem S2048 .i32)).view.write (Elt F) fd ((((zV).slice (Rect.unit (s := S18x16x65536) o S1x1x2048.size inb) (fun _ => rfl)).squeeze S2048 squeezes_S1x1x2048_S2048).view.read (Elt F) zg) Finset.univ)) : sProp 𝕄)
      ⊢ del0 d L zg sg cg k 0 := by
  refine Entails.of_eq (pointsTo_congr fun j hj => ?_)
  obtain ⟨x, -, rfl⟩ := Finset.mem_map.mp hj
  refine (View.write_emb_of_mem (Val := Elt F) (v := ((((z0V).slice (Rect.unit (s := S4096) ![0] S2048.size inb_S4096_S2048_0) (fun _ => rfl)) : Memref sig .scVector .vmem S2048 .i32)).view) fd _ (Finset.mem_univ x)).trans ?_
  show zg ((((zV).slice (Rect.unit (s := S18x16x65536) o S1x1x2048.size inb) (fun _ => rfl)).squeeze S2048 squeezes_S1x1x2048_S2048).view.emb x) = zc L zg k (((((z0V).slice (Rect.unit (s := S4096) ![0] S2048.size inb_S4096_S2048_0) (fun _ => rfl)) : Memref sig .scVector .vmem S2048 .i32)).view.emb x)
  have hx : (x 0).val < 2048 := (x 0).isLt
  have e : ((((((z0V).slice (Rect.unit (s := S4096) ![0] S2048.size inb_S4096_S2048_0) (fun _ => rfl)) : Memref sig .scVector .vmem S2048 .i32)).view.emb x : S4096.Idx) 0).val = 0 + 1 * (x 0).val := rfl
  rw [zwin, ho]
  unfold zc
  rw [e, show (0 + 1 * (x 0).val) / 2048 = 0 by omega, show (0 + 1 * (x 0).val) % 2048 = (x 0).val by omega]

theorem lands0_1 {o : Fin 3 → Nat} (inb : ∀ a, o a + S1x1x2048.size a ≤ S18x16x65536.size a) (k : Nat) (ho : o = zoff L k 1) (fd : S4096.Idx → Elt F .i32) :
    (((z0V).view.loc (VT d L) ↦[((((z0V).slice (Rect.unit (s := S4096) ![2048] S2048.size inb_S4096_S2048_2048) (fun _ => rfl)) : Memref sig .scVector .vmem S2048 .i32)).view.set]{fullShare} (((((z0V).slice (Rect.unit (s := S4096) ![2048] S2048.size inb_S4096_S2048_2048) (fun _ => rfl)) : Memref sig .scVector .vmem S2048 .i32)).view.write (Elt F) fd ((((zV).slice (Rect.unit (s := S18x16x65536) o S1x1x2048.size inb) (fun _ => rfl)).squeeze S2048 squeezes_S1x1x2048_S2048).view.read (Elt F) zg) Finset.univ)) : sProp 𝕄)
      ⊢ del0 d L zg sg cg k 1 := by
  refine Entails.of_eq (pointsTo_congr fun j hj => ?_)
  obtain ⟨x, -, rfl⟩ := Finset.mem_map.mp hj
  refine (View.write_emb_of_mem (Val := Elt F) (v := ((((z0V).slice (Rect.unit (s := S4096) ![2048] S2048.size inb_S4096_S2048_2048) (fun _ => rfl)) : Memref sig .scVector .vmem S2048 .i32)).view) fd _ (Finset.mem_univ x)).trans ?_
  show zg ((((zV).slice (Rect.unit (s := S18x16x65536) o S1x1x2048.size inb) (fun _ => rfl)).squeeze S2048 squeezes_S1x1x2048_S2048).view.emb x) = zc L zg k (((((z0V).slice (Rect.unit (s := S4096) ![2048] S2048.size inb_S4096_S2048_2048) (fun _ => rfl)) : Memref sig .scVector .vmem S2048 .i32)).view.emb x)
  have hx : (x 0).val < 2048 := (x 0).isLt
  have e : ((((((z0V).slice (Rect.unit (s := S4096) ![2048] S2048.size inb_S4096_S2048_2048) (fun _ => rfl)) : Memref sig .scVector .vmem S2048 .i32)).view.emb x : S4096.Idx) 0).val = 2048 + 1 * (x 0).val := rfl
  rw [zwin, ho]
  unfold zc
  rw [e, show (2048 + 1 * (x 0).val) / 2048 = 1 by omega, show (2048 + 1 * (x 0).val) % 2048 = (x 0).val by omega]

theorem lands0_s {o : Fin 3 → Nat} (inb : ∀ a, o a + S1x1x2048.size a ≤ S18x4x65536.size a) (k : Nat) (ho : o = soff L k) (fd : S2048.Idx → Elt F .f32) :
    (((s0V).view.loc (VT d L) ↦{fullShare} ((s0V).view.write (Elt F) fd ((((sV).slice (Rect.unit (s := S18x4x65536) o S1x1x2048.size inb) (fun _ => rfl)).squeeze S2048 squeezes_S1x1x2048_S2048).view.read (Elt F) sg) Finset.univ)) : sProp 𝕄)
      ⊢ del0 d L zg sg cg k 2 := by
  refine Entails.of_eq (pointsTo_congr fun j hj => ?_)
  refine (View.write_emb_of_mem (Val := Elt F) (v := (s0V).view) fd _ (Finset.mem_univ (j : S2048.Idx))).trans ?_
  show sg ((((sV).slice (Rect.unit (s := S18x4x65536) o S1x1x2048.size inb) (fun _ => rfl)).squeeze S2048 squeezes_S1x1x2048_S2048).view.emb (j : S2048.Idx)) = scl L sg k j
  rw [swin, ho]
  rfl

theorem lands0_c {o : Fin 3 → Nat} (inb : ∀ a, o a + S1x1x2048.size a ≤ S18x4x65536.size a) (k : Nat) (ho : o = soff L k) (fd : S2048.Idx → Elt F .i32) :
    (((c0V).view.loc (VT d L) ↦{fullShare} ((c0V).view.write (Elt F) fd ((((kV).slice (Rect.unit (s := S18x4x65536) o S1x1x2048.size inb) (fun _ => rfl)).squeeze S2048 squeezes_S1x1x2048_S2048).view.read (Elt F) cg) Finset.univ)) : sProp 𝕄)
      ⊢ del0 d L zg sg cg k 3 := by
  refine Entails.of_eq (pointsTo_congr fun j hj => ?_)
  refine (View.write_emb_of_mem (Val := Elt F) (v := (c0V).view) fd _ (Finset.mem_univ (j : S2048.Idx))).trans ?_
  show cg ((((kV).slice (Rect.unit (s := S18x4x65536) o S1x1x2048.size inb) (fun _ => rfl)).squeeze S2048 squeezes_S1x1x2048_S2048).view.emb (j : S2048.Idx)) = cod L cg k j
  rw [cwin, ho]
  rfl

/-- The four transfers of chunk `k` issued into slot 0. -/
theorem issue0 (k : Nat) {o0 o1 o2 : Fin 3 → Nat} (inb0 : ∀ a, o0 a + S1x1x2048.size a ≤ S18x16x65536.size a) (inb1 : ∀ a, o1 a + S1x1x2048.size a ≤ S18x16x65536.size a)
    (inb2 inb3 : ∀ a, o2 a + S1x1x2048.size a ≤ S18x4x65536.size a) (h0 : o0 = zoff L k 0) (h1 : o1 = zoff L k 1) (h2 : o2 = soff L k)
    {a0 : (((zV).slice (Rect.unit (s := S18x16x65536) o0 S1x1x2048.size inb0) (fun _ => rfl)).squeeze S2048 squeezes_S1x1x2048_S2048).view.WordExact} {b0 : (((z0V).slice (Rect.unit (s := S4096) ![0] S2048.size inb_S4096_S2048_0) (fun _ => rfl)) : Memref sig .scVector .vmem S2048 .i32).view.WordExact} {t0 : DmaTarget.Typed (nD := nD) (p := (VT d L).2) .hbm (.dma cc0_scratch8.sem) (.here (((z0V).slice (Rect.unit (s := S4096) ![0] S2048.size inb_S4096_S2048_0) (fun _ => rfl)) : Memref sig .scVector .vmem S2048 .i32))}
    {a1 : (((zV).slice (Rect.unit (s := S18x16x65536) o1 S1x1x2048.size inb1) (fun _ => rfl)).squeeze S2048 squeezes_S1x1x2048_S2048).view.WordExact} {b1 : (((z0V).slice (Rect.unit (s := S4096) ![2048] S2048.size inb_S4096_S2048_2048) (fun _ => rfl)) : Memref sig .scVector .vmem S2048 .i32).view.WordExact} {t1 : DmaTarget.Typed (nD := nD) (p := (VT d L).2) .hbm (.dma cc0_scratch8.sem) (.here (((z0V).slice (Rect.unit (s := S4096) ![2048] S2048.size inb_S4096_S2048_2048) (fun _ => rfl)) : Memref sig .scVector .vmem S2048 .i32))}
    {a2 : (((sV).slice (Rect.unit (s := S18x4x65536) o2 S1x1x2048.size inb2) (fun _ => rfl)).squeeze S2048 squeezes_S1x1x2048_S2048).view.WordExact} {b2 : (s0V).view.WordExact} {t2 : DmaTarget.Typed (nD := nD) (p := (VT d L).2) .hbm (.dma cc0_scratch8.sem) (.here (s0V))}
    {a3 : (((kV).slice (Rect.unit (s := S18x4x65536) o2 S1x1x2048.size inb3) (fun _ => rfl)).squeeze S2048 squeezes_S1x1x2048_S2048).view.WordExact} {b3 : (c0V).view.WordExact} {t3 : DmaTarget.Typed (nD := nD) (p := (VT d L).2) .hbm (.dma cc0_scratch8.sem) (.here (c0V))}
    {β : Type} {kk : PUnit → Prog (TpuEff nD τ sig (Elt F) Λ₀ (VT d L).2) β} {Q : β → sProp 𝕄} :
    iprop(inp d L zg sg cg ∗ free0 (F := F) d L)
      ⊢ iprop((iprop(inp d L zg sg cg ∗ fly0 d L zg sg cg k) -∗ wp frame (wpE (defs₀ (F := F)) 𝒱₀ (VT d L) none) Set.univ (kk ⟨⟩) Q)
          -∗ wp frame (wpE (defs₀ (F := F)) 𝒱₀ (VT d L) none) Set.univ (Prog.lift (.enqueueDma (((zV).slice (Rect.unit (s := S18x16x65536) o0 S1x1x2048.size inb0) (fun _ => rfl)).squeeze S2048 squeezes_S1x1x2048_S2048) (.here (((z0V).slice (Rect.unit (s := S4096) ![0] S2048.size inb_S4096_S2048_0) (fun _ => rfl)) : Memref sig .scVector .vmem S2048 .i32)) (.dma cc0_scratch8.sem) a0 b0 t0) >>= fun _ =>
              Prog.lift (.enqueueDma (((zV).slice (Rect.unit (s := S18x16x65536) o1 S1x1x2048.size inb1) (fun _ => rfl)).squeeze S2048 squeezes_S1x1x2048_S2048) (.here (((z0V).slice (Rect.unit (s := S4096) ![2048] S2048.size inb_S4096_S2048_2048) (fun _ => rfl)) : Memref sig .scVector .vmem S2048 .i32)) (.dma cc0_scratch8.sem) a1 b1 t1) >>= fun _ =>
              Prog.lift (.enqueueDma (((sV).slice (Rect.unit (s := S18x4x65536) o2 S1x1x2048.size inb2) (fun _ => rfl)).squeeze S2048 squeezes_S1x1x2048_S2048) (.here (s0V)) (.dma cc0_scratch8.sem) a2 b2 t2) >>= fun _ =>
              Prog.lift (.enqueueDma (((kV).slice (Rect.unit (s := S18x4x65536) o2 S1x1x2048.size inb3) (fun _ => rfl)).squeeze S2048 squeezes_S1x1x2048_S2048) (.here (c0V)) (.dma cc0_scratch8.sem) a3 b3 t3) >>= kk) Q) := by
  unfold inp free0 fly0
  iintro ⟨⟨Hz, Hs, Hc⟩, ⟨%fz, Hzb⟩, ⟨%fs, Hsb⟩, ⟨%fc, Hcb⟩, Hsem⟩ Hk
  ihave Hzb := (Entails.of_eq (congrArg (fun S => ((z0V).view.loc (VT d L) ↦[S]{fullShare} fz : sProp 𝕄)) halves0_univ.symm)) $$ Hzb
  ihave Hzb := (pointsTo_union (halves0_disj)).1 $$ Hzb
  icases Hzb with ⟨Hz0, Hz1⟩
  imod (Transfers.batch_alloc' EC (VT d L) (none : HIx 1) 65536 (del0 d L zg sg cg k) (sm := .dma cc0_scratch8.sem) (E := Set.univ)) $$ Hsem with HB
  iapply (wp_issue d L (n := 4) (Dl := del0 d L zg sg cg k) (j := 0) (src := (((zV).slice (Rect.unit (s := S18x16x65536) o0 S1x1x2048.size inb0) (fun _ => rfl)).squeeze S2048 squeezes_S1x1x2048_S2048)) (dst := (((z0V).slice (Rect.unit (s := S4096) ![0] S2048.size inb_S4096_S2048_0) (fun _ => rfl)) : Memref sig .scVector .vmem S2048 .i32)) (fs := zg) (fd := fz) (Sd := ((((z0V).slice (Rect.unit (s := S4096) ![0] S2048.size inb_S4096_S2048_0) (fun _ => rfl)) : Memref sig .scVector .vmem S2048 .i32)).view.set) (N := 65536) rfl (Finset.Subset.refl _) (by decide) (lands0_0 d L zg sg cg inb0 k h0 fz)) $$ [Hz Hz0 HB]
  · isplitl [Hz]; · iexact Hz
    isplitl [Hz0]; · iexact Hz0
    iexact HB
  iintro ⟨Hz, HB⟩
  iapply (wp_issue d L (n := 4) (Dl := del0 d L zg sg cg k) (j := 1) (src := (((zV).slice (Rect.unit (s := S18x16x65536) o1 S1x1x2048.size inb1) (fun _ => rfl)).squeeze S2048 squeezes_S1x1x2048_S2048)) (dst := (((z0V).slice (Rect.unit (s := S4096) ![2048] S2048.size inb_S4096_S2048_2048) (fun _ => rfl)) : Memref sig .scVector .vmem S2048 .i32)) (fs := zg) (fd := fz) (Sd := ((((z0V).slice (Rect.unit (s := S4096) ![2048] S2048.size inb_S4096_S2048_2048) (fun _ => rfl)) : Memref sig .scVector .vmem S2048 .i32)).view.set) (N := 65536) rfl (Finset.Subset.refl _) (by decide) (lands0_1 d L zg sg cg inb1 k h1 fz)) $$ [Hz Hz1 HB]
  · isplitl [Hz]; · iexact Hz
    isplitl [Hz1]; · iexact Hz1
    iexact HB
  iintro ⟨Hz, HB⟩
  iapply (wp_issue d L (n := 4) (Dl := del0 d L zg sg cg k) (j := 2) (src := (((sV).slice (Rect.unit (s := S18x4x65536) o2 S1x1x2048.size inb2) (fun _ => rfl)).squeeze S2048 squeezes_S1x1x2048_S2048)) (dst := s0V) (fs := sg) (fd := fs) (Sd := Finset.univ) (N := 65536) rfl (Finset.subset_univ _) (by decide) (lands0_s d L zg sg cg inb2 k h2 fs)) $$ [Hs Hsb HB]
  · isplitl [Hs]; · iexact Hs
    isplitl [Hsb]; · iexact Hsb
    iexact HB
  iintro ⟨Hs, HB⟩
  iapply (wp_issue d L (n := 4) (Dl := del0 d L zg sg cg k) (j := 3) (src := (((kV).slice (Rect.unit (s := S18x4x65536) o2 S1x1x2048.size inb3) (fun _ => rfl)).squeeze S2048 squeezes_S1x1x2048_S2048)) (dst := c0V) (fs := cg) (fd := fc) (Sd := Finset.univ) (N := 65536) rfl (Finset.subset_univ _) (by decide) (lands0_c d L zg sg cg inb3 k h2 fc)) $$ [Hc Hcb HB]
  · isplitl [Hc]; · iexact Hc
    isplitl [Hcb]; · iexact Hcb
    iexact HB
  iintro ⟨Hc, HB⟩
  iapply Hk
  isplitl [Hz Hs Hc]
  · isplitl [Hz]; · iexact Hz
    isplitl [Hs]; · iexact Hs
    iexact Hc
  iexact HB

/-- The four waits of slot 0's batch. -/
theorem wait0 (k : Nat) {O : CellTallies nD τ sig (HIx 1)} {W₀ : Waits sig (HIx 1)} (hO : ∀ g, O g none = 0)
    {p0 p1 p2 p3 : Space} {y0 y1 y2 y3 : Shape} {e0 e1 e2 e3 : EltTy}
    {w0 : Memref sig .scVector p0 y0 e0} {w1 : Memref sig .scVector p1 y1 e1} {w2 : Memref sig .scVector p2 y2 e2} {w3 : Memref sig .scVector p3 y3 e3}
    {a0 : w0.view.WordExact} {b0 : (((z0V).slice (Rect.unit (s := S4096) ![0] S2048.size inb_S4096_S2048_0) (fun _ => rfl)) : Memref sig .scVector .vmem S2048 .i32).view.WordExact} {a1 : w1.view.WordExact} {b1 : (((z0V).slice (Rect.unit (s := S4096) ![2048] S2048.size inb_S4096_S2048_2048) (fun _ => rfl)) : Memref sig .scVector .vmem S2048 .i32).view.WordExact}
    {a2 : w2.view.WordExact} {b2 : (s0V).view.WordExact} {a3 : w3.view.WordExact} {b3 : (c0V).view.WordExact}
    {β : Type} {kk : PUnit → Prog (TpuEff nD τ sig (Elt F) Λ₀ (VT d L).2) β} {Q : β → sProp 𝕄} :
    iprop(levAts (K (F := F)).L (K (F := F)).lev ∗ fly0 d L zg sg cg k ∗ ow d L O W₀)
      ⊢ iprop((iprop(got0 d L zg sg cg k ∗ ow d L O W₀) -∗ wp frame (wpE (defs₀ (F := F)) 𝒱₀ (VT d L) none) Set.univ (kk ⟨⟩) Q)
          -∗ wp frame (wpE (defs₀ (F := F)) 𝒱₀ (VT d L) none) Set.univ (Prog.lift (.waitDma2 cc0_scratch8.sem w0 (((z0V).slice (Rect.unit (s := S4096) ![0] S2048.size inb_S4096_S2048_0) (fun _ => rfl)) : Memref sig .scVector .vmem S2048 .i32) a0 b0) >>= fun _ =>
              Prog.lift (.waitDma2 cc0_scratch8.sem w1 (((z0V).slice (Rect.unit (s := S4096) ![2048] S2048.size inb_S4096_S2048_2048) (fun _ => rfl)) : Memref sig .scVector .vmem S2048 .i32) a1 b1) >>= fun _ =>
              Prog.lift (.waitDma2 cc0_scratch8.sem w2 (s0V) a2 b2) >>= fun _ =>
              Prog.lift (.waitDma2 cc0_scratch8.sem w3 (c0V) a3 b3) >>= kk) Q) := by
  unfold fly0
  iintro ⟨#Hlv, HB, HO⟩ Hk
  iapply (wp_waitS d L hO (sem := cc0_scratch8.sem) (dstw := (((z0V).slice (Rect.unit (s := S4096) ![0] S2048.size inb_S4096_S2048_0) (fun _ => rfl)) : Memref sig .scVector .vmem S2048 .i32)) (n := 4) (u := 0) (N := 65536) rfl  (by decide)) $$ [HB HO]
  · isplitr; · iexact Hlv
    isplitl [HB]; · iexact HB
    iexact HO
  iintro ⟨HB, HO⟩
  iapply (wp_waitS d L hO (sem := cc0_scratch8.sem) (dstw := (((z0V).slice (Rect.unit (s := S4096) ![2048] S2048.size inb_S4096_S2048_2048) (fun _ => rfl)) : Memref sig .scVector .vmem S2048 .i32)) (n := 4) (u := 65536) (N := 65536) rfl  (by decide)) $$ [HB HO]
  · isplitr; · iexact Hlv
    isplitl [HB]; · iexact HB
    iexact HO
  iintro ⟨HB, HO⟩
  iapply (wp_waitS d L hO (sem := cc0_scratch8.sem) (dstw := s0V) (n := 4) (u := 131072) (N := 65536) rfl  (by decide)) $$ [HB HO]
  · isplitr; · iexact Hlv
    isplitl [HB]; · iexact HB
    iexact HO
  iintro ⟨HB, HO⟩
  iapply (wp_waitL d L hO (sem := cc0_scratch8.sem) (dstw := c0V) (n := 4) (u := 196608) (N := 65536) rfl (by decide) (by decide)) $$ [HB HO]
  · isplitr; · iexact Hlv
    isplitl [HB]; · iexact HB
    iexact HO
  iintro ⟨HD, Hsem, HO⟩
  iapply Hk
  isplitr [HO]
  · unfold got0
    ihave HD := (show bigSep Finset.univ (del0 d L zg sg cg k) ⊢ iprop(((z0V).view.loc (VT d L) ↦[((((z0V).slice (Rect.unit (s := S4096) ![0] S2048.size inb_S4096_S2048_0) (fun _ => rfl)) : Memref sig .scVector .vmem S2048 .i32)).view.set]{fullShare} zc L zg k) ∗ ((z0V).view.loc (VT d L) ↦[((((z0V).slice (Rect.unit (s := S4096) ![2048] S2048.size inb_S4096_S2048_2048) (fun _ => rfl)) : Memref sig .scVector .vmem S2048 .i32)).view.set]{fullShare} zc L zg k) ∗ ((s0V).view.loc (VT d L) ↦{fullShare} scl L sg k) ∗ ((c0V).view.loc (VT d L) ↦{fullShare} cod L cg k)) from
      Entails.of_eq (by rw [show (Finset.univ : Finset (Fin 4)) = {0, 1, 2, 3} from by decide, bigSep_insert (by decide), bigSep_insert (by decide), bigSep_insert (by decide), bigSep_singleton]; rfl)) $$ HD
    icases HD with ⟨H0, H1, H2, H3⟩
    isplitl [H0 H1]
    · ihave H := (pointsTo_union (ℓ := (z0V).view.loc (VT d L)) (q := fullShare) (f := zc L zg k) (halves0_disj)).2 $$ [H0 H1]
      · isplitl [H0]; · iexact H0
        iexact H1
      iapply (Entails.of_eq (congrArg (fun S => ((z0V).view.loc (VT d L) ↦[S]{fullShare} zc L zg k : sProp 𝕄)) halves0_univ)) $$ H
    isplitl [H2]; · iexact H2
    isplitl [H3]; · iexact H3
    iexact Hsem
  · iexact HO

/-! ## Slot 1 -/

theorem halves1_disj : Disjoint ((((z1V).slice (Rect.unit (s := S4096) ![0] S2048.size inb_S4096_S2048_0) (fun _ => rfl)) : Memref sig .scVector .vmem S2048 .i32)).view.set ((((z1V).slice (Rect.unit (s := S4096) ![2048] S2048.size inb_S4096_S2048_2048) (fun _ => rfl)) : Memref sig .scVector .vmem S2048 .i32)).view.set := by
  rw [Finset.disjoint_left]
  intro j h0 h1
  have h0 := (half_set 0 inb_S4096_S2048_0 j).1 (by simpa only [Memref.view_slice, View.set_slice_whole] using h0)
  have h1 := (half_set 1 inb_S4096_S2048_2048 j).1 (by simpa only [Memref.view_slice, View.set_slice_whole] using h1)
  omega

theorem halves1_univ : ((((z1V).slice (Rect.unit (s := S4096) ![0] S2048.size inb_S4096_S2048_0) (fun _ => rfl)) : Memref sig .scVector .vmem S2048 .i32)).view.set ∪ ((((z1V).slice (Rect.unit (s := S4096) ![2048] S2048.size inb_S4096_S2048_2048) (fun _ => rfl)) : Memref sig .scVector .vmem S2048 .i32)).view.set = (Finset.univ : Finset S4096.Idx) := by
  ext j
  simp only [Finset.mem_union, Finset.mem_univ, iff_true]
  have hj : (j 0).val < 4096 := (j 0).isLt
  by_cases h : (j 0).val < 2048
  · left
    have := (half_set 0 inb_S4096_S2048_0 j).2 ⟨by omega, by omega⟩
    simpa only [Memref.view_slice, View.set_slice_whole] using this
  · right
    have := (half_set 1 inb_S4096_S2048_2048 j).2 ⟨by omega, by omega⟩
    simpa only [Memref.view_slice, View.set_slice_whole] using this

/-- What the batch of chunk `k` into slot 1 delivers: the chunk's words (two halves), scales and codes, in the slot's buffers. -/
def del1 (k : Nat) : Fin 4 → sProp 𝕄 :=
  ![iprop(((z1V).view.loc (VT d L) ↦[((((z1V).slice (Rect.unit (s := S4096) ![0] S2048.size inb_S4096_S2048_0) (fun _ => rfl)) : Memref sig .scVector .vmem S2048 .i32)).view.set]{fullShare} zc L zg k)),
    iprop(((z1V).view.loc (VT d L) ↦[((((z1V).slice (Rect.unit (s := S4096) ![2048] S2048.size inb_S4096_S2048_2048) (fun _ => rfl)) : Memref sig .scVector .vmem S2048 .i32)).view.set]{fullShare} zc L zg k)),
    iprop(((s1V).view.loc (VT d L) ↦{fullShare} scl L sg k)),
    iprop(((c1V).view.loc (VT d L) ↦{fullShare} cod L cg k))]

instance del1_storable (k : Nat) (t : Fin 4) : BI.Storable (upEmb : UEmb _ 𝕄) (del1 d L zg sg cg k t) := by
  unfold del1; fin_cases t <;> (simp only [Fin.mk_zero, Fin.zero_eta, Fin.mk_one, Fin.reduceFinMk, Matrix.cons_val]; infer_instance)

/-- The batch in flight for chunk `k` into slot 1. -/
def fly1 (k : Nat) : sProp 𝕄 := Transfers.Batch EC (VT d L) (.dma cc0_scratch9.sem) none 65536 (del1 d L zg sg cg k) 4 0

/-- Slot 1 free: its buffers at any contents, its cell at zero. -/
def free1 : sProp 𝕄 := iprop((∃ f, ((z1V).view.loc (VT d L) ↦{fullShare} f)) ∗ (∃ f, ((s1V).view.loc (VT d L) ↦{fullShare} f)) ∗ (∃ f, ((c1V).view.loc (VT d L) ↦{fullShare} f)) ∗ semVal (VT d L, .dma cc0_scratch9.sem) 0)

/-- Slot 1 landed: its buffers at chunk `k`'s words, scales and codes, its cell at zero. -/
def got1 (k : Nat) : sProp 𝕄 := iprop(((z1V).view.loc (VT d L) ↦{fullShare} zc L zg k) ∗ ((s1V).view.loc (VT d L) ↦{fullShare} scl L sg k) ∗ ((c1V).view.loc (VT d L) ↦{fullShare} cod L cg k) ∗ semVal (VT d L, .dma cc0_scratch9.sem) 0)

theorem lands1_0 {o : Fin 3 → Nat} (inb : ∀ a, o a + S1x1x2048.size a ≤ S18x16x65536.size a) (k : Nat) (ho : o = zoff L k 0) (fd : S4096.Idx → Elt F .i32) :
    (((z1V).view.loc (VT d L) ↦[((((z1V).slice (Rect.unit (s := S4096) ![0] S2048.size inb_S4096_S2048_0) (fun _ => rfl)) : Memref sig .scVector .vmem S2048 .i32)).view.set]{fullShare} (((((z1V).slice (Rect.unit (s := S4096) ![0] S2048.size inb_S4096_S2048_0) (fun _ => rfl)) : Memref sig .scVector .vmem S2048 .i32)).view.write (Elt F) fd ((((zV).slice (Rect.unit (s := S18x16x65536) o S1x1x2048.size inb) (fun _ => rfl)).squeeze S2048 squeezes_S1x1x2048_S2048).view.read (Elt F) zg) Finset.univ)) : sProp 𝕄)
      ⊢ del1 d L zg sg cg k 0 := by
  refine Entails.of_eq (pointsTo_congr fun j hj => ?_)
  obtain ⟨x, -, rfl⟩ := Finset.mem_map.mp hj
  refine (View.write_emb_of_mem (Val := Elt F) (v := ((((z1V).slice (Rect.unit (s := S4096) ![0] S2048.size inb_S4096_S2048_0) (fun _ => rfl)) : Memref sig .scVector .vmem S2048 .i32)).view) fd _ (Finset.mem_univ x)).trans ?_
  show zg ((((zV).slice (Rect.unit (s := S18x16x65536) o S1x1x2048.size inb) (fun _ => rfl)).squeeze S2048 squeezes_S1x1x2048_S2048).view.emb x) = zc L zg k (((((z1V).slice (Rect.unit (s := S4096) ![0] S2048.size inb_S4096_S2048_0) (fun _ => rfl)) : Memref sig .scVector .vmem S2048 .i32)).view.emb x)
  have hx : (x 0).val < 2048 := (x 0).isLt
  have e : ((((((z1V).slice (Rect.unit (s := S4096) ![0] S2048.size inb_S4096_S2048_0) (fun _ => rfl)) : Memref sig .scVector .vmem S2048 .i32)).view.emb x : S4096.Idx) 0).val = 0 + 1 * (x 0).val := rfl
  rw [zwin, ho]
  unfold zc
  rw [e, show (0 + 1 * (x 0).val) / 2048 = 0 by omega, show (0 + 1 * (x 0).val) % 2048 = (x 0).val by omega]

theorem lands1_1 {o : Fin 3 → Nat} (inb : ∀ a, o a + S1x1x2048.size a ≤ S18x16x65536.size a) (k : Nat) (ho : o = zoff L k 1) (fd : S4096.Idx → Elt F .i32) :
    (((z1V).view.loc (VT d L) ↦[((((z1V).slice (Rect.unit (s := S4096) ![2048] S2048.size inb_S4096_S2048_2048) (fun _ => rfl)) : Memref sig .scVector .vmem S2048 .i32)).view.set]{fullShare} (((((z1V).slice (Rect.unit (s := S4096) ![2048] S2048.size inb_S4096_S2048_2048) (fun _ => rfl)) : Memref sig .scVector .vmem S2048 .i32)).view.write (Elt F) fd ((((zV).slice (Rect.unit (s := S18x16x65536) o S1x1x2048.size inb) (fun _ => rfl)).squeeze S2048 squeezes_S1x1x2048_S2048).view.read (Elt F) zg) Finset.univ)) : sProp 𝕄)
      ⊢ del1 d L zg sg cg k 1 := by
  refine Entails.of_eq (pointsTo_congr fun j hj => ?_)
  obtain ⟨x, -, rfl⟩ := Finset.mem_map.mp hj
  refine (View.write_emb_of_mem (Val := Elt F) (v := ((((z1V).slice (Rect.unit (s := S4096) ![2048] S2048.size inb_S4096_S2048_2048) (fun _ => rfl)) : Memref sig .scVector .vmem S2048 .i32)).view) fd _ (Finset.mem_univ x)).trans ?_
  show zg ((((zV).slice (Rect.unit (s := S18x16x65536) o S1x1x2048.size inb) (fun _ => rfl)).squeeze S2048 squeezes_S1x1x2048_S2048).view.emb x) = zc L zg k (((((z1V).slice (Rect.unit (s := S4096) ![2048] S2048.size inb_S4096_S2048_2048) (fun _ => rfl)) : Memref sig .scVector .vmem S2048 .i32)).view.emb x)
  have hx : (x 0).val < 2048 := (x 0).isLt
  have e : ((((((z1V).slice (Rect.unit (s := S4096) ![2048] S2048.size inb_S4096_S2048_2048) (fun _ => rfl)) : Memref sig .scVector .vmem S2048 .i32)).view.emb x : S4096.Idx) 0).val = 2048 + 1 * (x 0).val := rfl
  rw [zwin, ho]
  unfold zc
  rw [e, show (2048 + 1 * (x 0).val) / 2048 = 1 by omega, show (2048 + 1 * (x 0).val) % 2048 = (x 0).val by omega]

theorem lands1_s {o : Fin 3 → Nat} (inb : ∀ a, o a + S1x1x2048.size a ≤ S18x4x65536.size a) (k : Nat) (ho : o = soff L k) (fd : S2048.Idx → Elt F .f32) :
    (((s1V).view.loc (VT d L) ↦{fullShare} ((s1V).view.write (Elt F) fd ((((sV).slice (Rect.unit (s := S18x4x65536) o S1x1x2048.size inb) (fun _ => rfl)).squeeze S2048 squeezes_S1x1x2048_S2048).view.read (Elt F) sg) Finset.univ)) : sProp 𝕄)
      ⊢ del1 d L zg sg cg k 2 := by
  refine Entails.of_eq (pointsTo_congr fun j hj => ?_)
  refine (View.write_emb_of_mem (Val := Elt F) (v := (s1V).view) fd _ (Finset.mem_univ (j : S2048.Idx))).trans ?_
  show sg ((((sV).slice (Rect.unit (s := S18x4x65536) o S1x1x2048.size inb) (fun _ => rfl)).squeeze S2048 squeezes_S1x1x2048_S2048).view.emb (j : S2048.Idx)) = scl L sg k j
  rw [swin, ho]
  rfl

theorem lands1_c {o : Fin 3 → Nat} (inb : ∀ a, o a + S1x1x2048.size a ≤ S18x4x65536.size a) (k : Nat) (ho : o = soff L k) (fd : S2048.Idx → Elt F .i32) :
    (((c1V).view.loc (VT d L) ↦{fullShare} ((c1V).view.write (Elt F) fd ((((kV).slice (Rect.unit (s := S18x4x65536) o S1x1x2048.size inb) (fun _ => rfl)).squeeze S2048 squeezes_S1x1x2048_S2048).view.read (Elt F) cg) Finset.univ)) : sProp 𝕄)
      ⊢ del1 d L zg sg cg k 3 := by
  refine Entails.of_eq (pointsTo_congr fun j hj => ?_)
  refine (View.write_emb_of_mem (Val := Elt F) (v := (c1V).view) fd _ (Finset.mem_univ (j : S2048.Idx))).trans ?_
  show cg ((((kV).slice (Rect.unit (s := S18x4x65536) o S1x1x2048.size inb) (fun _ => rfl)).squeeze S2048 squeezes_S1x1x2048_S2048).view.emb (j : S2048.Idx)) = cod L cg k j
  rw [cwin, ho]
  rfl

/-- The four transfers of chunk `k` issued into slot 1. -/
theorem issue1 (k : Nat) {o0 o1 o2 : Fin 3 → Nat} (inb0 : ∀ a, o0 a + S1x1x2048.size a ≤ S18x16x65536.size a) (inb1 : ∀ a, o1 a + S1x1x2048.size a ≤ S18x16x65536.size a)
    (inb2 inb3 : ∀ a, o2 a + S1x1x2048.size a ≤ S18x4x65536.size a) (h0 : o0 = zoff L k 0) (h1 : o1 = zoff L k 1) (h2 : o2 = soff L k)
    {a0 : (((zV).slice (Rect.unit (s := S18x16x65536) o0 S1x1x2048.size inb0) (fun _ => rfl)).squeeze S2048 squeezes_S1x1x2048_S2048).view.WordExact} {b0 : (((z1V).slice (Rect.unit (s := S4096) ![0] S2048.size inb_S4096_S2048_0) (fun _ => rfl)) : Memref sig .scVector .vmem S2048 .i32).view.WordExact} {t0 : DmaTarget.Typed (nD := nD) (p := (VT d L).2) .hbm (.dma cc0_scratch9.sem) (.here (((z1V).slice (Rect.unit (s := S4096) ![0] S2048.size inb_S4096_S2048_0) (fun _ => rfl)) : Memref sig .scVector .vmem S2048 .i32))}
    {a1 : (((zV).slice (Rect.unit (s := S18x16x65536) o1 S1x1x2048.size inb1) (fun _ => rfl)).squeeze S2048 squeezes_S1x1x2048_S2048).view.WordExact} {b1 : (((z1V).slice (Rect.unit (s := S4096) ![2048] S2048.size inb_S4096_S2048_2048) (fun _ => rfl)) : Memref sig .scVector .vmem S2048 .i32).view.WordExact} {t1 : DmaTarget.Typed (nD := nD) (p := (VT d L).2) .hbm (.dma cc0_scratch9.sem) (.here (((z1V).slice (Rect.unit (s := S4096) ![2048] S2048.size inb_S4096_S2048_2048) (fun _ => rfl)) : Memref sig .scVector .vmem S2048 .i32))}
    {a2 : (((sV).slice (Rect.unit (s := S18x4x65536) o2 S1x1x2048.size inb2) (fun _ => rfl)).squeeze S2048 squeezes_S1x1x2048_S2048).view.WordExact} {b2 : (s1V).view.WordExact} {t2 : DmaTarget.Typed (nD := nD) (p := (VT d L).2) .hbm (.dma cc0_scratch9.sem) (.here (s1V))}
    {a3 : (((kV).slice (Rect.unit (s := S18x4x65536) o2 S1x1x2048.size inb3) (fun _ => rfl)).squeeze S2048 squeezes_S1x1x2048_S2048).view.WordExact} {b3 : (c1V).view.WordExact} {t3 : DmaTarget.Typed (nD := nD) (p := (VT d L).2) .hbm (.dma cc0_scratch9.sem) (.here (c1V))}
    {β : Type} {kk : PUnit → Prog (TpuEff nD τ sig (Elt F) Λ₀ (VT d L).2) β} {Q : β → sProp 𝕄} :
    iprop(inp d L zg sg cg ∗ free1 (F := F) d L)
      ⊢ iprop((iprop(inp d L zg sg cg ∗ fly1 d L zg sg cg k) -∗ wp frame (wpE (defs₀ (F := F)) 𝒱₀ (VT d L) none) Set.univ (kk ⟨⟩) Q)
          -∗ wp frame (wpE (defs₀ (F := F)) 𝒱₀ (VT d L) none) Set.univ (Prog.lift (.enqueueDma (((zV).slice (Rect.unit (s := S18x16x65536) o0 S1x1x2048.size inb0) (fun _ => rfl)).squeeze S2048 squeezes_S1x1x2048_S2048) (.here (((z1V).slice (Rect.unit (s := S4096) ![0] S2048.size inb_S4096_S2048_0) (fun _ => rfl)) : Memref sig .scVector .vmem S2048 .i32)) (.dma cc0_scratch9.sem) a0 b0 t0) >>= fun _ =>
              Prog.lift (.enqueueDma (((zV).slice (Rect.unit (s := S18x16x65536) o1 S1x1x2048.size inb1) (fun _ => rfl)).squeeze S2048 squeezes_S1x1x2048_S2048) (.here (((z1V).slice (Rect.unit (s := S4096) ![2048] S2048.size inb_S4096_S2048_2048) (fun _ => rfl)) : Memref sig .scVector .vmem S2048 .i32)) (.dma cc0_scratch9.sem) a1 b1 t1) >>= fun _ =>
              Prog.lift (.enqueueDma (((sV).slice (Rect.unit (s := S18x4x65536) o2 S1x1x2048.size inb2) (fun _ => rfl)).squeeze S2048 squeezes_S1x1x2048_S2048) (.here (s1V)) (.dma cc0_scratch9.sem) a2 b2 t2) >>= fun _ =>
              Prog.lift (.enqueueDma (((kV).slice (Rect.unit (s := S18x4x65536) o2 S1x1x2048.size inb3) (fun _ => rfl)).squeeze S2048 squeezes_S1x1x2048_S2048) (.here (c1V)) (.dma cc0_scratch9.sem) a3 b3 t3) >>= kk) Q) := by
  unfold inp free1 fly1
  iintro ⟨⟨Hz, Hs, Hc⟩, ⟨%fz, Hzb⟩, ⟨%fs, Hsb⟩, ⟨%fc, Hcb⟩, Hsem⟩ Hk
  ihave Hzb := (Entails.of_eq (congrArg (fun S => ((z1V).view.loc (VT d L) ↦[S]{fullShare} fz : sProp 𝕄)) halves1_univ.symm)) $$ Hzb
  ihave Hzb := (pointsTo_union (halves1_disj)).1 $$ Hzb
  icases Hzb with ⟨Hz0, Hz1⟩
  imod (Transfers.batch_alloc' EC (VT d L) (none : HIx 1) 65536 (del1 d L zg sg cg k) (sm := .dma cc0_scratch9.sem) (E := Set.univ)) $$ Hsem with HB
  iapply (wp_issue d L (n := 4) (Dl := del1 d L zg sg cg k) (j := 0) (src := (((zV).slice (Rect.unit (s := S18x16x65536) o0 S1x1x2048.size inb0) (fun _ => rfl)).squeeze S2048 squeezes_S1x1x2048_S2048)) (dst := (((z1V).slice (Rect.unit (s := S4096) ![0] S2048.size inb_S4096_S2048_0) (fun _ => rfl)) : Memref sig .scVector .vmem S2048 .i32)) (fs := zg) (fd := fz) (Sd := ((((z1V).slice (Rect.unit (s := S4096) ![0] S2048.size inb_S4096_S2048_0) (fun _ => rfl)) : Memref sig .scVector .vmem S2048 .i32)).view.set) (N := 65536) rfl (Finset.Subset.refl _) (by decide) (lands1_0 d L zg sg cg inb0 k h0 fz)) $$ [Hz Hz0 HB]
  · isplitl [Hz]; · iexact Hz
    isplitl [Hz0]; · iexact Hz0
    iexact HB
  iintro ⟨Hz, HB⟩
  iapply (wp_issue d L (n := 4) (Dl := del1 d L zg sg cg k) (j := 1) (src := (((zV).slice (Rect.unit (s := S18x16x65536) o1 S1x1x2048.size inb1) (fun _ => rfl)).squeeze S2048 squeezes_S1x1x2048_S2048)) (dst := (((z1V).slice (Rect.unit (s := S4096) ![2048] S2048.size inb_S4096_S2048_2048) (fun _ => rfl)) : Memref sig .scVector .vmem S2048 .i32)) (fs := zg) (fd := fz) (Sd := ((((z1V).slice (Rect.unit (s := S4096) ![2048] S2048.size inb_S4096_S2048_2048) (fun _ => rfl)) : Memref sig .scVector .vmem S2048 .i32)).view.set) (N := 65536) rfl (Finset.Subset.refl _) (by decide) (lands1_1 d L zg sg cg inb1 k h1 fz)) $$ [Hz Hz1 HB]
  · isplitl [Hz]; · iexact Hz
    isplitl [Hz1]; · iexact Hz1
    iexact HB
  iintro ⟨Hz, HB⟩
  iapply (wp_issue d L (n := 4) (Dl := del1 d L zg sg cg k) (j := 2) (src := (((sV).slice (Rect.unit (s := S18x4x65536) o2 S1x1x2048.size inb2) (fun _ => rfl)).squeeze S2048 squeezes_S1x1x2048_S2048)) (dst := s1V) (fs := sg) (fd := fs) (Sd := Finset.univ) (N := 65536) rfl (Finset.subset_univ _) (by decide) (lands1_s d L zg sg cg inb2 k h2 fs)) $$ [Hs Hsb HB]
  · isplitl [Hs]; · iexact Hs
    isplitl [Hsb]; · iexact Hsb
    iexact HB
  iintro ⟨Hs, HB⟩
  iapply (wp_issue d L (n := 4) (Dl := del1 d L zg sg cg k) (j := 3) (src := (((kV).slice (Rect.unit (s := S18x4x65536) o2 S1x1x2048.size inb3) (fun _ => rfl)).squeeze S2048 squeezes_S1x1x2048_S2048)) (dst := c1V) (fs := cg) (fd := fc) (Sd := Finset.univ) (N := 65536) rfl (Finset.subset_univ _) (by decide) (lands1_c d L zg sg cg inb3 k h2 fc)) $$ [Hc Hcb HB]
  · isplitl [Hc]; · iexact Hc
    isplitl [Hcb]; · iexact Hcb
    iexact HB
  iintro ⟨Hc, HB⟩
  iapply Hk
  isplitl [Hz Hs Hc]
  · isplitl [Hz]; · iexact Hz
    isplitl [Hs]; · iexact Hs
    iexact Hc
  iexact HB

/-- The four waits of slot 1's batch. -/
theorem wait1 (k : Nat) {O : CellTallies nD τ sig (HIx 1)} {W₀ : Waits sig (HIx 1)} (hO : ∀ g, O g none = 0)
    {p0 p1 p2 p3 : Space} {y0 y1 y2 y3 : Shape} {e0 e1 e2 e3 : EltTy}
    {w0 : Memref sig .scVector p0 y0 e0} {w1 : Memref sig .scVector p1 y1 e1} {w2 : Memref sig .scVector p2 y2 e2} {w3 : Memref sig .scVector p3 y3 e3}
    {a0 : w0.view.WordExact} {b0 : (((z1V).slice (Rect.unit (s := S4096) ![0] S2048.size inb_S4096_S2048_0) (fun _ => rfl)) : Memref sig .scVector .vmem S2048 .i32).view.WordExact} {a1 : w1.view.WordExact} {b1 : (((z1V).slice (Rect.unit (s := S4096) ![2048] S2048.size inb_S4096_S2048_2048) (fun _ => rfl)) : Memref sig .scVector .vmem S2048 .i32).view.WordExact}
    {a2 : w2.view.WordExact} {b2 : (s1V).view.WordExact} {a3 : w3.view.WordExact} {b3 : (c1V).view.WordExact}
    {β : Type} {kk : PUnit → Prog (TpuEff nD τ sig (Elt F) Λ₀ (VT d L).2) β} {Q : β → sProp 𝕄} :
    iprop(levAts (K (F := F)).L (K (F := F)).lev ∗ fly1 d L zg sg cg k ∗ ow d L O W₀)
      ⊢ iprop((iprop(got1 d L zg sg cg k ∗ ow d L O W₀) -∗ wp frame (wpE (defs₀ (F := F)) 𝒱₀ (VT d L) none) Set.univ (kk ⟨⟩) Q)
          -∗ wp frame (wpE (defs₀ (F := F)) 𝒱₀ (VT d L) none) Set.univ (Prog.lift (.waitDma2 cc0_scratch9.sem w0 (((z1V).slice (Rect.unit (s := S4096) ![0] S2048.size inb_S4096_S2048_0) (fun _ => rfl)) : Memref sig .scVector .vmem S2048 .i32) a0 b0) >>= fun _ =>
              Prog.lift (.waitDma2 cc0_scratch9.sem w1 (((z1V).slice (Rect.unit (s := S4096) ![2048] S2048.size inb_S4096_S2048_2048) (fun _ => rfl)) : Memref sig .scVector .vmem S2048 .i32) a1 b1) >>= fun _ =>
              Prog.lift (.waitDma2 cc0_scratch9.sem w2 (s1V) a2 b2) >>= fun _ =>
              Prog.lift (.waitDma2 cc0_scratch9.sem w3 (c1V) a3 b3) >>= kk) Q) := by
  unfold fly1
  iintro ⟨#Hlv, HB, HO⟩ Hk
  iapply (wp_waitS d L hO (sem := cc0_scratch9.sem) (dstw := (((z1V).slice (Rect.unit (s := S4096) ![0] S2048.size inb_S4096_S2048_0) (fun _ => rfl)) : Memref sig .scVector .vmem S2048 .i32)) (n := 4) (u := 0) (N := 65536) rfl  (by decide)) $$ [HB HO]
  · isplitr; · iexact Hlv
    isplitl [HB]; · iexact HB
    iexact HO
  iintro ⟨HB, HO⟩
  iapply (wp_waitS d L hO (sem := cc0_scratch9.sem) (dstw := (((z1V).slice (Rect.unit (s := S4096) ![2048] S2048.size inb_S4096_S2048_2048) (fun _ => rfl)) : Memref sig .scVector .vmem S2048 .i32)) (n := 4) (u := 65536) (N := 65536) rfl  (by decide)) $$ [HB HO]
  · isplitr; · iexact Hlv
    isplitl [HB]; · iexact HB
    iexact HO
  iintro ⟨HB, HO⟩
  iapply (wp_waitS d L hO (sem := cc0_scratch9.sem) (dstw := s1V) (n := 4) (u := 131072) (N := 65536) rfl  (by decide)) $$ [HB HO]
  · isplitr; · iexact Hlv
    isplitl [HB]; · iexact HB
    iexact HO
  iintro ⟨HB, HO⟩
  iapply (wp_waitL d L hO (sem := cc0_scratch9.sem) (dstw := c1V) (n := 4) (u := 196608) (N := 65536) rfl (by decide) (by decide)) $$ [HB HO]
  · isplitr; · iexact Hlv
    isplitl [HB]; · iexact HB
    iexact HO
  iintro ⟨HD, Hsem, HO⟩
  iapply Hk
  isplitr [HO]
  · unfold got1
    ihave HD := (show bigSep Finset.univ (del1 d L zg sg cg k) ⊢ iprop(((z1V).view.loc (VT d L) ↦[((((z1V).slice (Rect.unit (s := S4096) ![0] S2048.size inb_S4096_S2048_0) (fun _ => rfl)) : Memref sig .scVector .vmem S2048 .i32)).view.set]{fullShare} zc L zg k) ∗ ((z1V).view.loc (VT d L) ↦[((((z1V).slice (Rect.unit (s := S4096) ![2048] S2048.size inb_S4096_S2048_2048) (fun _ => rfl)) : Memref sig .scVector .vmem S2048 .i32)).view.set]{fullShare} zc L zg k) ∗ ((s1V).view.loc (VT d L) ↦{fullShare} scl L sg k) ∗ ((c1V).view.loc (VT d L) ↦{fullShare} cod L cg k)) from
      Entails.of_eq (by rw [show (Finset.univ : Finset (Fin 4)) = {0, 1, 2, 3} from by decide, bigSep_insert (by decide), bigSep_insert (by decide), bigSep_insert (by decide), bigSep_singleton]; rfl)) $$ HD
    icases HD with ⟨H0, H1, H2, H3⟩
    isplitl [H0 H1]
    · ihave H := (pointsTo_union (ℓ := (z1V).view.loc (VT d L)) (q := fullShare) (f := zc L zg k) (halves1_disj)).2 $$ [H0 H1]
      · isplitl [H0]; · iexact H0
        iexact H1
      iapply (Entails.of_eq (congrArg (fun S => ((z1V).view.loc (VT d L) ↦[S]{fullShare} zc L zg k : sProp 𝕄)) halves1_univ)) $$ H
    isplitl [H2]; · iexact H2
    isplitl [H3]; · iexact H3
    iexact Hsem
  · iexact HO

end Cert.Proof.SumsI
-- ==== Proof.TripI.lean ====
/-
  The loop over a task's chunks: one trip, and the whole.
-/
module

public import proofs.«01_k».proof.Proof.FetchI
public import proofs.«01_k».proof.Proof.LoopsI

@[expose] public section

noncomputable section

namespace Cert.Proof.SumsI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.KernelIdeal.main_arg0_scv : Memref Cert.KernelIdeal.sig Kind.scVector Space.hbm Cert.KernelIdeal.S18x16x65536 EltTy.i32)
local notation "sV" => (Memref.whole Cert.KernelIdeal.main_v0_scv : Memref Cert.KernelIdeal.sig Kind.scVector Space.hbm Cert.KernelIdeal.S18x4x65536 EltTy.f32)
local notation "kV" => (Memref.whole Cert.KernelIdeal.main_v1_scv : Memref Cert.KernelIdeal.sig Kind.scVector Space.hbm Cert.KernelIdeal.S18x4x65536 EltTy.i32)
local notation "pV" => (Memref.whole Cert.KernelIdeal.main_v2_0_scv : Memref Cert.KernelIdeal.sig Kind.scVector Space.hbm Cert.KernelIdeal.S4x64x8192 EltTy.f32)
local notation "nV" => (Memref.whole Cert.KernelIdeal.main_v2_1_scv : Memref Cert.KernelIdeal.sig Kind.scVector Space.hbm Cert.KernelIdeal.S4x8x8192 EltTy.f32)
local notation "tabV" => (Memref.whole Cert.KernelIdeal.cc0_scratch0 : Memref Cert.KernelIdeal.sig Kind.scVector Space.vmem Cert.KernelIdeal.S65536 EltTy.f32)
local notation "cntV" => (Memref.whole Cert.KernelIdeal.cc0_scratch1 : Memref Cert.KernelIdeal.sig Kind.scVector Space.vmem Cert.KernelIdeal.S8192 EltTy.f32)
local notation "z0V" => (Memref.whole Cert.KernelIdeal.cc0_scratch2 : Memref Cert.KernelIdeal.sig Kind.scVector Space.vmem Cert.KernelIdeal.S4096 EltTy.i32)
local notation "z1V" => (Memref.whole Cert.KernelIdeal.cc0_scratch3 : Memref Cert.KernelIdeal.sig Kind.scVector Space.vmem Cert.KernelIdeal.S4096 EltTy.i32)
local notation "s0V" => (Memref.whole Cert.KernelIdeal.cc0_scratch4 : Memref Cert.KernelIdeal.sig Kind.scVector Space.vmem Cert.KernelIdeal.S2048 EltTy.f32)
local notation "s1V" => (Memref.whole Cert.KernelIdeal.cc0_scratch5 : Memref Cert.KernelIdeal.sig Kind.scVector Space.vmem Cert.KernelIdeal.S2048 EltTy.f32)
local notation "c0V" => (Memref.whole Cert.KernelIdeal.cc0_scratch6 : Memref Cert.KernelIdeal.sig Kind.scVector Space.vmem Cert.KernelIdeal.S2048 EltTy.i32)
local notation "c1V" => (Memref.whole Cert.KernelIdeal.cc0_scratch7 : Memref Cert.KernelIdeal.sig Kind.scVector Space.vmem Cert.KernelIdeal.S2048 EltTy.i32)

variable [FloatOps F]

variable (d : Dev nD) (L : grid0.Coords)
variable (zg : S18x16x65536.Idx → Elt F .i32) (sg : S18x4x65536.Idx → Elt F .f32) (cg : S18x4x65536.Idx → Elt F .i32)

/-- The running table before trip `t`: zero, then chunks `0, 1, …, 2 t - 1` added. -/
def tabAt : Nat → S65536.Idx → Elt F .f32
  | 0 => fun _ => Scalar.ofBits .f32 0x00000000#32
  | t + 1 => chunkT (zc L zg (2 * t + 1)) (scl L sg (2 * t + 1)) (cod L cg (2 * t + 1)) 128
      (chunkT (zc L zg (2 * t)) (scl L sg (2 * t)) (cod L cg (2 * t)) 128 (tabAt t))

/-- The running counts before trip `t`: zero, then chunks `0, 2, …, 2 t - 2` counted. -/
def cntAt : Nat → S8192.Idx → Elt F .f32
  | 0 => fun _ => Scalar.ofBits .f32 0x00000000#32
  | t + 1 => chunkC (cod L cg (2 * t)) 128 (cntAt t)

/-- Slot 0 before trip `t`: chunk `2 t` in flight, or free after the last. -/
def slot0 (t : Nat) : sProp 𝕄 := if t < 72 then fly0 d L zg sg cg (2 * t) else free0 (F := F) d L

def inv3 (O : CellTallies nD τ sig (HIx 1)) (W₀ : Waits sig (HIx 1)) (t : Nat) : sProp 𝕄 :=
  iprop(levAts (K (F := F)).L (K (F := F)).lev ∗ inp d L zg sg cg ∗ ((tabV).view.loc (VT d L) ↦{fullShare} tabAt L zg sg cg t) ∗ ((cntV).view.loc (VT d L) ↦{fullShare} cntAt L cg t) ∗ free1 (F := F) d L
    ∗ slot0 d L zg sg cg t ∗ ow d L O W₀)

theorem lt3 (k : Fin k0_t3_loop.trips) : k.val < 72 := lt_of_lt_of_le k.isLt k0_t3_abs.2.1

set_option maxRecDepth 16384 in
/-- One trip of the chunk loop. -/
theorem trip3 {O : CellTallies nD τ sig (HIx 1)} {W₀ : Waits sig (HIx 1)} (hO : ∀ g, O g none = 0) (hc : ∀ k j, (cod L cg k j).toNat < 8192)
    (v18 v45 v55 v58 c0_i32_48 : BitVec 32) (t : Fin k0_t3_loop.trips) (x : Unit) :
    inv3 d L zg sg cg O W₀ t.val
      ⊢ wp frame (wpE (defs₀ (F := F)) 𝒱₀ (VT d L) none) Set.univ ((k0_t3_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48) t x) (fun _ => inv3 d L zg sg cg O W₀ (t.val + 1)) := by
  have ht := lt3 t
  unfold inv3 slot0
  rw [if_pos ht]
  unfold k0_t3_body
  rw [k0_part4_eq_skeleton, k0_part5_eq_skeleton, k0_part6_eq_skeleton, k0_part7_eq_skeleton]
  unfold k0_part4_skel k0_part5_skel k0_part6_skel k0_part7_skel
  simp only [bind_assoc, pure_bind]
  iintro ⟨#Hlv, Hi, Ht, Hn, Hf, Hy, HO⟩
  iapply (issue1 d L zg sg cg (2 * t.val + 1) (k0_off5_inb L t 0) (k0_off5_inb L t 1) (k0_off6_inb L t) (k0_off6_inb L t) (off5_eq L t 0) (off5_eq L t 1) (off6_eq L t)) $$ [Hi Hf]
  · isplitl [Hi]; · iexact Hi
    iexact Hf
  iintro ⟨Hi, Hy1⟩
  iapply (wait0 d L zg sg cg (2 * t.val) hO) $$ [Hy HO]
  · isplitr; · iexact Hlv
    isplitl [Hy]; · iexact Hy
    iexact HO
  iintro ⟨Hg, HO⟩
  unfold got0
  icases Hg with ⟨Hz, Hs, Hc, Hsem⟩
  iapply (loop4 d L v18 v55 v58 t _ _ _ _ _ (tabAt L zg sg cg t.val) (cntAt L cg t.val) (zc L zg (2 * t.val)) (scl L sg (2 * t.val)) (cod L cg (2 * t.val)) (hc _)) $$ [Ht Hn Hz Hs Hc]
  · isplitl [Ht]; · iexact Ht
    isplitl [Hn]; · iexact Hn
    isplitl [Hz]; · iexact Hz
    isplitl [Hs]; · iexact Hs
    iexact Hc
  iintro ⟨Ht, Hn, Hz, Hs, Hc⟩
  by_cases h1 : k0_cond1 t = 1#1
  · have ht1 := (cond1_iff t).1 h1
    rw [if_pos ht1]
    simp only [dif_pos h1, bind_assoc, pure_bind]
    iapply (issue0 d L zg sg cg (2 * (t.val + 1)) (k0_off11_inb L t h1 0) (k0_off11_inb L t h1 1) (k0_off12_inb L t h1) (k0_off12_inb L t h1) (off11_eq L t 0) (off11_eq L t 1) (off12_eq L t)) $$ [Hi Hz Hs Hc Hsem]
    · isplitl [Hi]; · iexact Hi
      unfold free0
      isplitl [Hz]; · iexists _; iexact Hz
      isplitl [Hs]; · iexists _; iexact Hs
      isplitl [Hc]; · iexists _; iexact Hc
      iexact Hsem
    iintro ⟨Hi, Hy⟩
    iapply (wait1 d L zg sg cg (2 * t.val + 1) hO) $$ [Hy1 HO]
    · isplitr; · iexact Hlv
      isplitl [Hy1]; · iexact Hy1
      iexact HO
    iintro ⟨Hg, HO⟩
    unfold got1
    icases Hg with ⟨Hz1, Hs1, Hc1, Hsem1⟩
    iapply (loop5 d L v18 v45 v55 v58 _ (chunkT (zc L zg (2 * t.val)) (scl L sg (2 * t.val)) (cod L cg (2 * t.val)) 128 (tabAt L zg sg cg t.val)) (zc L zg (2 * t.val + 1)) (scl L sg (2 * t.val + 1)) (cod L cg (2 * t.val + 1)) (hc _)) $$ [Ht Hz1 Hs1 Hc1]
    · isplitl [Ht]; · iexact Ht
      isplitl [Hz1]; · iexact Hz1
      isplitl [Hs1]; · iexact Hs1
      iexact Hc1
    iintro ⟨Ht, Hz1, Hs1, Hc1⟩
    sl_step
    isplitr; · iexact Hlv
    isplitl [Hi]; · iexact Hi
    isplitl [Ht]; · iexact Ht
    isplitl [Hn]; · iexact Hn
    isplitl [Hz1 Hs1 Hc1 Hsem1]
    · unfold free1
      isplitl [Hz1]; · iexists _; iexact Hz1
      isplitl [Hs1]; · iexists _; iexact Hs1
      isplitl [Hc1]; · iexists _; iexact Hc1
      iexact Hsem1
    isplitr [HO]; swap; · iexact HO
    iexact Hy
  · have ht1 : ¬ t.val + 1 < 72 := fun h => h1 ((cond1_iff t).2 h)
    rw [if_neg ht1]
    simp only [dif_neg h1, bind_assoc, pure_bind]
    iapply (wait1 d L zg sg cg (2 * t.val + 1) hO) $$ [Hy1 HO]
    · isplitr; · iexact Hlv
      isplitl [Hy1]; · iexact Hy1
      iexact HO
    iintro ⟨Hg, HO⟩
    unfold got1
    icases Hg with ⟨Hz1, Hs1, Hc1, Hsem1⟩
    iapply (loop5 d L v18 v45 v55 v58 _ (chunkT (zc L zg (2 * t.val)) (scl L sg (2 * t.val)) (cod L cg (2 * t.val)) 128 (tabAt L zg sg cg t.val)) (zc L zg (2 * t.val + 1)) (scl L sg (2 * t.val + 1)) (cod L cg (2 * t.val + 1)) (hc _)) $$ [Ht Hz1 Hs1 Hc1]
    · isplitl [Ht]; · iexact Ht
      isplitl [Hz1]; · iexact Hz1
      isplitl [Hs1]; · iexact Hs1
      iexact Hc1
    iintro ⟨Ht, Hz1, Hs1, Hc1⟩
    sl_step
    isplitr; · iexact Hlv
    isplitl [Hi]; · iexact Hi
    isplitl [Ht]; · iexact Ht
    isplitl [Hn]; · iexact Hn
    isplitl [Hz1 Hs1 Hc1 Hsem1]
    · unfold free1
      isplitl [Hz1]; · iexists _; iexact Hz1
      isplitl [Hs1]; · iexists _; iexact Hs1
      isplitl [Hc1]; · iexists _; iexact Hc1
      iexact Hsem1
    isplitr [HO]; swap; · iexact HO
    unfold free0
    isplitl [Hz]; · iexists _; iexact Hz
    isplitl [Hs]; · iexists _; iexact Hs
    isplitl [Hc]; · iexists _; iexact Hc
    iexact Hsem

set_option maxRecDepth 16384 in
/-- The chunk loop. -/
theorem loop3 {O : CellTallies nD τ sig (HIx 1)} {W₀ : Waits sig (HIx 1)} (hO : ∀ g, O g none = 0) (hc : ∀ k j, (cod L cg k j).toNat < 8192)
    (v18 v45 v55 v58 c0_i32_48 : BitVec 32) {β : Type} {kk : PUnit → Prog (TpuEff nD τ sig (Elt F) Λ₀ (VT d L).2) β} {Q : β → sProp 𝕄} :
    inv3 d L zg sg cg O W₀ 0
      ⊢ iprop((inv3 d L zg sg cg O W₀ 72 -∗ wp frame (wpE (defs₀ (F := F)) 𝒱₀ (VT d L) none) Set.univ (kk ⟨⟩) Q) -∗ wp frame (wpE (defs₀ (F := F)) 𝒱₀ (VT d L) none) Set.univ (Scf.Loop.for k0_t3_loop k0_t3_ok ⟨⟩ (k0_t3_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48) >>= kk) Q) := by
  iintro H Hk
  iapply (Scf.wp_for_bind frame (wpE (defs₀ (F := F)) 𝒱₀ (VT d L) none) Set.univ _ _ _ k0_t3_ok ⟨⟩ (k0_t3_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48)
    (fun n _ => inv3 d L zg sg cg O W₀ n) (trip3 d L zg sg cg hO hc v18 v45 v55 v58 c0_i32_48)) $$ [H]
  · iexact H
  iintro %_ H
  rw [show Scf.trips k0_t3_loop.lb k0_t3_loop.ub k0_t3_loop.st = 72 from by decide +kernel]
  iapply Hk $$ H

end Cert.Proof.SumsI
-- ==== Proof.OutI.lean ====
/-
  What a task writes and where: the results as functions of the inputs, the rows copied out.
-/
module

public import proofs.«01_k».proof.Proof.TripI

@[expose] public section

noncomputable section

namespace Cert.Proof.SumsI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.KernelIdeal.main_arg0_scv : Memref Cert.KernelIdeal.sig Kind.scVector Space.hbm Cert.KernelIdeal.S18x16x65536 EltTy.i32)
local notation "sV" => (Memref.whole Cert.KernelIdeal.main_v0_scv : Memref Cert.KernelIdeal.sig Kind.scVector Space.hbm Cert.KernelIdeal.S18x4x65536 EltTy.f32)
local notation "kV" => (Memref.whole Cert.KernelIdeal.main_v1_scv : Memref Cert.KernelIdeal.sig Kind.scVector Space.hbm Cert.KernelIdeal.S18x4x65536 EltTy.i32)
local notation "pV" => (Memref.whole Cert.KernelIdeal.main_v2_0_scv : Memref Cert.KernelIdeal.sig Kind.scVector Space.hbm Cert.KernelIdeal.S4x64x8192 EltTy.f32)
local notation "nV" => (Memref.whole Cert.KernelIdeal.main_v2_1_scv : Memref Cert.KernelIdeal.sig Kind.scVector Space.hbm Cert.KernelIdeal.S4x8x8192 EltTy.f32)
local notation "tabV" => (Memref.whole Cert.KernelIdeal.cc0_scratch0 : Memref Cert.KernelIdeal.sig Kind.scVector Space.vmem Cert.KernelIdeal.S65536 EltTy.f32)
local notation "cntV" => (Memref.whole Cert.KernelIdeal.cc0_scratch1 : Memref Cert.KernelIdeal.sig Kind.scVector Space.vmem Cert.KernelIdeal.S8192 EltTy.f32)
local notation "z0V" => (Memref.whole Cert.KernelIdeal.cc0_scratch2 : Memref Cert.KernelIdeal.sig Kind.scVector Space.vmem Cert.KernelIdeal.S4096 EltTy.i32)
local notation "z1V" => (Memref.whole Cert.KernelIdeal.cc0_scratch3 : Memref Cert.KernelIdeal.sig Kind.scVector Space.vmem Cert.KernelIdeal.S4096 EltTy.i32)
local notation "s0V" => (Memref.whole Cert.KernelIdeal.cc0_scratch4 : Memref Cert.KernelIdeal.sig Kind.scVector Space.vmem Cert.KernelIdeal.S2048 EltTy.f32)
local notation "s1V" => (Memref.whole Cert.KernelIdeal.cc0_scratch5 : Memref Cert.KernelIdeal.sig Kind.scVector Space.vmem Cert.KernelIdeal.S2048 EltTy.f32)
local notation "c0V" => (Memref.whole Cert.KernelIdeal.cc0_scratch6 : Memref Cert.KernelIdeal.sig Kind.scVector Space.vmem Cert.KernelIdeal.S2048 EltTy.i32)
local notation "c1V" => (Memref.whole Cert.KernelIdeal.cc0_scratch7 : Memref Cert.KernelIdeal.sig Kind.scVector Space.vmem Cert.KernelIdeal.S2048 EltTy.i32)

variable [FloatOps F]

variable (d : Dev nD) (L : grid0.Coords)
variable (zg : S18x16x65536.Idx → Elt F .i32) (sg : S18x4x65536.Idx → Elt F .f32) (cg : S18x4x65536.Idx → Elt F .i32)

/-! ## Where a task writes -/

theorem off16_eq : ∀ (i : grid0.Coords) (r : Fin 8), k0_off16 i (BitVec.ofNat 32 r.val) = ![(i 1).val / 4, (i 1).val % 4 * 16 + (i 0).val * 8 + r.val, 0] := by decide +kernel
theorem off17_eq : ∀ (i : grid0.Coords), k0_off17 i = ![(i 1).val % 4, (i 1).val / 4 * 2 + (i 0).val, 0] := by decide +kernel

/-- The task of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The task that writes element `j` of the sums. -/
def taskP (j : S4x64x8192.Idx) : grid0.Coords :=
  coordsV ⟨(j 1).val / 8 % 2, by show _ < 2; omega⟩ ⟨((j 0).val * 4 + (j 1).val / 16) % 16, by show _ < 16; omega⟩
/-- The task that writes element `j` of the counts. -/
def taskN (j : S4x8x8192.Idx) : grid0.Coords :=
  coordsV ⟨(j 1).val % 2, by show _ < 2; omega⟩ ⟨((j 1).val / 2 * 4 + (j 0).val) % 16, by show _ < 16; omega⟩

/-- The sums the call leaves: channel `ch` of a task's eight is block `ch` of its table. -/
def psumRes : S4x64x8192.Idx → Elt F .f32 :=
  fun j => tabAt (taskP j) zg sg cg 72 (fun a => ⟨((j 1).val % 8 * 8192 + (j 2).val) % 65536, by fin_cases a; show _ < 65536; omega⟩)
/-- The counts the call leaves. -/
def pcntRes : S4x8x8192.Idx → Elt F .f32 :=
  fun j => cntAt (taskN j) cg 72 (fun a => ⟨(j 2).val % 8192, by fin_cases a; show _ < 8192; omega⟩)

/-- Row `r` of a task's eight rows of the sums; all eight; its row of the counts. -/
def psRow (r : Nat) : Finset S4x64x8192.Idx :=
  Finset.univ.filter fun j => (j 0).val = (L 1).val / 4 ∧ (j 1).val = (L 1).val % 4 * 16 + (L 0).val * 8 + r
def psSet : Finset S4x64x8192.Idx :=
  Finset.univ.filter fun j => (j 0).val = (L 1).val / 4 ∧ (j 1).val / 8 = (L 1).val % 4 * 2 + (L 0).val
def pnSet : Finset S4x8x8192.Idx :=
  Finset.univ.filter fun j => (j 0).val = (L 1).val % 4 ∧ (j 1).val = (L 1).val / 4 * 2 + (L 0).val

theorem L0 : (L 0).val < 2 := (L 0).isLt
theorem L1 : (L 1).val < 16 := (L 1).isLt

theorem coords_ext {L M : grid0.Coords} (h0 : (L 0).val = (M 0).val) (h1 : (L 1).val = (M 1).val) : L = M := by
  funext a
  match a with
  | 0 => exact Fin.ext h0
  | 1 => exact Fin.ext h1
  | ⟨_ + 2, h⟩ => exact absurd h (Nat.not_lt.2 (Nat.le_add_left _ _))

theorem resh8 (h : S8192.numel = S1x1x8192.numel) (x : S8192.Idx) (a : Fin 3) :
    ((Shape.reshapeEquiv h x : S1x1x8192.Idx) a).val = (![0, 0, (x 0).val] : Fin 3 → Nat) a := by
  have e : Shape.reshapeEquiv h x = (fun a => ⟨(![0, 0, (x 0).val] : Fin 3 → Nat) a, by fin_cases a; exacts [Nat.one_pos, Nat.one_pos, (x 0).isLt]⟩ : S1x1x8192.Idx) := by
    refine Shape.reshapeEquiv_eq_of_rowMajor h ?_
    rw [Shape.rowMajor_val_three, Shape.rowMajor_val_one]
    simp
  rw [e]

theorem pemb {o : Fin 3 → Nat} (inb : ∀ a, o a + S1x1x8192.size a ≤ S4x64x8192.size a) (x : S8192.Idx) (a : Fin 3) :
    ((((pV).slice (Rect.unit (s := S4x64x8192) o S1x1x8192.size inb) (fun _ => rfl)).squeeze S8192 squeezes_S1x1x8192_S8192).view.emb x a).val = o a + (![0, 0, (x 0).val] : Fin 3 → Nat) a := by
  show o a + 1 * ((Shape.reshapeEquiv _ x : S1x1x8192.Idx) a).val = _
  rw [resh8, Nat.one_mul]

theorem pset {o : Fin 3 → Nat} (inb : ∀ a, o a + S1x1x8192.size a ≤ S4x64x8192.size a) (r : Nat) (ho : o = ![(L 1).val / 4, (L 1).val % 4 * 16 + (L 0).val * 8 + r, 0]) :
    (((pV).slice (Rect.unit (s := S4x64x8192) o S1x1x8192.size inb) (fun _ => rfl)).squeeze S8192 squeezes_S1x1x8192_S8192).view.set = psRow L r := by
  ext j
  unfold psRow
  rw [Finset.mem_filter]
  constructor
  · intro h
    obtain ⟨x, -, rfl⟩ := Finset.mem_map.mp h
    have e0 := pemb inb x 0; have e1 := pemb inb x 1
    refine ⟨Finset.mem_univ _, e0.trans ?_, e1.trans ?_⟩ <;> rw [ho] <;> rfl
  · rintro ⟨-, h0, h1⟩
    have h2 : (j 2).val < 8192 := (j 2).isLt
    refine Finset.mem_map.mpr ⟨fun a => ⟨(j 2).val, by fin_cases a; exact h2⟩, Finset.mem_univ _, ?_⟩
    funext a; apply Fin.ext
    refine (pemb inb _ a).trans ?_
    subst ho
    fin_cases a
    · exact h0.symm
    · exact h1.symm
    · exact Nat.zero_add _

theorem nemb {o : Fin 3 → Nat} (inb : ∀ a, o a + S1x1x8192.size a ≤ S4x8x8192.size a) (x : S8192.Idx) (a : Fin 3) :
    ((((nV).slice (Rect.unit (s := S4x8x8192) o S1x1x8192.size inb) (fun _ => rfl)).squeeze S8192 squeezes_S1x1x8192_S8192).view.emb x a).val = o a + (![0, 0, (x 0).val] : Fin 3 → Nat) a := by
  show o a + 1 * ((Shape.reshapeEquiv _ x : S1x1x8192.Idx) a).val = _
  rw [resh8, Nat.one_mul]

theorem nset {o : Fin 3 → Nat} (inb : ∀ a, o a + S1x1x8192.size a ≤ S4x8x8192.size a) (ho : o = ![(L 1).val % 4, (L 1).val / 4 * 2 + (L 0).val, 0]) :
    (((nV).slice (Rect.unit (s := S4x8x8192) o S1x1x8192.size inb) (fun _ => rfl)).squeeze S8192 squeezes_S1x1x8192_S8192).view.set = pnSet L := by
  ext j
  unfold pnSet
  rw [Finset.mem_filter]
  constructor
  · intro h
    obtain ⟨x, -, rfl⟩ := Finset.mem_map.mp h
    have e0 := nemb inb x 0; have e1 := nemb inb x 1
    refine ⟨Finset.mem_univ _, e0.trans ?_, e1.trans ?_⟩ <;> rw [ho] <;> rfl
  · rintro ⟨-, h0, h1⟩
    have h2 : (j 2).val < 8192 := (j 2).isLt
    refine Finset.mem_map.mpr ⟨fun a => ⟨(j 2).val, by fin_cases a; exact h2⟩, Finset.mem_univ _, ?_⟩
    funext a; apply Fin.ext
    refine (nemb inb _ a).trans ?_
    subst ho
    fin_cases a
    · exact h0.symm
    · exact h1.symm
    · exact Nat.zero_add _

theorem landsP {o : Fin 3 → Nat} {so : Fin 1 → Nat} (inb : ∀ a, o a + S1x1x8192.size a ≤ S4x64x8192.size a) (inbs : ∀ a, so a + S8192.size a ≤ S65536.size a) (r : Nat) (hr : r < 8) (ho : o = ![(L 1).val / 4, (L 1).val % 4 * 16 + (L 0).val * 8 + r, 0]) (hso : so = ![8192 * r]) {ft : S65536.Idx → Elt F .f32} (hft : ft = tabAt L zg sg cg 72) (fd : S4x64x8192.Idx → Elt F .f32) (j : S4x64x8192.Idx) (hj : j ∈ (((pV).slice (Rect.unit (s := S4x64x8192) o S1x1x8192.size inb) (fun _ => rfl)).squeeze S8192 squeezes_S1x1x8192_S8192).view.set) :
    (((pV).slice (Rect.unit (s := S4x64x8192) o S1x1x8192.size inb) (fun _ => rfl)).squeeze S8192 squeezes_S1x1x8192_S8192).view.write (Elt F) fd (((tabV).slice (Rect.unit (s := S65536) so S8192.size inbs) (fun _ => rfl)).view.read (Elt F) ft) Finset.univ j = psumRes zg sg cg j := by
  obtain ⟨x, -, rfl⟩ := Finset.mem_map.mp hj
  refine (View.write_emb_of_mem (Val := Elt F) (v := (((pV).slice (Rect.unit (s := S4x64x8192) o S1x1x8192.size inb) (fun _ => rfl)).squeeze S8192 squeezes_S1x1x8192_S8192).view) fd _ (Finset.mem_univ x)).trans ?_
  show ft (((tabV).slice (Rect.unit (s := S65536) so S8192.size inbs) (fun _ => rfl)).view.emb x) = psumRes zg sg cg ((((pV).slice (Rect.unit (s := S4x64x8192) o S1x1x8192.size inb) (fun _ => rfl)).squeeze S8192 squeezes_S1x1x8192_S8192).view.emb x)
  have hx : (x 0).val < 8192 := (x 0).isLt
  have e0 := pemb inb x 0; have e1 := pemb inb x 1; have e2 := pemb inb x 2
  have es : ((((tabV).slice (Rect.unit (s := S65536) so S8192.size inbs) (fun _ => rfl)).view.emb x : S65536.Idx) 0).val = so 0 + 1 * (x 0).val := rfl
  subst ho hso hft
  have h0 := L0 L; have h1 := L1 L
  simp only [Matrix.cons_val] at e0 e1 e2 es
  unfold psumRes
  have hT : taskP ((((pV).slice (Rect.unit (s := S4x64x8192) _ S1x1x8192.size inb) (fun _ => rfl)).squeeze S8192 squeezes_S1x1x8192_S8192).view.emb x) = L := by
    refine coords_ext ?_ ?_
    · show _ / 8 % 2 = _; rw [e1]; omega
    · show (_ * 4 + _ / 16) % 16 = _; rw [e0, e1]; omega
  rw [hT]
  congr 1
  funext a; fin_cases a; apply Fin.ext
  refine es.trans ?_
  show _ = (_ % 8 * 8192 + _) % 65536
  rw [e1, e2]; omega

theorem landsN {o : Fin 3 → Nat} (inb : ∀ a, o a + S1x1x8192.size a ≤ S4x8x8192.size a) (ho : o = ![(L 1).val % 4, (L 1).val / 4 * 2 + (L 0).val, 0]) {fn : S8192.Idx → Elt F .f32} (hfn : fn = cntAt L cg 72) (fd : S4x8x8192.Idx → Elt F .f32) (j : S4x8x8192.Idx) (hj : j ∈ (((nV).slice (Rect.unit (s := S4x8x8192) o S1x1x8192.size inb) (fun _ => rfl)).squeeze S8192 squeezes_S1x1x8192_S8192).view.set) :
    (((nV).slice (Rect.unit (s := S4x8x8192) o S1x1x8192.size inb) (fun _ => rfl)).squeeze S8192 squeezes_S1x1x8192_S8192).view.write (Elt F) fd ((cntV).view.read (Elt F) fn) Finset.univ j = pcntRes cg j := by
  obtain ⟨x, -, rfl⟩ := Finset.mem_map.mp hj
  refine (View.write_emb_of_mem (Val := Elt F) (v := (((nV).slice (Rect.unit (s := S4x8x8192) o S1x1x8192.size inb) (fun _ => rfl)).squeeze S8192 squeezes_S1x1x8192_S8192).view) fd _ (Finset.mem_univ x)).trans ?_
  show fn x = pcntRes cg ((((nV).slice (Rect.unit (s := S4x8x8192) o S1x1x8192.size inb) (fun _ => rfl)).squeeze S8192 squeezes_S1x1x8192_S8192).view.emb x)
  have hx : (x 0).val < 8192 := (x 0).isLt
  have e0 := nemb inb x 0; have e1 := nemb inb x 1; have e2 := nemb inb x 2
  subst ho hfn
  have h0 := L0 L; have h1 := L1 L
  simp only [Matrix.cons_val] at e0 e1 e2
  unfold pcntRes
  have hT : taskN ((((nV).slice (Rect.unit (s := S4x8x8192) _ S1x1x8192.size inb) (fun _ => rfl)).squeeze S8192 squeezes_S1x1x8192_S8192).view.emb x) = L := by
    refine coords_ext ?_ ?_
    · show _ % 2 = _; rw [e1]; omega
    · show (_ / 2 * 4 + _) % 16 = _; rw [e0, e1]; omega
  rw [hT]
  congr 1
  funext a; fin_cases a; apply Fin.ext
  show _ = _ % 8192
  rw [e2]; show (x 0).val = _; omega

theorem landsPE {o : Fin 3 → Nat} {so : Fin 1 → Nat} (inb : ∀ a, o a + S1x1x8192.size a ≤ S4x64x8192.size a) (inbs : ∀ a, so a + S8192.size a ≤ S65536.size a) (r : Nat) (hr : r < 8) (ho : o = ![(L 1).val / 4, (L 1).val % 4 * 16 + (L 0).val * 8 + r, 0]) (hso : so = ![8192 * r]) {ft : S65536.Idx → Elt F .f32} (hft : ft = tabAt L zg sg cg 72) (fd : S4x64x8192.Idx → Elt F .f32) :
    (((pV).view.loc (VT d L) ↦[(((pV).slice (Rect.unit (s := S4x64x8192) o S1x1x8192.size inb) (fun _ => rfl)).squeeze S8192 squeezes_S1x1x8192_S8192).view.set]{fullShare} ((((pV).slice (Rect.unit (s := S4x64x8192) o S1x1x8192.size inb) (fun _ => rfl)).squeeze S8192 squeezes_S1x1x8192_S8192).view.write (Elt F) fd (((tabV).slice (Rect.unit (s := S65536) so S8192.size inbs) (fun _ => rfl)).view.read (Elt F) ft) Finset.univ)) : sProp 𝕄)
      ⊢ ((pV).view.loc (VT d L) ↦[(((pV).slice (Rect.unit (s := S4x64x8192) o S1x1x8192.size inb) (fun _ => rfl)).squeeze S8192 squeezes_S1x1x8192_S8192).view.set]{fullShare} psumRes zg sg cg) :=
  Entails.of_eq (pointsTo_congr fun j hj => landsP L zg sg cg inb inbs r hr ho hso hft fd j hj)

theorem landsNE {o : Fin 3 → Nat} (inb : ∀ a, o a + S1x1x8192.size a ≤ S4x8x8192.size a) (ho : o = ![(L 1).val % 4, (L 1).val / 4 * 2 + (L 0).val, 0]) {fn : S8192.Idx → Elt F .f32} (hfn : fn = cntAt L cg 72) (fd : S4x8x8192.Idx → Elt F .f32) :
    (((nV).view.loc (VT d L) ↦[(((nV).slice (Rect.unit (s := S4x8x8192) o S1x1x8192.size inb) (fun _ => rfl)).squeeze S8192 squeezes_S1x1x8192_S8192).view.set]{fullShare} ((((nV).slice (Rect.unit (s := S4x8x8192) o S1x1x8192.size inb) (fun _ => rfl)).squeeze S8192 squeezes_S1x1x8192_S8192).view.write (Elt F) fd ((cntV).view.read (Elt F) fn) Finset.univ)) : sProp 𝕄)
      ⊢ ((nV).view.loc (VT d L) ↦[(((nV).slice (Rect.unit (s := S4x8x8192) o S1x1x8192.size inb) (fun _ => rfl)).squeeze S8192 squeezes_S1x1x8192_S8192).view.set]{fullShare} pcntRes cg) :=
  Entails.of_eq (pointsTo_congr fun j hj => landsN L cg inb ho hfn fd j hj)

/-- One row of the sums copied out and waited for. -/
theorem outP {sem : DmaSem sig} {O : CellTallies nD τ sig (HIx 1)} {W₀ : Waits sig (HIx 1)} (hO : ∀ g, O g none = 0) {o : Fin 3 → Nat} {so : Fin 1 → Nat} (inb : ∀ a, o a + S1x1x8192.size a ≤ S4x64x8192.size a) (inbs : ∀ a, so a + S8192.size a ≤ S65536.size a) (r : Nat) (hr : r < 8) (ho : o = ![(L 1).val / 4, (L 1).val % 4 * 16 + (L 0).val * 8 + r, 0]) (hso : so = ![8192 * r]) {ft : S65536.Idx → Elt F .f32} (hft : ft = tabAt L zg sg cg 72)
    {a0 a1 : (((tabV).slice (Rect.unit (s := S65536) so S8192.size inbs) (fun _ => rfl))).view.WordExact} {b0 b1 : (((pV).slice (Rect.unit (s := S4x64x8192) o S1x1x8192.size inb) (fun _ => rfl)).squeeze S8192 squeezes_S1x1x8192_S8192).view.WordExact} {t0 : DmaTarget.Typed (nD := nD) (p := (VT d L).2) .vmem (.dma sem) (.here (((pV).slice (Rect.unit (s := S4x64x8192) o S1x1x8192.size inb) (fun _ => rfl)).squeeze S8192 squeezes_S1x1x8192_S8192))}
    {β : Type} {kk : PUnit → Prog (TpuEff nD τ sig (Elt F) Λ₀ (VT d L).2) β} {Q : β → sProp 𝕄} :
    iprop(levAts (K (F := F)).L (K (F := F)).lev ∗ ((tabV).view.loc (VT d L) ↦{fullShare} ft) ∗ (∃ fd, ((pV).view.loc (VT d L) ↦[psRow L r]{fullShare} fd)) ∗ semVal (VT d L, .dma sem) 0 ∗ ow d L O W₀)
      ⊢ iprop((iprop(((tabV).view.loc (VT d L) ↦{fullShare} ft) ∗ ((pV).view.loc (VT d L) ↦[psRow L r]{fullShare} psumRes zg sg cg) ∗ semVal (VT d L, .dma sem) 0 ∗ ow d L O W₀) -∗ wp frame (wpE (defs₀ (F := F)) 𝒱₀ (VT d L) none) Set.univ (kk ⟨⟩) Q)
          -∗ wp frame (wpE (defs₀ (F := F)) 𝒱₀ (VT d L) none) Set.univ (Prog.lift (.enqueueDma (((tabV).slice (Rect.unit (s := S65536) so S8192.size inbs) (fun _ => rfl))) (.here (((pV).slice (Rect.unit (s := S4x64x8192) o S1x1x8192.size inb) (fun _ => rfl)).squeeze S8192 squeezes_S1x1x8192_S8192)) (.dma sem) a0 b0 t0) >>= fun _ => Prog.lift (.waitDma2 sem (((tabV).slice (Rect.unit (s := S65536) so S8192.size inbs) (fun _ => rfl))) (((pV).slice (Rect.unit (s := S4x64x8192) o S1x1x8192.size inb) (fun _ => rfl)).squeeze S8192 squeezes_S1x1x8192_S8192) a1 b1) >>= kk) Q) := by
  have hN0 : 0 < ((((pV).slice (Rect.unit (s := S4x64x8192) o S1x1x8192.size inb) (fun _ => rfl)).squeeze S8192 squeezes_S1x1x8192_S8192)).view.dmaCredit := View.dmaCredit_pos _ (by decide +kernel)
  rw [← pset L inb r ho]
  iintro ⟨#Hlv, Ht, ⟨%fd, Hp⟩, Hsem, HO⟩ Hk
  ihave Ht := (pointsTo_split_subset (Finset.subset_univ (((tabV).slice (Rect.unit (s := S65536) so S8192.size inbs) (fun _ => rfl))).view.set)).1 $$ Ht
  icases Ht with ⟨Hts, Htr⟩
  imod (Transfers.batch_alloc' EC (VT d L) (none : HIx 1) ((((pV).slice (Rect.unit (s := S4x64x8192) o S1x1x8192.size inb) (fun _ => rfl)).squeeze S8192 squeezes_S1x1x8192_S8192)).view.dmaCredit
    (fun _ : Fin 1 => iprop(((pV).view.loc (VT d L) ↦[(((pV).slice (Rect.unit (s := S4x64x8192) o S1x1x8192.size inb) (fun _ => rfl)).squeeze S8192 squeezes_S1x1x8192_S8192).view.set]{fullShare} psumRes zg sg cg) ∗ ((tabV).view.loc (VT d L) ↦[(((tabV).slice (Rect.unit (s := S65536) so S8192.size inbs) (fun _ => rfl))).view.set]{fullShare} ft))) (sm := .dma sem) (E := Set.univ)) $$ Hsem with HB
  iapply (Transfers.wp_dmaBatch EC 𝒱₀ (VT d L) none (via := ReadAs.same) (src := ((tabV).slice (Rect.unit (s := S65536) so S8192.size inbs) (fun _ => rfl))) (dst := (((pV).slice (Rect.unit (s := S4x64x8192) o S1x1x8192.size inb) (fun _ => rfl)).squeeze S8192 squeezes_S1x1x8192_S8192)) (fs := ft) (fd := fd) (q := fullShare) (Sd := (((pV).slice (Rect.unit (s := S4x64x8192) o S1x1x8192.size inb) (fun _ => rfl)).squeeze S8192 squeezes_S1x1x8192_S8192).view.set) (D := fun _ : Fin 1 => iprop(((pV).view.loc (VT d L) ↦[(((pV).slice (Rect.unit (s := S4x64x8192) o S1x1x8192.size inb) (fun _ => rfl)).squeeze S8192 squeezes_S1x1x8192_S8192).view.set]{fullShare} psumRes zg sg cg) ∗ ((tabV).view.loc (VT d L) ↦[(((tabV).slice (Rect.unit (s := S65536) so S8192.size inbs) (fun _ => rfl))).view.set]{fullShare} ft))) (j := 0) (u := 0) none ((((pV).slice (Rect.unit (s := S4x64x8192) o S1x1x8192.size inb) (fun _ => rfl)).squeeze S8192 squeezes_S1x1x8192_S8192)).view.dmaCredit rfl (Finset.Subset.refl _) (by decide) (Nat.zero_le _)
    (by
        iintro ⟨H1, H2⟩
        isplitl [H1]
        · iapply (landsPE d L zg sg cg inb inbs r hr ho hso hft fd); iexact H1
        iexact H2)) $$ [Hts Hp HB]
  · isplitl [Hts]; · iexact Hts
    isplitl [Hp]; · iexact Hp
    iexact HB
  iintro HB
  iapply (wp_waitL d L hO (sem := sem) (dstw := (((pV).slice (Rect.unit (s := S4x64x8192) o S1x1x8192.size inb) (fun _ => rfl)).squeeze S8192 squeezes_S1x1x8192_S8192)) (n := 1) (u := 0) (N := ((((pV).slice (Rect.unit (s := S4x64x8192) o S1x1x8192.size inb) (fun _ => rfl)).squeeze S8192 squeezes_S1x1x8192_S8192)).view.dmaCredit) rfl hN0 (by omega)) $$ [HB HO]
  · isplitr; · iexact Hlv
    isplitl [HB]; · iexact HB
    iexact HO
  iintro ⟨HD, Hsem, HO⟩
  iapply Hk
  ihave HD := (Entails.of_eq (show (bigSep (Finset.univ : Finset (Fin 1)) (fun _ : Fin 1 => iprop(((pV).view.loc (VT d L) ↦[(((pV).slice (Rect.unit (s := S4x64x8192) o S1x1x8192.size inb) (fun _ => rfl)).squeeze S8192 squeezes_S1x1x8192_S8192).view.set]{fullShare} psumRes zg sg cg) ∗ ((tabV).view.loc (VT d L) ↦[(((tabV).slice (Rect.unit (s := S65536) so S8192.size inbs) (fun _ => rfl))).view.set]{fullShare} ft))) : sProp 𝕄) = _ from by
    rw [show (Finset.univ : Finset (Fin 1)) = {0} from by decide, bigSep_singleton])) $$ HD
  icases HD with ⟨Hp, Hts⟩
  isplitl [Hts Htr]
  · iapply (pointsTo_split_subset (Finset.subset_univ (((tabV).slice (Rect.unit (s := S65536) so S8192.size inbs) (fun _ => rfl))).view.set)).2
    isplitl [Hts]; · iexact Hts
    iexact Htr
  isplitl [Hp]; · iexact Hp
  isplitl [Hsem]; · iexact Hsem
  iexact HO

/-- The row of the counts copied out and waited for. -/
theorem outN {sem : DmaSem sig} {O : CellTallies nD τ sig (HIx 1)} {W₀ : Waits sig (HIx 1)} (hO : ∀ g, O g none = 0) {o : Fin 3 → Nat} (inb : ∀ a, o a + S1x1x8192.size a ≤ S4x8x8192.size a) (ho : o = ![(L 1).val % 4, (L 1).val / 4 * 2 + (L 0).val, 0]) {fn : S8192.Idx → Elt F .f32} (hfn : fn = cntAt L cg 72)
    {a0 a1 : (cntV).view.WordExact} {b0 b1 : (((nV).slice (Rect.unit (s := S4x8x8192) o S1x1x8192.size inb) (fun _ => rfl)).squeeze S8192 squeezes_S1x1x8192_S8192).view.WordExact} {t0 : DmaTarget.Typed (nD := nD) (p := (VT d L).2) .vmem (.dma sem) (.here (((nV).slice (Rect.unit (s := S4x8x8192) o S1x1x8192.size inb) (fun _ => rfl)).squeeze S8192 squeezes_S1x1x8192_S8192))}
    {β : Type} {kk : PUnit → Prog (TpuEff nD τ sig (Elt F) Λ₀ (VT d L).2) β} {Q : β → sProp 𝕄} :
    iprop(levAts (K (F := F)).L (K (F := F)).lev ∗ ((cntV).view.loc (VT d L) ↦{fullShare} fn) ∗ (∃ fd, ((nV).view.loc (VT d L) ↦[pnSet L]{fullShare} fd)) ∗ semVal (VT d L, .dma sem) 0 ∗ ow d L O W₀)
      ⊢ iprop((iprop(((cntV).view.loc (VT d L) ↦{fullShare} fn) ∗ ((nV).view.loc (VT d L) ↦[pnSet L]{fullShare} pcntRes cg) ∗ semVal (VT d L, .dma sem) 0 ∗ ow d L O W₀) -∗ wp frame (wpE (defs₀ (F := F)) 𝒱₀ (VT d L) none) Set.univ (kk ⟨⟩) Q)
          -∗ wp frame (wpE (defs₀ (F := F)) 𝒱₀ (VT d L) none) Set.univ (Prog.lift (.enqueueDma (cntV) (.here (((nV).slice (Rect.unit (s := S4x8x8192) o S1x1x8192.size inb) (fun _ => rfl)).squeeze S8192 squeezes_S1x1x8192_S8192)) (.dma sem) a0 b0 t0) >>= fun _ => Prog.lift (.waitDma2 sem (cntV) (((nV).slice (Rect.unit (s := S4x8x8192) o S1x1x8192.size inb) (fun _ => rfl)).squeeze S8192 squeezes_S1x1x8192_S8192) a1 b1) >>= kk) Q) := by
  have hN0 : 0 < ((((nV).slice (Rect.unit (s := S4x8x8192) o S1x1x8192.size inb) (fun _ => rfl)).squeeze S8192 squeezes_S1x1x8192_S8192)).view.dmaCredit := View.dmaCredit_pos _ (by decide +kernel)
  rw [← nset L inb ho]
  iintro ⟨#Hlv, Ht, ⟨%fd, Hp⟩, Hsem, HO⟩ Hk
  ihave Ht := (pointsTo_split_subset (Finset.subset_univ (cntV).view.set)).1 $$ Ht
  icases Ht with ⟨Hts, Htr⟩
  imod (Transfers.batch_alloc' EC (VT d L) (none : HIx 1) ((((nV).slice (Rect.unit (s := S4x8x8192) o S1x1x8192.size inb) (fun _ => rfl)).squeeze S8192 squeezes_S1x1x8192_S8192)).view.dmaCredit
    (fun _ : Fin 1 => iprop(((nV).view.loc (VT d L) ↦[(((nV).slice (Rect.unit (s := S4x8x8192) o S1x1x8192.size inb) (fun _ => rfl)).squeeze S8192 squeezes_S1x1x8192_S8192).view.set]{fullShare} pcntRes cg) ∗ ((cntV).view.loc (VT d L) ↦[(cntV).view.set]{fullShare} fn))) (sm := .dma sem) (E := Set.univ)) $$ Hsem with HB
  iapply (Transfers.wp_dmaBatch EC 𝒱₀ (VT d L) none (via := ReadAs.same) (src := cntV) (dst := (((nV).slice (Rect.unit (s := S4x8x8192) o S1x1x8192.size inb) (fun _ => rfl)).squeeze S8192 squeezes_S1x1x8192_S8192)) (fs := fn) (fd := fd) (q := fullShare) (Sd := (((nV).slice (Rect.unit (s := S4x8x8192) o S1x1x8192.size inb) (fun _ => rfl)).squeeze S8192 squeezes_S1x1x8192_S8192).view.set) (D := fun _ : Fin 1 => iprop(((nV).view.loc (VT d L) ↦[(((nV).slice (Rect.unit (s := S4x8x8192) o S1x1x8192.size inb) (fun _ => rfl)).squeeze S8192 squeezes_S1x1x8192_S8192).view.set]{fullShare} pcntRes cg) ∗ ((cntV).view.loc (VT d L) ↦[(cntV).view.set]{fullShare} fn))) (j := 0) (u := 0) none ((((nV).slice (Rect.unit (s := S4x8x8192) o S1x1x8192.size inb) (fun _ => rfl)).squeeze S8192 squeezes_S1x1x8192_S8192)).view.dmaCredit rfl (Finset.Subset.refl _) (by decide) (Nat.zero_le _)
    (by
        iintro ⟨H1, H2⟩
        isplitl [H1]
        · iapply (landsNE d L cg inb ho hfn fd); iexact H1
        iexact H2)) $$ [Hts Hp HB]
  · isplitl [Hts]; · iexact Hts
    isplitl [Hp]; · iexact Hp
    iexact HB
  iintro HB
  iapply (wp_waitL d L hO (sem := sem) (dstw := (((nV).slice (Rect.unit (s := S4x8x8192) o S1x1x8192.size inb) (fun _ => rfl)).squeeze S8192 squeezes_S1x1x8192_S8192)) (n := 1) (u := 0) (N := ((((nV).slice (Rect.unit (s := S4x8x8192) o S1x1x8192.size inb) (fun _ => rfl)).squeeze S8192 squeezes_S1x1x8192_S8192)).view.dmaCredit) rfl hN0 (by omega)) $$ [HB HO]
  · isplitr; · iexact Hlv
    isplitl [HB]; · iexact HB
    iexact HO
  iintro ⟨HD, Hsem, HO⟩
  iapply Hk
  ihave HD := (Entails.of_eq (show (bigSep (Finset.univ : Finset (Fin 1)) (fun _ : Fin 1 => iprop(((nV).view.loc (VT d L) ↦[(((nV).slice (Rect.unit (s := S4x8x8192) o S1x1x8192.size inb) (fun _ => rfl)).squeeze S8192 squeezes_S1x1x8192_S8192).view.set]{fullShare} pcntRes cg) ∗ ((cntV).view.loc (VT d L) ↦[(cntV).view.set]{fullShare} fn))) : sProp 𝕄) = _ from by
    rw [show (Finset.univ : Finset (Fin 1)) = {0} from by decide, bigSep_singleton])) $$ HD
  icases HD with ⟨Hp, Hts⟩
  isplitl [Hts Htr]
  · iapply (pointsTo_split_subset (Finset.subset_univ (cntV).view.set)).2
    isplitl [Hts]; · iexact Hts
    iexact Htr
  isplitl [Hp]; · iexact Hp
  isplitl [Hsem]; · iexact Hsem
  iexact HO

end Cert.Proof.SumsI
-- ==== Proof.TileI.lean ====
/-
  A task's whole run.
-/
module

public import proofs.«01_k».proof.Proof.OutI

@[expose] public section

noncomputable section

namespace Cert.Proof.SumsI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.KernelIdeal.main_arg0_scv : Memref Cert.KernelIdeal.sig Kind.scVector Space.hbm Cert.KernelIdeal.S18x16x65536 EltTy.i32)
local notation "sV" => (Memref.whole Cert.KernelIdeal.main_v0_scv : Memref Cert.KernelIdeal.sig Kind.scVector Space.hbm Cert.KernelIdeal.S18x4x65536 EltTy.f32)
local notation "kV" => (Memref.whole Cert.KernelIdeal.main_v1_scv : Memref Cert.KernelIdeal.sig Kind.scVector Space.hbm Cert.KernelIdeal.S18x4x65536 EltTy.i32)
local notation "pV" => (Memref.whole Cert.KernelIdeal.main_v2_0_scv : Memref Cert.KernelIdeal.sig Kind.scVector Space.hbm Cert.KernelIdeal.S4x64x8192 EltTy.f32)
local notation "nV" => (Memref.whole Cert.KernelIdeal.main_v2_1_scv : Memref Cert.KernelIdeal.sig Kind.scVector Space.hbm Cert.KernelIdeal.S4x8x8192 EltTy.f32)
local notation "tabV" => (Memref.whole Cert.KernelIdeal.cc0_scratch0 : Memref Cert.KernelIdeal.sig Kind.scVector Space.vmem Cert.KernelIdeal.S65536 EltTy.f32)
local notation "cntV" => (Memref.whole Cert.KernelIdeal.cc0_scratch1 : Memref Cert.KernelIdeal.sig Kind.scVector Space.vmem Cert.KernelIdeal.S8192 EltTy.f32)
local notation "z0V" => (Memref.whole Cert.KernelIdeal.cc0_scratch2 : Memref Cert.KernelIdeal.sig Kind.scVector Space.vmem Cert.KernelIdeal.S4096 EltTy.i32)
local notation "z1V" => (Memref.whole Cert.KernelIdeal.cc0_scratch3 : Memref Cert.KernelIdeal.sig Kind.scVector Space.vmem Cert.KernelIdeal.S4096 EltTy.i32)
local notation "s0V" => (Memref.whole Cert.KernelIdeal.cc0_scratch4 : Memref Cert.KernelIdeal.sig Kind.scVector Space.vmem Cert.KernelIdeal.S2048 EltTy.f32)
local notation "s1V" => (Memref.whole Cert.KernelIdeal.cc0_scratch5 : Memref Cert.KernelIdeal.sig Kind.scVector Space.vmem Cert.KernelIdeal.S2048 EltTy.f32)
local notation "c0V" => (Memref.whole Cert.KernelIdeal.cc0_scratch6 : Memref Cert.KernelIdeal.sig Kind.scVector Space.vmem Cert.KernelIdeal.S2048 EltTy.i32)
local notation "c1V" => (Memref.whole Cert.KernelIdeal.cc0_scratch7 : Memref Cert.KernelIdeal.sig Kind.scVector Space.vmem Cert.KernelIdeal.S2048 EltTy.i32)

variable [FloatOps F]

variable (d : Dev nD) (L : grid0.Coords)
variable (zg : S18x16x65536.Idx → Elt F .i32) (sg : S18x4x65536.Idx → Elt F .f32) (cg : S18x4x65536.Idx → Elt F .i32)

set_option maxRecDepth 16384 in
set_option maxHeartbeats 4000000 in
/-- A task's whole run: from the inputs, its scratch and its rows of the results, to its rows written. -/
theorem tile_run {O : CellTallies nD τ sig (HIx 1)} {W₀ : Waits sig (HIx 1)} (hO : ∀ g, O g none = 0) (hc : ∀ k j, (cod L cg k j).toNat < 8192) :
    iprop(levAts (K (F := F)).L (K (F := F)).lev ∗ inp d L zg sg cg ∗ (∃ f, ((tabV).view.loc (VT d L) ↦{fullShare} f)) ∗ (∃ f, ((cntV).view.loc (VT d L) ↦{fullShare} f)) ∗ free0 (F := F) d L ∗ free1 (F := F) d L ∗ (∃ fd, ((pV).view.loc (VT d L) ↦[psRow L 0]{fullShare} fd)) ∗ (∃ fd, ((pV).view.loc (VT d L) ↦[psRow L 1]{fullShare} fd)) ∗ (∃ fd, ((pV).view.loc (VT d L) ↦[psRow L 2]{fullShare} fd)) ∗ (∃ fd, ((pV).view.loc (VT d L) ↦[psRow L 3]{fullShare} fd)) ∗ (∃ fd, ((pV).view.loc (VT d L) ↦[psRow L 4]{fullShare} fd)) ∗ (∃ fd, ((pV).view.loc (VT d L) ↦[psRow L 5]{fullShare} fd)) ∗ (∃ fd, ((pV).view.loc (VT d L) ↦[psRow L 6]{fullShare} fd)) ∗ (∃ fd, ((pV).view.loc (VT d L) ↦[psRow L 7]{fullShare} fd)) ∗ (∃ fd, ((nV).view.loc (VT d L) ↦[pnSet L]{fullShare} fd)) ∗ semVal (VT d L, .dma cc0_scoped0.sem) 0 ∗ semVal (VT d L, .dma cc0_scoped1.sem) 0 ∗ semVal (VT d L, .dma cc0_scoped2.sem) 0 ∗ semVal (VT d L, .dma cc0_scoped3.sem) 0 ∗ semVal (VT d L, .dma cc0_scoped4.sem) 0 ∗ semVal (VT d L, .dma cc0_scoped5.sem) 0 ∗ semVal (VT d L, .dma cc0_scoped6.sem) 0 ∗ semVal (VT d L, .dma cc0_scoped7.sem) 0 ∗ semVal (VT d L, .dma cc0_scoped8.sem) 0 ∗ ow d L O W₀)
      ⊢ wp frame (wpE (defs₀ (F := F)) 𝒱₀ (VT d L) none) Set.univ (cc0_segment_sums (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8) (fun _ => iprop((∃ f, ((tabV).view.loc (VT d L) ↦{fullShare} f)) ∗ (∃ f, ((cntV).view.loc (VT d L) ↦{fullShare} f)) ∗ free0 (F := F) d L ∗ free1 (F := F) d L ∗ ((pV).view.loc (VT d L) ↦[psRow L 0]{fullShare} psumRes zg sg cg) ∗ ((pV).view.loc (VT d L) ↦[psRow L 1]{fullShare} psumRes zg sg cg) ∗ ((pV).view.loc (VT d L) ↦[psRow L 2]{fullShare} psumRes zg sg cg) ∗ ((pV).view.loc (VT d L) ↦[psRow L 3]{fullShare} psumRes zg sg cg) ∗ ((pV).view.loc (VT d L) ↦[psRow L 4]{fullShare} psumRes zg sg cg) ∗ ((pV).view.loc (VT d L) ↦[psRow L 5]{fullShare} psumRes zg sg cg) ∗ ((pV).view.loc (VT d L) ↦[psRow L 6]{fullShare} psumRes zg sg cg) ∗ ((pV).view.loc (VT d L) ↦[psRow L 7]{fullShare} psumRes zg sg cg) ∗ ((nV).view.loc (VT d L) ↦[pnSet L]{fullShare} pcntRes cg) ∗ semVal (VT d L, .dma cc0_scoped0.sem) 0 ∗ semVal (VT d L, .dma cc0_scoped1.sem) 0 ∗ semVal (VT d L, .dma cc0_scoped2.sem) 0 ∗ semVal (VT d L, .dma cc0_scoped3.sem) 0 ∗ semVal (VT d L, .dma cc0_scoped4.sem) 0 ∗ semVal (VT d L, .dma cc0_scoped5.sem) 0 ∗ semVal (VT d L, .dma cc0_scoped6.sem) 0 ∗ semVal (VT d L, .dma cc0_scoped7.sem) 0 ∗ semVal (VT d L, .dma cc0_scoped8.sem) 0 ∗ ow d L O W₀)) := by
  rw [cc0_segment_sums_eq_skeleton]; unfold cc0_segment_sums_skel
  rw [k0_part8_eq_skeleton]; unfold k0_part8_skel
  rw [k0_part9_eq_skeleton]; unfold k0_part9_skel
  rw [k0_part10_eq_skeleton]; unfold k0_part10_skel
  rw [k0_part11_eq_skeleton]; unfold k0_part11_skel
  rw [k0_part12_eq_skeleton]; unfold k0_part12_skel
  rw [k0_part13_eq_skeleton]; unfold k0_part13_skel
  rw [k0_part14_eq_skeleton]; unfold k0_part14_skel
  simp only [bind_assoc, pure_bind]
  iintro ⟨#Hlv, Hi, ⟨%ft0, Ht⟩, ⟨%fn0, Hn⟩, Hf0, Hf1, Hp0, Hp1, Hp2, Hp3, Hp4, Hp5, Hp6, Hp7, Hpn, Hs0, Hs1, Hs2, Hs3, Hs4, Hs5, Hs6, Hs7, Hs8, HO⟩
  iapply (issue0 d L zg sg cg 0 (k0_off1_inb L 0) (k0_off1_inb L 1) (k0_off2_inb L) (k0_off2_inb L) (off1_eq L 0) (off1_eq L 1) (off2_eq L)) $$ [Hi Hf0]
  · isplitl [Hi]; · iexact Hi
    iexact Hf0
  iintro ⟨Hi, Hy⟩
  iapply (loop1 d L _ _ _ _ _ ft0) $$ Ht
  iintro Ht
  iapply (loop2 d L _ _ _ _ _ fn0) $$ Hn
  iintro Hn
  ihave Hy := (show fly0 d L zg sg cg 0 ⊢ slot0 d L zg sg cg 0 from Entails.of_eq (if_pos (by decide)).symm) $$ Hy
  iapply (loop3 d L zg sg cg hO hc _ _ _ _ _ (O := O) (W₀ := W₀)) $$ [Hi Hy Ht Hn Hf1 HO]
  · unfold inv3
    isplitr; · iexact Hlv
    isplitl [Hi]; · iexact Hi
    isplitl [Ht]; · iexact Ht
    isplitl [Hn]; · iexact Hn
    isplitl [Hf1]; · iexact Hf1
    isplitl [Hy]; · iexact Hy
    iexact HO
  iintro H
  unfold inv3
  icases H with ⟨-, -, Ht, Hn, Hf1, Hf0, HO⟩
  ihave Hf0 := (show slot0 d L zg sg cg 72 ⊢ free0 (F := F) d L from Entails.of_eq (if_neg (by decide))) $$ Hf0
  generalize hft : tabAt L zg sg cg 72 = ft
  generalize hfn : cntAt L cg 72 = fn
  iapply (outP d L zg sg cg hO (sem := cc0_scoped0.sem) (k0_off16_inb L 0) inb_S65536_S8192_0 0 (by decide) (off16_eq L 0) rfl hft.symm) $$ [Ht Hp0 Hs0 HO]
  · isplitr; · iexact Hlv
    isplitl [Ht]; · iexact Ht
    isplitl [Hp0]; · iexact Hp0
    isplitl [Hs0]; · iexact Hs0
    iexact HO
  iintro ⟨Ht, Hp0, Hs0, HO⟩
  iapply (outP d L zg sg cg hO (sem := cc0_scoped1.sem) (k0_off16_inb L 1) inb_S65536_S8192_8192 1 (by decide) (off16_eq L 1) rfl hft.symm) $$ [Ht Hp1 Hs1 HO]
  · isplitr; · iexact Hlv
    isplitl [Ht]; · iexact Ht
    isplitl [Hp1]; · iexact Hp1
    isplitl [Hs1]; · iexact Hs1
    iexact HO
  iintro ⟨Ht, Hp1, Hs1, HO⟩
  iapply (outP d L zg sg cg hO (sem := cc0_scoped2.sem) (k0_off16_inb L 2) inb_S65536_S8192_16384 2 (by decide) (off16_eq L 2) rfl hft.symm) $$ [Ht Hp2 Hs2 HO]
  · isplitr; · iexact Hlv
    isplitl [Ht]; · iexact Ht
    isplitl [Hp2]; · iexact Hp2
    isplitl [Hs2]; · iexact Hs2
    iexact HO
  iintro ⟨Ht, Hp2, Hs2, HO⟩
  iapply (outP d L zg sg cg hO (sem := cc0_scoped3.sem) (k0_off16_inb L 3) inb_S65536_S8192_24576 3 (by decide) (off16_eq L 3) rfl hft.symm) $$ [Ht Hp3 Hs3 HO]
  · isplitr; · iexact Hlv
    isplitl [Ht]; · iexact Ht
    isplitl [Hp3]; · iexact Hp3
    isplitl [Hs3]; · iexact Hs3
    iexact HO
  iintro ⟨Ht, Hp3, Hs3, HO⟩
  iapply (outP d L zg sg cg hO (sem := cc0_scoped4.sem) (k0_off16_inb L 4) inb_S65536_S8192_32768 4 (by decide) (off16_eq L 4) rfl hft.symm) $$ [Ht Hp4 Hs4 HO]
  · isplitr; · iexact Hlv
    isplitl [Ht]; · iexact Ht
    isplitl [Hp4]; · iexact Hp4
    isplitl [Hs4]; · iexact Hs4
    iexact HO
  iintro ⟨Ht, Hp4, Hs4, HO⟩
  iapply (outP d L zg sg cg hO (sem := cc0_scoped5.sem) (k0_off16_inb L 5) inb_S65536_S8192_40960 5 (by decide) (off16_eq L 5) rfl hft.symm) $$ [Ht Hp5 Hs5 HO]
  · isplitr; · iexact Hlv
    isplitl [Ht]; · iexact Ht
    isplitl [Hp5]; · iexact Hp5
    isplitl [Hs5]; · iexact Hs5
    iexact HO
  iintro ⟨Ht, Hp5, Hs5, HO⟩
  iapply (outP d L zg sg cg hO (sem := cc0_scoped6.sem) (k0_off16_inb L 6) inb_S65536_S8192_49152 6 (by decide) (off16_eq L 6) rfl hft.symm) $$ [Ht Hp6 Hs6 HO]
  · isplitr; · iexact Hlv
    isplitl [Ht]; · iexact Ht
    isplitl [Hp6]; · iexact Hp6
    isplitl [Hs6]; · iexact Hs6
    iexact HO
  iintro ⟨Ht, Hp6, Hs6, HO⟩
  iapply (outP d L zg sg cg hO (sem := cc0_scoped7.sem) (k0_off16_inb L 7) inb_S65536_S8192_57344 7 (by decide) (off16_eq L 7) rfl hft.symm) $$ [Ht Hp7 Hs7 HO]
  · isplitr; · iexact Hlv
    isplitl [Ht]; · iexact Ht
    isplitl [Hp7]; · iexact Hp7
    isplitl [Hs7]; · iexact Hs7
    iexact HO
  iintro ⟨Ht, Hp7, Hs7, HO⟩
  iapply (outN d L cg hO (sem := cc0_scoped8.sem) (k0_off17_inb L) (off17_eq L) hfn.symm) $$ [Hn Hpn Hs8 HO]
  · isplitr; · iexact Hlv
    isplitl [Hn]; · iexact Hn
    isplitl [Hpn]; · iexact Hpn
    isplitl [Hs8]; · iexact Hs8
    iexact HO
  iintro ⟨Hn, Hpn, Hs8, HO⟩
  sl_step
  isplitl [Ht]; · iexists _; iexact Ht
  isplitl [Hn]; · iexists _; iexact Hn
  isplitl [Hf0]; · iexact Hf0
  isplitl [Hf1]; · iexact Hf1
  isplitl [Hp0]; · iexact Hp0
  isplitl [Hp1]; · iexact Hp1
  isplitl [Hp2]; · iexact Hp2
  isplitl [Hp3]; · iexact Hp3
  isplitl [Hp4]; · iexact Hp4
  isplitl [Hp5]; · iexact Hp5
  isplitl [Hp6]; · iexact Hp6
  isplitl [Hp7]; · iexact Hp7
  isplitl [Hpn]; · iexact Hpn
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  iexact HO

end Cert.Proof.SumsI
-- ==== Proof.TaskI.lean ====
/-
  A task of the SparseCore call from what the launch deals it to what it hands back.
-/
module

public import proofs.«01_k».proof.Proof.TileI

@[expose] public section

noncomputable section

namespace Cert.Proof.SumsI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.KernelIdeal.main_arg0_scv : Memref Cert.KernelIdeal.sig Kind.scVector Space.hbm Cert.KernelIdeal.S18x16x65536 EltTy.i32)
local notation "sV" => (Memref.whole Cert.KernelIdeal.main_v0_scv : Memref Cert.KernelIdeal.sig Kind.scVector Space.hbm Cert.KernelIdeal.S18x4x65536 EltTy.f32)
local notation "kV" => (Memref.whole Cert.KernelIdeal.main_v1_scv : Memref Cert.KernelIdeal.sig Kind.scVector Space.hbm Cert.KernelIdeal.S18x4x65536 EltTy.i32)
local notation "pV" => (Memref.whole Cert.KernelIdeal.main_v2_0_scv : Memref Cert.KernelIdeal.sig Kind.scVector Space.hbm Cert.KernelIdeal.S4x64x8192 EltTy.f32)
local notation "nV" => (Memref.whole Cert.KernelIdeal.main_v2_1_scv : Memref Cert.KernelIdeal.sig Kind.scVector Space.hbm Cert.KernelIdeal.S4x8x8192 EltTy.f32)
local notation "tabV" => (Memref.whole Cert.KernelIdeal.cc0_scratch0 : Memref Cert.KernelIdeal.sig Kind.scVector Space.vmem Cert.KernelIdeal.S65536 EltTy.f32)
local notation "cntV" => (Memref.whole Cert.KernelIdeal.cc0_scratch1 : Memref Cert.KernelIdeal.sig Kind.scVector Space.vmem Cert.KernelIdeal.S8192 EltTy.f32)
local notation "z0V" => (Memref.whole Cert.KernelIdeal.cc0_scratch2 : Memref Cert.KernelIdeal.sig Kind.scVector Space.vmem Cert.KernelIdeal.S4096 EltTy.i32)
local notation "z1V" => (Memref.whole Cert.KernelIdeal.cc0_scratch3 : Memref Cert.KernelIdeal.sig Kind.scVector Space.vmem Cert.KernelIdeal.S4096 EltTy.i32)
local notation "s0V" => (Memref.whole Cert.KernelIdeal.cc0_scratch4 : Memref Cert.KernelIdeal.sig Kind.scVector Space.vmem Cert.KernelIdeal.S2048 EltTy.f32)
local notation "s1V" => (Memref.whole Cert.KernelIdeal.cc0_scratch5 : Memref Cert.KernelIdeal.sig Kind.scVector Space.vmem Cert.KernelIdeal.S2048 EltTy.f32)
local notation "c0V" => (Memref.whole Cert.KernelIdeal.cc0_scratch6 : Memref Cert.KernelIdeal.sig Kind.scVector Space.vmem Cert.KernelIdeal.S2048 EltTy.i32)
local notation "c1V" => (Memref.whole Cert.KernelIdeal.cc0_scratch7 : Memref Cert.KernelIdeal.sig Kind.scVector Space.vmem Cert.KernelIdeal.S2048 EltTy.i32)

variable [FloatOps F]

variable (d : Dev nD) (L : grid0.Coords)
variable (zg : S18x16x65536.Idx → Elt F .i32) (sg : S18x4x65536.Idx → Elt F .f32) (cg : S18x4x65536.Idx → Elt F .i32)

abbrev pLoc (d : Dev nD) : Loc nD τ sig := (SparseCore.T d).loc main_v2_0
abbrev nLoc (d : Dev nD) : Loc nD τ sig := (SparseCore.T d).loc main_v2_1
abbrev zLoc (d : Dev nD) : Loc nD τ sig := (SparseCore.T d).loc main_arg0
abbrev sLoc (d : Dev nD) : Loc nD τ sig := (SparseCore.T d).loc main_v0
abbrev kLoc (d : Dev nD) : Loc nD τ sig := (SparseCore.T d).loc main_v1

/-! ## A task's own cells and buffers -/

abbrev csem (k : Nat) (hk : k < 11 := by decide) : DmaSem sig := ⟨k, hk⟩
abbrev dcell (d : Dev nD) (c : Fin τ.nSC) (i : Fin τ.nSub) (k : Fin 11) : GSem nD τ sig := (V d c i, .dma (csem k.val k.isLt))

omit [FloatOps F] in
theorem dcell_mem (c : Fin τ.nSC) (i : Fin τ.nSub) (k : Fin 11) : dcell d c i k ∈ ownCells (V d c i) :=
  mem_ownCells.mpr ⟨rfl, (show ∀ s : DmaSem sig, (SemLoc.dma s : SemLoc sig).isScoped .scVector = true by decide) _⟩

omit [FloatOps F] in
/-- The subcore's own cells at zero: the eleven the task names, and the rest. -/
theorem ownSems0_V :
    (ownSems0 (VT d L) : sProp 𝕄)
      = iprop((semVal (VT d L, SemLoc.dma cc0_scratch8.sem) 0 ∗ semVal (VT d L, SemLoc.dma cc0_scratch9.sem) 0 ∗ semVal (VT d L, SemLoc.dma cc0_scoped0.sem) 0 ∗ semVal (VT d L, SemLoc.dma cc0_scoped1.sem) 0 ∗ semVal (VT d L, SemLoc.dma cc0_scoped2.sem) 0 ∗ semVal (VT d L, SemLoc.dma cc0_scoped3.sem) 0 ∗ semVal (VT d L, SemLoc.dma cc0_scoped4.sem) 0 ∗ semVal (VT d L, SemLoc.dma cc0_scoped5.sem) 0 ∗ semVal (VT d L, SemLoc.dma cc0_scoped6.sem) 0 ∗ semVal (VT d L, SemLoc.dma cc0_scoped7.sem) 0 ∗ semVal (VT d L, SemLoc.dma cc0_scoped8.sem) 0)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 11)) = {0, 1, 2, 3, 4, 5, 6, 7, 8, 9, 10} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [FloatOps F] in
/-- The eight scratch buffers are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f) ∗ (∃ f, (VT d L).loc cc0_scratch2 ↦{fullShare} f) ∗ (∃ f, (VT d L).loc cc0_scratch3 ↦{fullShare} f) ∗ (∃ f, (VT d L).loc cc0_scratch4 ↦{fullShare} f) ∗ (∃ f, (VT d L).loc cc0_scratch5 ↦{fullShare} f) ∗ (∃ f, (VT d L).loc cc0_scratch6 ↦{fullShare} f) ∗ (∃ f, (VT d L).loc cc0_scratch7 ↦{fullShare} f)
          ∗ bigSep (((((((((((((((((ownRefs (τ := τ) (.scVector (cV L) (jV L))).erase ((Proc.scVector (cV L) (jV L)).devRef cc0_scratch0))).erase ((Proc.scVector (cV L) (jV L)).devRef cc0_scratch1))).erase ((Proc.scVector (cV L) (jV L)).devRef cc0_scratch2))).erase ((Proc.scVector (cV L) (jV L)).devRef cc0_scratch3))).erase ((Proc.scVector (cV L) (jV L)).devRef cc0_scratch4))).erase ((Proc.scVector (cV L) (jV L)).devRef cc0_scratch5))).erase ((Proc.scVector (cV L) (jV L)).devRef cc0_scratch6))).erase ((Proc.scVector (cV L) (jV L)).devRef cc0_scratch7))) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩)]

/-! ## The eight rows of a task -/

omit [FloatOps F] in
theorem rows_disj : ∀ i ∈ (Finset.univ : Finset (Fin 8)), ∀ j ∈ (Finset.univ : Finset (Fin 8)), i ≠ j → Disjoint (psRow L i.val) (psRow L j.val) := by
  intro i _ j _ h
  rw [Finset.disjoint_left]
  intro x hi hj
  unfold psRow at hi hj
  rw [Finset.mem_filter] at hi hj
  exact h (Fin.ext (by have := hi.2.2; have := hj.2.2; omega))

omit [FloatOps F] in
theorem rows_cover : (Finset.univ : Finset (Fin 8)).biUnion (fun r => psRow L r.val) = psSet L := by
  ext x
  simp only [Finset.mem_biUnion, Finset.mem_univ, true_and]
  unfold psRow psSet
  simp only [Finset.mem_filter, Finset.mem_univ, true_and]
  constructor
  · rintro ⟨r, h0, h1⟩
    have := r.isLt
    exact ⟨h0, by omega⟩
  · rintro ⟨h0, h1⟩
    exact ⟨⟨(x 1).val % 8, by omega⟩, h0, by show (x 1).val = _ + (x 1).val % 8; omega⟩

omit [FloatOps F] in
/-- A task's rows of the sums are its eight rows one by one. -/
theorem rows_eq (f : Buf (Elt F) (pLoc d)) :
    (pLoc d ↦[psSet L]{fullShare} f : sProp 𝕄) = iprop((pLoc d ↦[psRow L 0]{fullShare} f) ∗ (pLoc d ↦[psRow L 1]{fullShare} f) ∗ (pLoc d ↦[psRow L 2]{fullShare} f) ∗ (pLoc d ↦[psRow L 3]{fullShare} f) ∗ (pLoc d ↦[psRow L 4]{fullShare} f) ∗ (pLoc d ↦[psRow L 5]{fullShare} f) ∗ (pLoc d ↦[psRow L 6]{fullShare} f) ∗ (pLoc d ↦[psRow L 7]{fullShare} f)) := by
  rw [← rows_cover, pointsTo_biUnion Finset.univ (ℓ := pLoc d) (fun r : Fin 8 => psRow L r.val) (rows_disj L),
    show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-! ## A task from what the launch deals it -/

/-- What a task is dealt: the inputs, each at some share, and its rows of the two results. -/
def dealt (fp : Buf (Elt F) (pLoc d)) (fn : Buf (Elt F) (nLoc d)) : sProp 𝕄 :=
  iprop(inp d L zg sg cg ∗ (pLoc d ↦[psSet L]{fullShare} fp) ∗ (nLoc d ↦[pnSet L]{fullShare} fn))

/-- What a task hands back: its rows of the two results, written. -/
def handed : sProp 𝕄 :=
  iprop((pLoc d ↦[psSet L]{fullShare} psumRes zg sg cg) ∗ (nLoc d ↦[pnSet L]{fullShare} pcntRes cg))

set_option maxRecDepth 16384 in
set_option maxHeartbeats 2000000 in
theorem tile_body (hF : (K (F := F)).Facts) (fp : Buf (Elt F) (pLoc d)) (fn : Buf (Elt F) (nLoc d))
    (hc : ∀ k j, (cod L cg k j).toNat < 8192) (O : CellTallies nD τ sig (HIx 1)) (W : Waits sig (HIx 1)) (hO : ∀ g, O g none = 0) :
    iprop(levAts (K (F := F)).L (K (F := F)).lev ∗ emp ∗ dealt d L zg sg cg fp fn
        ∗ scopedBufs (VT d L) ∗ scopedSems0 (VT d L) ∗ owes (VT d L) O W)
      ⊢ wp frame (wpE (defs₀ (F := F)) 𝒱₀ (VT d L) none) Set.univ (cc0_segment_sums (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8)
          fun _ => iprop(handed d L zg sg cg
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold dealt handed
  rw [rows_eq, rows_eq]
  iintro ⟨#Hlv, -, ⟨Hi, ⟨Hp0, Hp1, Hp2, Hp3, Hp4, Hp5, Hp6, Hp7⟩, Hpn⟩, ⟨⟨%g0, HB0⟩, ⟨%g1, HB1⟩, ⟨%g2, HB2⟩, ⟨%g3, HB3⟩, ⟨%g4, HB4⟩, ⟨%g5, HB5⟩, ⟨%g6, HB6⟩, ⟨%g7, HB7⟩, Hbufs⟩, ⟨⟨HC0, HC1, Hs0, Hs1, Hs2, Hs3, Hs4, Hs5, Hs6, Hs7, Hs8⟩, Hsems⟩, HO⟩
  iapply (wp_wand_r Idealize.ShloMosaic.frame (wpE (defs₀ (F := F)) 𝒱₀ (VT d L) none) Set.univ)
  isplitl [Hi Hp0 Hp1 Hp2 Hp3 Hp4 Hp5 Hp6 Hp7 Hpn HB0 HB1 HB2 HB3 HB4 HB5 HB6 HB7 HC0 HC1 Hs0 Hs1 Hs2 Hs3 Hs4 Hs5 Hs6 Hs7 Hs8 HO]
  · iapply (tile_run d L zg sg cg (O := O) (W₀ := W) hO hc)
    isplitr; · iexact Hlv
    isplitl [Hi]; · iexact Hi
    isplitl [HB0]; · iexists g0; iexact HB0
    isplitl [HB1]; · iexists g1; iexact HB1
    isplitl [HB2 HB4 HB6 HC0]
    · unfold free0
      isplitl [HB2]; · iexists g2; iexact HB2
      isplitl [HB4]; · iexists g4; iexact HB4
      isplitl [HB6]; · iexists g6; iexact HB6
      iexact HC0
    isplitl [HB3 HB5 HB7 HC1]
    · unfold free1
      isplitl [HB3]; · iexists g3; iexact HB3
      isplitl [HB5]; · iexists g5; iexact HB5
      isplitl [HB7]; · iexists g7; iexact HB7
      iexact HC1
    isplitl [Hp0]; · iexists fp; iexact Hp0
    isplitl [Hp1]; · iexists fp; iexact Hp1
    isplitl [Hp2]; · iexists fp; iexact Hp2
    isplitl [Hp3]; · iexists fp; iexact Hp3
    isplitl [Hp4]; · iexists fp; iexact Hp4
    isplitl [Hp5]; · iexists fp; iexact Hp5
    isplitl [Hp6]; · iexists fp; iexact Hp6
    isplitl [Hp7]; · iexists fp; iexact Hp7
    isplitl [Hpn]; · iexists fn; iexact Hpn
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    unfold ow
    iexists W; isplitr
    · ipureintro; exact fun p hp => .inl hp
    · iexact HO
  iintro %_ ⟨⟨%h0, HB0⟩, ⟨%h1, HB1⟩, Hf0, Hf1, Hp0, Hp1, Hp2, Hp3, Hp4, Hp5, Hp6, Hp7, Hpn, Hs0, Hs1, Hs2, Hs3, Hs4, Hs5, Hs6, Hs7, Hs8, HO⟩
  unfold free0 free1 ow
  icases Hf0 with ⟨⟨%h2, HB2⟩, ⟨%h4, HB4⟩, ⟨%h6, HB6⟩, HC0⟩
  icases Hf1 with ⟨⟨%h3, HB3⟩, ⟨%h5, HB5⟩, ⟨%h7, HB7⟩, HC1⟩
  icases HO with ⟨%W', %hW', HO⟩
  isplitl [Hp0 Hp1 Hp2 Hp3 Hp4 Hp5 Hp6 Hp7 Hpn]
  · isplitr [Hpn]
    · isplitl [Hp0]; · iexact Hp0
      isplitl [Hp1]; · iexact Hp1
      isplitl [Hp2]; · iexact Hp2
      isplitl [Hp3]; · iexact Hp3
      isplitl [Hp4]; · iexact Hp4
      isplitl [Hp5]; · iexact Hp5
      isplitl [Hp6]; · iexact Hp6
      iexact Hp7
    iexact Hpn
  isplitl [HB0 HB1 HB2 HB3 HB4 HB5 HB6 HB7 Hbufs]
  · isplitl [HB0]; · iexists h0; iexact HB0
    isplitl [HB1]; · iexists h1; iexact HB1
    isplitl [HB2]; · iexists h2; iexact HB2
    isplitl [HB3]; · iexists h3; iexact HB3
    isplitl [HB4]; · iexists h4; iexact HB4
    isplitl [HB5]; · iexists h5; iexact HB5
    isplitl [HB6]; · iexists h6; iexact HB6
    isplitl [HB7]; · iexists h7; iexact HB7
    iexact Hbufs
  isplitl [HC0 HC1 Hs0 Hs1 Hs2 Hs3 Hs4 Hs5 Hs6 Hs7 Hs8 Hsems]
  · isplitr [Hsems]
    · isplitl [HC0]; · iexact HC0
      isplitl [HC1]; · iexact HC1
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    iexact Hsems
  iexists W'; isplitr
  · ipureintro; exact fun p hp => (hW' p hp).imp_right Or.inl
  · iexact HO

end Cert.Proof.SumsI
-- ==== Proof.LaunchI.lean ====
/-
  The two-core launch of the SparseCore call, and the host operations around it: the program's run.
-/
module

public import proofs.«01_k».proof.Proof.TaskI

@[expose] public section

noncomputable section

namespace Cert.Proof.SumsI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.KernelIdeal.main_arg0_scv : Memref Cert.KernelIdeal.sig Kind.scVector Space.hbm Cert.KernelIdeal.S18x16x65536 EltTy.i32)
local notation "sV" => (Memref.whole Cert.KernelIdeal.main_v0_scv : Memref Cert.KernelIdeal.sig Kind.scVector Space.hbm Cert.KernelIdeal.S18x4x65536 EltTy.f32)
local notation "kV" => (Memref.whole Cert.KernelIdeal.main_v1_scv : Memref Cert.KernelIdeal.sig Kind.scVector Space.hbm Cert.KernelIdeal.S18x4x65536 EltTy.i32)
local notation "pV" => (Memref.whole Cert.KernelIdeal.main_v2_0_scv : Memref Cert.KernelIdeal.sig Kind.scVector Space.hbm Cert.KernelIdeal.S4x64x8192 EltTy.f32)
local notation "nV" => (Memref.whole Cert.KernelIdeal.main_v2_1_scv : Memref Cert.KernelIdeal.sig Kind.scVector Space.hbm Cert.KernelIdeal.S4x8x8192 EltTy.f32)
local notation "tabV" => (Memref.whole Cert.KernelIdeal.cc0_scratch0 : Memref Cert.KernelIdeal.sig Kind.scVector Space.vmem Cert.KernelIdeal.S65536 EltTy.f32)
local notation "cntV" => (Memref.whole Cert.KernelIdeal.cc0_scratch1 : Memref Cert.KernelIdeal.sig Kind.scVector Space.vmem Cert.KernelIdeal.S8192 EltTy.f32)
local notation "z0V" => (Memref.whole Cert.KernelIdeal.cc0_scratch2 : Memref Cert.KernelIdeal.sig Kind.scVector Space.vmem Cert.KernelIdeal.S4096 EltTy.i32)
local notation "z1V" => (Memref.whole Cert.KernelIdeal.cc0_scratch3 : Memref Cert.KernelIdeal.sig Kind.scVector Space.vmem Cert.KernelIdeal.S4096 EltTy.i32)
local notation "s0V" => (Memref.whole Cert.KernelIdeal.cc0_scratch4 : Memref Cert.KernelIdeal.sig Kind.scVector Space.vmem Cert.KernelIdeal.S2048 EltTy.f32)
local notation "s1V" => (Memref.whole Cert.KernelIdeal.cc0_scratch5 : Memref Cert.KernelIdeal.sig Kind.scVector Space.vmem Cert.KernelIdeal.S2048 EltTy.f32)
local notation "c0V" => (Memref.whole Cert.KernelIdeal.cc0_scratch6 : Memref Cert.KernelIdeal.sig Kind.scVector Space.vmem Cert.KernelIdeal.S2048 EltTy.i32)
local notation "c1V" => (Memref.whole Cert.KernelIdeal.cc0_scratch7 : Memref Cert.KernelIdeal.sig Kind.scVector Space.vmem Cert.KernelIdeal.S2048 EltTy.i32)

variable [FloatOps F]

variable (m : (ℓ : Loc nD τ sig) → Buf (Elt F) ℓ) (ρ : Dev nD → PrngReg)

/-! ## What the call reads, and what it carries -/

/-- The words, the scales and the codes the call reads: the arguments, the last two transposed. -/
abbrev zA (d : Dev nD) : S18x16x65536.Idx → Elt F .i32 := m (zLoc d)
abbrev sA (d : Dev nD) : S18x4x65536.Idx → Elt F .f32 :=
  transpose S18x4x65536 [0, 2, 1] (m ((SparseCore.T d).loc main_arg1) : S18x65536x4.Idx → Elt F .f32) transposes_S18x65536x4_S18x4x65536_0_2_1
abbrev cA (d : Dev nD) : S18x4x65536.Idx → Elt F .i32 :=
  transpose S18x4x65536 [0, 2, 1] (m ((SparseCore.T d).loc main_arg2) : S18x65536x4.Idx → Elt F .i32) transposes_S18x65536x4_S18x4x65536_0_2_1

/-- What the proof asks of the launch memory: every code below 8192. -/
def PreOK : Prop := ∀ (d : Dev nD) (j : S18x65536x4.Idx), ((m ((SparseCore.T d).loc main_arg2) : S18x65536x4.Idx → BitVec 32) j).toNat < 8192

abbrev LL (c : Fin 2) (i : Fin 16) : grid0.Coords := coordsV ⟨c.val, c.isLt⟩ ⟨i.val, i.isLt⟩

abbrev goP (d : Dev nD) (c : Fin 2) (i : Fin 16) : sProp 𝕄 := dealt d (LL c i) (zA m d) (sA m d) (cA m d) (m (pLoc d)) (m (nLoc d))
abbrev tdP (d : Dev nD) (c : Fin 2) (i : Fin 16) : sProp 𝕄 := handed d (LL c i) (zA m d) (sA m d) (cA m d)

/-- The one call takes every task's pieces and brings back every task's rows. -/
def P : (K (F := F)).Pay (nD := nD) (Val := Elt F) (Name := ℕ) (U := UU) where
  st := fun q d c => match q with | 0 => bigSep Finset.univ fun i : Fin 16 => goP m d c i
  dn := fun q d c => match q with | 0 => bigSep Finset.univ fun i : Fin 16 => tdP m d c i
  go := fun q d c i => match q with | 0 => goP m d c i
  td := fun q d c i => match q with | 0 => tdP m d c i
  x := fun _ _ => iprop(emp)

instance goP_storable (d : Dev nD) (c : Fin 2) (i : Fin 16) : BI.Storable (upEmb : UEmb _ 𝕄) (goP m d c i) := by
  unfold goP dealt inp hold; infer_instance
instance tdP_storable (d : Dev nD) (c : Fin 2) (i : Fin 16) : BI.Storable (upEmb : UEmb _ 𝕄) (tdP m d c i) := by
  unfold tdP handed; infer_instance

instance P_storable : (P (F := F) m).IsStorable where
  st q d c := match q with
    | 0 => (inferInstance : BI.Storable (upEmb : UEmb _ 𝕄) (bigSep Finset.univ fun i : Fin 16 => goP m d c i))
  dn q d c := match q with
    | 0 => (inferInstance : BI.Storable (upEmb : UEmb _ 𝕄) (bigSep Finset.univ fun i : Fin 16 => tdP m d c i))
  go q d c i := match q with | 0 => goP_storable m d c i
  td q d c i := match q with | 0 => tdP_storable m d c i

/-! ## The obligation -/

theorem defs₀_vector (c : Fin τ.nSC) (s : Fin τ.nSub) :
    defs₀ (F := F) (.scVector c s) 0 ()
      = SparseCore.onTile hcore0 hsub0 (fun c s => cc0_segment_sums (F := F) (coordsV c s) zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8) ⟨⟩ c s := rfl

theorem cod_lt (hpre : PreOK m) (d : Dev nD) (L : grid0.Coords) (k : Nat) (j : S2048.Idx) : (cod L (cA m d) k j).toNat < 8192 := hpre d _

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (zA m d) (sA m d) (cA m d) hF (m (pLoc d)) (m (nLoc d)) (cod_lt m hpre d _) O W hO

theorem vecSplit : (K (F := F)).VecSplit' (P m) 0 := by
  intro d c
  show (bigSep Finset.univ fun i : Fin 16 => goP m d c i) ⊢ |={Set.univ}=> iprop(
      (bigSep Finset.univ fun i : Fin 16 => goP m d c i)
      ∗ ((bigSep Finset.univ fun i : Fin 16 => tdP m d c i) -∗ (bigSep Finset.univ fun i : Fin 16 => tdP m d c i)))
  iintro H; imodintro
  isplitl [H]; · iexact H
  iintro H; iexact H

/-! ## The pieces of the whole arrays -/

theorem hold_fan {I : Type} [DecidableEq I] (ℓ : Loc nD τ sig) (f : Buf (Elt F) ℓ) (s : Finset I) :
    (hold ℓ f : sProp 𝕄) ⊢ iprop((bigSep s fun _ => hold ℓ f) ∗ hold ℓ f) := by
  induction s using Finset.induction with
  | empty =>
    rw [bigSep_empty]
    iintro H
    isplitr; · iempintro
    iexact H
  | insert a s ha ih =>
    rw [SparseCore.bigSep_insert' ha]
    iintro H
    ihave H := (hold_split ℓ f Finset.univ) $$ H
    icases H with ⟨H, H2⟩
    ihave H := ih $$ H
    icases H with ⟨H, H3⟩
    isplitl [H H2]
    · isplitl [H2]; · unfold hold; iexact H2
      iexact H
    iexact H3

abbrev LP (p : Fin 2 × Fin 16) : grid0.Coords := LL p.1 p.2

theorem LP0 (p : Fin 2 × Fin 16) : ((LP p) 0).val = p.1.val := rfl
theorem LP1 (p : Fin 2 × Fin 16) : ((LP p) 1).val = p.2.val := rfl

omit [FloatOps F] in
theorem ps_disj : ∀ p ∈ (Finset.univ : Finset (Fin 2 × Fin 16)), ∀ q ∈ (Finset.univ : Finset (Fin 2 × Fin 16)), p ≠ q → Disjoint (psSet (LP p)) (psSet (LP q)) := by
  intro p _ q _ h
  rw [Finset.disjoint_left]
  intro x hp hq
  unfold psSet at hp hq
  rw [Finset.mem_filter, LP0, LP1] at hp hq
  have := hp.2; have := hq.2
  have := p.1.isLt; have := q.1.isLt
  exact h (Prod.ext (Fin.ext (by omega)) (Fin.ext (by omega)))
omit [FloatOps F] in
theorem ps_cover : (Finset.univ : Finset (Fin 2 × Fin 16)).biUnion (fun p => psSet (LP p)) = Finset.univ := by
  refine Finset.eq_univ_of_forall fun x => Finset.mem_biUnion.mpr ?_
  have h0 : (x 0).val < 4 := (x 0).isLt
  have h1 : (x 1).val < 64 := (x 1).isLt
  refine ⟨(⟨(x 1).val / 8 % 2, by omega⟩, ⟨(x 0).val * 4 + (x 1).val / 16, by omega⟩), Finset.mem_univ _, ?_⟩
  unfold psSet
  rw [Finset.mem_filter, LP0, LP1]
  refine ⟨Finset.mem_univ _, ?_, ?_⟩
  · show (x 0).val = ((x 0).val * 4 + (x 1).val / 16) / 4; omega
  · show (x 1).val / 8 = ((x 0).val * 4 + (x 1).val / 16) % 4 * 2 + (x 1).val / 8 % 2; omega
omit [FloatOps F] in
theorem pn_disj : ∀ p ∈ (Finset.univ : Finset (Fin 2 × Fin 16)), ∀ q ∈ (Finset.univ : Finset (Fin 2 × Fin 16)), p ≠ q → Disjoint (pnSet (LP p)) (pnSet (LP q)) := by
  intro p _ q _ h
  rw [Finset.disjoint_left]
  intro x hp hq
  unfold pnSet at hp hq
  rw [Finset.mem_filter, LP0, LP1] at hp hq
  have := hp.2; have := hq.2
  have := p.1.isLt; have := q.1.isLt
  exact h (Prod.ext (Fin.ext (by omega)) (Fin.ext (by omega)))
omit [FloatOps F] in
theorem pn_cover : (Finset.univ : Finset (Fin 2 × Fin 16)).biUnion (fun p => pnSet (LP p)) = Finset.univ := by
  refine Finset.eq_univ_of_forall fun x => Finset.mem_biUnion.mpr ?_
  have h0 : (x 0).val < 4 := (x 0).isLt
  have h1 : (x 1).val < 8 := (x 1).isLt
  refine ⟨(⟨(x 1).val % 2, by omega⟩, ⟨(x 1).val / 2 * 4 + (x 0).val, by omega⟩), Finset.mem_univ _, ?_⟩
  unfold pnSet
  rw [Finset.mem_filter, LP0, LP1]
  refine ⟨Finset.mem_univ _, ?_, ?_⟩
  · show (x 0).val = ((x 1).val / 2 * 4 + (x 0).val) % 4; omega
  · show (x 1).val = ((x 1).val / 2 * 4 + (x 0).val) / 4 * 2 + (x 1).val % 2; omega

omit [FloatOps F] in
theorem p_split (d : Dev nD) (f : Buf (Elt F) (pLoc d)) :
    (pLoc d ↦{fullShare} f : sProp 𝕄) = bigSep Finset.univ fun p : Fin 2 × Fin 16 => pLoc d ↦[psSet (LP p)]{fullShare} f := by
  rw [← pointsTo_biUnion Finset.univ (ℓ := pLoc d) (fun p => psSet (LP p)) ps_disj, ps_cover]
omit [FloatOps F] in
theorem n_split (d : Dev nD) (f : Buf (Elt F) (nLoc d)) :
    (nLoc d ↦{fullShare} f : sProp 𝕄) = bigSep Finset.univ fun p : Fin 2 × Fin 16 => nLoc d ↦[pnSet (LP p)]{fullShare} f := by
  rw [← pointsTo_biUnion Finset.univ (ℓ := nLoc d) (fun p => pnSet (LP p)) pn_disj, pn_cover]

theorem st0_eq (d : Dev nD) : (bigSep Finset.univ fun c : Fin ((K (F := F)).nCore 0) => (P m).st 0 d c)
    = bigSep Finset.univ fun p : Fin 2 × Fin 16 => goP m d p.1 p.2 := by
  rw [BI.bigSep_univ_prod]; rfl
theorem dn0_eq (d : Dev nD) : (bigSep Finset.univ fun c : Fin ((K (F := F)).nCore 0) => (P m).dn 0 d c)
    = bigSep Finset.univ fun p : Fin 2 × Fin 16 => tdP m d p.1 p.2 := by
  rw [BI.bigSep_univ_prod]; rfl

/-- The inputs, each at some share, and the two results whole are every task's pieces. -/
theorem st_intro (d : Dev nD) :
    (iprop(hold (zLoc d) (zA m d) ∗ hold (sLoc d) (sA m d) ∗ hold (kLoc d) (cA m d) ∗ (pLoc d ↦{fullShare} m (pLoc d)) ∗ (nLoc d ↦{fullShare} m (nLoc d))) : sProp 𝕄)
      ⊢ iprop(hold (zLoc d) (zA m d) ∗ bigSep Finset.univ fun c : Fin ((K (F := F)).nCore 0) => (P m).st 0 d c) := by
  rw [st0_eq, p_split, n_split]
  unfold goP dealt inp
  rw [bigSep_sep', bigSep_sep', bigSep_sep', bigSep_sep']
  iintro ⟨Hz, Hs, Hk, Hp, Hn⟩
  ihave Hz := (hold_fan (zLoc d) (zA m d) (Finset.univ : Finset (Fin 2 × Fin 16))) $$ Hz
  ihave Hs := (hold_fan (sLoc d) (sA m d) (Finset.univ : Finset (Fin 2 × Fin 16))) $$ Hs
  ihave Hk := (hold_fan (kLoc d) (cA m d) (Finset.univ : Finset (Fin 2 × Fin 16))) $$ Hk
  icases Hz with ⟨Hz, Hz'⟩
  icases Hs with ⟨Hs, -⟩
  icases Hk with ⟨Hk, -⟩
  isplitl [Hz']; · iexact Hz'
  isplitl [Hz Hs Hk]
  · isplitl [Hz]; · iexact Hz
    isplitl [Hs]; · iexact Hs
    iexact Hk
  isplitl [Hp]; · iexact Hp
  iexact Hn

/-- What the tasks hand back is the two results whole. -/
theorem dn_elim (d : Dev nD) :
    (bigSep Finset.univ fun c : Fin ((K (F := F)).nCore 0) => (P m).dn 0 d c)
      ⊢ (iprop((pLoc d ↦{fullShare} psumRes (zA m d) (sA m d) (cA m d)) ∗ (nLoc d ↦{fullShare} pcntRes (cA m d))) : sProp 𝕄) := by
  rw [dn0_eq, p_split, n_split]
  unfold tdP handed
  rw [bigSep_sep']

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

open StableHlo (held tcRefs after seq)

/-- The host operations before the call, and those after it. -/
def ops1 : List (HloOp τ sig (Elt F)) :=
  [(StableHlo.unary main_arg1 main_v0 ((transpose S18x4x65536 [0, 2, 1] · transposes_S18x65536x4_S18x4x65536_0_2_1) : (⟨S18x65536x4, .f32⟩ : BufTy).Contents (Elt F) → (⟨S18x4x65536, .f32⟩ : BufTy).Contents (Elt F))),
   (StableHlo.unary main_arg2 main_v1 ((transpose S18x4x65536 [0, 2, 1] · transposes_S18x65536x4_S18x4x65536_0_2_1) : (⟨S18x65536x4, .i32⟩ : BufTy).Contents (Elt F) → (⟨S18x4x65536, .i32⟩ : BufTy).Contents (Elt F)))]
def ops2 : List (HloOp τ sig (Elt F)) :=
  [(StableHlo.nullary main_cst (constant S_ .f32 0x3F666666#32)),
   (StableHlo.unary main_cst main_v3 (broadcastInDim S4x8192 ![] bcast_S_S4x8192 : (⟨S_, .f32⟩ : BufTy).Contents (Elt F) → (⟨S4x8192, .f32⟩ : BufTy).Contents (Elt F))),
   (StableHlo.binary main_v3 main_arg3 main_v4 (mulf : (⟨S4x8192, .f32⟩ : BufTy).Contents (Elt F) → (⟨S4x8192, .f32⟩ : BufTy).Contents (Elt F) → (⟨S4x8192, .f32⟩ : BufTy).Contents (Elt F))),
   (StableHlo.nullary main_cst_0 (constant S_ .f32 0x00000000#32)),
   (StableHlo.binary main_v2_1 main_cst_0 main_v5 ((fun x v => Host.reduceAdd x v reducesTo_S4x8x8192_S4x8192_d1 h_S_) : (⟨S4x8x8192, .f32⟩ : BufTy).Contents (Elt F) → (⟨S_, .f32⟩ : BufTy).Contents (Elt F) → (⟨S4x8192, .f32⟩ : BufTy).Contents (Elt F))),
   (StableHlo.nullary main_cst_1 (constant S_ .f32 0x3DCCCCCD#32)),
   (StableHlo.unary main_cst_1 main_v6 (broadcastInDim S4x8192 ![] bcast_S_S4x8192 : (⟨S_, .f32⟩ : BufTy).Contents (Elt F) → (⟨S4x8192, .f32⟩ : BufTy).Contents (Elt F))),
   (StableHlo.binary main_v6 main_v5 main_v7 (mulf : (⟨S4x8192, .f32⟩ : BufTy).Contents (Elt F) → (⟨S4x8192, .f32⟩ : BufTy).Contents (Elt F) → (⟨S4x8192, .f32⟩ : BufTy).Contents (Elt F))),
   (StableHlo.binary main_v4 main_v7 main_v8 (addf : (⟨S4x8192, .f32⟩ : BufTy).Contents (Elt F) → (⟨S4x8192, .f32⟩ : BufTy).Contents (Elt F) → (⟨S4x8192, .f32⟩ : BufTy).Contents (Elt F))),
   (StableHlo.nullary main_cst_2 (constant S_ .f32 0x00000000#32)),
   (StableHlo.binary main_v2_0 main_cst_2 main_v9 ((fun x v => Host.reduceAdd x v reducesTo_S4x64x8192_S64x8192_d0 h_S_) : (⟨S4x64x8192, .f32⟩ : BufTy).Contents (Elt F) → (⟨S_, .f32⟩ : BufTy).Contents (Elt F) → (⟨S64x8192, .f32⟩ : BufTy).Contents (Elt F))),
   (StableHlo.reshape main_v9 main_v10 (rfl : (.f32 : EltTy) = .f32) shapeCasts_S64x8192_S4x16x8192),
   (StableHlo.unary main_arg4 main_v11 ((transpose S4x16x8192 [0, 2, 1] · transposes_S4x8192x16_S4x16x8192_0_2_1) : (⟨S4x8192x16, .f32⟩ : BufTy).Contents (Elt F) → (⟨S4x16x8192, .f32⟩ : BufTy).Contents (Elt F))),
   (StableHlo.nullary main_cst_3 (constant S_ .f32 0x3F666666#32)),
   (StableHlo.unary main_cst_3 main_v12 (broadcastInDim S4x16x8192 ![] bcast_S_S4x16x8192 : (⟨S_, .f32⟩ : BufTy).Contents (Elt F) → (⟨S4x16x8192, .f32⟩ : BufTy).Contents (Elt F))),
   (StableHlo.binary main_v12 main_v11 main_v13 (mulf : (⟨S4x16x8192, .f32⟩ : BufTy).Contents (Elt F) → (⟨S4x16x8192, .f32⟩ : BufTy).Contents (Elt F) → (⟨S4x16x8192, .f32⟩ : BufTy).Contents (Elt F))),
   (StableHlo.nullary main_cst_4 (constant S_ .f32 0x3DCCCCCD#32)),
   (StableHlo.unary main_cst_4 main_v14 (broadcastInDim S4x16x8192 ![] bcast_S_S4x16x8192 : (⟨S_, .f32⟩ : BufTy).Contents (Elt F) → (⟨S4x16x8192, .f32⟩ : BufTy).Contents (Elt F))),
   (StableHlo.binary main_v14 main_v10 main_v15 (mulf : (⟨S4x16x8192, .f32⟩ : BufTy).Contents (Elt F) → (⟨S4x16x8192, .f32⟩ : BufTy).Contents (Elt F) → (⟨S4x16x8192, .f32⟩ : BufTy).Contents (Elt F))),
   (StableHlo.binary main_v13 main_v15 main_v16 (addf : (⟨S4x16x8192, .f32⟩ : BufTy).Contents (Elt F) → (⟨S4x16x8192, .f32⟩ : BufTy).Contents (Elt F) → (⟨S4x16x8192, .f32⟩ : BufTy).Contents (Elt F))),
   (StableHlo.unary main_v16 main_v17 ((transpose S4x8192x16 [0, 2, 1] · transposes_S4x16x8192_S4x8192x16_0_2_1) : (⟨S4x16x8192, .f32⟩ : BufTy).Contents (Elt F) → (⟨S4x8192x16, .f32⟩ : BufTy).Contents (Elt F)))]

theorem main_eq (d : Dev nD) : main (F := F) d = (seq ops1 >>= fun _ => (K (F := F)).run d 0 >>= fun _ => seq ops2) := by
  unfold main ops1 ops2
  simp only [seq, bind_assoc, pure_bind]

abbrev dv (b : Ref sig .tc) : DevRef τ sig := Proc.devRef .tc b

/-- The contents at the launch; before the call; after it. -/
def V0 (d : Dev nD) : Valuation τ sig (Elt F) := fun b => m (d, b)
def V1 (d : Dev nD) : Valuation τ sig (Elt F) := after ops1 (V0 m d)
def V2 (d : Dev nD) : Valuation τ sig (Elt F) :=
  Function.update (Function.update (V1 m d) (dv main_v2_0) (psumRes (zA m d) (sA m d) (cA m d))) (dv main_v2_1) (pcntRes (cA m d))
/-- The contents at the end. -/
def V3 (d : Dev nD) : Valuation τ sig (Elt F) := after ops2 (V2 m d)

/-- The arrays the call reads; with those it writes; all but those it reads. -/
def Sin : Finset (DevRef τ sig) := {dv main_arg0, dv main_v0, dv main_v1}
def Sout : Finset (DevRef τ sig) := {dv main_v2_0, dv main_v2_1}
def Srest : Finset (DevRef τ sig) := tcRefs τ sig \ Sin

theorem ops1_sub : ∀ op ∈ ops1 (F := F), op.bufs ⊆ tcRefs τ sig := by
  intro op h
  simp only [ops1, List.mem_cons, List.mem_nil_iff, or_false] at h
  rcases h with rfl|rfl <;> simp
theorem ops1_fresh : ∀ op ∈ ops1 (F := F), op.fresh = ∅ := by
  intro op h
  simp only [ops1, List.mem_cons, List.mem_nil_iff, or_false] at h
  rcases h with rfl|rfl <;> rfl
theorem ops2_sub : ∀ op ∈ ops2 (F := F), op.bufs ⊆ Srest := by
  intro op h
  simp only [ops2, List.mem_cons, List.mem_nil_iff, or_false] at h
  unfold Srest
  rw [Finset.subset_sdiff]
  rcases h with rfl|rfl|rfl|rfl|rfl|rfl|rfl|rfl|rfl|rfl|rfl|rfl|rfl|rfl|rfl|rfl|rfl|rfl|rfl|rfl|rfl <;> refine ⟨by simp, ?_⟩ <;>
    first
    | (rw [StableHlo.nullary_bufs]; decide)
    | (rw [StableHlo.unary_bufs]; decide)
    | (rw [StableHlo.binary_bufs]; decide)
    | (rw [StableHlo.reshape_bufs]; decide)
theorem ops2_fresh : ∀ op ∈ ops2 (F := F), op.fresh = ∅ := by
  intro op h
  simp only [ops2, List.mem_cons, List.mem_nil_iff, or_false] at h
  rcases h with rfl|rfl|rfl|rfl|rfl|rfl|rfl|rfl|rfl|rfl|rfl|rfl|rfl|rfl|rfl|rfl|rfl|rfl|rfl|rfl|rfl <;> rfl

omit [FloatOps F] in
theorem unscopedBufs_held (d : Dev nD) (W : Valuation τ sig (Elt F)) :
    (unscopedBufs d (fun b => W (dv b)) : sProp 𝕄) = held (SparseCore.T d) (tcRefs τ sig) W := by
  unfold unscopedBufs held tcRefs
  rw [show (Finset.univ.filter fun b : Ref sig .tc => ¬ b.isScoped) = Finset.univ by decide, BI.bigSep_map]
  rfl

theorem V1_arg0 (d : Dev nD) : V1 m d (dv main_arg0) = zA m d := by
  unfold V1 ops1; after_results; rfl
theorem V1_v0 (d : Dev nD) : V1 m d (dv main_v0) = sA m d := by
  unfold V1 ops1; after_results; rfl
theorem V1_v1 (d : Dev nD) : V1 m d (dv main_v1) = cA m d := by
  unfold V1 ops1; after_results; rfl
theorem V1_p (d : Dev nD) : V1 m d (dv main_v2_0) = m (pLoc d) := by
  unfold V1 ops1; after_results; rfl
theorem V1_n (d : Dev nD) : V1 m d (dv main_v2_1) = m (nLoc d) := by
  unfold V1 ops1; after_results; rfl

omit [FloatOps F] in
theorem hold_intro {ℓ : Loc nD τ sig} {f g : Buf (Elt F) ℓ} (h : f = g) : (ℓ ↦{fullShare} f : sProp 𝕄) ⊢ hold ℓ g := by
  subst h; unfold hold; iintro H; iexists fullShare; iexact H

/-- Before the call: what it reads, what it writes, and the rest. -/
theorem held_call (d : Dev nD) :
    (held (SparseCore.T d) (tcRefs τ sig) (V1 m d) : sProp 𝕄)
      ⊢ iprop((hold (zLoc d) (zA m d) ∗ hold (sLoc d) (sA m d) ∗ hold (kLoc d) (cA m d) ∗ (pLoc d ↦{fullShare} m (pLoc d)) ∗ (nLoc d ↦{fullShare} m (nLoc d)))
          ∗ held (SparseCore.T d) (Srest \ Sout) (V1 m d)) := by
  rw [StableHlo.held_sub_split (SparseCore.T d) (S := tcRefs τ sig) (T := Sin) (by decide) (V1 m d), show tcRefs τ sig \ Sin = Srest from rfl,
    StableHlo.held_sub_split (SparseCore.T d) (S := Srest) (T := Sout) (by decide) (V1 m d)]
  rw [show (held (SparseCore.T d) Sin (V1 m d) : sProp 𝕄) = iprop((zLoc d ↦{fullShare} V1 m d (dv main_arg0)) ∗ (sLoc d ↦{fullShare} V1 m d (dv main_v0)) ∗ (kLoc d ↦{fullShare} V1 m d (dv main_v1))) from by
      unfold held Sin; rw [SparseCore.bigSep_insert' (by decide), SparseCore.bigSep_insert' (by decide), bigSep_singleton],
    show (held (SparseCore.T d) Sout (V1 m d) : sProp 𝕄) = iprop((pLoc d ↦{fullShare} V1 m d (dv main_v2_0)) ∗ (nLoc d ↦{fullShare} V1 m d (dv main_v2_1))) from by
      unfold held Sout; rw [SparseCore.bigSep_insert' (by decide), bigSep_singleton],
    V1_p, V1_n]
  iintro ⟨⟨Hz, Hs, Hk⟩, ⟨Hp, Hn⟩, Hr⟩
  isplitr [Hr]
  · isplitl [Hz]; · iapply (hold_intro (V1_arg0 m d)); iexact Hz
    isplitl [Hs]; · iapply (hold_intro (V1_v0 m d)); iexact Hs
    isplitl [Hk]; · iapply (hold_intro (V1_v1 m d)); iexact Hk
    isplitl [Hp]; · iexact Hp
    iexact Hn
  iexact Hr

theorem V2_p (d : Dev nD) : V2 m d (dv main_v2_0) = psumRes (zA m d) (sA m d) (cA m d) := by
  unfold V2; rw [Function.update_of_ne (by decide), Function.update_self]
theorem V2_n (d : Dev nD) : V2 m d (dv main_v2_1) = pcntRes (cA m d) := by
  unfold V2; rw [Function.update_self]
theorem V2_other (d : Dev nD) (b : DevRef τ sig) (h0 : b ≠ dv main_v2_0) (h1 : b ≠ dv main_v2_1) : V2 m d b = V1 m d b := by
  unfold V2; rw [Function.update_of_ne h1, Function.update_of_ne h0]

/-- After the call: its results put back among the rest. -/
theorem held_back (d : Dev nD) :
    (iprop(((pLoc d ↦{fullShare} psumRes (zA m d) (sA m d) (cA m d)) ∗ (nLoc d ↦{fullShare} pcntRes (cA m d))) ∗ held (SparseCore.T d) (Srest \ Sout) (V1 m d)) : sProp 𝕄)
      ⊢ held (SparseCore.T d) Srest (V2 m d) := by
  rw [StableHlo.held_sub_split (SparseCore.T d) (S := Srest) (T := Sout) (by decide) (V2 m d),
    show (held (SparseCore.T d) Sout (V2 m d) : sProp 𝕄) = iprop((pLoc d ↦{fullShare} V2 m d (dv main_v2_0)) ∗ (nLoc d ↦{fullShare} V2 m d (dv main_v2_1))) from by
      unfold held Sout; rw [SparseCore.bigSep_insert' (by decide), bigSep_singleton],
    V2_p, V2_n, StableHlo.held_congr (SparseCore.T d) (S := Srest \ Sout) (V := V2 m d) (V' := V1 m d) (fun b hb => by
      have h := (Finset.mem_sdiff.mp hb).2
      unfold Sout at h
      rw [Finset.mem_insert, Finset.mem_singleton, not_or] at h
      exact V2_other m d b h.1 h.2)]

abbrev FIN (d : Dev nD) : sProp 𝕄 := iprop(hold (zLoc d) (zA m d) ∗ held (SparseCore.T d) Srest (V3 m d))

/-- @main on device `d`'s TensorCore: the transposes, the call, the operations on its results. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (tcRefs τ sig) (V0 m d) from unscopedBufs_held d (V0 m d), main_eq]
  iintro ⟨#Hctx, Hst, ⟨Hb, Hheld, Hts, -⟩, -⟩
  iapply (StableHlo.wp_seq 𝒱 none Set.univ d (tcRefs τ sig) _ ops1 ops1_sub ops1_fresh (V0 m d)) $$ [Hb Hheld]
  · isplitl [Hb]; · iexact Hb
    iexact Hheld
  iintro ⟨Hb, Hheld⟩
  ihave Hh := (show (held (SparseCore.T d) (tcRefs τ sig) (after ops1 (V0 m d)) : sProp 𝕄) ⊢ _ from held_call m d) $$ Hheld
  icases Hh with ⟨Hin, Hrest⟩
  ihave Hin := (st_intro m d) $$ Hin
  icases Hin with ⟨Hz, Hin⟩
  rw [wp_bind]
  iapply ((K (F := F)).wp_run (D (F := F)) 𝒱 (EH := EH) (P := P m) κ d 0) $$ [Hst Hin Hb Hts Hrest Hz]
  isplitr; · iexact Hctx
  isplitl [Hst]; · iexact Hst
  isplitl [Hin]; · iexact Hin
  iintro ⟨Hst, Hdn⟩
  ihave Hdn := (dn_elim m d) $$ Hdn
  ihave Hheld := (held_back m d) $$ [Hdn Hrest]
  · isplitl [Hdn]; · iexact Hdn
    iexact Hrest
  rw [show (seq (ops2 (F := F)) : Prog (TpuEff nD τ sig (Elt F) (SparseCore.Sig (Pipeline.Sig Λ₀ (Fin 0) fun p => (pcfgs (F := F) p).Adm) 1) .tc) PUnit) = (seq ops2 >>= fun _ => pure ⟨⟩) from (bind_pure_unit).symm]
  iapply (StableHlo.wp_seq 𝒱 none Set.univ d Srest _ ops2 ops2_sub ops2_fresh (V2 m d)) $$ [Hb Hheld]
  · isplitl [Hb]; · iexact Hb
    iexact Hheld
  iintro ⟨Hb, Hheld⟩
  rw [wp_pure]
  imodintro
  isplitl [Hst]; · iexact Hst
  isplitl [Hz Hheld]
  · isplitl [Hz]; · iexact Hz
    iexact Hheld
  isplitl [Hb] <;> iassumption

omit [FloatOps F] in
theorem held_agree (d : Dev nD) (s' : Phys nD τ sig (Elt F)) (V : Valuation τ sig (Elt F)) (S : Finset (DevRef τ sig)) :
    iprop(held (SparseCore.T d) S V ∗ SI s') ⊢ (⌜∀ b ∈ S, s'.mem.mem (d, b) = V b⌝ : sProp 𝕄) := by
  unfold held
  induction S using Finset.induction with
  | empty => iintro H; ipureintro; intro b hb; exact absurd hb (Finset.notMem_empty b)
  | insert a s ha ih =>
    rw [SparseCore.bigSep_insert' ha]
    iintro ⟨⟨Ha, Hs⟩, HSI⟩
    ihave H := (persistent_entails_right (SI_pointsTo_agree (st := s') (ℓ := (d, a)) (I := Finset.univ) (q := fullShare) (f := V a))) $$ [HSI Ha]
    · isplitl [HSI] <;> iassumption
    icases H with ⟨%h1, HSI, -⟩
    ihave H := ih $$ [Hs HSI]
    · isplitl [Hs] <;> iassumption
    icases H with %h2
    ipureintro
    intro b hb
    rcases Finset.mem_insert.mp hb with rfl | hb
    · exact funext fun i => h1 i (Finset.mem_univ _)
    · exact h2 b hb

def fq (d : Dev nD) (s' : Phys nD τ sig (Elt F)) : Prop := s'.mem.mem (zLoc d) = m (zLoc d) ∧ ∀ b ∈ Srest, s'.mem.mem (d, b) = V3 m d b

theorem hfin (d : Dev nD) (s' : Phys nD τ sig (Elt F)) : iprop(FIN m d ∗ SI s') ⊢ (⌜fq m d s'⌝ : sProp 𝕄) := by
  unfold FIN hold
  iintro ⟨⟨⟨%q, Hz⟩, Hh⟩, HSI⟩
  ihave H := (persistent_entails_right (SI_pointsTo_agree (st := s') (ℓ := zLoc d) (I := Finset.univ) (q := q) (f := m (zLoc d)))) $$ [HSI Hz]
  · isplitl [HSI] <;> iassumption
  icases H with ⟨%h1, HSI, -⟩
  ihave H := (held_agree d s' (V3 m d) Srest) $$ [Hh HSI]
  · isplitl [Hh] <;> iassumption
  icases H with %h2
  ipureintro
  exact ⟨funext fun i => h1 i (Finset.mem_univ _), h2⟩

/-! ## The program's run -/

def QC : PUnit × MemSt nD τ sig (Elt F) → Prop := fun r =>
  (∀ d : Dev nD, r.2.mem (zLoc d) = m (zLoc d) ∧ ∀ b ∈ Srest, r.2.mem (d, b) = V3 m d b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- An argument array the call does not read holds at the end what it held at the launch. -/
theorem V3_arg (d : Dev nD) (b : Ref sig .tc) (hb : b = main_arg1 ∨ b = main_arg2 ∨ b = main_arg3 ∨ b = main_arg4) : V3 m d (dv b) = m (d, dv b) := by
  have h2 : V3 m d (dv b) = V2 m d (dv b) := by
    unfold V3 ops2; rcases hb with rfl | rfl | rfl | rfl <;> after_results
  have h1 : V1 m d (dv b) = V0 m d (dv b) := by
    unfold V1 ops1; rcases hb with rfl | rfl | rfl | rfl <;> after_results
  rw [h2, V2_other m d (dv b) (by rcases hb with rfl | rfl | rfl | rfl <;> decide) (by rcases hb with rfl | rfl | rfl | rfl <;> decide), h1]
  rfl

end Cert.Proof.SumsI
-- ==== Proof.FrameI.lean ====
/-
  The frame of the kernel's program, and its run with the values left in the two results.
-/
module

public import proofs.«01_k».proof.Proof.LaunchI
public import proofs.«01_k».proof.Defs
public import proofs.«01_k».proof.Proof.Gen.Pre_codes_in_range

@[expose] public section

noncomputable section

namespace Cert.Proof.SumsI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.KernelIdeal.main_arg0_scv : Memref Cert.KernelIdeal.sig Kind.scVector Space.hbm Cert.KernelIdeal.S18x16x65536 EltTy.i32)
local notation "sV" => (Memref.whole Cert.KernelIdeal.main_v0_scv : Memref Cert.KernelIdeal.sig Kind.scVector Space.hbm Cert.KernelIdeal.S18x4x65536 EltTy.f32)
local notation "kV" => (Memref.whole Cert.KernelIdeal.main_v1_scv : Memref Cert.KernelIdeal.sig Kind.scVector Space.hbm Cert.KernelIdeal.S18x4x65536 EltTy.i32)
local notation "pV" => (Memref.whole Cert.KernelIdeal.main_v2_0_scv : Memref Cert.KernelIdeal.sig Kind.scVector Space.hbm Cert.KernelIdeal.S4x64x8192 EltTy.f32)
local notation "nV" => (Memref.whole Cert.KernelIdeal.main_v2_1_scv : Memref Cert.KernelIdeal.sig Kind.scVector Space.hbm Cert.KernelIdeal.S4x8x8192 EltTy.f32)
local notation "tabV" => (Memref.whole Cert.KernelIdeal.cc0_scratch0 : Memref Cert.KernelIdeal.sig Kind.scVector Space.vmem Cert.KernelIdeal.S65536 EltTy.f32)
local notation "cntV" => (Memref.whole Cert.KernelIdeal.cc0_scratch1 : Memref Cert.KernelIdeal.sig Kind.scVector Space.vmem Cert.KernelIdeal.S8192 EltTy.f32)
local notation "z0V" => (Memref.whole Cert.KernelIdeal.cc0_scratch2 : Memref Cert.KernelIdeal.sig Kind.scVector Space.vmem Cert.KernelIdeal.S4096 EltTy.i32)
local notation "z1V" => (Memref.whole Cert.KernelIdeal.cc0_scratch3 : Memref Cert.KernelIdeal.sig Kind.scVector Space.vmem Cert.KernelIdeal.S4096 EltTy.i32)
local notation "s0V" => (Memref.whole Cert.KernelIdeal.cc0_scratch4 : Memref Cert.KernelIdeal.sig Kind.scVector Space.vmem Cert.KernelIdeal.S2048 EltTy.f32)
local notation "s1V" => (Memref.whole Cert.KernelIdeal.cc0_scratch5 : Memref Cert.KernelIdeal.sig Kind.scVector Space.vmem Cert.KernelIdeal.S2048 EltTy.f32)
local notation "c0V" => (Memref.whole Cert.KernelIdeal.cc0_scratch6 : Memref Cert.KernelIdeal.sig Kind.scVector Space.vmem Cert.KernelIdeal.S2048 EltTy.i32)
local notation "c1V" => (Memref.whole Cert.KernelIdeal.cc0_scratch7 : Memref Cert.KernelIdeal.sig Kind.scVector Space.vmem Cert.KernelIdeal.S2048 EltTy.i32)

abbrev FF : FTy → Type := Ideal

/-- The precondition, jax's own two comparisons all ones, says that every code is below 8192. -/
theorem ok_of_pre (m : (ℓ : Loc nD τ sig) → Buf (Elt FF) ℓ) (h : Cert.Pre_KernelIdeal m) : PreOK (F := FF) m := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ (v b : BitVec 32), IntOp.andi (IntOp.cmpi .sge v 0#32) (IntOp.cmpi .slt v b) = 1#1 → b.toNat < 2147483648 → v.toNat < b.toNat := by
    intro v b e hb
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  intro d j
  have e := congrFun (h d) j
  simp only [Cert.Pre_codes_in_range.fn, andi, cmpi, broadcastInDim, constantI] at e
  exact key _ _ e (by decide)

theorem arg_mem (b : Ref sig .tc) (hb : b = main_arg1 ∨ b = main_arg2 ∨ b = main_arg3 ∨ b = main_arg4 ∨ b = main_v8 ∨ b = main_v17) : dv b ∈ Srest := by
  rcases hb with rfl | rfl | rfl | rfl | rfl | rfl <;> decide

/-- The program's run: the arguments unchanged, the two results at their values, every counter at zero. -/
theorem run_vals (m : (ℓ : Loc nD τ sig) → Buf (Elt FF) ℓ) (ρ : Dev nD → PrngReg) (h : Cert.Pre_KernelIdeal m) :
    θ_run (Cert.KernelIdeal.defs (F := FF)) (Cert.KernelIdeal.threads (F := FF)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v8) = V3 m c (dv main_v8)
      ∧ r.2.mem ((c.tc : Thread nD τ).loc main_v17) = V3 m c (dv main_v17))
      ∧ r.2.sem = fun _ => 0) :=
  (θ_run Cert.KernelIdeal.defs _ _).mono (fun _ hq => ⟨fun c => ⟨(hq.1 c).1,
    ((hq.1 c).2 _ (arg_mem main_arg1 (by decide))).trans (V3_arg m c main_arg1 (by decide)),
    ((hq.1 c).2 _ (arg_mem main_arg2 (by decide))).trans (V3_arg m c main_arg2 (by decide)),
    ((hq.1 c).2 _ (arg_mem main_arg3 (by decide))).trans (V3_arg m c main_arg3 (by decide)),
    ((hq.1 c).2 _ (arg_mem main_arg4 (by decide))).trans (V3_arg m c main_arg4 (by decide)),
    (hq.1 c).2 _ (arg_mem main_v8 (by decide)), (hq.1 c).2 _ (arg_mem main_v17 (by decide))⟩, hq.2⟩)
    (run_main (F := FF) m ρ (ok_of_pre m h))

/-- The frame claim of Defs.lean for this program. -/
theorem frame : Cert.quiescent_KernelIdeal := fun m ρ hpre =>
  (θ_run Cert.KernelIdeal.defs _ _).mono (fun _ h => ⟨fun c => ⟨(h.1 c).1, (h.1 c).2.1, (h.1 c).2.2.1, (h.1 c).2.2.2.1, (h.1 c).2.2.2.2.1⟩, h.2⟩) (run_vals m ρ hpre)

end Cert.Proof.SumsI
-- ==== Proof.SumsK.lean ====
/-
  The SparseCore call `segment_sums`: the program as the launch theorem sees it, the buffers a task names, and what
  ONE lane step (sixteen rows) of its inner loops does to the running table and to the running counts.
-/
module

public import proofs.«01_k».proof.Kernel
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.ScatterRule
public import proofs.«01_k».proof.Proof.Gen.Kernel
public import proofs.«01_k».proof.Proof.Gen.Kernel.Skeleton

@[expose] public section

noncomputable section

namespace Cert.Proof.SumsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers a task names -/

local notation "zV" => (Memref.whole Cert.Kernel.main_arg0_scv : Memref Cert.Kernel.sig Kind.scVector Space.hbm Cert.Kernel.S18x16x65536 EltTy.i32)
local notation "sV" => (Memref.whole Cert.Kernel.main_v0_scv : Memref Cert.Kernel.sig Kind.scVector Space.hbm Cert.Kernel.S18x4x65536 EltTy.f32)
local notation "kV" => (Memref.whole Cert.Kernel.main_v1_scv : Memref Cert.Kernel.sig Kind.scVector Space.hbm Cert.Kernel.S18x4x65536 EltTy.i32)
local notation "pV" => (Memref.whole Cert.Kernel.main_v2_0_scv : Memref Cert.Kernel.sig Kind.scVector Space.hbm Cert.Kernel.S4x64x8192 EltTy.f32)
local notation "nV" => (Memref.whole Cert.Kernel.main_v2_1_scv : Memref Cert.Kernel.sig Kind.scVector Space.hbm Cert.Kernel.S4x8x8192 EltTy.f32)
local notation "tabV" => (Memref.whole Cert.Kernel.cc0_scratch0 : Memref Cert.Kernel.sig Kind.scVector Space.vmem Cert.Kernel.S65536 EltTy.f32)
local notation "cntV" => (Memref.whole Cert.Kernel.cc0_scratch1 : Memref Cert.Kernel.sig Kind.scVector Space.vmem Cert.Kernel.S8192 EltTy.f32)
local notation "z0V" => (Memref.whole Cert.Kernel.cc0_scratch2 : Memref Cert.Kernel.sig Kind.scVector Space.vmem Cert.Kernel.S4096 EltTy.i32)
local notation "z1V" => (Memref.whole Cert.Kernel.cc0_scratch3 : Memref Cert.Kernel.sig Kind.scVector Space.vmem Cert.Kernel.S4096 EltTy.i32)
local notation "s0V" => (Memref.whole Cert.Kernel.cc0_scratch4 : Memref Cert.Kernel.sig Kind.scVector Space.vmem Cert.Kernel.S2048 EltTy.f32)
local notation "s1V" => (Memref.whole Cert.Kernel.cc0_scratch5 : Memref Cert.Kernel.sig Kind.scVector Space.vmem Cert.Kernel.S2048 EltTy.f32)
local notation "c0V" => (Memref.whole Cert.Kernel.cc0_scratch6 : Memref Cert.Kernel.sig Kind.scVector Space.vmem Cert.Kernel.S2048 EltTy.i32)
local notation "c1V" => (Memref.whole Cert.Kernel.cc0_scratch7 : Memref Cert.Kernel.sig Kind.scVector Space.vmem Cert.Kernel.S2048 EltTy.i32)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

variable [FloatOps F]

/-! ## One lane step -/

/-- Element `o + x` of a buffer of `n` words. -/
def at16 {n : Nat} {α : Type} (f : (⟨1, ![n]⟩ : Shape).Idx → α) (o : Nat) (h : o + 16 ≤ n) : S16.Idx → α :=
  fun x => f (fun _ => ⟨o + (x 0).val, by have := (x 0).isLt; simp at this ⊢; omega⟩)

/-- Codebook `ch` (of the task's eight) of the table, as the body slices it. -/
abbrev tabS (o : Nat) (h : ∀ a, (![o] : Fin 1 → Nat) a + S8192.size a ≤ S65536.size a) : Memref sig .scVector .vmem S8192 .f32 :=
  (tabV).slice (Rect.unit (s := S65536) ![o] S8192.size h) (fun _ => rfl)

/-- The table after `v` is added, lane by lane, at the positions `c` of the row that starts at `o`. -/
def scat (o : Nat) (h : ∀ a, (![o] : Fin 1 → Nat) a + S8192.size a ≤ S65536.size a) (c : IVec S16 32) (hc : ∀ x, (c x).toNat < 8192)
    (v : FVec F S16 .f32) (f : S65536.Idx → Elt F .f32) : S65536.Idx → Elt F .f32 :=
  ((tabS o h).access (.whole S8192)).write (Elt F) f
    (storeIdx (((tabS o h).access (.whole S8192)).read (Elt F) f) (![c] : Fin 1 → IVec S16 32) v (fun _ => 1#1) true
      (fun a x => by fin_cases a; exact hc x)) Finset.univ

/-- The counts after `v` is added, lane by lane, at the positions `c`. -/
def scatC (c : IVec S16 32) (hc : ∀ x, (c x).toNat < 8192)
    (v : FVec F S16 .f32) (f : S8192.Idx → Elt F .f32) : S8192.Idx → Elt F .f32 :=
  ((cntV).access (.whole S8192)).write (Elt F) f
    (storeIdx (((cntV).access (.whole S8192)).read (Elt F) f) (![c] : Fin 1 → IVec S16 32) v (fun _ => 1#1) true
      (fun a x => by fin_cases a; exact hc x)) Finset.univ

/-- One lane step's table: sixteen rows' four-byte words `za`, `zb`, their scales `s`, their codes `c`. -/
def tab16 (c : IVec S16 32) (hc : ∀ x, (c x).toNat < 8192) (s : Vec F S16 .f32) (za zb : Vec F S16 .i32)
    (f : S65536.Idx → Elt F .f32) : S65536.Idx → Elt F .f32 :=
  scat 57344 inb_S65536_S8192_57344 c hc (k0_pay14 (k0_pay1 s) zb) <|
  scat 49152 inb_S65536_S8192_49152 c hc (k0_pay13 (k0_pay1 s) zb) <|
  scat 40960 inb_S65536_S8192_40960 c hc (k0_pay12 (k0_pay1 s) zb) <|
  scat 32768 inb_S65536_S8192_32768 c hc (k0_pay11 (k0_pay1 s) zb) <|
  scat 24576 inb_S65536_S8192_24576 c hc (k0_pay5 s za) <|
  scat 16384 inb_S65536_S8192_16384 c hc (k0_pay4 s za) <|
  scat 8192 inb_S65536_S8192_8192 c hc (k0_pay3 s za) <|
  scat 0 inb_S65536_S8192_0 c hc (k0_pay2 s za) f

variable (d : Dev nD) (L : grid0.Coords)

/-- `vector_store_idx` into a row of the table, holding the table whole. -/
theorem wp_scat {o : Nat} {h : ∀ a, (![o] : Fin 1 → Nat) a + S8192.size a ≤ S65536.size a} {c : IVec S16 32}
    (hc : ∀ x, (c x).toNat < 8192) {v : FVec F S16 .f32}
    {hi : ∀ a x, ((![c] : Fin 1 → IVec S16 32) a x).toNat < S8192.size a} {hs : ((tabS o h).access (.whole S8192)).Stores Finset.univ}
    {α : Type} {k : PUnit → Prog (TpuEff nD τ sig (Elt F) Λ₀ (VT d L).2) α} {Q : α → sProp 𝕄} (f : Buf (Elt F) ((tabV).view.loc (VT d L))) :
    ((tabV).view.loc (VT d L) ↦{fullShare} f : sProp 𝕄)
      ⊢ iprop((((tabV).view.loc (VT d L) ↦{fullShare} (scat o h c hc v f)) -∗ wp frame (wpE (defs₀ (F := F)) 𝒱₀ (VT d L) none) Set.univ (k ⟨⟩) Q)
          -∗ wp frame (wpE (defs₀ (F := F)) 𝒱₀ (VT d L) none) Set.univ
              (SparseCore.vectorStoreIdx (tabS o h) (![c] : Fin 1 → IVec S16 32) v (fun _ => 1#1) true hi hs >>= k) Q) :=
  wp_storeIdx_within (defs := defs₀ (F := F)) 𝒱₀ (VT d L) none Set.univ (base := tabS o h) (S := Finset.univ) (Finset.subset_univ _) (f := f)

/-- `vector_store_idx` into the counts, holding them whole. -/
theorem wp_scatC {c : IVec S16 32}
    (hc : ∀ x, (c x).toNat < 8192) {v : FVec F S16 .f32}
    {hi : ∀ a x, ((![c] : Fin 1 → IVec S16 32) a x).toNat < S8192.size a} {hs : ((cntV).access (.whole S8192)).Stores Finset.univ}
    {α : Type} {k : PUnit → Prog (TpuEff nD τ sig (Elt F) Λ₀ (VT d L).2) α} {Q : α → sProp 𝕄} (f : Buf (Elt F) ((cntV).view.loc (VT d L))) :
    ((cntV).view.loc (VT d L) ↦{fullShare} f : sProp 𝕄)
      ⊢ iprop((((cntV).view.loc (VT d L) ↦{fullShare} (scatC c hc v f)) -∗ wp frame (wpE (defs₀ (F := F)) 𝒱₀ (VT d L) none) Set.univ (k ⟨⟩) Q)
          -∗ wp frame (wpE (defs₀ (F := F)) 𝒱₀ (VT d L) none) Set.univ
              (SparseCore.vectorStoreIdx (cntV) (![c] : Fin 1 → IVec S16 32) v (fun _ => 1#1) true hi hs >>= k) Q) :=
  wp_storeIdx_within (defs := defs₀ (F := F)) 𝒱₀ (VT d L) none Set.univ (base := cntV) (S := Finset.univ) (Finset.subset_univ _) (f := f)

end Cert.Proof.SumsK
-- ==== Proof.LanesK.lean ====
/-
  ONE trip of each of the call's two inner loops: sixteen rows of the chunk in slot 0 (its counts too), of slot 1.
-/
module

public import proofs.«01_k».proof.Proof.SumsK

@[expose] public section

noncomputable section

namespace Cert.Proof.SumsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.Kernel.main_arg0_scv : Memref Cert.Kernel.sig Kind.scVector Space.hbm Cert.Kernel.S18x16x65536 EltTy.i32)
local notation "sV" => (Memref.whole Cert.Kernel.main_v0_scv : Memref Cert.Kernel.sig Kind.scVector Space.hbm Cert.Kernel.S18x4x65536 EltTy.f32)
local notation "kV" => (Memref.whole Cert.Kernel.main_v1_scv : Memref Cert.Kernel.sig Kind.scVector Space.hbm Cert.Kernel.S18x4x65536 EltTy.i32)
local notation "pV" => (Memref.whole Cert.Kernel.main_v2_0_scv : Memref Cert.Kernel.sig Kind.scVector Space.hbm Cert.Kernel.S4x64x8192 EltTy.f32)
local notation "nV" => (Memref.whole Cert.Kernel.main_v2_1_scv : Memref Cert.Kernel.sig Kind.scVector Space.hbm Cert.Kernel.S4x8x8192 EltTy.f32)
local notation "tabV" => (Memref.whole Cert.Kernel.cc0_scratch0 : Memref Cert.Kernel.sig Kind.scVector Space.vmem Cert.Kernel.S65536 EltTy.f32)
local notation "cntV" => (Memref.whole Cert.Kernel.cc0_scratch1 : Memref Cert.Kernel.sig Kind.scVector Space.vmem Cert.Kernel.S8192 EltTy.f32)
local notation "z0V" => (Memref.whole Cert.Kernel.cc0_scratch2 : Memref Cert.Kernel.sig Kind.scVector Space.vmem Cert.Kernel.S4096 EltTy.i32)
local notation "z1V" => (Memref.whole Cert.Kernel.cc0_scratch3 : Memref Cert.Kernel.sig Kind.scVector Space.vmem Cert.Kernel.S4096 EltTy.i32)
local notation "s0V" => (Memref.whole Cert.Kernel.cc0_scratch4 : Memref Cert.Kernel.sig Kind.scVector Space.vmem Cert.Kernel.S2048 EltTy.f32)
local notation "s1V" => (Memref.whole Cert.Kernel.cc0_scratch5 : Memref Cert.Kernel.sig Kind.scVector Space.vmem Cert.Kernel.S2048 EltTy.f32)
local notation "c0V" => (Memref.whole Cert.Kernel.cc0_scratch6 : Memref Cert.Kernel.sig Kind.scVector Space.vmem Cert.Kernel.S2048 EltTy.i32)
local notation "c1V" => (Memref.whole Cert.Kernel.cc0_scratch7 : Memref Cert.Kernel.sig Kind.scVector Space.vmem Cert.Kernel.S2048 EltTy.i32)

variable [FloatOps F]

variable (d : Dev nD) (L : grid0.Coords)

/-- A load at the head of a sequence. -/
theorem wp_loadB {sp : CoreSpace} {sh : Shape} {e : EltTy} {m : Memref sig .scVector sp sh e} {r : LoadRect sh} {hl : m.view.LoadsAt r} {α : Type}
    {k : (r.shape.Idx → Elt F e) → Prog (TpuEff nD τ sig (Elt F) Λ₀ (VT d L).2) α} {Q : α → sProp 𝕄}
    (f : Buf (Elt F) (m.view.loc (VT d L))) :
    (m.view.loc (VT d L) ↦{fullShare} f : sProp 𝕄)
      ⊢ iprop((((m.view.loc (VT d L) ↦{fullShare} f)) -∗ wp frame (wpE (defs₀ (F := F)) 𝒱₀ (VT d L) none) Set.univ (k (m.view.readAt (Elt F) r f)) Q)
          -∗ wp frame (wpE (defs₀ (F := F)) 𝒱₀ (VT d L) none) Set.univ (Prog.lift (.load m r hl) >>= k) Q) :=
  wp_load 𝒱₀ (VT d L) none Set.univ (m := m) (S := Finset.univ) (Finset.subset_univ _)

/-- A store at the head of a sequence. -/
theorem wp_storeB {sp : CoreSpace} {sh : Shape} {e : EltTy} {m : Memref sig .scVector sp sh e} {r : Rect sh} {w : r.shape.Idx → Elt F e}
    {hx : (m.access r).Stores Finset.univ} {hm : (Finset.univ : Finset r.shape.Idx) = Finset.univ ∨ ∀ a, r.stride a = 1} {α : Type}
    {k : PUnit → Prog (TpuEff nD τ sig (Elt F) Λ₀ (VT d L).2) α} {Q : α → sProp 𝕄}
    (f : Buf (Elt F) ((m.access r).loc (VT d L))) :
    ((m.access r).loc (VT d L) ↦{fullShare} f : sProp 𝕄)
      ⊢ iprop((((m.access r).loc (VT d L) ↦{fullShare} ((m.access r).write (Elt F) f w Finset.univ)) -∗ wp frame (wpE (defs₀ (F := F)) 𝒱₀ (VT d L) none) Set.univ (k ⟨⟩) Q)
          -∗ wp frame (wpE (defs₀ (F := F)) 𝒱₀ (VT d L) none) Set.univ (Prog.lift (.store m r w Finset.univ hx hm) >>= k) Q) :=
  wp_store 𝒱₀ (VT d L) none Set.univ (S := Finset.univ) (Finset.subset_univ _)

/-- An assumption that holds, at the head of a sequence. -/
theorem wp_assumeB {P : Prop} {dec : Decidable P} (h : P) {α : Type}
    {k : PLift P → Prog (TpuEff nD τ sig (Elt F) Λ₀ (VT d L).2) α} {Q : α → sProp 𝕄} :
    (wp frame (wpE (defs₀ (F := F)) 𝒱₀ (VT d L) none) Set.univ (k ⟨h⟩) Q : sProp 𝕄)
      ⊢ wp frame (wpE (defs₀ (F := F)) 𝒱₀ (VT d L) none) Set.univ (Prog.lift (.assume P dec) >>= k) Q :=
  wp_assume 𝒱₀ (VT d L) none Set.univ h

theorem lt4 (k : Fin k0_t4_loop.trips) : k.val < 128 := lt_of_lt_of_le k.isLt k0_t4_abs.2.1
theorem lt5 (k : Fin k0_t5_loop.trips) : k.val < 128 := lt_of_lt_of_le k.isLt k0_t5_abs.2.1

open Classical in
/-- The table after lane step `k` of a chunk: rows `16 k … 16 k + 15` of the chunk's words `zb`, scales `sb`, codes `cb`. -/
def stepT (zb : S4096.Idx → Elt F .i32) (sb : S2048.Idx → Elt F .f32) (cb : S2048.Idx → Elt F .i32) (k : Nat)
    (f : S65536.Idx → Elt F .f32) : S65536.Idx → Elt F .f32 :=
  if h : ∃ hk : k < 128, ∀ x, (at16 cb (16 * k) (by omega) x).toNat < 8192 then
    tab16 (at16 cb (16 * k) (by have := h.1; omega)) h.2 (at16 sb (16 * k) (by have := h.1; omega))
      (at16 zb (16 * k) (by have := h.1; omega)) (at16 zb (2048 + 16 * k) (by have := h.1; omega)) f
  else f

open Classical in
/-- The counts after lane step `k` of a chunk. -/
def stepC (cb : S2048.Idx → Elt F .i32) (k : Nat) (g : S8192.Idx → Elt F .f32) : S8192.Idx → Elt F .f32 :=
  if h : ∃ hk : k < 128, ∀ x, (at16 cb (16 * k) (by omega) x).toNat < 8192 then
    scatC (at16 cb (16 * k) (by have := h.1; omega)) h.2 k0_pay16 g
  else g

theorem stepT_eq (zb : S4096.Idx → Elt F .i32) (sb : S2048.Idx → Elt F .f32) (cb : S2048.Idx → Elt F .i32) (k : Nat) (hk : k < 128)
    (hcx : ∀ x, (at16 cb (16 * k) (by omega) x).toNat < 8192) (f : S65536.Idx → Elt F .f32) :
    stepT zb sb cb k f = tab16 (at16 cb (16 * k) (by omega)) hcx (at16 sb (16 * k) (by omega))
      (at16 zb (16 * k) (by omega)) (at16 zb (2048 + 16 * k) (by omega)) f := by
  unfold stepT
  exact dif_pos ⟨hk, hcx⟩

theorem stepC_eq (cb : S2048.Idx → Elt F .i32) (k : Nat) (hk : k < 128)
    (hcx : ∀ x, (at16 cb (16 * k) (by omega) x).toNat < 8192) (g : S8192.Idx → Elt F .f32) :
    stepC cb k g = scatC (at16 cb (16 * k) (by omega)) hcx k0_pay16 g := by
  unfold stepC
  exact dif_pos ⟨hk, hcx⟩

omit [FloatOps F] in
theorem ld_c4 (k : Fin k0_t4_loop.trips) (f : S2048.Idx → Elt F .i32) (h : 16 * k.val + 16 ≤ 2048) :
    (c0V).view.readAt (Elt F) (Rect.unit (s := S2048) (k0_off9 k) S16.size (k0_off9_inb k)).toLoadRect f = at16 f (16 * k.val) h := by
  funext x
  show f _ = f _
  congr 1; funext a; apply Fin.ext
  fin_cases a
  show k0_off9 k 0 + 1 * (x 0).val = 16 * k.val + (x 0).val
  exact (congrArg (· + 1 * (x 0).val) (congrFun (k0_off9_eq k) 0)).trans (by simp)
omit [FloatOps F] in
theorem ld_s4 (k : Fin k0_t4_loop.trips) (f : S2048.Idx → Elt F .f32) (h : 16 * k.val + 16 ≤ 2048) :
    (s0V).view.readAt (Elt F) (Rect.unit (s := S2048) (k0_off9 k) S16.size (k0_off9_inb k)).toLoadRect f = at16 f (16 * k.val) h := by
  funext x
  show f _ = f _
  congr 1; funext a; apply Fin.ext
  fin_cases a
  show k0_off9 k 0 + 1 * (x 0).val = 16 * k.val + (x 0).val
  exact (congrArg (· + 1 * (x 0).val) (congrFun (k0_off9_eq k) 0)).trans (by simp)
omit [FloatOps F] in
theorem ld_za4 (k : Fin k0_t4_loop.trips) (f : S4096.Idx → Elt F .i32) (h : 16 * k.val + 16 ≤ 4096) :
    (z0V).view.readAt (Elt F) (Rect.unit (s := S4096) (k0_off10 k 0#32) S16.size (k0_off10_inb k 0)).toLoadRect f = at16 f (16 * k.val) h := by
  funext x
  show f _ = f _
  congr 1; funext a; apply Fin.ext
  fin_cases a
  show k0_off10 k 0#32 0 + 1 * (x 0).val = 16 * k.val + (x 0).val
  exact (congrArg (· + 1 * (x 0).val) (congrFun (show k0_off10 k 0#32 = ![2048 * 0 + 16 * k.val] from k0_off10_eq k 0) 0)).trans (by simp)
omit [FloatOps F] in
theorem ld_zb4 (k : Fin k0_t4_loop.trips) (f : S4096.Idx → Elt F .i32) (h : 2048 + 16 * k.val + 16 ≤ 4096) :
    (z0V).view.readAt (Elt F) (Rect.unit (s := S4096) (k0_off10 k 2048#32) S16.size (k0_off10_inb k 1)).toLoadRect f = at16 f (2048 + 16 * k.val) h := by
  funext x
  show f _ = f _
  congr 1; funext a; apply Fin.ext
  fin_cases a
  show k0_off10 k 2048#32 0 + 1 * (x 0).val = 2048 + 16 * k.val + (x 0).val
  exact (congrArg (· + 1 * (x 0).val) (congrFun (show k0_off10 k 2048#32 = ![2048 * 1 + 16 * k.val] from k0_off10_eq k 1) 0)).trans (by simp; try omega)

theorem k0_chk1_of {v : IVec S16 32} (h : ∀ x, (v x).toNat < 8192) : k0_chk1 v := by
  have h' : ∀ a x, ((![v] : Fin 1 → IVec S16 32) a x).toNat < S8192.size a := fun a x => by fin_cases a; exact h x
  exact ⟨h', h', h', h', h', h', h', h', h'⟩

set_option maxRecDepth 16384 in
/-- One trip of slot 0's lane loop. -/
theorem lane4 (k : Fin k0_t4_loop.trips) (v18 v55 v58 : BitVec 32) (k0_t3 : Fin k0_t3_loop.trips) (v152 v225 v227 v228 : BitVec 32) (v229 : BitVec 1)
    (f : S65536.Idx → Elt F .f32) (g : S8192.Idx → Elt F .f32) (zb : S4096.Idx → Elt F .i32) (sb : S2048.Idx → Elt F .f32) (cb : S2048.Idx → Elt F .i32)
    (hc : ∀ j, (cb j).toNat < 8192) :
    iprop(((tabV).view.loc (VT d L) ↦{fullShare} f) ∗ ((cntV).view.loc (VT d L) ↦{fullShare} g) ∗
        ((z0V).view.loc (VT d L) ↦{fullShare} zb) ∗ ((s0V).view.loc (VT d L) ↦{fullShare} sb) ∗ ((c0V).view.loc (VT d L) ↦{fullShare} cb))
      ⊢ (wp frame (wpE (defs₀ (F := F)) 𝒱₀ (VT d L) none) Set.univ
          (k0_t4_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v55 v58 k0_pay16 k0_t3 v152 v225 v227 v228 v229 k ⟨⟩)
          (fun _ => iprop(((tabV).view.loc (VT d L) ↦{fullShare} stepT zb sb cb k.val f) ∗ ((cntV).view.loc (VT d L) ↦{fullShare} stepC cb k.val g) ∗
        ((z0V).view.loc (VT d L) ↦{fullShare} zb) ∗ ((s0V).view.loc (VT d L) ↦{fullShare} sb) ∗ ((c0V).view.loc (VT d L) ↦{fullShare} cb))) : sProp 𝕄) := by
  have hk := lt4 k
  have hcx : ∀ x, (at16 cb (16 * k.val) (by omega) x).toNat < 8192 := fun x => hc _
  rw [stepT_eq zb sb cb k.val hk hcx f, stepC_eq cb k.val hk hcx g]
  unfold k0_t4_body
  rw [k0_part1_eq_skeleton]; unfold k0_part1_skel
  simp only [bind_assoc, pure_bind]
  iintro ⟨Ht, Hg, Hz, Hs, Hc⟩
  iapply (wp_loadB d L (m := c0V) _) $$ Hc; iintro Hc
  rw [ld_c4 k cb (by omega)]
  iapply (wp_assumeB d L (k0_chk1_of hcx))
  iapply (wp_loadB d L (m := s0V) _) $$ Hs; iintro Hs
  rw [ld_s4 k sb (by omega)]
  iapply (wp_scatC d L hcx g) $$ Hg; iintro Hg
  iapply (wp_loadB d L (m := z0V) _) $$ Hz; iintro Hz
  rw [ld_za4 k zb (by omega)]
  iapply (wp_scat d L hcx f) $$ Ht; iintro Ht
  iapply (wp_scat d L hcx _) $$ Ht; iintro Ht
  iapply (wp_scat d L hcx _) $$ Ht; iintro Ht
  iapply (wp_scat d L hcx _) $$ Ht; iintro Ht
  iapply (wp_loadB d L (m := z0V) _) $$ Hz; iintro Hz
  rw [ld_zb4 k zb (by omega)]
  iapply (wp_scat d L hcx _) $$ Ht; iintro Ht
  iapply (wp_scat d L hcx _) $$ Ht; iintro Ht
  iapply (wp_scat d L hcx _) $$ Ht; iintro Ht
  iapply (wp_scat d L hcx _) $$ Ht; iintro Ht
  sl_step
  isplitl [Ht]; · iexact Ht
  isplitl [Hg]; · iexact Hg
  isplitl [Hz]; · iexact Hz
  isplitl [Hs]; · iexact Hs
  iexact Hc

omit [FloatOps F] in
theorem ld_c5 (k : Fin k0_t5_loop.trips) (f : S2048.Idx → Elt F .i32) (h : 16 * k.val + 16 ≤ 2048) :
    (c1V).view.readAt (Elt F) (Rect.unit (s := S2048) (k0_off13 k) S16.size (k0_off13_inb k)).toLoadRect f = at16 f (16 * k.val) h := by
  funext x
  show f _ = f _
  congr 1; funext a; apply Fin.ext
  fin_cases a
  show k0_off13 k 0 + 1 * (x 0).val = 16 * k.val + (x 0).val
  exact (congrArg (· + 1 * (x 0).val) (congrFun (k0_off13_eq k) 0)).trans (by simp)
omit [FloatOps F] in
theorem ld_s5 (k : Fin k0_t5_loop.trips) (f : S2048.Idx → Elt F .f32) (h : 16 * k.val + 16 ≤ 2048) :
    (s1V).view.readAt (Elt F) (Rect.unit (s := S2048) (k0_off13 k) S16.size (k0_off13_inb k)).toLoadRect f = at16 f (16 * k.val) h := by
  funext x
  show f _ = f _
  congr 1; funext a; apply Fin.ext
  fin_cases a
  show k0_off13 k 0 + 1 * (x 0).val = 16 * k.val + (x 0).val
  exact (congrArg (· + 1 * (x 0).val) (congrFun (k0_off13_eq k) 0)).trans (by simp)
omit [FloatOps F] in
theorem ld_za5 (k : Fin k0_t5_loop.trips) (f : S4096.Idx → Elt F .i32) (h : 16 * k.val + 16 ≤ 4096) :
    (z1V).view.readAt (Elt F) (Rect.unit (s := S4096) (k0_off14 k) S16.size (k0_off14_inb k)).toLoadRect f = at16 f (16 * k.val) h := by
  funext x
  show f _ = f _
  congr 1; funext a; apply Fin.ext
  fin_cases a
  show k0_off14 k 0 + 1 * (x 0).val = 16 * k.val + (x 0).val
  exact (congrArg (· + 1 * (x 0).val) (congrFun (k0_off14_eq k) 0)).trans (by simp)
omit [FloatOps F] in
theorem ld_zb5 (k : Fin k0_t5_loop.trips) (f : S4096.Idx → Elt F .i32) (h : 2048 + 16 * k.val + 16 ≤ 4096) :
    (z1V).view.readAt (Elt F) (Rect.unit (s := S4096) (k0_off15 k) S16.size (k0_off15_inb k)).toLoadRect f = at16 f (2048 + 16 * k.val) h := by
  funext x
  show f _ = f _
  congr 1; funext a; apply Fin.ext
  fin_cases a
  show k0_off15 k 0 + 1 * (x 0).val = 2048 + 16 * k.val + (x 0).val
  exact (congrArg (· + 1 * (x 0).val) (congrFun (k0_off15_eq k) 0)).trans (by simp; try omega)

theorem k0_chk2_of {v : IVec S16 32} (h : ∀ x, (v x).toNat < 8192) : k0_chk2 v := by
  have h' : ∀ a x, ((![v] : Fin 1 → IVec S16 32) a x).toNat < S8192.size a := fun a x => by fin_cases a; exact h x
  exact ⟨h', h', h', h', h', h', h', h'⟩

set_option maxRecDepth 16384 in
/-- One trip of slot 1's lane loop. -/
theorem lane5 (k : Fin k0_t5_loop.trips) (v18 v45 v55 v58 : BitVec 32) (c0_i32_48 : BitVec 32)
    (f : S65536.Idx → Elt F .f32) (zb : S4096.Idx → Elt F .i32) (sb : S2048.Idx → Elt F .f32) (cb : S2048.Idx → Elt F .i32)
    (hc : ∀ j, (cb j).toNat < 8192) :
    iprop(((tabV).view.loc (VT d L) ↦{fullShare} f) ∗
        ((z1V).view.loc (VT d L) ↦{fullShare} zb) ∗ ((s1V).view.loc (VT d L) ↦{fullShare} sb) ∗ ((c1V).view.loc (VT d L) ↦{fullShare} cb))
      ⊢ (wp frame (wpE (defs₀ (F := F)) 𝒱₀ (VT d L) none) Set.univ
          (k0_t5_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48 k ⟨⟩)
          (fun _ => iprop(((tabV).view.loc (VT d L) ↦{fullShare} stepT zb sb cb k.val f) ∗
        ((z1V).view.loc (VT d L) ↦{fullShare} zb) ∗ ((s1V).view.loc (VT d L) ↦{fullShare} sb) ∗ ((c1V).view.loc (VT d L) ↦{fullShare} cb))) : sProp 𝕄) := by
  have hk := lt5 k
  have hcx : ∀ x, (at16 cb (16 * k.val) (by omega) x).toNat < 8192 := fun x => hc _
  rw [stepT_eq zb sb cb k.val hk hcx f]
  unfold k0_t5_body
  rw [k0_part3_eq_skeleton]; unfold k0_part3_skel
  simp only [bind_assoc, pure_bind]
  iintro ⟨Ht, Hz, Hs, Hc⟩
  iapply (wp_loadB d L (m := c1V) _) $$ Hc; iintro Hc
  rw [ld_c5 k cb (by omega)]
  iapply (wp_assumeB d L (k0_chk2_of hcx))
  iapply (wp_loadB d L (m := s1V) _) $$ Hs; iintro Hs
  rw [ld_s5 k sb (by omega)]

  iapply (wp_loadB d L (m := z1V) _) $$ Hz; iintro Hz
  rw [ld_za5 k zb (by omega)]
  iapply (wp_scat d L hcx f) $$ Ht; iintro Ht
  iapply (wp_scat d L hcx _) $$ Ht; iintro Ht
  iapply (wp_scat d L hcx _) $$ Ht; iintro Ht
  iapply (wp_scat d L hcx _) $$ Ht; iintro Ht
  iapply (wp_loadB d L (m := z1V) _) $$ Hz; iintro Hz
  rw [ld_zb5 k zb (by omega)]
  iapply (wp_scat d L hcx _) $$ Ht; iintro Ht
  iapply (wp_scat d L hcx _) $$ Ht; iintro Ht
  iapply (wp_scat d L hcx _) $$ Ht; iintro Ht
  iapply (wp_scat d L hcx _) $$ Ht; iintro Ht
  sl_step
  isplitl [Ht]; · iexact Ht

  isplitl [Hz]; · iexact Hz
  isplitl [Hs]; · iexact Hs
  iexact Hc

end Cert.Proof.SumsK
-- ==== Proof.LoopsK.lean ====
/-
  The call's zeroing loops and lane loops, each as one step at the head of a sequence.
-/
module

public import proofs.«01_k».proof.Proof.LanesK

@[expose] public section

noncomputable section

namespace Cert.Proof.SumsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.Kernel.main_arg0_scv : Memref Cert.Kernel.sig Kind.scVector Space.hbm Cert.Kernel.S18x16x65536 EltTy.i32)
local notation "sV" => (Memref.whole Cert.Kernel.main_v0_scv : Memref Cert.Kernel.sig Kind.scVector Space.hbm Cert.Kernel.S18x4x65536 EltTy.f32)
local notation "kV" => (Memref.whole Cert.Kernel.main_v1_scv : Memref Cert.Kernel.sig Kind.scVector Space.hbm Cert.Kernel.S18x4x65536 EltTy.i32)
local notation "pV" => (Memref.whole Cert.Kernel.main_v2_0_scv : Memref Cert.Kernel.sig Kind.scVector Space.hbm Cert.Kernel.S4x64x8192 EltTy.f32)
local notation "nV" => (Memref.whole Cert.Kernel.main_v2_1_scv : Memref Cert.Kernel.sig Kind.scVector Space.hbm Cert.Kernel.S4x8x8192 EltTy.f32)
local notation "tabV" => (Memref.whole Cert.Kernel.cc0_scratch0 : Memref Cert.Kernel.sig Kind.scVector Space.vmem Cert.Kernel.S65536 EltTy.f32)
local notation "cntV" => (Memref.whole Cert.Kernel.cc0_scratch1 : Memref Cert.Kernel.sig Kind.scVector Space.vmem Cert.Kernel.S8192 EltTy.f32)
local notation "z0V" => (Memref.whole Cert.Kernel.cc0_scratch2 : Memref Cert.Kernel.sig Kind.scVector Space.vmem Cert.Kernel.S4096 EltTy.i32)
local notation "z1V" => (Memref.whole Cert.Kernel.cc0_scratch3 : Memref Cert.Kernel.sig Kind.scVector Space.vmem Cert.Kernel.S4096 EltTy.i32)
local notation "s0V" => (Memref.whole Cert.Kernel.cc0_scratch4 : Memref Cert.Kernel.sig Kind.scVector Space.vmem Cert.Kernel.S2048 EltTy.f32)
local notation "s1V" => (Memref.whole Cert.Kernel.cc0_scratch5 : Memref Cert.Kernel.sig Kind.scVector Space.vmem Cert.Kernel.S2048 EltTy.f32)
local notation "c0V" => (Memref.whole Cert.Kernel.cc0_scratch6 : Memref Cert.Kernel.sig Kind.scVector Space.vmem Cert.Kernel.S2048 EltTy.i32)
local notation "c1V" => (Memref.whole Cert.Kernel.cc0_scratch7 : Memref Cert.Kernel.sig Kind.scVector Space.vmem Cert.Kernel.S2048 EltTy.i32)

variable [FloatOps F]

variable (d : Dev nD) (L : grid0.Coords)

/-- The table after the first `n` lane steps of a chunk. -/
def chunkT (zb : S4096.Idx → Elt F .i32) (sb : S2048.Idx → Elt F .f32) (cb : S2048.Idx → Elt F .i32) :
    Nat → (S65536.Idx → Elt F .f32) → S65536.Idx → Elt F .f32
  | 0, f => f
  | n + 1, f => stepT zb sb cb n (chunkT zb sb cb n f)

/-- The counts after the first `n` lane steps of a chunk. -/
def chunkC (cb : S2048.Idx → Elt F .i32) : Nat → (S8192.Idx → Elt F .f32) → S8192.Idx → Elt F .f32
  | 0, g => g
  | n + 1, g => stepC cb n (chunkC cb n g)

theorem lt1 (k : Fin k0_t1_loop.trips) : k.val < 4096 := lt_of_lt_of_le k.isLt k0_t1_abs.2.1

theorem zero1 (k : Fin k0_t1_loop.trips) (v58 v59 v77 c8_i32_32 c0_i32_33 : BitVec 32) :
    iprop(∃ f : S65536.Idx → Elt F .f32, ⌜∀ j : S65536.Idx, (j 0).val < 16 * k.val → f j = Scalar.ofBits .f32 0x00000000#32⌝ ∗ ((tabV).view.loc (VT d L) ↦{fullShare} f))
      ⊢ (wp frame (wpE (defs₀ (F := F)) 𝒱₀ (VT d L) none) Set.univ (k0_t1_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v58 v59 v77 c8_i32_32 c0_i32_33 k ⟨⟩)
          (fun _ => iprop(∃ f : S65536.Idx → Elt F .f32, ⌜∀ j : S65536.Idx, (j 0).val < 16 * (k.val + 1) → f j = Scalar.ofBits .f32 0x00000000#32⌝ ∗ ((tabV).view.loc (VT d L) ↦{fullShare} f))) : sProp 𝕄) := by
  unfold k0_t1_body
  iintro ⟨%f, %hf, H⟩
  iapply (wp_loadB d L (m := tabV) _) $$ H; iintro H
  iapply (wp_storeB d L (m := tabV) (r := Rect.unit (s := S65536) (k0_off3 k) S16.size (k0_off3_inb k)) f) $$ H; iintro H
  sl_step
  iexists _
  isplitr
  rotate_left
  · iexact H
  · ipureintro
    intro j hj
    by_cases hm : j ∈ (((tabV).access (Rect.unit (s := S65536) (k0_off3 k) S16.size (k0_off3_inb k))).set)
    · obtain ⟨x, -, hx⟩ := Finset.mem_map.mp hm
      refine (congrArg _ hx.symm).trans (View.write_emb_of_mem (Val := Elt F) (v := (tabV).access (Rect.unit (s := S65536) (k0_off3 k) S16.size (k0_off3_inb k))) f (k0_pay15 (F := F)) (Finset.mem_univ x))
    · refine (View.write_of_not_mem f _ _ hm).trans (hf j ?_)
      by_contra hlt
      apply hm
      have e : k0_off3 k 0 = 16 * k.val := congrFun (k0_off3_eq k) 0
      refine Finset.mem_map.mpr ⟨fun a => ⟨(j 0).val - 16 * k.val, by fin_cases a; show _ < 16; omega⟩, Finset.mem_univ _, ?_⟩
      funext a; fin_cases a
      apply Fin.ext
      show k0_off3 k 0 + 1 * ((j 0).val - 16 * k.val) = (j 0).val
      omega

set_option maxRecDepth 16384 in
/-- The zeroing loop at the head of a sequence. -/
theorem loop1 (v58 v59 v77 c8_i32_32 c0_i32_33 : BitVec 32)
    (f : S65536.Idx → Elt F .f32) {β : Type} {kk : PUnit → Prog (TpuEff nD τ sig (Elt F) Λ₀ (VT d L).2) β} {Q : β → sProp 𝕄} :
    iprop((tabV).view.loc (VT d L) ↦{fullShare} f)
      ⊢ iprop((iprop((tabV).view.loc (VT d L) ↦{fullShare} (fun _ => Scalar.ofBits .f32 0x00000000#32 : S65536.Idx → Elt F .f32)) -∗ wp frame (wpE (defs₀ (F := F)) 𝒱₀ (VT d L) none) Set.univ (kk ⟨⟩) Q)
          -∗ wp frame (wpE (defs₀ (F := F)) 𝒱₀ (VT d L) none) Set.univ (Scf.Loop.for k0_t1_loop k0_t1_ok ⟨⟩ (k0_t1_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v58 v59 v77 c8_i32_32 c0_i32_33) >>= kk) Q) := by
  iintro H Hk
  iapply (Scf.wp_for_bind frame (wpE (defs₀ (F := F)) 𝒱₀ (VT d L) none) Set.univ _ _ _ k0_t1_ok ⟨⟩ (k0_t1_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v58 v59 v77 c8_i32_32 c0_i32_33)
    (fun n _ => iprop(∃ f : S65536.Idx → Elt F .f32, ⌜∀ j : S65536.Idx, (j 0).val < 16 * n → f j = Scalar.ofBits .f32 0x00000000#32⌝ ∗ ((tabV).view.loc (VT d L) ↦{fullShare} f)))
    (fun k _ => zero1 d L k v58 v59 v77 c8_i32_32 c0_i32_33)) $$ [H]
  · iexists f; isplitr
    · ipureintro; intro j hj; omega
    · iexact H
  iintro %_ ⟨%f', %hf', H⟩
  have e : f' = (fun _ => Scalar.ofBits .f32 0x00000000#32 : S65536.Idx → Elt F .f32) := by
    funext j
    refine hf' j ?_
    rw [show Scf.trips k0_t1_loop.lb k0_t1_loop.ub k0_t1_loop.st = 4096 from by decide +kernel]
    exact (j 0).isLt
  rw [e]
  iapply Hk $$ H

theorem lt2 (k : Fin k0_t2_loop.trips) : k.val < 512 := lt_of_lt_of_le k.isLt k0_t2_abs.2.1

theorem zero2 (k : Fin k0_t2_loop.trips) (v18 v45 v55 v58 : BitVec 32) (c0_i32_48 : BitVec 32) :
    iprop(∃ f : S8192.Idx → Elt F .f32, ⌜∀ j : S8192.Idx, (j 0).val < 16 * k.val → f j = Scalar.ofBits .f32 0x00000000#32⌝ ∗ ((cntV).view.loc (VT d L) ↦{fullShare} f))
      ⊢ (wp frame (wpE (defs₀ (F := F)) 𝒱₀ (VT d L) none) Set.univ (k0_t2_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48 k ⟨⟩)
          (fun _ => iprop(∃ f : S8192.Idx → Elt F .f32, ⌜∀ j : S8192.Idx, (j 0).val < 16 * (k.val + 1) → f j = Scalar.ofBits .f32 0x00000000#32⌝ ∗ ((cntV).view.loc (VT d L) ↦{fullShare} f))) : sProp 𝕄) := by
  unfold k0_t2_body
  iintro ⟨%f, %hf, H⟩
  iapply (wp_loadB d L (m := cntV) _) $$ H; iintro H
  iapply (wp_storeB d L (m := cntV) (r := Rect.unit (s := S8192) (k0_off4 k) S16.size (k0_off4_inb k)) f) $$ H; iintro H
  sl_step
  iexists _
  isplitr
  rotate_left
  · iexact H
  · ipureintro
    intro j hj
    by_cases hm : j ∈ (((cntV).access (Rect.unit (s := S8192) (k0_off4 k) S16.size (k0_off4_inb k))).set)
    · obtain ⟨x, -, hx⟩ := Finset.mem_map.mp hm
      refine (congrArg _ hx.symm).trans (View.write_emb_of_mem (Val := Elt F) (v := (cntV).access (Rect.unit (s := S8192) (k0_off4 k) S16.size (k0_off4_inb k))) f (k0_pay15 (F := F)) (Finset.mem_univ x))
    · refine (View.write_of_not_mem f _ _ hm).trans (hf j ?_)
      by_contra hlt
      apply hm
      have e : k0_off4 k 0 = 16 * k.val := congrFun (k0_off4_eq k) 0
      refine Finset.mem_map.mpr ⟨fun a => ⟨(j 0).val - 16 * k.val, by fin_cases a; show _ < 16; omega⟩, Finset.mem_univ _, ?_⟩
      funext a; fin_cases a
      apply Fin.ext
      show k0_off4 k 0 + 1 * ((j 0).val - 16 * k.val) = (j 0).val
      omega

set_option maxRecDepth 16384 in
/-- The zeroing loop at the head of a sequence. -/
theorem loop2 (v18 v45 v55 v58 : BitVec 32) (c0_i32_48 : BitVec 32)
    (f : S8192.Idx → Elt F .f32) {β : Type} {kk : PUnit → Prog (TpuEff nD τ sig (Elt F) Λ₀ (VT d L).2) β} {Q : β → sProp 𝕄} :
    iprop((cntV).view.loc (VT d L) ↦{fullShare} f)
      ⊢ iprop((iprop((cntV).view.loc (VT d L) ↦{fullShare} (fun _ => Scalar.ofBits .f32 0x00000000#32 : S8192.Idx → Elt F .f32)) -∗ wp frame (wpE (defs₀ (F := F)) 𝒱₀ (VT d L) none) Set.univ (kk ⟨⟩) Q)
          -∗ wp frame (wpE (defs₀ (F := F)) 𝒱₀ (VT d L) none) Set.univ (Scf.Loop.for k0_t2_loop k0_t2_ok ⟨⟩ (k0_t2_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48) >>= kk) Q) := by
  iintro H Hk
  iapply (Scf.wp_for_bind frame (wpE (defs₀ (F := F)) 𝒱₀ (VT d L) none) Set.univ _ _ _ k0_t2_ok ⟨⟩ (k0_t2_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48)
    (fun n _ => iprop(∃ f : S8192.Idx → Elt F .f32, ⌜∀ j : S8192.Idx, (j 0).val < 16 * n → f j = Scalar.ofBits .f32 0x00000000#32⌝ ∗ ((cntV).view.loc (VT d L) ↦{fullShare} f)))
    (fun k _ => zero2 d L k v18 v45 v55 v58 c0_i32_48)) $$ [H]
  · iexists f; isplitr
    · ipureintro; intro j hj; omega
    · iexact H
  iintro %_ ⟨%f', %hf', H⟩
  have e : f' = (fun _ => Scalar.ofBits .f32 0x00000000#32 : S8192.Idx → Elt F .f32) := by
    funext j
    refine hf' j ?_
    rw [show Scf.trips k0_t2_loop.lb k0_t2_loop.ub k0_t2_loop.st = 512 from by decide +kernel]
    exact (j 0).isLt
  rw [e]
  iapply Hk $$ H

set_option maxRecDepth 16384 in
/-- Slot 0's whole lane loop at the head of a sequence. -/
theorem loop4 (v18 v55 v58 : BitVec 32) (k0_t3 : Fin k0_t3_loop.trips) (v152 v225 v227 v228 : BitVec 32) (v229 : BitVec 1)
    (f : S65536.Idx → Elt F .f32) (g : S8192.Idx → Elt F .f32) (zb : S4096.Idx → Elt F .i32) (sb : S2048.Idx → Elt F .f32) (cb : S2048.Idx → Elt F .i32)
    (hc : ∀ j, (cb j).toNat < 8192) {β : Type} {kk : PUnit → Prog (TpuEff nD τ sig (Elt F) Λ₀ (VT d L).2) β} {Q : β → sProp 𝕄} :
    iprop(((tabV).view.loc (VT d L) ↦{fullShare} f) ∗ ((cntV).view.loc (VT d L) ↦{fullShare} g) ∗ ((z0V).view.loc (VT d L) ↦{fullShare} zb) ∗ ((s0V).view.loc (VT d L) ↦{fullShare} sb) ∗ ((c0V).view.loc (VT d L) ↦{fullShare} cb))
      ⊢ iprop((iprop(((tabV).view.loc (VT d L) ↦{fullShare} chunkT zb sb cb 128 f) ∗ ((cntV).view.loc (VT d L) ↦{fullShare} chunkC cb 128 g) ∗ ((z0V).view.loc (VT d L) ↦{fullShare} zb) ∗ ((s0V).view.loc (VT d L) ↦{fullShare} sb) ∗ ((c0V).view.loc (VT d L) ↦{fullShare} cb)) -∗ wp frame (wpE (defs₀ (F := F)) 𝒱₀ (VT d L) none) Set.univ (kk ⟨⟩) Q)
          -∗ wp frame (wpE (defs₀ (F := F)) 𝒱₀ (VT d L) none) Set.univ (Scf.Loop.for k0_t4_loop k0_t4_ok ⟨⟩ (k0_t4_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v55 v58 k0_pay16 k0_t3 v152 v225 v227 v228 v229) >>= kk) Q) := by
  iintro H Hk
  iapply (Scf.wp_for_bind frame (wpE (defs₀ (F := F)) 𝒱₀ (VT d L) none) Set.univ _ _ _ k0_t4_ok ⟨⟩ (k0_t4_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v55 v58 k0_pay16 k0_t3 v152 v225 v227 v228 v229)
    (fun n _ => iprop(((tabV).view.loc (VT d L) ↦{fullShare} chunkT zb sb cb n f) ∗ ((cntV).view.loc (VT d L) ↦{fullShare} chunkC cb n g) ∗ ((z0V).view.loc (VT d L) ↦{fullShare} zb) ∗ ((s0V).view.loc (VT d L) ↦{fullShare} sb) ∗ ((c0V).view.loc (VT d L) ↦{fullShare} cb)))
    (fun k _ => lane4 d L k v18 v55 v58 k0_t3 v152 v225 v227 v228 v229 (chunkT zb sb cb k.val f) (chunkC cb k.val g) zb sb cb hc)) $$ [H]
  · iexact H
  iintro %_ H
  rw [show Scf.trips k0_t4_loop.lb k0_t4_loop.ub k0_t4_loop.st = 128 from by decide +kernel]
  iapply Hk $$ H

set_option maxRecDepth 16384 in
/-- Slot 1's whole lane loop at the head of a sequence. -/
theorem loop5 (v18 v45 v55 v58 : BitVec 32) (c0_i32_48 : BitVec 32)
    (f : S65536.Idx → Elt F .f32) (zb : S4096.Idx → Elt F .i32) (sb : S2048.Idx → Elt F .f32) (cb : S2048.Idx → Elt F .i32)
    (hc : ∀ j, (cb j).toNat < 8192) {β : Type} {kk : PUnit → Prog (TpuEff nD τ sig (Elt F) Λ₀ (VT d L).2) β} {Q : β → sProp 𝕄} :
    iprop(((tabV).view.loc (VT d L) ↦{fullShare} f) ∗ ((z1V).view.loc (VT d L) ↦{fullShare} zb) ∗ ((s1V).view.loc (VT d L) ↦{fullShare} sb) ∗ ((c1V).view.loc (VT d L) ↦{fullShare} cb))
      ⊢ iprop((iprop(((tabV).view.loc (VT d L) ↦{fullShare} chunkT zb sb cb 128 f) ∗ ((z1V).view.loc (VT d L) ↦{fullShare} zb) ∗ ((s1V).view.loc (VT d L) ↦{fullShare} sb) ∗ ((c1V).view.loc (VT d L) ↦{fullShare} cb)) -∗ wp frame (wpE (defs₀ (F := F)) 𝒱₀ (VT d L) none) Set.univ (kk ⟨⟩) Q)
          -∗ wp frame (wpE (defs₀ (F := F)) 𝒱₀ (VT d L) none) Set.univ (Scf.Loop.for k0_t5_loop k0_t5_ok ⟨⟩ (k0_t5_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48) >>= kk) Q) := by
  iintro H Hk
  iapply (Scf.wp_for_bind frame (wpE (defs₀ (F := F)) 𝒱₀ (VT d L) none) Set.univ _ _ _ k0_t5_ok ⟨⟩ (k0_t5_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48)
    (fun n _ => iprop(((tabV).view.loc (VT d L) ↦{fullShare} chunkT zb sb cb n f) ∗ ((z1V).view.loc (VT d L) ↦{fullShare} zb) ∗ ((s1V).view.loc (VT d L) ↦{fullShare} sb) ∗ ((c1V).view.loc (VT d L) ↦{fullShare} cb)))
    (fun k _ => lane5 d L k v18 v45 v55 v58 c0_i32_48 (chunkT zb sb cb k.val f) zb sb cb hc)) $$ [H]
  · iexact H
  iintro %_ H
  rw [show Scf.trips k0_t5_loop.lb k0_t5_loop.ub k0_t5_loop.st = 128 from by decide +kernel]
  iapply Hk $$ H

end Cert.Proof.SumsK
-- ==== Proof.OffsK.lean ====
/-
  Where the call's transfers begin, in closed form.
-/
module

public import proofs.«01_k».proof.Proof.LoopsK

@[expose] public section

noncomputable section

namespace Cert.Proof.SumsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.Kernel.main_arg0_scv : Memref Cert.Kernel.sig Kind.scVector Space.hbm Cert.Kernel.S18x16x65536 EltTy.i32)
local notation "sV" => (Memref.whole Cert.Kernel.main_v0_scv : Memref Cert.Kernel.sig Kind.scVector Space.hbm Cert.Kernel.S18x4x65536 EltTy.f32)
local notation "kV" => (Memref.whole Cert.Kernel.main_v1_scv : Memref Cert.Kernel.sig Kind.scVector Space.hbm Cert.Kernel.S18x4x65536 EltTy.i32)
local notation "pV" => (Memref.whole Cert.Kernel.main_v2_0_scv : Memref Cert.Kernel.sig Kind.scVector Space.hbm Cert.Kernel.S4x64x8192 EltTy.f32)
local notation "nV" => (Memref.whole Cert.Kernel.main_v2_1_scv : Memref Cert.Kernel.sig Kind.scVector Space.hbm Cert.Kernel.S4x8x8192 EltTy.f32)
local notation "tabV" => (Memref.whole Cert.Kernel.cc0_scratch0 : Memref Cert.Kernel.sig Kind.scVector Space.vmem Cert.Kernel.S65536 EltTy.f32)
local notation "cntV" => (Memref.whole Cert.Kernel.cc0_scratch1 : Memref Cert.Kernel.sig Kind.scVector Space.vmem Cert.Kernel.S8192 EltTy.f32)
local notation "z0V" => (Memref.whole Cert.Kernel.cc0_scratch2 : Memref Cert.Kernel.sig Kind.scVector Space.vmem Cert.Kernel.S4096 EltTy.i32)
local notation "z1V" => (Memref.whole Cert.Kernel.cc0_scratch3 : Memref Cert.Kernel.sig Kind.scVector Space.vmem Cert.Kernel.S4096 EltTy.i32)
local notation "s0V" => (Memref.whole Cert.Kernel.cc0_scratch4 : Memref Cert.Kernel.sig Kind.scVector Space.vmem Cert.Kernel.S2048 EltTy.f32)
local notation "s1V" => (Memref.whole Cert.Kernel.cc0_scratch5 : Memref Cert.Kernel.sig Kind.scVector Space.vmem Cert.Kernel.S2048 EltTy.f32)
local notation "c0V" => (Memref.whole Cert.Kernel.cc0_scratch6 : Memref Cert.Kernel.sig Kind.scVector Space.vmem Cert.Kernel.S2048 EltTy.i32)
local notation "c1V" => (Memref.whole Cert.Kernel.cc0_scratch7 : Memref Cert.Kernel.sig Kind.scVector Space.vmem Cert.Kernel.S2048 EltTy.i32)

variable [FloatOps F]

/-! ## The words, scales and codes of a task's chunk `k` -/

/-- Where chunk `k`'s channel words `w` (of two) begin in the words: the chunk's order is turned by the task's core. -/
def zoff (i : grid0.Coords) (k w : Nat) : Fin 3 → Nat :=
  ![(k ^^^ (i 0).val) / 8, (i 1).val % 4 * 4 + (i 0).val * 2 + w, (i 1).val / 4 * 16384 + (k ^^^ (i 0).val) % 8 * 2048]
/-- Where chunk `k`'s scales and codes begin. -/
def soff (i : grid0.Coords) (k : Nat) : Fin 3 → Nat :=
  ![(k ^^^ (i 0).val) / 8, (i 1).val % 4, (i 1).val / 4 * 16384 + (k ^^^ (i 0).val) % 8 * 2048]

theorem off1_eq : ∀ (i : grid0.Coords) (r : Fin 2), k0_off1 i (BitVec.ofNat 32 r.val) = zoff i 0 r.val := by decide +kernel
theorem off2_eq : ∀ (i : grid0.Coords), k0_off2 i = soff i 0 := by decide +kernel
theorem off5_eq : ∀ (i : grid0.Coords) (t : Fin k0_t3_loop.trips) (r : Fin 2), k0_off5 i t (BitVec.ofNat 32 r.val) = zoff i (2 * t.val + 1) r.val := by decide +kernel
theorem off6_eq : ∀ (i : grid0.Coords) (t : Fin k0_t3_loop.trips), k0_off6 i t = soff i (2 * t.val + 1) := by decide +kernel
theorem off11_eq : ∀ (i : grid0.Coords) (t : Fin k0_t3_loop.trips) (r : Fin 2), k0_off11 i t (BitVec.ofNat 32 r.val) = zoff i (2 * (t.val + 1)) r.val := by decide +kernel
theorem off12_eq : ∀ (i : grid0.Coords) (t : Fin k0_t3_loop.trips), k0_off12 i t = soff i (2 * (t.val + 1)) := by decide +kernel
theorem cond1_iff : ∀ (t : Fin k0_t3_loop.trips), k0_cond1 t = 1#1 ↔ t.val + 1 < 72 := by decide +kernel

end Cert.Proof.SumsK
-- ==== Proof.IssueK.lean ====
/-
  A task's chunks: which words, scales and codes chunk `k` is, and the generic steps of the batches that fetch them.
-/
module

public import proofs.«01_k».proof.Proof.OffsK

@[expose] public section

noncomputable section

namespace Cert.Proof.SumsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.Kernel.main_arg0_scv : Memref Cert.Kernel.sig Kind.scVector Space.hbm Cert.Kernel.S18x16x65536 EltTy.i32)
local notation "sV" => (Memref.whole Cert.Kernel.main_v0_scv : Memref Cert.Kernel.sig Kind.scVector Space.hbm Cert.Kernel.S18x4x65536 EltTy.f32)
local notation "kV" => (Memref.whole Cert.Kernel.main_v1_scv : Memref Cert.Kernel.sig Kind.scVector Space.hbm Cert.Kernel.S18x4x65536 EltTy.i32)
local notation "pV" => (Memref.whole Cert.Kernel.main_v2_0_scv : Memref Cert.Kernel.sig Kind.scVector Space.hbm Cert.Kernel.S4x64x8192 EltTy.f32)
local notation "nV" => (Memref.whole Cert.Kernel.main_v2_1_scv : Memref Cert.Kernel.sig Kind.scVector Space.hbm Cert.Kernel.S4x8x8192 EltTy.f32)
local notation "tabV" => (Memref.whole Cert.Kernel.cc0_scratch0 : Memref Cert.Kernel.sig Kind.scVector Space.vmem Cert.Kernel.S65536 EltTy.f32)
local notation "cntV" => (Memref.whole Cert.Kernel.cc0_scratch1 : Memref Cert.Kernel.sig Kind.scVector Space.vmem Cert.Kernel.S8192 EltTy.f32)
local notation "z0V" => (Memref.whole Cert.Kernel.cc0_scratch2 : Memref Cert.Kernel.sig Kind.scVector Space.vmem Cert.Kernel.S4096 EltTy.i32)
local notation "z1V" => (Memref.whole Cert.Kernel.cc0_scratch3 : Memref Cert.Kernel.sig Kind.scVector Space.vmem Cert.Kernel.S4096 EltTy.i32)
local notation "s0V" => (Memref.whole Cert.Kernel.cc0_scratch4 : Memref Cert.Kernel.sig Kind.scVector Space.vmem Cert.Kernel.S2048 EltTy.f32)
local notation "s1V" => (Memref.whole Cert.Kernel.cc0_scratch5 : Memref Cert.Kernel.sig Kind.scVector Space.vmem Cert.Kernel.S2048 EltTy.f32)
local notation "c0V" => (Memref.whole Cert.Kernel.cc0_scratch6 : Memref Cert.Kernel.sig Kind.scVector Space.vmem Cert.Kernel.S2048 EltTy.i32)
local notation "c1V" => (Memref.whole Cert.Kernel.cc0_scratch7 : Memref Cert.Kernel.sig Kind.scVector Space.vmem Cert.Kernel.S2048 EltTy.i32)

variable [FloatOps F]

variable (d : Dev nD) (L : grid0.Coords)

/-- The element `x` past the offset `o` on the last axis. -/
def zat (o : Fin 3 → Nat) (x : Nat) : S18x16x65536.Idx :=
  fun a => ⟨(o a + (![0, 0, x] : Fin 3 → Nat) a) % S18x16x65536.size a, Nat.mod_lt _ (by fin_cases a <;> decide)⟩
def sat (o : Fin 3 → Nat) (x : Nat) : S18x4x65536.Idx :=
  fun a => ⟨(o a + (![0, 0, x] : Fin 3 → Nat) a) % S18x4x65536.size a, Nat.mod_lt _ (by fin_cases a <;> decide)⟩

/-- Chunk `k`'s words, both channel words one after the other. -/
def zc (zg : S18x16x65536.Idx → Elt F .i32) (k : Nat) : S4096.Idx → Elt F .i32 :=
  fun j => zg (zat (zoff L k ((j 0).val / 2048)) ((j 0).val % 2048))
/-- Chunk `k`'s scales. -/
def scl (sg : S18x4x65536.Idx → Elt F .f32) (k : Nat) : S2048.Idx → Elt F .f32 := fun j => sg (sat (soff L k) (j 0).val)
/-- Chunk `k`'s codes. -/
def cod (cg : S18x4x65536.Idx → Elt F .i32) (k : Nat) : S2048.Idx → Elt F .i32 := fun j => cg (sat (soff L k) (j 0).val)

theorem resh (h : S2048.numel = S1x1x2048.numel) (x : S2048.Idx) (a : Fin 3) :
    ((Shape.reshapeEquiv h x : S1x1x2048.Idx) a).val = (![0, 0, (x 0).val] : Fin 3 → Nat) a := by
  have e : Shape.reshapeEquiv h x = (fun a => ⟨(![0, 0, (x 0).val] : Fin 3 → Nat) a, by fin_cases a; exacts [Nat.one_pos, Nat.one_pos, (x 0).isLt]⟩ : S1x1x2048.Idx) := by
    refine Shape.reshapeEquiv_eq_of_rowMajor h ?_
    rw [Shape.rowMajor_val_three, Shape.rowMajor_val_one]
    simp
  rw [e]

theorem zwin {o : Fin 3 → Nat} (inb : ∀ a, o a + S1x1x2048.size a ≤ S18x16x65536.size a) (x : S2048.Idx) :
    (((zV).slice (Rect.unit (s := S18x16x65536) o S1x1x2048.size inb) (fun _ => rfl)).squeeze S2048 squeezes_S1x1x2048_S2048).view.emb x = zat o (x 0).val := by
  funext a; apply Fin.ext
  show o a + 1 * ((Shape.reshapeEquiv _ x : S1x1x2048.Idx) a).val = (o a + (![0, 0, (x 0).val] : Fin 3 → Nat) a) % S18x16x65536.size a
  rw [resh, Nat.mod_eq_of_lt, Nat.one_mul]
  have h := inb a; have hx : (x 0).val < 2048 := (x 0).isLt
  fin_cases a
  · have h : o 0 + 1 ≤ 18 := inb 0; show o 0 + 0 < 18; omega
  · have h : o 1 + 1 ≤ 16 := inb 1; show o 1 + 0 < 16; omega
  · have h : o 2 + 2048 ≤ 65536 := inb 2; show o 2 + (x 0).val < 65536; omega

theorem swin {o : Fin 3 → Nat} (inb : ∀ a, o a + S1x1x2048.size a ≤ S18x4x65536.size a) (x : S2048.Idx) :
    (((sV).slice (Rect.unit (s := S18x4x65536) o S1x1x2048.size inb) (fun _ => rfl)).squeeze S2048 squeezes_S1x1x2048_S2048).view.emb x = sat o (x 0).val := by
  funext a; apply Fin.ext
  show o a + 1 * ((Shape.reshapeEquiv _ x : S1x1x2048.Idx) a).val = (o a + (![0, 0, (x 0).val] : Fin 3 → Nat) a) % S18x4x65536.size a
  rw [resh, Nat.mod_eq_of_lt, Nat.one_mul]
  have h := inb a; have hx : (x 0).val < 2048 := (x 0).isLt
  fin_cases a
  · have h : o 0 + 1 ≤ 18 := inb 0; show o 0 + 0 < 18; omega
  · have h : o 1 + 1 ≤ 4 := inb 1; show o 1 + 0 < 4; omega
  · have h : o 2 + 2048 ≤ 65536 := inb 2; show o 2 + (x 0).val < 65536; omega

theorem cwin {o : Fin 3 → Nat} (inb : ∀ a, o a + S1x1x2048.size a ≤ S18x4x65536.size a) (x : S2048.Idx) :
    (((kV).slice (Rect.unit (s := S18x4x65536) o S1x1x2048.size inb) (fun _ => rfl)).squeeze S2048 squeezes_S1x1x2048_S2048).view.emb x = sat o (x 0).val := by
  funext a; apply Fin.ext
  show o a + 1 * ((Shape.reshapeEquiv _ x : S1x1x2048.Idx) a).val = (o a + (![0, 0, (x 0).val] : Fin 3 → Nat) a) % S18x4x65536.size a
  rw [resh, Nat.mod_eq_of_lt, Nat.one_mul]
  have h := inb a; have hx : (x 0).val < 2048 := (x 0).isLt
  fin_cases a
  · have h : o 0 + 1 ≤ 18 := inb 0; show o 0 + 0 < 18; omega
  · have h : o 1 + 1 ≤ 4 := inb 1; show o 1 + 0 < 4; omega
  · have h : o 2 + 2048 ≤ 65536 := inb 2; show o 2 + (x 0).val < 65536; omega

/-! ## Generic steps: an input held at some share, a transfer issued into a batch, a wait -/

/-- A buffer held at SOME share. -/
def hold (ℓ : Loc nD τ sig) (f : Buf (Elt F) ℓ) : sProp 𝕄 := iprop(∃ q : PosShare TreeShare, ℓ ↦{q} f)

/-- What the task owes, its own waits apart. -/
def ow (O : CellTallies nD τ sig (HIx 1)) (W₀ : Waits sig (HIx 1)) : sProp 𝕄 :=
  iprop(∃ W, ⌜∀ p ∈ W, p ∈ W₀ ∨ p.2 = none⌝ ∗ owes (VT d L) O W)

abbrev EC : UEmb Counters 𝕄 := countersEmb (U := UU)

theorem hold_split (ℓ : Loc nD τ sig) (f : Buf (Elt F) ℓ) (S : Finset (Idx ℓ)) :
    (hold ℓ f : sProp 𝕄) ⊢ iprop(hold ℓ f ∗ ∃ q : PosShare TreeShare, ℓ ↦[S]{q} f) := by
  unfold hold
  iintro ⟨%q, H⟩
  ihave H := (pointsTo_share (PosShare.mem_left_op_right q)).1 $$ H
  icases H with ⟨H1, H2⟩
  isplitl [H1]; · iexists q.left; iexact H1
  ihave H2 := (pointsTo_split_subset (Finset.subset_univ S)).1 $$ H2
  icases H2 with ⟨H2, -⟩
  iexists q.right; iexact H2

/-- A transfer issued into a batch, from a source held at some share. -/
theorem wp_issue {sp sp' : Space} {s : Shape} {e : EltTy} {src : Memref sig .scVector sp s e} {dst : Memref sig .scVector sp' s e} {sm : SemLoc sig}
    {hsrc : src.view.WordExact} {hdst : dst.view.WordExact} {hsem : DmaTarget.Typed (nD := nD) (p := (VT d L).2) sp sm (.here dst)}
    {α : Type} {k : PUnit → Prog (TpuEff nD τ sig (Elt F) Λ₀ (VT d L).2) α} {Q : α → sProp 𝕄} {n : Nat}
    {fs : Buf (Elt F) (src.view.loc (VT d L))} {fd : Buf (Elt F) (dst.view.loc (VT d L))} {Dl : Fin n → sProp 𝕄} {j : Nat}
    (Sd : Finset (Idx (dst.view.loc (VT d L)))) (N : Nat) (hN : dst.view.amount sm = N) (hSd : dst.view.set ⊆ Sd) (hj : j < n)
    (hD : (dst.view.loc (VT d L) ↦[Sd]{fullShare} (dst.view.write (Elt F) fd (src.view.read (Elt F) fs) Finset.univ)) ⊢ Dl ⟨j, hj⟩) :
    iprop(hold (src.view.loc (VT d L)) fs ∗ (dst.view.loc (VT d L) ↦[Sd]{fullShare} fd) ∗ Transfers.Batch EC (VT d L) sm none N Dl j 0)
      ⊢ iprop((iprop(hold (src.view.loc (VT d L)) fs ∗ Transfers.Batch EC (VT d L) sm none N Dl (j + 1) 0) -∗ wp frame (wpE (defs₀ (F := F)) 𝒱₀ (VT d L) none) Set.univ (k ⟨⟩) Q)
          -∗ wp frame (wpE (defs₀ (F := F)) 𝒱₀ (VT d L) none) Set.univ (Prog.lift (.enqueueDma src (.here dst) sm hsrc hdst hsem) >>= k) Q) := by
  iintro ⟨Hs, Hd, HB⟩ Hk
  ihave Hs := (hold_split (src.view.loc (VT d L)) fs src.view.set) $$ Hs
  icases Hs with ⟨Hs, %q, Hq⟩
  iapply (Transfers.wp_dmaBatch EC 𝒱₀ (VT d L) none (src := src) (dst := dst) (fs := fs) (fd := fd) (q := q) (Sd := Sd) none N hN hSd hj (Nat.zero_le _) (D := Dl)
    (by iintro ⟨H, -⟩; iapply hD; iexact H)) $$ [Hq Hd HB]
  · isplitl [Hq]; · iexact Hq
    isplitl [Hd]; · iexact Hd
    iexact HB
  iintro HB
  iapply Hk
  isplitl [Hs]; · iexact Hs
  iexact HB

/-- A wait of a batch, not the last. -/
theorem wp_waitS {sp sp' : Space} {s s' : Shape} {e e' : EltTy} {κ' : Kind} {sem : DmaSem sig} {srcw : Memref sig .scVector sp' s' e'} {dstw : Memref sig κ' sp s e}
    {hsrc : srcw.view.WordExact} {hdst : dstw.view.WordExact}
    {α : Type} {k : PUnit → Prog (TpuEff nD τ sig (Elt F) Λ₀ (VT d L).2) α} {Q : α → sProp 𝕄} {n : Nat} {Dl : Fin n → sProp 𝕄} {u N : Nat}
    {O : CellTallies nD τ sig (HIx 1)} {W₀ : Waits sig (HIx 1)} (hO : ∀ g, O g none = 0)
    (hN : dstw.view.dmaCredit = N) (hu : u + N < N * n) :
    iprop(levAts (K (F := F)).L (K (F := F)).lev ∗ Transfers.Batch EC (VT d L) (.dma sem) none N Dl n u ∗ ow d L O W₀)
      ⊢ iprop((iprop(Transfers.Batch EC (VT d L) (.dma sem) none N Dl n (u + N) ∗ ow d L O W₀) -∗ wp frame (wpE (defs₀ (F := F)) 𝒱₀ (VT d L) none) Set.univ (k ⟨⟩) Q)
          -∗ wp frame (wpE (defs₀ (F := F)) 𝒱₀ (VT d L) none) Set.univ (Prog.lift (.waitDma2 sem srcw dstw hsrc hdst) >>= k) Q) := by
  unfold ow
  iintro ⟨#Hlv, HB, %W₁, %hW, HO⟩ Hk
  iapply (Transfers.wp_waitBatchO EC 𝒱₀ (VT d L) none (srcw := srcw) (dstw := dstw) none hN hu (D := Dl) (O := O) (W := W₁)) $$ [HB HO]
  · isplitl [HB]; · iexact HB
    isplitl [HO]; · iexact HO
    iapply ((K (F := F)).mayWait_none (thr := VT d L) (SemLoc.dma sem) hO); iexact Hlv
  iintro ⟨HB, HO⟩
  iapply Hk
  isplitl [HB]; · iexact HB
  iexists (insert (SemLoc.dma sem, (none : HIx 1)) W₁); isplitr
  · ipureintro; intro p hp
    rcases Finset.mem_insert.mp hp with hp | hp
    · exact .inr (hp ▸ rfl)
    · exact hW p hp
  · iexact HO

/-- The last wait of a batch: every delivery at once, the cell back at zero. -/
theorem wp_waitL {sp sp' : Space} {s s' : Shape} {e e' : EltTy} {κ' : Kind} {sem : DmaSem sig} {srcw : Memref sig .scVector sp' s' e'} {dstw : Memref sig κ' sp s e}
    {hsrc : srcw.view.WordExact} {hdst : dstw.view.WordExact}
    {α : Type} {k : PUnit → Prog (TpuEff nD τ sig (Elt F) Λ₀ (VT d L).2) α} {Q : α → sProp 𝕄} {n : Nat} {Dl : Fin n → sProp 𝕄} {u N : Nat}
    {O : CellTallies nD τ sig (HIx 1)} {W₀ : Waits sig (HIx 1)} (hO : ∀ g, O g none = 0)
    (hN : dstw.view.dmaCredit = N) (hN0 : 0 < N) (hu : u + N = N * n) :
    iprop(levAts (K (F := F)).L (K (F := F)).lev ∗ Transfers.Batch EC (VT d L) (.dma sem) none N Dl n u ∗ ow d L O W₀)
      ⊢ iprop((iprop(bigSep Finset.univ Dl ∗ semVal (VT d L, .dma sem) 0 ∗ ow d L O W₀) -∗ wp frame (wpE (defs₀ (F := F)) 𝒱₀ (VT d L) none) Set.univ (k ⟨⟩) Q)
          -∗ wp frame (wpE (defs₀ (F := F)) 𝒱₀ (VT d L) none) Set.univ (Prog.lift (.waitDma2 sem srcw dstw hsrc hdst) >>= k) Q) := by
  unfold ow
  iintro ⟨#Hlv, HB, %W₁, %hW, HO⟩ Hk
  iapply (Transfers.wp_waitBatchLastO EC 𝒱₀ (VT d L) none (srcw := srcw) (dstw := dstw) none hN hN0 hu (D := Dl) (O := O) (W := W₁)) $$ [HB HO]
  · isplitl [HB]; · iexact HB
    isplitl [HO]; · iexact HO
    iapply ((K (F := F)).mayWait_none (thr := VT d L) (SemLoc.dma sem) hO); iexact Hlv
  iintro ⟨HB, Hs, HO⟩
  iapply Hk
  isplitl [HB]; · iexact HB
  isplitl [Hs]; · iexact Hs
  iexists (insert (SemLoc.dma sem, (none : HIx 1)) W₁); isplitr
  · ipureintro; intro p hp
    rcases Finset.mem_insert.mp hp with hp | hp
    · exact .inr (hp ▸ rfl)
    · exact hW p hp
  · iexact HO

end Cert.Proof.SumsK
-- ==== Proof.FetchK.lean ====
/-
  The batches that fetch a task's chunks into its two slots: issuing one, waiting for one.
-/
module

public import proofs.«01_k».proof.Proof.IssueK

@[expose] public section

noncomputable section

namespace Cert.Proof.SumsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.Kernel.main_arg0_scv : Memref Cert.Kernel.sig Kind.scVector Space.hbm Cert.Kernel.S18x16x65536 EltTy.i32)
local notation "sV" => (Memref.whole Cert.Kernel.main_v0_scv : Memref Cert.Kernel.sig Kind.scVector Space.hbm Cert.Kernel.S18x4x65536 EltTy.f32)
local notation "kV" => (Memref.whole Cert.Kernel.main_v1_scv : Memref Cert.Kernel.sig Kind.scVector Space.hbm Cert.Kernel.S18x4x65536 EltTy.i32)
local notation "pV" => (Memref.whole Cert.Kernel.main_v2_0_scv : Memref Cert.Kernel.sig Kind.scVector Space.hbm Cert.Kernel.S4x64x8192 EltTy.f32)
local notation "nV" => (Memref.whole Cert.Kernel.main_v2_1_scv : Memref Cert.Kernel.sig Kind.scVector Space.hbm Cert.Kernel.S4x8x8192 EltTy.f32)
local notation "tabV" => (Memref.whole Cert.Kernel.cc0_scratch0 : Memref Cert.Kernel.sig Kind.scVector Space.vmem Cert.Kernel.S65536 EltTy.f32)
local notation "cntV" => (Memref.whole Cert.Kernel.cc0_scratch1 : Memref Cert.Kernel.sig Kind.scVector Space.vmem Cert.Kernel.S8192 EltTy.f32)
local notation "z0V" => (Memref.whole Cert.Kernel.cc0_scratch2 : Memref Cert.Kernel.sig Kind.scVector Space.vmem Cert.Kernel.S4096 EltTy.i32)
local notation "z1V" => (Memref.whole Cert.Kernel.cc0_scratch3 : Memref Cert.Kernel.sig Kind.scVector Space.vmem Cert.Kernel.S4096 EltTy.i32)
local notation "s0V" => (Memref.whole Cert.Kernel.cc0_scratch4 : Memref Cert.Kernel.sig Kind.scVector Space.vmem Cert.Kernel.S2048 EltTy.f32)
local notation "s1V" => (Memref.whole Cert.Kernel.cc0_scratch5 : Memref Cert.Kernel.sig Kind.scVector Space.vmem Cert.Kernel.S2048 EltTy.f32)
local notation "c0V" => (Memref.whole Cert.Kernel.cc0_scratch6 : Memref Cert.Kernel.sig Kind.scVector Space.vmem Cert.Kernel.S2048 EltTy.i32)
local notation "c1V" => (Memref.whole Cert.Kernel.cc0_scratch7 : Memref Cert.Kernel.sig Kind.scVector Space.vmem Cert.Kernel.S2048 EltTy.i32)

variable [FloatOps F]

variable (d : Dev nD) (L : grid0.Coords)
variable (zg : S18x16x65536.Idx → Elt F .i32) (sg : S18x4x65536.Idx → Elt F .f32) (cg : S18x4x65536.Idx → Elt F .i32)

/-- The inputs a task reads, each at some share. -/
def inp : sProp 𝕄 :=
  iprop(hold ((zV).view.loc (VT d L)) zg ∗ hold ((sV).view.loc (VT d L)) sg ∗ hold ((kV).view.loc (VT d L)) cg)

theorem half_set (r : Nat) (inb : ∀ a, (![2048 * r] : Fin 1 → Nat) a + S2048.size a ≤ S4096.size a) (j : S4096.Idx) :
    j ∈ (Rect.unit (s := S4096) ![2048 * r] S2048.size inb).set ↔ 2048 * r ≤ (j 0).val ∧ (j 0).val < 2048 * r + 2048 := by
  rw [← Rect.map_emb_univ]
  constructor
  · intro h
    obtain ⟨x, -, rfl⟩ := Finset.mem_map.mp h
    have hx : (x 0).val < 2048 := (x 0).isLt
    have e : (((Rect.unit (s := S4096) ![2048 * r] S2048.size inb).emb x) 0).val = 2048 * r + 1 * (x 0).val := rfl
    omega
  · rintro ⟨h1, h2⟩
    refine Finset.mem_map.mpr ⟨fun a => ⟨(j 0).val - 2048 * r, by fin_cases a; show _ < 2048; omega⟩, Finset.mem_univ _, ?_⟩
    funext a; fin_cases a
    apply Fin.ext
    show 2048 * r + 1 * ((j 0).val - 2048 * r) = (j 0).val
    omega

/-! ## Slot 0 -/

theorem halves0_disj : Disjoint ((((z0V).slice (Rect.unit (s := S4096) ![0] S2048.size inb_S4096_S2048_0) (fun _ => rfl)) : Memref sig .scVector .vmem S2048 .i32)).view.set ((((z0V).slice (Rect.unit (s := S4096) ![2048] S2048.size inb_S4096_S2048_2048) (fun _ => rfl)) : Memref sig .scVector .vmem S2048 .i32)).view.set := by
  rw [Finset.disjoint_left]
  intro j h0 h1
  have h0 := (half_set 0 inb_S4096_S2048_0 j).1 (by simpa only [Memref.view_slice, View.set_slice_whole] using h0)
  have h1 := (half_set 1 inb_S4096_S2048_2048 j).1 (by simpa only [Memref.view_slice, View.set_slice_whole] using h1)
  omega

theorem halves0_univ : ((((z0V).slice (Rect.unit (s := S4096) ![0] S2048.size inb_S4096_S2048_0) (fun _ => rfl)) : Memref sig .scVector .vmem S2048 .i32)).view.set ∪ ((((z0V).slice (Rect.unit (s := S4096) ![2048] S2048.size inb_S4096_S2048_2048) (fun _ => rfl)) : Memref sig .scVector .vmem S2048 .i32)).view.set = (Finset.univ : Finset S4096.Idx) := by
  ext j
  simp only [Finset.mem_union, Finset.mem_univ, iff_true]
  have hj : (j 0).val < 4096 := (j 0).isLt
  by_cases h : (j 0).val < 2048
  · left
    have := (half_set 0 inb_S4096_S2048_0 j).2 ⟨by omega, by omega⟩
    simpa only [Memref.view_slice, View.set_slice_whole] using this
  · right
    have := (half_set 1 inb_S4096_S2048_2048 j).2 ⟨by omega, by omega⟩
    simpa only [Memref.view_slice, View.set_slice_whole] using this

/-- What the batch of chunk `k` into slot 0 delivers: the chunk's words (two halves), scales and codes, in the slot's buffers. -/
def del0 (k : Nat) : Fin 4 → sProp 𝕄 :=
  ![iprop(((z0V).view.loc (VT d L) ↦[((((z0V).slice (Rect.unit (s := S4096) ![0] S2048.size inb_S4096_S2048_0) (fun _ => rfl)) : Memref sig .scVector .vmem S2048 .i32)).view.set]{fullShare} zc L zg k)),
    iprop(((z0V).view.loc (VT d L) ↦[((((z0V).slice (Rect.unit (s := S4096) ![2048] S2048.size inb_S4096_S2048_2048) (fun _ => rfl)) : Memref sig .scVector .vmem S2048 .i32)).view.set]{fullShare} zc L zg k)),
    iprop(((s0V).view.loc (VT d L) ↦{fullShare} scl L sg k)),
    iprop(((c0V).view.loc (VT d L) ↦{fullShare} cod L cg k))]

instance del0_storable (k : Nat) (t : Fin 4) : BI.Storable (upEmb : UEmb _ 𝕄) (del0 d L zg sg cg k t) := by
  unfold del0; fin_cases t <;> (simp only [Fin.mk_zero, Fin.zero_eta, Fin.mk_one, Fin.reduceFinMk, Matrix.cons_val]; infer_instance)

/-- The batch in flight for chunk `k` into slot 0. -/
def fly0 (k : Nat) : sProp 𝕄 := Transfers.Batch EC (VT d L) (.dma cc0_scratch8.sem) none 65536 (del0 d L zg sg cg k) 4 0

/-- Slot 0 free: its buffers at any contents, its cell at zero. -/
def free0 : sProp 𝕄 := iprop((∃ f, ((z0V).view.loc (VT d L) ↦{fullShare} f)) ∗ (∃ f, ((s0V).view.loc (VT d L) ↦{fullShare} f)) ∗ (∃ f, ((c0V).view.loc (VT d L) ↦{fullShare} f)) ∗ semVal (VT d L, .dma cc0_scratch8.sem) 0)

/-- Slot 0 landed: its buffers at chunk `k`'s words, scales and codes, its cell at zero. -/
def got0 (k : Nat) : sProp 𝕄 := iprop(((z0V).view.loc (VT d L) ↦{fullShare} zc L zg k) ∗ ((s0V).view.loc (VT d L) ↦{fullShare} scl L sg k) ∗ ((c0V).view.loc (VT d L) ↦{fullShare} cod L cg k) ∗ semVal (VT d L, .dma cc0_scratch8.sem) 0)

theorem lands0_0 {o : Fin 3 → Nat} (inb : ∀ a, o a + S1x1x2048.size a ≤ S18x16x65536.size a) (k : Nat) (ho : o = zoff L k 0) (fd : S4096.Idx → Elt F .i32) :
    (((z0V).view.loc (VT d L) ↦[((((z0V).slice (Rect.unit (s := S4096) ![0] S2048.size inb_S4096_S2048_0) (fun _ => rfl)) : Memref sig .scVector .vmem S2048 .i32)).view.set]{fullShare} (((((z0V).slice (Rect.unit (s := S4096) ![0] S2048.size inb_S4096_S2048_0) (fun _ => rfl)) : Memref sig .scVector .vmem S2048 .i32)).view.write (Elt F) fd ((((zV).slice (Rect.unit (s := S18x16x65536) o S1x1x2048.size inb) (fun _ => rfl)).squeeze S2048 squeezes_S1x1x2048_S2048).view.read (Elt F) zg) Finset.univ)) : sProp 𝕄)
      ⊢ del0 d L zg sg cg k 0 := by
  refine Entails.of_eq (pointsTo_congr fun j hj => ?_)
  obtain ⟨x, -, rfl⟩ := Finset.mem_map.mp hj
  refine (View.write_emb_of_mem (Val := Elt F) (v := ((((z0V).slice (Rect.unit (s := S4096) ![0] S2048.size inb_S4096_S2048_0) (fun _ => rfl)) : Memref sig .scVector .vmem S2048 .i32)).view) fd _ (Finset.mem_univ x)).trans ?_
  show zg ((((zV).slice (Rect.unit (s := S18x16x65536) o S1x1x2048.size inb) (fun _ => rfl)).squeeze S2048 squeezes_S1x1x2048_S2048).view.emb x) = zc L zg k (((((z0V).slice (Rect.unit (s := S4096) ![0] S2048.size inb_S4096_S2048_0) (fun _ => rfl)) : Memref sig .scVector .vmem S2048 .i32)).view.emb x)
  have hx : (x 0).val < 2048 := (x 0).isLt
  have e : ((((((z0V).slice (Rect.unit (s := S4096) ![0] S2048.size inb_S4096_S2048_0) (fun _ => rfl)) : Memref sig .scVector .vmem S2048 .i32)).view.emb x : S4096.Idx) 0).val = 0 + 1 * (x 0).val := rfl
  rw [zwin, ho]
  unfold zc
  rw [e, show (0 + 1 * (x 0).val) / 2048 = 0 by omega, show (0 + 1 * (x 0).val) % 2048 = (x 0).val by omega]

theorem lands0_1 {o : Fin 3 → Nat} (inb : ∀ a, o a + S1x1x2048.size a ≤ S18x16x65536.size a) (k : Nat) (ho : o = zoff L k 1) (fd : S4096.Idx → Elt F .i32) :
    (((z0V).view.loc (VT d L) ↦[((((z0V).slice (Rect.unit (s := S4096) ![2048] S2048.size inb_S4096_S2048_2048) (fun _ => rfl)) : Memref sig .scVector .vmem S2048 .i32)).view.set]{fullShare} (((((z0V).slice (Rect.unit (s := S4096) ![2048] S2048.size inb_S4096_S2048_2048) (fun _ => rfl)) : Memref sig .scVector .vmem S2048 .i32)).view.write (Elt F) fd ((((zV).slice (Rect.unit (s := S18x16x65536) o S1x1x2048.size inb) (fun _ => rfl)).squeeze S2048 squeezes_S1x1x2048_S2048).view.read (Elt F) zg) Finset.univ)) : sProp 𝕄)
      ⊢ del0 d L zg sg cg k 1 := by
  refine Entails.of_eq (pointsTo_congr fun j hj => ?_)
  obtain ⟨x, -, rfl⟩ := Finset.mem_map.mp hj
  refine (View.write_emb_of_mem (Val := Elt F) (v := ((((z0V).slice (Rect.unit (s := S4096) ![2048] S2048.size inb_S4096_S2048_2048) (fun _ => rfl)) : Memref sig .scVector .vmem S2048 .i32)).view) fd _ (Finset.mem_univ x)).trans ?_
  show zg ((((zV).slice (Rect.unit (s := S18x16x65536) o S1x1x2048.size inb) (fun _ => rfl)).squeeze S2048 squeezes_S1x1x2048_S2048).view.emb x) = zc L zg k (((((z0V).slice (Rect.unit (s := S4096) ![2048] S2048.size inb_S4096_S2048_2048) (fun _ => rfl)) : Memref sig .scVector .vmem S2048 .i32)).view.emb x)
  have hx : (x 0).val < 2048 := (x 0).isLt
  have e : ((((((z0V).slice (Rect.unit (s := S4096) ![2048] S2048.size inb_S4096_S2048_2048) (fun _ => rfl)) : Memref sig .scVector .vmem S2048 .i32)).view.emb x : S4096.Idx) 0).val = 2048 + 1 * (x 0).val := rfl
  rw [zwin, ho]
  unfold zc
  rw [e, show (2048 + 1 * (x 0).val) / 2048 = 1 by omega, show (2048 + 1 * (x 0).val) % 2048 = (x 0).val by omega]

theorem lands0_s {o : Fin 3 → Nat} (inb : ∀ a, o a + S1x1x2048.size a ≤ S18x4x65536.size a) (k : Nat) (ho : o = soff L k) (fd : S2048.Idx → Elt F .f32) :
    (((s0V).view.loc (VT d L) ↦{fullShare} ((s0V).view.write (Elt F) fd ((((sV).slice (Rect.unit (s := S18x4x65536) o S1x1x2048.size inb) (fun _ => rfl)).squeeze S2048 squeezes_S1x1x2048_S2048).view.read (Elt F) sg) Finset.univ)) : sProp 𝕄)
      ⊢ del0 d L zg sg cg k 2 := by
  refine Entails.of_eq (pointsTo_congr fun j hj => ?_)
  refine (View.write_emb_of_mem (Val := Elt F) (v := (s0V).view) fd _ (Finset.mem_univ (j : S2048.Idx))).trans ?_
  show sg ((((sV).slice (Rect.unit (s := S18x4x65536) o S1x1x2048.size inb) (fun _ => rfl)).squeeze S2048 squeezes_S1x1x2048_S2048).view.emb (j : S2048.Idx)) = scl L sg k j
  rw [swin, ho]
  rfl

theorem lands0_c {o : Fin 3 → Nat} (inb : ∀ a, o a + S1x1x2048.size a ≤ S18x4x65536.size a) (k : Nat) (ho : o = soff L k) (fd : S2048.Idx → Elt F .i32) :
    (((c0V).view.loc (VT d L) ↦{fullShare} ((c0V).view.write (Elt F) fd ((((kV).slice (Rect.unit (s := S18x4x65536) o S1x1x2048.size inb) (fun _ => rfl)).squeeze S2048 squeezes_S1x1x2048_S2048).view.read (Elt F) cg) Finset.univ)) : sProp 𝕄)
      ⊢ del0 d L zg sg cg k 3 := by
  refine Entails.of_eq (pointsTo_congr fun j hj => ?_)
  refine (View.write_emb_of_mem (Val := Elt F) (v := (c0V).view) fd _ (Finset.mem_univ (j : S2048.Idx))).trans ?_
  show cg ((((kV).slice (Rect.unit (s := S18x4x65536) o S1x1x2048.size inb) (fun _ => rfl)).squeeze S2048 squeezes_S1x1x2048_S2048).view.emb (j : S2048.Idx)) = cod L cg k j
  rw [cwin, ho]
  rfl

/-- The four transfers of chunk `k` issued into slot 0. -/
theorem issue0 (k : Nat) {o0 o1 o2 : Fin 3 → Nat} (inb0 : ∀ a, o0 a + S1x1x2048.size a ≤ S18x16x65536.size a) (inb1 : ∀ a, o1 a + S1x1x2048.size a ≤ S18x16x65536.size a)
    (inb2 inb3 : ∀ a, o2 a + S1x1x2048.size a ≤ S18x4x65536.size a) (h0 : o0 = zoff L k 0) (h1 : o1 = zoff L k 1) (h2 : o2 = soff L k)
    {a0 : (((zV).slice (Rect.unit (s := S18x16x65536) o0 S1x1x2048.size inb0) (fun _ => rfl)).squeeze S2048 squeezes_S1x1x2048_S2048).view.WordExact} {b0 : (((z0V).slice (Rect.unit (s := S4096) ![0] S2048.size inb_S4096_S2048_0) (fun _ => rfl)) : Memref sig .scVector .vmem S2048 .i32).view.WordExact} {t0 : DmaTarget.Typed (nD := nD) (p := (VT d L).2) .hbm (.dma cc0_scratch8.sem) (.here (((z0V).slice (Rect.unit (s := S4096) ![0] S2048.size inb_S4096_S2048_0) (fun _ => rfl)) : Memref sig .scVector .vmem S2048 .i32))}
    {a1 : (((zV).slice (Rect.unit (s := S18x16x65536) o1 S1x1x2048.size inb1) (fun _ => rfl)).squeeze S2048 squeezes_S1x1x2048_S2048).view.WordExact} {b1 : (((z0V).slice (Rect.unit (s := S4096) ![2048] S2048.size inb_S4096_S2048_2048) (fun _ => rfl)) : Memref sig .scVector .vmem S2048 .i32).view.WordExact} {t1 : DmaTarget.Typed (nD := nD) (p := (VT d L).2) .hbm (.dma cc0_scratch8.sem) (.here (((z0V).slice (Rect.unit (s := S4096) ![2048] S2048.size inb_S4096_S2048_2048) (fun _ => rfl)) : Memref sig .scVector .vmem S2048 .i32))}
    {a2 : (((sV).slice (Rect.unit (s := S18x4x65536) o2 S1x1x2048.size inb2) (fun _ => rfl)).squeeze S2048 squeezes_S1x1x2048_S2048).view.WordExact} {b2 : (s0V).view.WordExact} {t2 : DmaTarget.Typed (nD := nD) (p := (VT d L).2) .hbm (.dma cc0_scratch8.sem) (.here (s0V))}
    {a3 : (((kV).slice (Rect.unit (s := S18x4x65536) o2 S1x1x2048.size inb3) (fun _ => rfl)).squeeze S2048 squeezes_S1x1x2048_S2048).view.WordExact} {b3 : (c0V).view.WordExact} {t3 : DmaTarget.Typed (nD := nD) (p := (VT d L).2) .hbm (.dma cc0_scratch8.sem) (.here (c0V))}
    {β : Type} {kk : PUnit → Prog (TpuEff nD τ sig (Elt F) Λ₀ (VT d L).2) β} {Q : β → sProp 𝕄} :
    iprop(inp d L zg sg cg ∗ free0 (F := F) d L)
      ⊢ iprop((iprop(inp d L zg sg cg ∗ fly0 d L zg sg cg k) -∗ wp frame (wpE (defs₀ (F := F)) 𝒱₀ (VT d L) none) Set.univ (kk ⟨⟩) Q)
          -∗ wp frame (wpE (defs₀ (F := F)) 𝒱₀ (VT d L) none) Set.univ (Prog.lift (.enqueueDma (((zV).slice (Rect.unit (s := S18x16x65536) o0 S1x1x2048.size inb0) (fun _ => rfl)).squeeze S2048 squeezes_S1x1x2048_S2048) (.here (((z0V).slice (Rect.unit (s := S4096) ![0] S2048.size inb_S4096_S2048_0) (fun _ => rfl)) : Memref sig .scVector .vmem S2048 .i32)) (.dma cc0_scratch8.sem) a0 b0 t0) >>= fun _ =>
              Prog.lift (.enqueueDma (((zV).slice (Rect.unit (s := S18x16x65536) o1 S1x1x2048.size inb1) (fun _ => rfl)).squeeze S2048 squeezes_S1x1x2048_S2048) (.here (((z0V).slice (Rect.unit (s := S4096) ![2048] S2048.size inb_S4096_S2048_2048) (fun _ => rfl)) : Memref sig .scVector .vmem S2048 .i32)) (.dma cc0_scratch8.sem) a1 b1 t1) >>= fun _ =>
              Prog.lift (.enqueueDma (((sV).slice (Rect.unit (s := S18x4x65536) o2 S1x1x2048.size inb2) (fun _ => rfl)).squeeze S2048 squeezes_S1x1x2048_S2048) (.here (s0V)) (.dma cc0_scratch8.sem) a2 b2 t2) >>= fun _ =>
              Prog.lift (.enqueueDma (((kV).slice (Rect.unit (s := S18x4x65536) o2 S1x1x2048.size inb3) (fun _ => rfl)).squeeze S2048 squeezes_S1x1x2048_S2048) (.here (c0V)) (.dma cc0_scratch8.sem) a3 b3 t3) >>= kk) Q) := by
  unfold inp free0 fly0
  iintro ⟨⟨Hz, Hs, Hc⟩, ⟨%fz, Hzb⟩, ⟨%fs, Hsb⟩, ⟨%fc, Hcb⟩, Hsem⟩ Hk
  ihave Hzb := (Entails.of_eq (congrArg (fun S => ((z0V).view.loc (VT d L) ↦[S]{fullShare} fz : sProp 𝕄)) halves0_univ.symm)) $$ Hzb
  ihave Hzb := (pointsTo_union (halves0_disj)).1 $$ Hzb
  icases Hzb with ⟨Hz0, Hz1⟩
  imod (Transfers.batch_alloc' EC (VT d L) (none : HIx 1) 65536 (del0 d L zg sg cg k) (sm := .dma cc0_scratch8.sem) (E := Set.univ)) $$ Hsem with HB
  iapply (wp_issue d L (n := 4) (Dl := del0 d L zg sg cg k) (j := 0) (src := (((zV).slice (Rect.unit (s := S18x16x65536) o0 S1x1x2048.size inb0) (fun _ => rfl)).squeeze S2048 squeezes_S1x1x2048_S2048)) (dst := (((z0V).slice (Rect.unit (s := S4096) ![0] S2048.size inb_S4096_S2048_0) (fun _ => rfl)) : Memref sig .scVector .vmem S2048 .i32)) (fs := zg) (fd := fz) (Sd := ((((z0V).slice (Rect.unit (s := S4096) ![0] S2048.size inb_S4096_S2048_0) (fun _ => rfl)) : Memref sig .scVector .vmem S2048 .i32)).view.set) (N := 65536) rfl (Finset.Subset.refl _) (by decide) (lands0_0 d L zg sg cg inb0 k h0 fz)) $$ [Hz Hz0 HB]
  · isplitl [Hz]; · iexact Hz
    isplitl [Hz0]; · iexact Hz0
    iexact HB
  iintro ⟨Hz, HB⟩
  iapply (wp_issue d L (n := 4) (Dl := del0 d L zg sg cg k) (j := 1) (src := (((zV).slice (Rect.unit (s := S18x16x65536) o1 S1x1x2048.size inb1) (fun _ => rfl)).squeeze S2048 squeezes_S1x1x2048_S2048)) (dst := (((z0V).slice (Rect.unit (s := S4096) ![2048] S2048.size inb_S4096_S2048_2048) (fun _ => rfl)) : Memref sig .scVector .vmem S2048 .i32)) (fs := zg) (fd := fz) (Sd := ((((z0V).slice (Rect.unit (s := S4096) ![2048] S2048.size inb_S4096_S2048_2048) (fun _ => rfl)) : Memref sig .scVector .vmem S2048 .i32)).view.set) (N := 65536) rfl (Finset.Subset.refl _) (by decide) (lands0_1 d L zg sg cg inb1 k h1 fz)) $$ [Hz Hz1 HB]
  · isplitl [Hz]; · iexact Hz
    isplitl [Hz1]; · iexact Hz1
    iexact HB
  iintro ⟨Hz, HB⟩
  iapply (wp_issue d L (n := 4) (Dl := del0 d L zg sg cg k) (j := 2) (src := (((sV).slice (Rect.unit (s := S18x4x65536) o2 S1x1x2048.size inb2) (fun _ => rfl)).squeeze S2048 squeezes_S1x1x2048_S2048)) (dst := s0V) (fs := sg) (fd := fs) (Sd := Finset.univ) (N := 65536) rfl (Finset.subset_univ _) (by decide) (lands0_s d L zg sg cg inb2 k h2 fs)) $$ [Hs Hsb HB]
  · isplitl [Hs]; · iexact Hs
    isplitl [Hsb]; · iexact Hsb
    iexact HB
  iintro ⟨Hs, HB⟩
  iapply (wp_issue d L (n := 4) (Dl := del0 d L zg sg cg k) (j := 3) (src := (((kV).slice (Rect.unit (s := S18x4x65536) o2 S1x1x2048.size inb3) (fun _ => rfl)).squeeze S2048 squeezes_S1x1x2048_S2048)) (dst := c0V) (fs := cg) (fd := fc) (Sd := Finset.univ) (N := 65536) rfl (Finset.subset_univ _) (by decide) (lands0_c d L zg sg cg inb3 k h2 fc)) $$ [Hc Hcb HB]
  · isplitl [Hc]; · iexact Hc
    isplitl [Hcb]; · iexact Hcb
    iexact HB
  iintro ⟨Hc, HB⟩
  iapply Hk
  isplitl [Hz Hs Hc]
  · isplitl [Hz]; · iexact Hz
    isplitl [Hs]; · iexact Hs
    iexact Hc
  iexact HB

/-- The four waits of slot 0's batch. -/
theorem wait0 (k : Nat) {O : CellTallies nD τ sig (HIx 1)} {W₀ : Waits sig (HIx 1)} (hO : ∀ g, O g none = 0)
    {p0 p1 p2 p3 : Space} {y0 y1 y2 y3 : Shape} {e0 e1 e2 e3 : EltTy}
    {w0 : Memref sig .scVector p0 y0 e0} {w1 : Memref sig .scVector p1 y1 e1} {w2 : Memref sig .scVector p2 y2 e2} {w3 : Memref sig .scVector p3 y3 e3}
    {a0 : w0.view.WordExact} {b0 : (((z0V).slice (Rect.unit (s := S4096) ![0] S2048.size inb_S4096_S2048_0) (fun _ => rfl)) : Memref sig .scVector .vmem S2048 .i32).view.WordExact} {a1 : w1.view.WordExact} {b1 : (((z0V).slice (Rect.unit (s := S4096) ![2048] S2048.size inb_S4096_S2048_2048) (fun _ => rfl)) : Memref sig .scVector .vmem S2048 .i32).view.WordExact}
    {a2 : w2.view.WordExact} {b2 : (s0V).view.WordExact} {a3 : w3.view.WordExact} {b3 : (c0V).view.WordExact}
    {β : Type} {kk : PUnit → Prog (TpuEff nD τ sig (Elt F) Λ₀ (VT d L).2) β} {Q : β → sProp 𝕄} :
    iprop(levAts (K (F := F)).L (K (F := F)).lev ∗ fly0 d L zg sg cg k ∗ ow d L O W₀)
      ⊢ iprop((iprop(got0 d L zg sg cg k ∗ ow d L O W₀) -∗ wp frame (wpE (defs₀ (F := F)) 𝒱₀ (VT d L) none) Set.univ (kk ⟨⟩) Q)
          -∗ wp frame (wpE (defs₀ (F := F)) 𝒱₀ (VT d L) none) Set.univ (Prog.lift (.waitDma2 cc0_scratch8.sem w0 (((z0V).slice (Rect.unit (s := S4096) ![0] S2048.size inb_S4096_S2048_0) (fun _ => rfl)) : Memref sig .scVector .vmem S2048 .i32) a0 b0) >>= fun _ =>
              Prog.lift (.waitDma2 cc0_scratch8.sem w1 (((z0V).slice (Rect.unit (s := S4096) ![2048] S2048.size inb_S4096_S2048_2048) (fun _ => rfl)) : Memref sig .scVector .vmem S2048 .i32) a1 b1) >>= fun _ =>
              Prog.lift (.waitDma2 cc0_scratch8.sem w2 (s0V) a2 b2) >>= fun _ =>
              Prog.lift (.waitDma2 cc0_scratch8.sem w3 (c0V) a3 b3) >>= kk) Q) := by
  unfold fly0
  iintro ⟨#Hlv, HB, HO⟩ Hk
  iapply (wp_waitS d L hO (sem := cc0_scratch8.sem) (dstw := (((z0V).slice (Rect.unit (s := S4096) ![0] S2048.size inb_S4096_S2048_0) (fun _ => rfl)) : Memref sig .scVector .vmem S2048 .i32)) (n := 4) (u := 0) (N := 65536) rfl  (by decide)) $$ [HB HO]
  · isplitr; · iexact Hlv
    isplitl [HB]; · iexact HB
    iexact HO
  iintro ⟨HB, HO⟩
  iapply (wp_waitS d L hO (sem := cc0_scratch8.sem) (dstw := (((z0V).slice (Rect.unit (s := S4096) ![2048] S2048.size inb_S4096_S2048_2048) (fun _ => rfl)) : Memref sig .scVector .vmem S2048 .i32)) (n := 4) (u := 65536) (N := 65536) rfl  (by decide)) $$ [HB HO]
  · isplitr; · iexact Hlv
    isplitl [HB]; · iexact HB
    iexact HO
  iintro ⟨HB, HO⟩
  iapply (wp_waitS d L hO (sem := cc0_scratch8.sem) (dstw := s0V) (n := 4) (u := 131072) (N := 65536) rfl  (by decide)) $$ [HB HO]
  · isplitr; · iexact Hlv
    isplitl [HB]; · iexact HB
    iexact HO
  iintro ⟨HB, HO⟩
  iapply (wp_waitL d L hO (sem := cc0_scratch8.sem) (dstw := c0V) (n := 4) (u := 196608) (N := 65536) rfl (by decide) (by decide)) $$ [HB HO]
  · isplitr; · iexact Hlv
    isplitl [HB]; · iexact HB
    iexact HO
  iintro ⟨HD, Hsem, HO⟩
  iapply Hk
  isplitr [HO]
  · unfold got0
    ihave HD := (show bigSep Finset.univ (del0 d L zg sg cg k) ⊢ iprop(((z0V).view.loc (VT d L) ↦[((((z0V).slice (Rect.unit (s := S4096) ![0] S2048.size inb_S4096_S2048_0) (fun _ => rfl)) : Memref sig .scVector .vmem S2048 .i32)).view.set]{fullShare} zc L zg k) ∗ ((z0V).view.loc (VT d L) ↦[((((z0V).slice (Rect.unit (s := S4096) ![2048] S2048.size inb_S4096_S2048_2048) (fun _ => rfl)) : Memref sig .scVector .vmem S2048 .i32)).view.set]{fullShare} zc L zg k) ∗ ((s0V).view.loc (VT d L) ↦{fullShare} scl L sg k) ∗ ((c0V).view.loc (VT d L) ↦{fullShare} cod L cg k)) from
      Entails.of_eq (by rw [show (Finset.univ : Finset (Fin 4)) = {0, 1, 2, 3} from by decide, bigSep_insert (by decide), bigSep_insert (by decide), bigSep_insert (by decide), bigSep_singleton]; rfl)) $$ HD
    icases HD with ⟨H0, H1, H2, H3⟩
    isplitl [H0 H1]
    · ihave H := (pointsTo_union (ℓ := (z0V).view.loc (VT d L)) (q := fullShare) (f := zc L zg k) (halves0_disj)).2 $$ [H0 H1]
      · isplitl [H0]; · iexact H0
        iexact H1
      iapply (Entails.of_eq (congrArg (fun S => ((z0V).view.loc (VT d L) ↦[S]{fullShare} zc L zg k : sProp 𝕄)) halves0_univ)) $$ H
    isplitl [H2]; · iexact H2
    isplitl [H3]; · iexact H3
    iexact Hsem
  · iexact HO

/-! ## Slot 1 -/

theorem halves1_disj : Disjoint ((((z1V).slice (Rect.unit (s := S4096) ![0] S2048.size inb_S4096_S2048_0) (fun _ => rfl)) : Memref sig .scVector .vmem S2048 .i32)).view.set ((((z1V).slice (Rect.unit (s := S4096) ![2048] S2048.size inb_S4096_S2048_2048) (fun _ => rfl)) : Memref sig .scVector .vmem S2048 .i32)).view.set := by
  rw [Finset.disjoint_left]
  intro j h0 h1
  have h0 := (half_set 0 inb_S4096_S2048_0 j).1 (by simpa only [Memref.view_slice, View.set_slice_whole] using h0)
  have h1 := (half_set 1 inb_S4096_S2048_2048 j).1 (by simpa only [Memref.view_slice, View.set_slice_whole] using h1)
  omega

theorem halves1_univ : ((((z1V).slice (Rect.unit (s := S4096) ![0] S2048.size inb_S4096_S2048_0) (fun _ => rfl)) : Memref sig .scVector .vmem S2048 .i32)).view.set ∪ ((((z1V).slice (Rect.unit (s := S4096) ![2048] S2048.size inb_S4096_S2048_2048) (fun _ => rfl)) : Memref sig .scVector .vmem S2048 .i32)).view.set = (Finset.univ : Finset S4096.Idx) := by
  ext j
  simp only [Finset.mem_union, Finset.mem_univ, iff_true]
  have hj : (j 0).val < 4096 := (j 0).isLt
  by_cases h : (j 0).val < 2048
  · left
    have := (half_set 0 inb_S4096_S2048_0 j).2 ⟨by omega, by omega⟩
    simpa only [Memref.view_slice, View.set_slice_whole] using this
  · right
    have := (half_set 1 inb_S4096_S2048_2048 j).2 ⟨by omega, by omega⟩
    simpa only [Memref.view_slice, View.set_slice_whole] using this

/-- What the batch of chunk `k` into slot 1 delivers: the chunk's words (two halves), scales and codes, in the slot's buffers. -/
def del1 (k : Nat) : Fin 4 → sProp 𝕄 :=
  ![iprop(((z1V).view.loc (VT d L) ↦[((((z1V).slice (Rect.unit (s := S4096) ![0] S2048.size inb_S4096_S2048_0) (fun _ => rfl)) : Memref sig .scVector .vmem S2048 .i32)).view.set]{fullShare} zc L zg k)),
    iprop(((z1V).view.loc (VT d L) ↦[((((z1V).slice (Rect.unit (s := S4096) ![2048] S2048.size inb_S4096_S2048_2048) (fun _ => rfl)) : Memref sig .scVector .vmem S2048 .i32)).view.set]{fullShare} zc L zg k)),
    iprop(((s1V).view.loc (VT d L) ↦{fullShare} scl L sg k)),
    iprop(((c1V).view.loc (VT d L) ↦{fullShare} cod L cg k))]

instance del1_storable (k : Nat) (t : Fin 4) : BI.Storable (upEmb : UEmb _ 𝕄) (del1 d L zg sg cg k t) := by
  unfold del1; fin_cases t <;> (simp only [Fin.mk_zero, Fin.zero_eta, Fin.mk_one, Fin.reduceFinMk, Matrix.cons_val]; infer_instance)

/-- The batch in flight for chunk `k` into slot 1. -/
def fly1 (k : Nat) : sProp 𝕄 := Transfers.Batch EC (VT d L) (.dma cc0_scratch9.sem) none 65536 (del1 d L zg sg cg k) 4 0

/-- Slot 1 free: its buffers at any contents, its cell at zero. -/
def free1 : sProp 𝕄 := iprop((∃ f, ((z1V).view.loc (VT d L) ↦{fullShare} f)) ∗ (∃ f, ((s1V).view.loc (VT d L) ↦{fullShare} f)) ∗ (∃ f, ((c1V).view.loc (VT d L) ↦{fullShare} f)) ∗ semVal (VT d L, .dma cc0_scratch9.sem) 0)

/-- Slot 1 landed: its buffers at chunk `k`'s words, scales and codes, its cell at zero. -/
def got1 (k : Nat) : sProp 𝕄 := iprop(((z1V).view.loc (VT d L) ↦{fullShare} zc L zg k) ∗ ((s1V).view.loc (VT d L) ↦{fullShare} scl L sg k) ∗ ((c1V).view.loc (VT d L) ↦{fullShare} cod L cg k) ∗ semVal (VT d L, .dma cc0_scratch9.sem) 0)

theorem lands1_0 {o : Fin 3 → Nat} (inb : ∀ a, o a + S1x1x2048.size a ≤ S18x16x65536.size a) (k : Nat) (ho : o = zoff L k 0) (fd : S4096.Idx → Elt F .i32) :
    (((z1V).view.loc (VT d L) ↦[((((z1V).slice (Rect.unit (s := S4096) ![0] S2048.size inb_S4096_S2048_0) (fun _ => rfl)) : Memref sig .scVector .vmem S2048 .i32)).view.set]{fullShare} (((((z1V).slice (Rect.unit (s := S4096) ![0] S2048.size inb_S4096_S2048_0) (fun _ => rfl)) : Memref sig .scVector .vmem S2048 .i32)).view.write (Elt F) fd ((((zV).slice (Rect.unit (s := S18x16x65536) o S1x1x2048.size inb) (fun _ => rfl)).squeeze S2048 squeezes_S1x1x2048_S2048).view.read (Elt F) zg) Finset.univ)) : sProp 𝕄)
      ⊢ del1 d L zg sg cg k 0 := by
  refine Entails.of_eq (pointsTo_congr fun j hj => ?_)
  obtain ⟨x, -, rfl⟩ := Finset.mem_map.mp hj
  refine (View.write_emb_of_mem (Val := Elt F) (v := ((((z1V).slice (Rect.unit (s := S4096) ![0] S2048.size inb_S4096_S2048_0) (fun _ => rfl)) : Memref sig .scVector .vmem S2048 .i32)).view) fd _ (Finset.mem_univ x)).trans ?_
  show zg ((((zV).slice (Rect.unit (s := S18x16x65536) o S1x1x2048.size inb) (fun _ => rfl)).squeeze S2048 squeezes_S1x1x2048_S2048).view.emb x) = zc L zg k (((((z1V).slice (Rect.unit (s := S4096) ![0] S2048.size inb_S4096_S2048_0) (fun _ => rfl)) : Memref sig .scVector .vmem S2048 .i32)).view.emb x)
  have hx : (x 0).val < 2048 := (x 0).isLt
  have e : ((((((z1V).slice (Rect.unit (s := S4096) ![0] S2048.size inb_S4096_S2048_0) (fun _ => rfl)) : Memref sig .scVector .vmem S2048 .i32)).view.emb x : S4096.Idx) 0).val = 0 + 1 * (x 0).val := rfl
  rw [zwin, ho]
  unfold zc
  rw [e, show (0 + 1 * (x 0).val) / 2048 = 0 by omega, show (0 + 1 * (x 0).val) % 2048 = (x 0).val by omega]

theorem lands1_1 {o : Fin 3 → Nat} (inb : ∀ a, o a + S1x1x2048.size a ≤ S18x16x65536.size a) (k : Nat) (ho : o = zoff L k 1) (fd : S4096.Idx → Elt F .i32) :
    (((z1V).view.loc (VT d L) ↦[((((z1V).slice (Rect.unit (s := S4096) ![2048] S2048.size inb_S4096_S2048_2048) (fun _ => rfl)) : Memref sig .scVector .vmem S2048 .i32)).view.set]{fullShare} (((((z1V).slice (Rect.unit (s := S4096) ![2048] S2048.size inb_S4096_S2048_2048) (fun _ => rfl)) : Memref sig .scVector .vmem S2048 .i32)).view.write (Elt F) fd ((((zV).slice (Rect.unit (s := S18x16x65536) o S1x1x2048.size inb) (fun _ => rfl)).squeeze S2048 squeezes_S1x1x2048_S2048).view.read (Elt F) zg) Finset.univ)) : sProp 𝕄)
      ⊢ del1 d L zg sg cg k 1 := by
  refine Entails.of_eq (pointsTo_congr fun j hj => ?_)
  obtain ⟨x, -, rfl⟩ := Finset.mem_map.mp hj
  refine (View.write_emb_of_mem (Val := Elt F) (v := ((((z1V).slice (Rect.unit (s := S4096) ![2048] S2048.size inb_S4096_S2048_2048) (fun _ => rfl)) : Memref sig .scVector .vmem S2048 .i32)).view) fd _ (Finset.mem_univ x)).trans ?_
  show zg ((((zV).slice (Rect.unit (s := S18x16x65536) o S1x1x2048.size inb) (fun _ => rfl)).squeeze S2048 squeezes_S1x1x2048_S2048).view.emb x) = zc L zg k (((((z1V).slice (Rect.unit (s := S4096) ![2048] S2048.size inb_S4096_S2048_2048) (fun _ => rfl)) : Memref sig .scVector .vmem S2048 .i32)).view.emb x)
  have hx : (x 0).val < 2048 := (x 0).isLt
  have e : ((((((z1V).slice (Rect.unit (s := S4096) ![2048] S2048.size inb_S4096_S2048_2048) (fun _ => rfl)) : Memref sig .scVector .vmem S2048 .i32)).view.emb x : S4096.Idx) 0).val = 2048 + 1 * (x 0).val := rfl
  rw [zwin, ho]
  unfold zc
  rw [e, show (2048 + 1 * (x 0).val) / 2048 = 1 by omega, show (2048 + 1 * (x 0).val) % 2048 = (x 0).val by omega]

theorem lands1_s {o : Fin 3 → Nat} (inb : ∀ a, o a + S1x1x2048.size a ≤ S18x4x65536.size a) (k : Nat) (ho : o = soff L k) (fd : S2048.Idx → Elt F .f32) :
    (((s1V).view.loc (VT d L) ↦{fullShare} ((s1V).view.write (Elt F) fd ((((sV).slice (Rect.unit (s := S18x4x65536) o S1x1x2048.size inb) (fun _ => rfl)).squeeze S2048 squeezes_S1x1x2048_S2048).view.read (Elt F) sg) Finset.univ)) : sProp 𝕄)
      ⊢ del1 d L zg sg cg k 2 := by
  refine Entails.of_eq (pointsTo_congr fun j hj => ?_)
  refine (View.write_emb_of_mem (Val := Elt F) (v := (s1V).view) fd _ (Finset.mem_univ (j : S2048.Idx))).trans ?_
  show sg ((((sV).slice (Rect.unit (s := S18x4x65536) o S1x1x2048.size inb) (fun _ => rfl)).squeeze S2048 squeezes_S1x1x2048_S2048).view.emb (j : S2048.Idx)) = scl L sg k j
  rw [swin, ho]
  rfl

theorem lands1_c {o : Fin 3 → Nat} (inb : ∀ a, o a + S1x1x2048.size a ≤ S18x4x65536.size a) (k : Nat) (ho : o = soff L k) (fd : S2048.Idx → Elt F .i32) :
    (((c1V).view.loc (VT d L) ↦{fullShare} ((c1V).view.write (Elt F) fd ((((kV).slice (Rect.unit (s := S18x4x65536) o S1x1x2048.size inb) (fun _ => rfl)).squeeze S2048 squeezes_S1x1x2048_S2048).view.read (Elt F) cg) Finset.univ)) : sProp 𝕄)
      ⊢ del1 d L zg sg cg k 3 := by
  refine Entails.of_eq (pointsTo_congr fun j hj => ?_)
  refine (View.write_emb_of_mem (Val := Elt F) (v := (c1V).view) fd _ (Finset.mem_univ (j : S2048.Idx))).trans ?_
  show cg ((((kV).slice (Rect.unit (s := S18x4x65536) o S1x1x2048.size inb) (fun _ => rfl)).squeeze S2048 squeezes_S1x1x2048_S2048).view.emb (j : S2048.Idx)) = cod L cg k j
  rw [cwin, ho]
  rfl

/-- The four transfers of chunk `k` issued into slot 1. -/
theorem issue1 (k : Nat) {o0 o1 o2 : Fin 3 → Nat} (inb0 : ∀ a, o0 a + S1x1x2048.size a ≤ S18x16x65536.size a) (inb1 : ∀ a, o1 a + S1x1x2048.size a ≤ S18x16x65536.size a)
    (inb2 inb3 : ∀ a, o2 a + S1x1x2048.size a ≤ S18x4x65536.size a) (h0 : o0 = zoff L k 0) (h1 : o1 = zoff L k 1) (h2 : o2 = soff L k)
    {a0 : (((zV).slice (Rect.unit (s := S18x16x65536) o0 S1x1x2048.size inb0) (fun _ => rfl)).squeeze S2048 squeezes_S1x1x2048_S2048).view.WordExact} {b0 : (((z1V).slice (Rect.unit (s := S4096) ![0] S2048.size inb_S4096_S2048_0) (fun _ => rfl)) : Memref sig .scVector .vmem S2048 .i32).view.WordExact} {t0 : DmaTarget.Typed (nD := nD) (p := (VT d L).2) .hbm (.dma cc0_scratch9.sem) (.here (((z1V).slice (Rect.unit (s := S4096) ![0] S2048.size inb_S4096_S2048_0) (fun _ => rfl)) : Memref sig .scVector .vmem S2048 .i32))}
    {a1 : (((zV).slice (Rect.unit (s := S18x16x65536) o1 S1x1x2048.size inb1) (fun _ => rfl)).squeeze S2048 squeezes_S1x1x2048_S2048).view.WordExact} {b1 : (((z1V).slice (Rect.unit (s := S4096) ![2048] S2048.size inb_S4096_S2048_2048) (fun _ => rfl)) : Memref sig .scVector .vmem S2048 .i32).view.WordExact} {t1 : DmaTarget.Typed (nD := nD) (p := (VT d L).2) .hbm (.dma cc0_scratch9.sem) (.here (((z1V).slice (Rect.unit (s := S4096) ![2048] S2048.size inb_S4096_S2048_2048) (fun _ => rfl)) : Memref sig .scVector .vmem S2048 .i32))}
    {a2 : (((sV).slice (Rect.unit (s := S18x4x65536) o2 S1x1x2048.size inb2) (fun _ => rfl)).squeeze S2048 squeezes_S1x1x2048_S2048).view.WordExact} {b2 : (s1V).view.WordExact} {t2 : DmaTarget.Typed (nD := nD) (p := (VT d L).2) .hbm (.dma cc0_scratch9.sem) (.here (s1V))}
    {a3 : (((kV).slice (Rect.unit (s := S18x4x65536) o2 S1x1x2048.size inb3) (fun _ => rfl)).squeeze S2048 squeezes_S1x1x2048_S2048).view.WordExact} {b3 : (c1V).view.WordExact} {t3 : DmaTarget.Typed (nD := nD) (p := (VT d L).2) .hbm (.dma cc0_scratch9.sem) (.here (c1V))}
    {β : Type} {kk : PUnit → Prog (TpuEff nD τ sig (Elt F) Λ₀ (VT d L).2) β} {Q : β → sProp 𝕄} :
    iprop(inp d L zg sg cg ∗ free1 (F := F) d L)
      ⊢ iprop((iprop(inp d L zg sg cg ∗ fly1 d L zg sg cg k) -∗ wp frame (wpE (defs₀ (F := F)) 𝒱₀ (VT d L) none) Set.univ (kk ⟨⟩) Q)
          -∗ wp frame (wpE (defs₀ (F := F)) 𝒱₀ (VT d L) none) Set.univ (Prog.lift (.enqueueDma (((zV).slice (Rect.unit (s := S18x16x65536) o0 S1x1x2048.size inb0) (fun _ => rfl)).squeeze S2048 squeezes_S1x1x2048_S2048) (.here (((z1V).slice (Rect.unit (s := S4096) ![0] S2048.size inb_S4096_S2048_0) (fun _ => rfl)) : Memref sig .scVector .vmem S2048 .i32)) (.dma cc0_scratch9.sem) a0 b0 t0) >>= fun _ =>
              Prog.lift (.enqueueDma (((zV).slice (Rect.unit (s := S18x16x65536) o1 S1x1x2048.size inb1) (fun _ => rfl)).squeeze S2048 squeezes_S1x1x2048_S2048) (.here (((z1V).slice (Rect.unit (s := S4096) ![2048] S2048.size inb_S4096_S2048_2048) (fun _ => rfl)) : Memref sig .scVector .vmem S2048 .i32)) (.dma cc0_scratch9.sem) a1 b1 t1) >>= fun _ =>
              Prog.lift (.enqueueDma (((sV).slice (Rect.unit (s := S18x4x65536) o2 S1x1x2048.size inb2) (fun _ => rfl)).squeeze S2048 squeezes_S1x1x2048_S2048) (.here (s1V)) (.dma cc0_scratch9.sem) a2 b2 t2) >>= fun _ =>
              Prog.lift (.enqueueDma (((kV).slice (Rect.unit (s := S18x4x65536) o2 S1x1x2048.size inb3) (fun _ => rfl)).squeeze S2048 squeezes_S1x1x2048_S2048) (.here (c1V)) (.dma cc0_scratch9.sem) a3 b3 t3) >>= kk) Q) := by
  unfold inp free1 fly1
  iintro ⟨⟨Hz, Hs, Hc⟩, ⟨%fz, Hzb⟩, ⟨%fs, Hsb⟩, ⟨%fc, Hcb⟩, Hsem⟩ Hk
  ihave Hzb := (Entails.of_eq (congrArg (fun S => ((z1V).view.loc (VT d L) ↦[S]{fullShare} fz : sProp 𝕄)) halves1_univ.symm)) $$ Hzb
  ihave Hzb := (pointsTo_union (halves1_disj)).1 $$ Hzb
  icases Hzb with ⟨Hz0, Hz1⟩
  imod (Transfers.batch_alloc' EC (VT d L) (none : HIx 1) 65536 (del1 d L zg sg cg k) (sm := .dma cc0_scratch9.sem) (E := Set.univ)) $$ Hsem with HB
  iapply (wp_issue d L (n := 4) (Dl := del1 d L zg sg cg k) (j := 0) (src := (((zV).slice (Rect.unit (s := S18x16x65536) o0 S1x1x2048.size inb0) (fun _ => rfl)).squeeze S2048 squeezes_S1x1x2048_S2048)) (dst := (((z1V).slice (Rect.unit (s := S4096) ![0] S2048.size inb_S4096_S2048_0) (fun _ => rfl)) : Memref sig .scVector .vmem S2048 .i32)) (fs := zg) (fd := fz) (Sd := ((((z1V).slice (Rect.unit (s := S4096) ![0] S2048.size inb_S4096_S2048_0) (fun _ => rfl)) : Memref sig .scVector .vmem S2048 .i32)).view.set) (N := 65536) rfl (Finset.Subset.refl _) (by decide) (lands1_0 d L zg sg cg inb0 k h0 fz)) $$ [Hz Hz0 HB]
  · isplitl [Hz]; · iexact Hz
    isplitl [Hz0]; · iexact Hz0
    iexact HB
  iintro ⟨Hz, HB⟩
  iapply (wp_issue d L (n := 4) (Dl := del1 d L zg sg cg k) (j := 1) (src := (((zV).slice (Rect.unit (s := S18x16x65536) o1 S1x1x2048.size inb1) (fun _ => rfl)).squeeze S2048 squeezes_S1x1x2048_S2048)) (dst := (((z1V).slice (Rect.unit (s := S4096) ![2048] S2048.size inb_S4096_S2048_2048) (fun _ => rfl)) : Memref sig .scVector .vmem S2048 .i32)) (fs := zg) (fd := fz) (Sd := ((((z1V).slice (Rect.unit (s := S4096) ![2048] S2048.size inb_S4096_S2048_2048) (fun _ => rfl)) : Memref sig .scVector .vmem S2048 .i32)).view.set) (N := 65536) rfl (Finset.Subset.refl _) (by decide) (lands1_1 d L zg sg cg inb1 k h1 fz)) $$ [Hz Hz1 HB]
  · isplitl [Hz]; · iexact Hz
    isplitl [Hz1]; · iexact Hz1
    iexact HB
  iintro ⟨Hz, HB⟩
  iapply (wp_issue d L (n := 4) (Dl := del1 d L zg sg cg k) (j := 2) (src := (((sV).slice (Rect.unit (s := S18x4x65536) o2 S1x1x2048.size inb2) (fun _ => rfl)).squeeze S2048 squeezes_S1x1x2048_S2048)) (dst := s1V) (fs := sg) (fd := fs) (Sd := Finset.univ) (N := 65536) rfl (Finset.subset_univ _) (by decide) (lands1_s d L zg sg cg inb2 k h2 fs)) $$ [Hs Hsb HB]
  · isplitl [Hs]; · iexact Hs
    isplitl [Hsb]; · iexact Hsb
    iexact HB
  iintro ⟨Hs, HB⟩
  iapply (wp_issue d L (n := 4) (Dl := del1 d L zg sg cg k) (j := 3) (src := (((kV).slice (Rect.unit (s := S18x4x65536) o2 S1x1x2048.size inb3) (fun _ => rfl)).squeeze S2048 squeezes_S1x1x2048_S2048)) (dst := c1V) (fs := cg) (fd := fc) (Sd := Finset.univ) (N := 65536) rfl (Finset.subset_univ _) (by decide) (lands1_c d L zg sg cg inb3 k h2 fc)) $$ [Hc Hcb HB]
  · isplitl [Hc]; · iexact Hc
    isplitl [Hcb]; · iexact Hcb
    iexact HB
  iintro ⟨Hc, HB⟩
  iapply Hk
  isplitl [Hz Hs Hc]
  · isplitl [Hz]; · iexact Hz
    isplitl [Hs]; · iexact Hs
    iexact Hc
  iexact HB

/-- The four waits of slot 1's batch. -/
theorem wait1 (k : Nat) {O : CellTallies nD τ sig (HIx 1)} {W₀ : Waits sig (HIx 1)} (hO : ∀ g, O g none = 0)
    {p0 p1 p2 p3 : Space} {y0 y1 y2 y3 : Shape} {e0 e1 e2 e3 : EltTy}
    {w0 : Memref sig .scVector p0 y0 e0} {w1 : Memref sig .scVector p1 y1 e1} {w2 : Memref sig .scVector p2 y2 e2} {w3 : Memref sig .scVector p3 y3 e3}
    {a0 : w0.view.WordExact} {b0 : (((z1V).slice (Rect.unit (s := S4096) ![0] S2048.size inb_S4096_S2048_0) (fun _ => rfl)) : Memref sig .scVector .vmem S2048 .i32).view.WordExact} {a1 : w1.view.WordExact} {b1 : (((z1V).slice (Rect.unit (s := S4096) ![2048] S2048.size inb_S4096_S2048_2048) (fun _ => rfl)) : Memref sig .scVector .vmem S2048 .i32).view.WordExact}
    {a2 : w2.view.WordExact} {b2 : (s1V).view.WordExact} {a3 : w3.view.WordExact} {b3 : (c1V).view.WordExact}
    {β : Type} {kk : PUnit → Prog (TpuEff nD τ sig (Elt F) Λ₀ (VT d L).2) β} {Q : β → sProp 𝕄} :
    iprop(levAts (K (F := F)).L (K (F := F)).lev ∗ fly1 d L zg sg cg k ∗ ow d L O W₀)
      ⊢ iprop((iprop(got1 d L zg sg cg k ∗ ow d L O W₀) -∗ wp frame (wpE (defs₀ (F := F)) 𝒱₀ (VT d L) none) Set.univ (kk ⟨⟩) Q)
          -∗ wp frame (wpE (defs₀ (F := F)) 𝒱₀ (VT d L) none) Set.univ (Prog.lift (.waitDma2 cc0_scratch9.sem w0 (((z1V).slice (Rect.unit (s := S4096) ![0] S2048.size inb_S4096_S2048_0) (fun _ => rfl)) : Memref sig .scVector .vmem S2048 .i32) a0 b0) >>= fun _ =>
              Prog.lift (.waitDma2 cc0_scratch9.sem w1 (((z1V).slice (Rect.unit (s := S4096) ![2048] S2048.size inb_S4096_S2048_2048) (fun _ => rfl)) : Memref sig .scVector .vmem S2048 .i32) a1 b1) >>= fun _ =>
              Prog.lift (.waitDma2 cc0_scratch9.sem w2 (s1V) a2 b2) >>= fun _ =>
              Prog.lift (.waitDma2 cc0_scratch9.sem w3 (c1V) a3 b3) >>= kk) Q) := by
  unfold fly1
  iintro ⟨#Hlv, HB, HO⟩ Hk
  iapply (wp_waitS d L hO (sem := cc0_scratch9.sem) (dstw := (((z1V).slice (Rect.unit (s := S4096) ![0] S2048.size inb_S4096_S2048_0) (fun _ => rfl)) : Memref sig .scVector .vmem S2048 .i32)) (n := 4) (u := 0) (N := 65536) rfl  (by decide)) $$ [HB HO]
  · isplitr; · iexact Hlv
    isplitl [HB]; · iexact HB
    iexact HO
  iintro ⟨HB, HO⟩
  iapply (wp_waitS d L hO (sem := cc0_scratch9.sem) (dstw := (((z1V).slice (Rect.unit (s := S4096) ![2048] S2048.size inb_S4096_S2048_2048) (fun _ => rfl)) : Memref sig .scVector .vmem S2048 .i32)) (n := 4) (u := 65536) (N := 65536) rfl  (by decide)) $$ [HB HO]
  · isplitr; · iexact Hlv
    isplitl [HB]; · iexact HB
    iexact HO
  iintro ⟨HB, HO⟩
  iapply (wp_waitS d L hO (sem := cc0_scratch9.sem) (dstw := s1V) (n := 4) (u := 131072) (N := 65536) rfl  (by decide)) $$ [HB HO]
  · isplitr; · iexact Hlv
    isplitl [HB]; · iexact HB
    iexact HO
  iintro ⟨HB, HO⟩
  iapply (wp_waitL d L hO (sem := cc0_scratch9.sem) (dstw := c1V) (n := 4) (u := 196608) (N := 65536) rfl (by decide) (by decide)) $$ [HB HO]
  · isplitr; · iexact Hlv
    isplitl [HB]; · iexact HB
    iexact HO
  iintro ⟨HD, Hsem, HO⟩
  iapply Hk
  isplitr [HO]
  · unfold got1
    ihave HD := (show bigSep Finset.univ (del1 d L zg sg cg k) ⊢ iprop(((z1V).view.loc (VT d L) ↦[((((z1V).slice (Rect.unit (s := S4096) ![0] S2048.size inb_S4096_S2048_0) (fun _ => rfl)) : Memref sig .scVector .vmem S2048 .i32)).view.set]{fullShare} zc L zg k) ∗ ((z1V).view.loc (VT d L) ↦[((((z1V).slice (Rect.unit (s := S4096) ![2048] S2048.size inb_S4096_S2048_2048) (fun _ => rfl)) : Memref sig .scVector .vmem S2048 .i32)).view.set]{fullShare} zc L zg k) ∗ ((s1V).view.loc (VT d L) ↦{fullShare} scl L sg k) ∗ ((c1V).view.loc (VT d L) ↦{fullShare} cod L cg k)) from
      Entails.of_eq (by rw [show (Finset.univ : Finset (Fin 4)) = {0, 1, 2, 3} from by decide, bigSep_insert (by decide), bigSep_insert (by decide), bigSep_insert (by decide), bigSep_singleton]; rfl)) $$ HD
    icases HD with ⟨H0, H1, H2, H3⟩
    isplitl [H0 H1]
    · ihave H := (pointsTo_union (ℓ := (z1V).view.loc (VT d L)) (q := fullShare) (f := zc L zg k) (halves1_disj)).2 $$ [H0 H1]
      · isplitl [H0]; · iexact H0
        iexact H1
      iapply (Entails.of_eq (congrArg (fun S => ((z1V).view.loc (VT d L) ↦[S]{fullShare} zc L zg k : sProp 𝕄)) halves1_univ)) $$ H
    isplitl [H2]; · iexact H2
    isplitl [H3]; · iexact H3
    iexact Hsem
  · iexact HO

end Cert.Proof.SumsK
-- ==== Proof.TripK.lean ====
/-
  The loop over a task's chunks: one trip, and the whole.
-/
module

public import proofs.«01_k».proof.Proof.FetchK
public import proofs.«01_k».proof.Proof.LoopsK

@[expose] public section

noncomputable section

namespace Cert.Proof.SumsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.Kernel.main_arg0_scv : Memref Cert.Kernel.sig Kind.scVector Space.hbm Cert.Kernel.S18x16x65536 EltTy.i32)
local notation "sV" => (Memref.whole Cert.Kernel.main_v0_scv : Memref Cert.Kernel.sig Kind.scVector Space.hbm Cert.Kernel.S18x4x65536 EltTy.f32)
local notation "kV" => (Memref.whole Cert.Kernel.main_v1_scv : Memref Cert.Kernel.sig Kind.scVector Space.hbm Cert.Kernel.S18x4x65536 EltTy.i32)
local notation "pV" => (Memref.whole Cert.Kernel.main_v2_0_scv : Memref Cert.Kernel.sig Kind.scVector Space.hbm Cert.Kernel.S4x64x8192 EltTy.f32)
local notation "nV" => (Memref.whole Cert.Kernel.main_v2_1_scv : Memref Cert.Kernel.sig Kind.scVector Space.hbm Cert.Kernel.S4x8x8192 EltTy.f32)
local notation "tabV" => (Memref.whole Cert.Kernel.cc0_scratch0 : Memref Cert.Kernel.sig Kind.scVector Space.vmem Cert.Kernel.S65536 EltTy.f32)
local notation "cntV" => (Memref.whole Cert.Kernel.cc0_scratch1 : Memref Cert.Kernel.sig Kind.scVector Space.vmem Cert.Kernel.S8192 EltTy.f32)
local notation "z0V" => (Memref.whole Cert.Kernel.cc0_scratch2 : Memref Cert.Kernel.sig Kind.scVector Space.vmem Cert.Kernel.S4096 EltTy.i32)
local notation "z1V" => (Memref.whole Cert.Kernel.cc0_scratch3 : Memref Cert.Kernel.sig Kind.scVector Space.vmem Cert.Kernel.S4096 EltTy.i32)
local notation "s0V" => (Memref.whole Cert.Kernel.cc0_scratch4 : Memref Cert.Kernel.sig Kind.scVector Space.vmem Cert.Kernel.S2048 EltTy.f32)
local notation "s1V" => (Memref.whole Cert.Kernel.cc0_scratch5 : Memref Cert.Kernel.sig Kind.scVector Space.vmem Cert.Kernel.S2048 EltTy.f32)
local notation "c0V" => (Memref.whole Cert.Kernel.cc0_scratch6 : Memref Cert.Kernel.sig Kind.scVector Space.vmem Cert.Kernel.S2048 EltTy.i32)
local notation "c1V" => (Memref.whole Cert.Kernel.cc0_scratch7 : Memref Cert.Kernel.sig Kind.scVector Space.vmem Cert.Kernel.S2048 EltTy.i32)

variable [FloatOps F]

variable (d : Dev nD) (L : grid0.Coords)
variable (zg : S18x16x65536.Idx → Elt F .i32) (sg : S18x4x65536.Idx → Elt F .f32) (cg : S18x4x65536.Idx → Elt F .i32)

/-- The running table before trip `t`: zero, then chunks `0, 1, …, 2 t - 1` added. -/
def tabAt : Nat → S65536.Idx → Elt F .f32
  | 0 => fun _ => Scalar.ofBits .f32 0x00000000#32
  | t + 1 => chunkT (zc L zg (2 * t + 1)) (scl L sg (2 * t + 1)) (cod L cg (2 * t + 1)) 128
      (chunkT (zc L zg (2 * t)) (scl L sg (2 * t)) (cod L cg (2 * t)) 128 (tabAt t))

/-- The running counts before trip `t`: zero, then chunks `0, 2, …, 2 t - 2` counted. -/
def cntAt : Nat → S8192.Idx → Elt F .f32
  | 0 => fun _ => Scalar.ofBits .f32 0x00000000#32
  | t + 1 => chunkC (cod L cg (2 * t)) 128 (cntAt t)

/-- Slot 0 before trip `t`: chunk `2 t` in flight, or free after the last. -/
def slot0 (t : Nat) : sProp 𝕄 := if t < 72 then fly0 d L zg sg cg (2 * t) else free0 (F := F) d L

def inv3 (O : CellTallies nD τ sig (HIx 1)) (W₀ : Waits sig (HIx 1)) (t : Nat) : sProp 𝕄 :=
  iprop(levAts (K (F := F)).L (K (F := F)).lev ∗ inp d L zg sg cg ∗ ((tabV).view.loc (VT d L) ↦{fullShare} tabAt L zg sg cg t) ∗ ((cntV).view.loc (VT d L) ↦{fullShare} cntAt L cg t) ∗ free1 (F := F) d L
    ∗ slot0 d L zg sg cg t ∗ ow d L O W₀)

theorem lt3 (k : Fin k0_t3_loop.trips) : k.val < 72 := lt_of_lt_of_le k.isLt k0_t3_abs.2.1

set_option maxRecDepth 16384 in
/-- One trip of the chunk loop. -/
theorem trip3 {O : CellTallies nD τ sig (HIx 1)} {W₀ : Waits sig (HIx 1)} (hO : ∀ g, O g none = 0) (hc : ∀ k j, (cod L cg k j).toNat < 8192)
    (v18 v45 v55 v58 c0_i32_48 : BitVec 32) (t : Fin k0_t3_loop.trips) (x : Unit) :
    inv3 d L zg sg cg O W₀ t.val
      ⊢ wp frame (wpE (defs₀ (F := F)) 𝒱₀ (VT d L) none) Set.univ ((k0_t3_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48) t x) (fun _ => inv3 d L zg sg cg O W₀ (t.val + 1)) := by
  have ht := lt3 t
  unfold inv3 slot0
  rw [if_pos ht]
  unfold k0_t3_body
  rw [k0_part4_eq_skeleton, k0_part5_eq_skeleton, k0_part6_eq_skeleton, k0_part7_eq_skeleton]
  unfold k0_part4_skel k0_part5_skel k0_part6_skel k0_part7_skel
  simp only [bind_assoc, pure_bind]
  iintro ⟨#Hlv, Hi, Ht, Hn, Hf, Hy, HO⟩
  iapply (issue1 d L zg sg cg (2 * t.val + 1) (k0_off5_inb L t 0) (k0_off5_inb L t 1) (k0_off6_inb L t) (k0_off6_inb L t) (off5_eq L t 0) (off5_eq L t 1) (off6_eq L t)) $$ [Hi Hf]
  · isplitl [Hi]; · iexact Hi
    iexact Hf
  iintro ⟨Hi, Hy1⟩
  iapply (wait0 d L zg sg cg (2 * t.val) hO) $$ [Hy HO]
  · isplitr; · iexact Hlv
    isplitl [Hy]; · iexact Hy
    iexact HO
  iintro ⟨Hg, HO⟩
  unfold got0
  icases Hg with ⟨Hz, Hs, Hc, Hsem⟩
  iapply (loop4 d L v18 v55 v58 t _ _ _ _ _ (tabAt L zg sg cg t.val) (cntAt L cg t.val) (zc L zg (2 * t.val)) (scl L sg (2 * t.val)) (cod L cg (2 * t.val)) (hc _)) $$ [Ht Hn Hz Hs Hc]
  · isplitl [Ht]; · iexact Ht
    isplitl [Hn]; · iexact Hn
    isplitl [Hz]; · iexact Hz
    isplitl [Hs]; · iexact Hs
    iexact Hc
  iintro ⟨Ht, Hn, Hz, Hs, Hc⟩
  by_cases h1 : k0_cond1 t = 1#1
  · have ht1 := (cond1_iff t).1 h1
    rw [if_pos ht1]
    simp only [dif_pos h1, bind_assoc, pure_bind]
    iapply (issue0 d L zg sg cg (2 * (t.val + 1)) (k0_off11_inb L t h1 0) (k0_off11_inb L t h1 1) (k0_off12_inb L t h1) (k0_off12_inb L t h1) (off11_eq L t 0) (off11_eq L t 1) (off12_eq L t)) $$ [Hi Hz Hs Hc Hsem]
    · isplitl [Hi]; · iexact Hi
      unfold free0
      isplitl [Hz]; · iexists _; iexact Hz
      isplitl [Hs]; · iexists _; iexact Hs
      isplitl [Hc]; · iexists _; iexact Hc
      iexact Hsem
    iintro ⟨Hi, Hy⟩
    iapply (wait1 d L zg sg cg (2 * t.val + 1) hO) $$ [Hy1 HO]
    · isplitr; · iexact Hlv
      isplitl [Hy1]; · iexact Hy1
      iexact HO
    iintro ⟨Hg, HO⟩
    unfold got1
    icases Hg with ⟨Hz1, Hs1, Hc1, Hsem1⟩
    iapply (loop5 d L v18 v45 v55 v58 _ (chunkT (zc L zg (2 * t.val)) (scl L sg (2 * t.val)) (cod L cg (2 * t.val)) 128 (tabAt L zg sg cg t.val)) (zc L zg (2 * t.val + 1)) (scl L sg (2 * t.val + 1)) (cod L cg (2 * t.val + 1)) (hc _)) $$ [Ht Hz1 Hs1 Hc1]
    · isplitl [Ht]; · iexact Ht
      isplitl [Hz1]; · iexact Hz1
      isplitl [Hs1]; · iexact Hs1
      iexact Hc1
    iintro ⟨Ht, Hz1, Hs1, Hc1⟩
    sl_step
    isplitr; · iexact Hlv
    isplitl [Hi]; · iexact Hi
    isplitl [Ht]; · iexact Ht
    isplitl [Hn]; · iexact Hn
    isplitl [Hz1 Hs1 Hc1 Hsem1]
    · unfold free1
      isplitl [Hz1]; · iexists _; iexact Hz1
      isplitl [Hs1]; · iexists _; iexact Hs1
      isplitl [Hc1]; · iexists _; iexact Hc1
      iexact Hsem1
    isplitr [HO]; swap; · iexact HO
    iexact Hy
  · have ht1 : ¬ t.val + 1 < 72 := fun h => h1 ((cond1_iff t).2 h)
    rw [if_neg ht1]
    simp only [dif_neg h1, bind_assoc, pure_bind]
    iapply (wait1 d L zg sg cg (2 * t.val + 1) hO) $$ [Hy1 HO]
    · isplitr; · iexact Hlv
      isplitl [Hy1]; · iexact Hy1
      iexact HO
    iintro ⟨Hg, HO⟩
    unfold got1
    icases Hg with ⟨Hz1, Hs1, Hc1, Hsem1⟩
    iapply (loop5 d L v18 v45 v55 v58 _ (chunkT (zc L zg (2 * t.val)) (scl L sg (2 * t.val)) (cod L cg (2 * t.val)) 128 (tabAt L zg sg cg t.val)) (zc L zg (2 * t.val + 1)) (scl L sg (2 * t.val + 1)) (cod L cg (2 * t.val + 1)) (hc _)) $$ [Ht Hz1 Hs1 Hc1]
    · isplitl [Ht]; · iexact Ht
      isplitl [Hz1]; · iexact Hz1
      isplitl [Hs1]; · iexact Hs1
      iexact Hc1
    iintro ⟨Ht, Hz1, Hs1, Hc1⟩
    sl_step
    isplitr; · iexact Hlv
    isplitl [Hi]; · iexact Hi
    isplitl [Ht]; · iexact Ht
    isplitl [Hn]; · iexact Hn
    isplitl [Hz1 Hs1 Hc1 Hsem1]
    · unfold free1
      isplitl [Hz1]; · iexists _; iexact Hz1
      isplitl [Hs1]; · iexists _; iexact Hs1
      isplitl [Hc1]; · iexists _; iexact Hc1
      iexact Hsem1
    isplitr [HO]; swap; · iexact HO
    unfold free0
    isplitl [Hz]; · iexists _; iexact Hz
    isplitl [Hs]; · iexists _; iexact Hs
    isplitl [Hc]; · iexists _; iexact Hc
    iexact Hsem

set_option maxRecDepth 16384 in
/-- The chunk loop. -/
theorem loop3 {O : CellTallies nD τ sig (HIx 1)} {W₀ : Waits sig (HIx 1)} (hO : ∀ g, O g none = 0) (hc : ∀ k j, (cod L cg k j).toNat < 8192)
    (v18 v45 v55 v58 c0_i32_48 : BitVec 32) {β : Type} {kk : PUnit → Prog (TpuEff nD τ sig (Elt F) Λ₀ (VT d L).2) β} {Q : β → sProp 𝕄} :
    inv3 d L zg sg cg O W₀ 0
      ⊢ iprop((inv3 d L zg sg cg O W₀ 72 -∗ wp frame (wpE (defs₀ (F := F)) 𝒱₀ (VT d L) none) Set.univ (kk ⟨⟩) Q) -∗ wp frame (wpE (defs₀ (F := F)) 𝒱₀ (VT d L) none) Set.univ (Scf.Loop.for k0_t3_loop k0_t3_ok ⟨⟩ (k0_t3_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48) >>= kk) Q) := by
  iintro H Hk
  iapply (Scf.wp_for_bind frame (wpE (defs₀ (F := F)) 𝒱₀ (VT d L) none) Set.univ _ _ _ k0_t3_ok ⟨⟩ (k0_t3_body (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8 v18 v45 v55 v58 k0_pay15 k0_pay16 c0_i32_48)
    (fun n _ => inv3 d L zg sg cg O W₀ n) (trip3 d L zg sg cg hO hc v18 v45 v55 v58 c0_i32_48)) $$ [H]
  · iexact H
  iintro %_ H
  rw [show Scf.trips k0_t3_loop.lb k0_t3_loop.ub k0_t3_loop.st = 72 from by decide +kernel]
  iapply Hk $$ H

end Cert.Proof.SumsK
-- ==== Proof.OutK.lean ====
/-
  What a task writes and where: the results as functions of the inputs, the rows copied out.
-/
module

public import proofs.«01_k».proof.Proof.TripK

@[expose] public section

noncomputable section

namespace Cert.Proof.SumsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.Kernel.main_arg0_scv : Memref Cert.Kernel.sig Kind.scVector Space.hbm Cert.Kernel.S18x16x65536 EltTy.i32)
local notation "sV" => (Memref.whole Cert.Kernel.main_v0_scv : Memref Cert.Kernel.sig Kind.scVector Space.hbm Cert.Kernel.S18x4x65536 EltTy.f32)
local notation "kV" => (Memref.whole Cert.Kernel.main_v1_scv : Memref Cert.Kernel.sig Kind.scVector Space.hbm Cert.Kernel.S18x4x65536 EltTy.i32)
local notation "pV" => (Memref.whole Cert.Kernel.main_v2_0_scv : Memref Cert.Kernel.sig Kind.scVector Space.hbm Cert.Kernel.S4x64x8192 EltTy.f32)
local notation "nV" => (Memref.whole Cert.Kernel.main_v2_1_scv : Memref Cert.Kernel.sig Kind.scVector Space.hbm Cert.Kernel.S4x8x8192 EltTy.f32)
local notation "tabV" => (Memref.whole Cert.Kernel.cc0_scratch0 : Memref Cert.Kernel.sig Kind.scVector Space.vmem Cert.Kernel.S65536 EltTy.f32)
local notation "cntV" => (Memref.whole Cert.Kernel.cc0_scratch1 : Memref Cert.Kernel.sig Kind.scVector Space.vmem Cert.Kernel.S8192 EltTy.f32)
local notation "z0V" => (Memref.whole Cert.Kernel.cc0_scratch2 : Memref Cert.Kernel.sig Kind.scVector Space.vmem Cert.Kernel.S4096 EltTy.i32)
local notation "z1V" => (Memref.whole Cert.Kernel.cc0_scratch3 : Memref Cert.Kernel.sig Kind.scVector Space.vmem Cert.Kernel.S4096 EltTy.i32)
local notation "s0V" => (Memref.whole Cert.Kernel.cc0_scratch4 : Memref Cert.Kernel.sig Kind.scVector Space.vmem Cert.Kernel.S2048 EltTy.f32)
local notation "s1V" => (Memref.whole Cert.Kernel.cc0_scratch5 : Memref Cert.Kernel.sig Kind.scVector Space.vmem Cert.Kernel.S2048 EltTy.f32)
local notation "c0V" => (Memref.whole Cert.Kernel.cc0_scratch6 : Memref Cert.Kernel.sig Kind.scVector Space.vmem Cert.Kernel.S2048 EltTy.i32)
local notation "c1V" => (Memref.whole Cert.Kernel.cc0_scratch7 : Memref Cert.Kernel.sig Kind.scVector Space.vmem Cert.Kernel.S2048 EltTy.i32)

variable [FloatOps F]

variable (d : Dev nD) (L : grid0.Coords)
variable (zg : S18x16x65536.Idx → Elt F .i32) (sg : S18x4x65536.Idx → Elt F .f32) (cg : S18x4x65536.Idx → Elt F .i32)

/-! ## Where a task writes -/

theorem off16_eq : ∀ (i : grid0.Coords) (r : Fin 8), k0_off16 i (BitVec.ofNat 32 r.val) = ![(i 1).val / 4, (i 1).val % 4 * 16 + (i 0).val * 8 + r.val, 0] := by decide +kernel
theorem off17_eq : ∀ (i : grid0.Coords), k0_off17 i = ![(i 1).val % 4, (i 1).val / 4 * 2 + (i 0).val, 0] := by decide +kernel

/-- The task of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The task that writes element `j` of the sums. -/
def taskP (j : S4x64x8192.Idx) : grid0.Coords :=
  coordsV ⟨(j 1).val / 8 % 2, by show _ < 2; omega⟩ ⟨((j 0).val * 4 + (j 1).val / 16) % 16, by show _ < 16; omega⟩
/-- The task that writes element `j` of the counts. -/
def taskN (j : S4x8x8192.Idx) : grid0.Coords :=
  coordsV ⟨(j 1).val % 2, by show _ < 2; omega⟩ ⟨((j 1).val / 2 * 4 + (j 0).val) % 16, by show _ < 16; omega⟩

/-- The sums the call leaves: channel `ch` of a task's eight is block `ch` of its table. -/
def psumRes : S4x64x8192.Idx → Elt F .f32 :=
  fun j => tabAt (taskP j) zg sg cg 72 (fun a => ⟨((j 1).val % 8 * 8192 + (j 2).val) % 65536, by fin_cases a; show _ < 65536; omega⟩)
/-- The counts the call leaves. -/
def pcntRes : S4x8x8192.Idx → Elt F .f32 :=
  fun j => cntAt (taskN j) cg 72 (fun a => ⟨(j 2).val % 8192, by fin_cases a; show _ < 8192; omega⟩)

/-- Row `r` of a task's eight rows of the sums; all eight; its row of the counts. -/
def psRow (r : Nat) : Finset S4x64x8192.Idx :=
  Finset.univ.filter fun j => (j 0).val = (L 1).val / 4 ∧ (j 1).val = (L 1).val % 4 * 16 + (L 0).val * 8 + r
def psSet : Finset S4x64x8192.Idx :=
  Finset.univ.filter fun j => (j 0).val = (L 1).val / 4 ∧ (j 1).val / 8 = (L 1).val % 4 * 2 + (L 0).val
def pnSet : Finset S4x8x8192.Idx :=
  Finset.univ.filter fun j => (j 0).val = (L 1).val % 4 ∧ (j 1).val = (L 1).val / 4 * 2 + (L 0).val

theorem L0 : (L 0).val < 2 := (L 0).isLt
theorem L1 : (L 1).val < 16 := (L 1).isLt

theorem coords_ext {L M : grid0.Coords} (h0 : (L 0).val = (M 0).val) (h1 : (L 1).val = (M 1).val) : L = M := by
  funext a
  match a with
  | 0 => exact Fin.ext h0
  | 1 => exact Fin.ext h1
  | ⟨_ + 2, h⟩ => exact absurd h (Nat.not_lt.2 (Nat.le_add_left _ _))

theorem resh8 (h : S8192.numel = S1x1x8192.numel) (x : S8192.Idx) (a : Fin 3) :
    ((Shape.reshapeEquiv h x : S1x1x8192.Idx) a).val = (![0, 0, (x 0).val] : Fin 3 → Nat) a := by
  have e : Shape.reshapeEquiv h x = (fun a => ⟨(![0, 0, (x 0).val] : Fin 3 → Nat) a, by fin_cases a; exacts [Nat.one_pos, Nat.one_pos, (x 0).isLt]⟩ : S1x1x8192.Idx) := by
    refine Shape.reshapeEquiv_eq_of_rowMajor h ?_
    rw [Shape.rowMajor_val_three, Shape.rowMajor_val_one]
    simp
  rw [e]

theorem pemb {o : Fin 3 → Nat} (inb : ∀ a, o a + S1x1x8192.size a ≤ S4x64x8192.size a) (x : S8192.Idx) (a : Fin 3) :
    ((((pV).slice (Rect.unit (s := S4x64x8192) o S1x1x8192.size inb) (fun _ => rfl)).squeeze S8192 squeezes_S1x1x8192_S8192).view.emb x a).val = o a + (![0, 0, (x 0).val] : Fin 3 → Nat) a := by
  show o a + 1 * ((Shape.reshapeEquiv _ x : S1x1x8192.Idx) a).val = _
  rw [resh8, Nat.one_mul]

theorem pset {o : Fin 3 → Nat} (inb : ∀ a, o a + S1x1x8192.size a ≤ S4x64x8192.size a) (r : Nat) (ho : o = ![(L 1).val / 4, (L 1).val % 4 * 16 + (L 0).val * 8 + r, 0]) :
    (((pV).slice (Rect.unit (s := S4x64x8192) o S1x1x8192.size inb) (fun _ => rfl)).squeeze S8192 squeezes_S1x1x8192_S8192).view.set = psRow L r := by
  ext j
  unfold psRow
  rw [Finset.mem_filter]
  constructor
  · intro h
    obtain ⟨x, -, rfl⟩ := Finset.mem_map.mp h
    have e0 := pemb inb x 0; have e1 := pemb inb x 1
    refine ⟨Finset.mem_univ _, e0.trans ?_, e1.trans ?_⟩ <;> rw [ho] <;> rfl
  · rintro ⟨-, h0, h1⟩
    have h2 : (j 2).val < 8192 := (j 2).isLt
    refine Finset.mem_map.mpr ⟨fun a => ⟨(j 2).val, by fin_cases a; exact h2⟩, Finset.mem_univ _, ?_⟩
    funext a; apply Fin.ext
    refine (pemb inb _ a).trans ?_
    subst ho
    fin_cases a
    · exact h0.symm
    · exact h1.symm
    · exact Nat.zero_add _

theorem nemb {o : Fin 3 → Nat} (inb : ∀ a, o a + S1x1x8192.size a ≤ S4x8x8192.size a) (x : S8192.Idx) (a : Fin 3) :
    ((((nV).slice (Rect.unit (s := S4x8x8192) o S1x1x8192.size inb) (fun _ => rfl)).squeeze S8192 squeezes_S1x1x8192_S8192).view.emb x a).val = o a + (![0, 0, (x 0).val] : Fin 3 → Nat) a := by
  show o a + 1 * ((Shape.reshapeEquiv _ x : S1x1x8192.Idx) a).val = _
  rw [resh8, Nat.one_mul]

theorem nset {o : Fin 3 → Nat} (inb : ∀ a, o a + S1x1x8192.size a ≤ S4x8x8192.size a) (ho : o = ![(L 1).val % 4, (L 1).val / 4 * 2 + (L 0).val, 0]) :
    (((nV).slice (Rect.unit (s := S4x8x8192) o S1x1x8192.size inb) (fun _ => rfl)).squeeze S8192 squeezes_S1x1x8192_S8192).view.set = pnSet L := by
  ext j
  unfold pnSet
  rw [Finset.mem_filter]
  constructor
  · intro h
    obtain ⟨x, -, rfl⟩ := Finset.mem_map.mp h
    have e0 := nemb inb x 0; have e1 := nemb inb x 1
    refine ⟨Finset.mem_univ _, e0.trans ?_, e1.trans ?_⟩ <;> rw [ho] <;> rfl
  · rintro ⟨-, h0, h1⟩
    have h2 : (j 2).val < 8192 := (j 2).isLt
    refine Finset.mem_map.mpr ⟨fun a => ⟨(j 2).val, by fin_cases a; exact h2⟩, Finset.mem_univ _, ?_⟩
    funext a; apply Fin.ext
    refine (nemb inb _ a).trans ?_
    subst ho
    fin_cases a
    · exact h0.symm
    · exact h1.symm
    · exact Nat.zero_add _

theorem landsP {o : Fin 3 → Nat} {so : Fin 1 → Nat} (inb : ∀ a, o a + S1x1x8192.size a ≤ S4x64x8192.size a) (inbs : ∀ a, so a + S8192.size a ≤ S65536.size a) (r : Nat) (hr : r < 8) (ho : o = ![(L 1).val / 4, (L 1).val % 4 * 16 + (L 0).val * 8 + r, 0]) (hso : so = ![8192 * r]) {ft : S65536.Idx → Elt F .f32} (hft : ft = tabAt L zg sg cg 72) (fd : S4x64x8192.Idx → Elt F .f32) (j : S4x64x8192.Idx) (hj : j ∈ (((pV).slice (Rect.unit (s := S4x64x8192) o S1x1x8192.size inb) (fun _ => rfl)).squeeze S8192 squeezes_S1x1x8192_S8192).view.set) :
    (((pV).slice (Rect.unit (s := S4x64x8192) o S1x1x8192.size inb) (fun _ => rfl)).squeeze S8192 squeezes_S1x1x8192_S8192).view.write (Elt F) fd (((tabV).slice (Rect.unit (s := S65536) so S8192.size inbs) (fun _ => rfl)).view.read (Elt F) ft) Finset.univ j = psumRes zg sg cg j := by
  obtain ⟨x, -, rfl⟩ := Finset.mem_map.mp hj
  refine (View.write_emb_of_mem (Val := Elt F) (v := (((pV).slice (Rect.unit (s := S4x64x8192) o S1x1x8192.size inb) (fun _ => rfl)).squeeze S8192 squeezes_S1x1x8192_S8192).view) fd _ (Finset.mem_univ x)).trans ?_
  show ft (((tabV).slice (Rect.unit (s := S65536) so S8192.size inbs) (fun _ => rfl)).view.emb x) = psumRes zg sg cg ((((pV).slice (Rect.unit (s := S4x64x8192) o S1x1x8192.size inb) (fun _ => rfl)).squeeze S8192 squeezes_S1x1x8192_S8192).view.emb x)
  have hx : (x 0).val < 8192 := (x 0).isLt
  have e0 := pemb inb x 0; have e1 := pemb inb x 1; have e2 := pemb inb x 2
  have es : ((((tabV).slice (Rect.unit (s := S65536) so S8192.size inbs) (fun _ => rfl)).view.emb x : S65536.Idx) 0).val = so 0 + 1 * (x 0).val := rfl
  subst ho hso hft
  have h0 := L0 L; have h1 := L1 L
  simp only [Matrix.cons_val] at e0 e1 e2 es
  unfold psumRes
  have hT : taskP ((((pV).slice (Rect.unit (s := S4x64x8192) _ S1x1x8192.size inb) (fun _ => rfl)).squeeze S8192 squeezes_S1x1x8192_S8192).view.emb x) = L := by
    refine coords_ext ?_ ?_
    · show _ / 8 % 2 = _; rw [e1]; omega
    · show (_ * 4 + _ / 16) % 16 = _; rw [e0, e1]; omega
  rw [hT]
  congr 1
  funext a; fin_cases a; apply Fin.ext
  refine es.trans ?_
  show _ = (_ % 8 * 8192 + _) % 65536
  rw [e1, e2]; omega

theorem landsN {o : Fin 3 → Nat} (inb : ∀ a, o a + S1x1x8192.size a ≤ S4x8x8192.size a) (ho : o = ![(L 1).val % 4, (L 1).val / 4 * 2 + (L 0).val, 0]) {fn : S8192.Idx → Elt F .f32} (hfn : fn = cntAt L cg 72) (fd : S4x8x8192.Idx → Elt F .f32) (j : S4x8x8192.Idx) (hj : j ∈ (((nV).slice (Rect.unit (s := S4x8x8192) o S1x1x8192.size inb) (fun _ => rfl)).squeeze S8192 squeezes_S1x1x8192_S8192).view.set) :
    (((nV).slice (Rect.unit (s := S4x8x8192) o S1x1x8192.size inb) (fun _ => rfl)).squeeze S8192 squeezes_S1x1x8192_S8192).view.write (Elt F) fd ((cntV).view.read (Elt F) fn) Finset.univ j = pcntRes cg j := by
  obtain ⟨x, -, rfl⟩ := Finset.mem_map.mp hj
  refine (View.write_emb_of_mem (Val := Elt F) (v := (((nV).slice (Rect.unit (s := S4x8x8192) o S1x1x8192.size inb) (fun _ => rfl)).squeeze S8192 squeezes_S1x1x8192_S8192).view) fd _ (Finset.mem_univ x)).trans ?_
  show fn x = pcntRes cg ((((nV).slice (Rect.unit (s := S4x8x8192) o S1x1x8192.size inb) (fun _ => rfl)).squeeze S8192 squeezes_S1x1x8192_S8192).view.emb x)
  have hx : (x 0).val < 8192 := (x 0).isLt
  have e0 := nemb inb x 0; have e1 := nemb inb x 1; have e2 := nemb inb x 2
  subst ho hfn
  have h0 := L0 L; have h1 := L1 L
  simp only [Matrix.cons_val] at e0 e1 e2
  unfold pcntRes
  have hT : taskN ((((nV).slice (Rect.unit (s := S4x8x8192) _ S1x1x8192.size inb) (fun _ => rfl)).squeeze S8192 squeezes_S1x1x8192_S8192).view.emb x) = L := by
    refine coords_ext ?_ ?_
    · show _ % 2 = _; rw [e1]; omega
    · show (_ / 2 * 4 + _) % 16 = _; rw [e0, e1]; omega
  rw [hT]
  congr 1
  funext a; fin_cases a; apply Fin.ext
  show _ = _ % 8192
  rw [e2]; show (x 0).val = _; omega

theorem landsPE {o : Fin 3 → Nat} {so : Fin 1 → Nat} (inb : ∀ a, o a + S1x1x8192.size a ≤ S4x64x8192.size a) (inbs : ∀ a, so a + S8192.size a ≤ S65536.size a) (r : Nat) (hr : r < 8) (ho : o = ![(L 1).val / 4, (L 1).val % 4 * 16 + (L 0).val * 8 + r, 0]) (hso : so = ![8192 * r]) {ft : S65536.Idx → Elt F .f32} (hft : ft = tabAt L zg sg cg 72) (fd : S4x64x8192.Idx → Elt F .f32) :
    (((pV).view.loc (VT d L) ↦[(((pV).slice (Rect.unit (s := S4x64x8192) o S1x1x8192.size inb) (fun _ => rfl)).squeeze S8192 squeezes_S1x1x8192_S8192).view.set]{fullShare} ((((pV).slice (Rect.unit (s := S4x64x8192) o S1x1x8192.size inb) (fun _ => rfl)).squeeze S8192 squeezes_S1x1x8192_S8192).view.write (Elt F) fd (((tabV).slice (Rect.unit (s := S65536) so S8192.size inbs) (fun _ => rfl)).view.read (Elt F) ft) Finset.univ)) : sProp 𝕄)
      ⊢ ((pV).view.loc (VT d L) ↦[(((pV).slice (Rect.unit (s := S4x64x8192) o S1x1x8192.size inb) (fun _ => rfl)).squeeze S8192 squeezes_S1x1x8192_S8192).view.set]{fullShare} psumRes zg sg cg) :=
  Entails.of_eq (pointsTo_congr fun j hj => landsP L zg sg cg inb inbs r hr ho hso hft fd j hj)

theorem landsNE {o : Fin 3 → Nat} (inb : ∀ a, o a + S1x1x8192.size a ≤ S4x8x8192.size a) (ho : o = ![(L 1).val % 4, (L 1).val / 4 * 2 + (L 0).val, 0]) {fn : S8192.Idx → Elt F .f32} (hfn : fn = cntAt L cg 72) (fd : S4x8x8192.Idx → Elt F .f32) :
    (((nV).view.loc (VT d L) ↦[(((nV).slice (Rect.unit (s := S4x8x8192) o S1x1x8192.size inb) (fun _ => rfl)).squeeze S8192 squeezes_S1x1x8192_S8192).view.set]{fullShare} ((((nV).slice (Rect.unit (s := S4x8x8192) o S1x1x8192.size inb) (fun _ => rfl)).squeeze S8192 squeezes_S1x1x8192_S8192).view.write (Elt F) fd ((cntV).view.read (Elt F) fn) Finset.univ)) : sProp 𝕄)
      ⊢ ((nV).view.loc (VT d L) ↦[(((nV).slice (Rect.unit (s := S4x8x8192) o S1x1x8192.size inb) (fun _ => rfl)).squeeze S8192 squeezes_S1x1x8192_S8192).view.set]{fullShare} pcntRes cg) :=
  Entails.of_eq (pointsTo_congr fun j hj => landsN L cg inb ho hfn fd j hj)

/-- One row of the sums copied out and waited for. -/
theorem outP {sem : DmaSem sig} {O : CellTallies nD τ sig (HIx 1)} {W₀ : Waits sig (HIx 1)} (hO : ∀ g, O g none = 0) {o : Fin 3 → Nat} {so : Fin 1 → Nat} (inb : ∀ a, o a + S1x1x8192.size a ≤ S4x64x8192.size a) (inbs : ∀ a, so a + S8192.size a ≤ S65536.size a) (r : Nat) (hr : r < 8) (ho : o = ![(L 1).val / 4, (L 1).val % 4 * 16 + (L 0).val * 8 + r, 0]) (hso : so = ![8192 * r]) {ft : S65536.Idx → Elt F .f32} (hft : ft = tabAt L zg sg cg 72)
    {a0 a1 : (((tabV).slice (Rect.unit (s := S65536) so S8192.size inbs) (fun _ => rfl))).view.WordExact} {b0 b1 : (((pV).slice (Rect.unit (s := S4x64x8192) o S1x1x8192.size inb) (fun _ => rfl)).squeeze S8192 squeezes_S1x1x8192_S8192).view.WordExact} {t0 : DmaTarget.Typed (nD := nD) (p := (VT d L).2) .vmem (.dma sem) (.here (((pV).slice (Rect.unit (s := S4x64x8192) o S1x1x8192.size inb) (fun _ => rfl)).squeeze S8192 squeezes_S1x1x8192_S8192))}
    {β : Type} {kk : PUnit → Prog (TpuEff nD τ sig (Elt F) Λ₀ (VT d L).2) β} {Q : β → sProp 𝕄} :
    iprop(levAts (K (F := F)).L (K (F := F)).lev ∗ ((tabV).view.loc (VT d L) ↦{fullShare} ft) ∗ (∃ fd, ((pV).view.loc (VT d L) ↦[psRow L r]{fullShare} fd)) ∗ semVal (VT d L, .dma sem) 0 ∗ ow d L O W₀)
      ⊢ iprop((iprop(((tabV).view.loc (VT d L) ↦{fullShare} ft) ∗ ((pV).view.loc (VT d L) ↦[psRow L r]{fullShare} psumRes zg sg cg) ∗ semVal (VT d L, .dma sem) 0 ∗ ow d L O W₀) -∗ wp frame (wpE (defs₀ (F := F)) 𝒱₀ (VT d L) none) Set.univ (kk ⟨⟩) Q)
          -∗ wp frame (wpE (defs₀ (F := F)) 𝒱₀ (VT d L) none) Set.univ (Prog.lift (.enqueueDma (((tabV).slice (Rect.unit (s := S65536) so S8192.size inbs) (fun _ => rfl))) (.here (((pV).slice (Rect.unit (s := S4x64x8192) o S1x1x8192.size inb) (fun _ => rfl)).squeeze S8192 squeezes_S1x1x8192_S8192)) (.dma sem) a0 b0 t0) >>= fun _ => Prog.lift (.waitDma2 sem (((tabV).slice (Rect.unit (s := S65536) so S8192.size inbs) (fun _ => rfl))) (((pV).slice (Rect.unit (s := S4x64x8192) o S1x1x8192.size inb) (fun _ => rfl)).squeeze S8192 squeezes_S1x1x8192_S8192) a1 b1) >>= kk) Q) := by
  have hN0 : 0 < ((((pV).slice (Rect.unit (s := S4x64x8192) o S1x1x8192.size inb) (fun _ => rfl)).squeeze S8192 squeezes_S1x1x8192_S8192)).view.dmaCredit := View.dmaCredit_pos _ (by decide +kernel)
  rw [← pset L inb r ho]
  iintro ⟨#Hlv, Ht, ⟨%fd, Hp⟩, Hsem, HO⟩ Hk
  ihave Ht := (pointsTo_split_subset (Finset.subset_univ (((tabV).slice (Rect.unit (s := S65536) so S8192.size inbs) (fun _ => rfl))).view.set)).1 $$ Ht
  icases Ht with ⟨Hts, Htr⟩
  imod (Transfers.batch_alloc' EC (VT d L) (none : HIx 1) ((((pV).slice (Rect.unit (s := S4x64x8192) o S1x1x8192.size inb) (fun _ => rfl)).squeeze S8192 squeezes_S1x1x8192_S8192)).view.dmaCredit
    (fun _ : Fin 1 => iprop(((pV).view.loc (VT d L) ↦[(((pV).slice (Rect.unit (s := S4x64x8192) o S1x1x8192.size inb) (fun _ => rfl)).squeeze S8192 squeezes_S1x1x8192_S8192).view.set]{fullShare} psumRes zg sg cg) ∗ ((tabV).view.loc (VT d L) ↦[(((tabV).slice (Rect.unit (s := S65536) so S8192.size inbs) (fun _ => rfl))).view.set]{fullShare} ft))) (sm := .dma sem) (E := Set.univ)) $$ Hsem with HB
  iapply (Transfers.wp_dmaBatch EC 𝒱₀ (VT d L) none (via := ReadAs.same) (src := ((tabV).slice (Rect.unit (s := S65536) so S8192.size inbs) (fun _ => rfl))) (dst := (((pV).slice (Rect.unit (s := S4x64x8192) o S1x1x8192.size inb) (fun _ => rfl)).squeeze S8192 squeezes_S1x1x8192_S8192)) (fs := ft) (fd := fd) (q := fullShare) (Sd := (((pV).slice (Rect.unit (s := S4x64x8192) o S1x1x8192.size inb) (fun _ => rfl)).squeeze S8192 squeezes_S1x1x8192_S8192).view.set) (D := fun _ : Fin 1 => iprop(((pV).view.loc (VT d L) ↦[(((pV).slice (Rect.unit (s := S4x64x8192) o S1x1x8192.size inb) (fun _ => rfl)).squeeze S8192 squeezes_S1x1x8192_S8192).view.set]{fullShare} psumRes zg sg cg) ∗ ((tabV).view.loc (VT d L) ↦[(((tabV).slice (Rect.unit (s := S65536) so S8192.size inbs) (fun _ => rfl))).view.set]{fullShare} ft))) (j := 0) (u := 0) none ((((pV).slice (Rect.unit (s := S4x64x8192) o S1x1x8192.size inb) (fun _ => rfl)).squeeze S8192 squeezes_S1x1x8192_S8192)).view.dmaCredit rfl (Finset.Subset.refl _) (by decide) (Nat.zero_le _)
    (by
        iintro ⟨H1, H2⟩
        isplitl [H1]
        · iapply (landsPE d L zg sg cg inb inbs r hr ho hso hft fd); iexact H1
        iexact H2)) $$ [Hts Hp HB]
  · isplitl [Hts]; · iexact Hts
    isplitl [Hp]; · iexact Hp
    iexact HB
  iintro HB
  iapply (wp_waitL d L hO (sem := sem) (dstw := (((pV).slice (Rect.unit (s := S4x64x8192) o S1x1x8192.size inb) (fun _ => rfl)).squeeze S8192 squeezes_S1x1x8192_S8192)) (n := 1) (u := 0) (N := ((((pV).slice (Rect.unit (s := S4x64x8192) o S1x1x8192.size inb) (fun _ => rfl)).squeeze S8192 squeezes_S1x1x8192_S8192)).view.dmaCredit) rfl hN0 (by omega)) $$ [HB HO]
  · isplitr; · iexact Hlv
    isplitl [HB]; · iexact HB
    iexact HO
  iintro ⟨HD, Hsem, HO⟩
  iapply Hk
  ihave HD := (Entails.of_eq (show (bigSep (Finset.univ : Finset (Fin 1)) (fun _ : Fin 1 => iprop(((pV).view.loc (VT d L) ↦[(((pV).slice (Rect.unit (s := S4x64x8192) o S1x1x8192.size inb) (fun _ => rfl)).squeeze S8192 squeezes_S1x1x8192_S8192).view.set]{fullShare} psumRes zg sg cg) ∗ ((tabV).view.loc (VT d L) ↦[(((tabV).slice (Rect.unit (s := S65536) so S8192.size inbs) (fun _ => rfl))).view.set]{fullShare} ft))) : sProp 𝕄) = _ from by
    rw [show (Finset.univ : Finset (Fin 1)) = {0} from by decide, bigSep_singleton])) $$ HD
  icases HD with ⟨Hp, Hts⟩
  isplitl [Hts Htr]
  · iapply (pointsTo_split_subset (Finset.subset_univ (((tabV).slice (Rect.unit (s := S65536) so S8192.size inbs) (fun _ => rfl))).view.set)).2
    isplitl [Hts]; · iexact Hts
    iexact Htr
  isplitl [Hp]; · iexact Hp
  isplitl [Hsem]; · iexact Hsem
  iexact HO

/-- The row of the counts copied out and waited for. -/
theorem outN {sem : DmaSem sig} {O : CellTallies nD τ sig (HIx 1)} {W₀ : Waits sig (HIx 1)} (hO : ∀ g, O g none = 0) {o : Fin 3 → Nat} (inb : ∀ a, o a + S1x1x8192.size a ≤ S4x8x8192.size a) (ho : o = ![(L 1).val % 4, (L 1).val / 4 * 2 + (L 0).val, 0]) {fn : S8192.Idx → Elt F .f32} (hfn : fn = cntAt L cg 72)
    {a0 a1 : (cntV).view.WordExact} {b0 b1 : (((nV).slice (Rect.unit (s := S4x8x8192) o S1x1x8192.size inb) (fun _ => rfl)).squeeze S8192 squeezes_S1x1x8192_S8192).view.WordExact} {t0 : DmaTarget.Typed (nD := nD) (p := (VT d L).2) .vmem (.dma sem) (.here (((nV).slice (Rect.unit (s := S4x8x8192) o S1x1x8192.size inb) (fun _ => rfl)).squeeze S8192 squeezes_S1x1x8192_S8192))}
    {β : Type} {kk : PUnit → Prog (TpuEff nD τ sig (Elt F) Λ₀ (VT d L).2) β} {Q : β → sProp 𝕄} :
    iprop(levAts (K (F := F)).L (K (F := F)).lev ∗ ((cntV).view.loc (VT d L) ↦{fullShare} fn) ∗ (∃ fd, ((nV).view.loc (VT d L) ↦[pnSet L]{fullShare} fd)) ∗ semVal (VT d L, .dma sem) 0 ∗ ow d L O W₀)
      ⊢ iprop((iprop(((cntV).view.loc (VT d L) ↦{fullShare} fn) ∗ ((nV).view.loc (VT d L) ↦[pnSet L]{fullShare} pcntRes cg) ∗ semVal (VT d L, .dma sem) 0 ∗ ow d L O W₀) -∗ wp frame (wpE (defs₀ (F := F)) 𝒱₀ (VT d L) none) Set.univ (kk ⟨⟩) Q)
          -∗ wp frame (wpE (defs₀ (F := F)) 𝒱₀ (VT d L) none) Set.univ (Prog.lift (.enqueueDma (cntV) (.here (((nV).slice (Rect.unit (s := S4x8x8192) o S1x1x8192.size inb) (fun _ => rfl)).squeeze S8192 squeezes_S1x1x8192_S8192)) (.dma sem) a0 b0 t0) >>= fun _ => Prog.lift (.waitDma2 sem (cntV) (((nV).slice (Rect.unit (s := S4x8x8192) o S1x1x8192.size inb) (fun _ => rfl)).squeeze S8192 squeezes_S1x1x8192_S8192) a1 b1) >>= kk) Q) := by
  have hN0 : 0 < ((((nV).slice (Rect.unit (s := S4x8x8192) o S1x1x8192.size inb) (fun _ => rfl)).squeeze S8192 squeezes_S1x1x8192_S8192)).view.dmaCredit := View.dmaCredit_pos _ (by decide +kernel)
  rw [← nset L inb ho]
  iintro ⟨#Hlv, Ht, ⟨%fd, Hp⟩, Hsem, HO⟩ Hk
  ihave Ht := (pointsTo_split_subset (Finset.subset_univ (cntV).view.set)).1 $$ Ht
  icases Ht with ⟨Hts, Htr⟩
  imod (Transfers.batch_alloc' EC (VT d L) (none : HIx 1) ((((nV).slice (Rect.unit (s := S4x8x8192) o S1x1x8192.size inb) (fun _ => rfl)).squeeze S8192 squeezes_S1x1x8192_S8192)).view.dmaCredit
    (fun _ : Fin 1 => iprop(((nV).view.loc (VT d L) ↦[(((nV).slice (Rect.unit (s := S4x8x8192) o S1x1x8192.size inb) (fun _ => rfl)).squeeze S8192 squeezes_S1x1x8192_S8192).view.set]{fullShare} pcntRes cg) ∗ ((cntV).view.loc (VT d L) ↦[(cntV).view.set]{fullShare} fn))) (sm := .dma sem) (E := Set.univ)) $$ Hsem with HB
  iapply (Transfers.wp_dmaBatch EC 𝒱₀ (VT d L) none (via := ReadAs.same) (src := cntV) (dst := (((nV).slice (Rect.unit (s := S4x8x8192) o S1x1x8192.size inb) (fun _ => rfl)).squeeze S8192 squeezes_S1x1x8192_S8192)) (fs := fn) (fd := fd) (q := fullShare) (Sd := (((nV).slice (Rect.unit (s := S4x8x8192) o S1x1x8192.size inb) (fun _ => rfl)).squeeze S8192 squeezes_S1x1x8192_S8192).view.set) (D := fun _ : Fin 1 => iprop(((nV).view.loc (VT d L) ↦[(((nV).slice (Rect.unit (s := S4x8x8192) o S1x1x8192.size inb) (fun _ => rfl)).squeeze S8192 squeezes_S1x1x8192_S8192).view.set]{fullShare} pcntRes cg) ∗ ((cntV).view.loc (VT d L) ↦[(cntV).view.set]{fullShare} fn))) (j := 0) (u := 0) none ((((nV).slice (Rect.unit (s := S4x8x8192) o S1x1x8192.size inb) (fun _ => rfl)).squeeze S8192 squeezes_S1x1x8192_S8192)).view.dmaCredit rfl (Finset.Subset.refl _) (by decide) (Nat.zero_le _)
    (by
        iintro ⟨H1, H2⟩
        isplitl [H1]
        · iapply (landsNE d L cg inb ho hfn fd); iexact H1
        iexact H2)) $$ [Hts Hp HB]
  · isplitl [Hts]; · iexact Hts
    isplitl [Hp]; · iexact Hp
    iexact HB
  iintro HB
  iapply (wp_waitL d L hO (sem := sem) (dstw := (((nV).slice (Rect.unit (s := S4x8x8192) o S1x1x8192.size inb) (fun _ => rfl)).squeeze S8192 squeezes_S1x1x8192_S8192)) (n := 1) (u := 0) (N := ((((nV).slice (Rect.unit (s := S4x8x8192) o S1x1x8192.size inb) (fun _ => rfl)).squeeze S8192 squeezes_S1x1x8192_S8192)).view.dmaCredit) rfl hN0 (by omega)) $$ [HB HO]
  · isplitr; · iexact Hlv
    isplitl [HB]; · iexact HB
    iexact HO
  iintro ⟨HD, Hsem, HO⟩
  iapply Hk
  ihave HD := (Entails.of_eq (show (bigSep (Finset.univ : Finset (Fin 1)) (fun _ : Fin 1 => iprop(((nV).view.loc (VT d L) ↦[(((nV).slice (Rect.unit (s := S4x8x8192) o S1x1x8192.size inb) (fun _ => rfl)).squeeze S8192 squeezes_S1x1x8192_S8192).view.set]{fullShare} pcntRes cg) ∗ ((cntV).view.loc (VT d L) ↦[(cntV).view.set]{fullShare} fn))) : sProp 𝕄) = _ from by
    rw [show (Finset.univ : Finset (Fin 1)) = {0} from by decide, bigSep_singleton])) $$ HD
  icases HD with ⟨Hp, Hts⟩
  isplitl [Hts Htr]
  · iapply (pointsTo_split_subset (Finset.subset_univ (cntV).view.set)).2
    isplitl [Hts]; · iexact Hts
    iexact Htr
  isplitl [Hp]; · iexact Hp
  isplitl [Hsem]; · iexact Hsem
  iexact HO

end Cert.Proof.SumsK
-- ==== Proof.TileK.lean ====
/-
  A task's whole run.
-/
module

public import proofs.«01_k».proof.Proof.OutK

@[expose] public section

noncomputable section

namespace Cert.Proof.SumsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.Kernel.main_arg0_scv : Memref Cert.Kernel.sig Kind.scVector Space.hbm Cert.Kernel.S18x16x65536 EltTy.i32)
local notation "sV" => (Memref.whole Cert.Kernel.main_v0_scv : Memref Cert.Kernel.sig Kind.scVector Space.hbm Cert.Kernel.S18x4x65536 EltTy.f32)
local notation "kV" => (Memref.whole Cert.Kernel.main_v1_scv : Memref Cert.Kernel.sig Kind.scVector Space.hbm Cert.Kernel.S18x4x65536 EltTy.i32)
local notation "pV" => (Memref.whole Cert.Kernel.main_v2_0_scv : Memref Cert.Kernel.sig Kind.scVector Space.hbm Cert.Kernel.S4x64x8192 EltTy.f32)
local notation "nV" => (Memref.whole Cert.Kernel.main_v2_1_scv : Memref Cert.Kernel.sig Kind.scVector Space.hbm Cert.Kernel.S4x8x8192 EltTy.f32)
local notation "tabV" => (Memref.whole Cert.Kernel.cc0_scratch0 : Memref Cert.Kernel.sig Kind.scVector Space.vmem Cert.Kernel.S65536 EltTy.f32)
local notation "cntV" => (Memref.whole Cert.Kernel.cc0_scratch1 : Memref Cert.Kernel.sig Kind.scVector Space.vmem Cert.Kernel.S8192 EltTy.f32)
local notation "z0V" => (Memref.whole Cert.Kernel.cc0_scratch2 : Memref Cert.Kernel.sig Kind.scVector Space.vmem Cert.Kernel.S4096 EltTy.i32)
local notation "z1V" => (Memref.whole Cert.Kernel.cc0_scratch3 : Memref Cert.Kernel.sig Kind.scVector Space.vmem Cert.Kernel.S4096 EltTy.i32)
local notation "s0V" => (Memref.whole Cert.Kernel.cc0_scratch4 : Memref Cert.Kernel.sig Kind.scVector Space.vmem Cert.Kernel.S2048 EltTy.f32)
local notation "s1V" => (Memref.whole Cert.Kernel.cc0_scratch5 : Memref Cert.Kernel.sig Kind.scVector Space.vmem Cert.Kernel.S2048 EltTy.f32)
local notation "c0V" => (Memref.whole Cert.Kernel.cc0_scratch6 : Memref Cert.Kernel.sig Kind.scVector Space.vmem Cert.Kernel.S2048 EltTy.i32)
local notation "c1V" => (Memref.whole Cert.Kernel.cc0_scratch7 : Memref Cert.Kernel.sig Kind.scVector Space.vmem Cert.Kernel.S2048 EltTy.i32)

variable [FloatOps F]

variable (d : Dev nD) (L : grid0.Coords)
variable (zg : S18x16x65536.Idx → Elt F .i32) (sg : S18x4x65536.Idx → Elt F .f32) (cg : S18x4x65536.Idx → Elt F .i32)

set_option maxRecDepth 16384 in
set_option maxHeartbeats 4000000 in
/-- A task's whole run: from the inputs, its scratch and its rows of the results, to its rows written. -/
theorem tile_run {O : CellTallies nD τ sig (HIx 1)} {W₀ : Waits sig (HIx 1)} (hO : ∀ g, O g none = 0) (hc : ∀ k j, (cod L cg k j).toNat < 8192) :
    iprop(levAts (K (F := F)).L (K (F := F)).lev ∗ inp d L zg sg cg ∗ (∃ f, ((tabV).view.loc (VT d L) ↦{fullShare} f)) ∗ (∃ f, ((cntV).view.loc (VT d L) ↦{fullShare} f)) ∗ free0 (F := F) d L ∗ free1 (F := F) d L ∗ (∃ fd, ((pV).view.loc (VT d L) ↦[psRow L 0]{fullShare} fd)) ∗ (∃ fd, ((pV).view.loc (VT d L) ↦[psRow L 1]{fullShare} fd)) ∗ (∃ fd, ((pV).view.loc (VT d L) ↦[psRow L 2]{fullShare} fd)) ∗ (∃ fd, ((pV).view.loc (VT d L) ↦[psRow L 3]{fullShare} fd)) ∗ (∃ fd, ((pV).view.loc (VT d L) ↦[psRow L 4]{fullShare} fd)) ∗ (∃ fd, ((pV).view.loc (VT d L) ↦[psRow L 5]{fullShare} fd)) ∗ (∃ fd, ((pV).view.loc (VT d L) ↦[psRow L 6]{fullShare} fd)) ∗ (∃ fd, ((pV).view.loc (VT d L) ↦[psRow L 7]{fullShare} fd)) ∗ (∃ fd, ((nV).view.loc (VT d L) ↦[pnSet L]{fullShare} fd)) ∗ semVal (VT d L, .dma cc0_scoped0.sem) 0 ∗ semVal (VT d L, .dma cc0_scoped1.sem) 0 ∗ semVal (VT d L, .dma cc0_scoped2.sem) 0 ∗ semVal (VT d L, .dma cc0_scoped3.sem) 0 ∗ semVal (VT d L, .dma cc0_scoped4.sem) 0 ∗ semVal (VT d L, .dma cc0_scoped5.sem) 0 ∗ semVal (VT d L, .dma cc0_scoped6.sem) 0 ∗ semVal (VT d L, .dma cc0_scoped7.sem) 0 ∗ semVal (VT d L, .dma cc0_scoped8.sem) 0 ∗ ow d L O W₀)
      ⊢ wp frame (wpE (defs₀ (F := F)) 𝒱₀ (VT d L) none) Set.univ (cc0_segment_sums (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8) (fun _ => iprop((∃ f, ((tabV).view.loc (VT d L) ↦{fullShare} f)) ∗ (∃ f, ((cntV).view.loc (VT d L) ↦{fullShare} f)) ∗ free0 (F := F) d L ∗ free1 (F := F) d L ∗ ((pV).view.loc (VT d L) ↦[psRow L 0]{fullShare} psumRes zg sg cg) ∗ ((pV).view.loc (VT d L) ↦[psRow L 1]{fullShare} psumRes zg sg cg) ∗ ((pV).view.loc (VT d L) ↦[psRow L 2]{fullShare} psumRes zg sg cg) ∗ ((pV).view.loc (VT d L) ↦[psRow L 3]{fullShare} psumRes zg sg cg) ∗ ((pV).view.loc (VT d L) ↦[psRow L 4]{fullShare} psumRes zg sg cg) ∗ ((pV).view.loc (VT d L) ↦[psRow L 5]{fullShare} psumRes zg sg cg) ∗ ((pV).view.loc (VT d L) ↦[psRow L 6]{fullShare} psumRes zg sg cg) ∗ ((pV).view.loc (VT d L) ↦[psRow L 7]{fullShare} psumRes zg sg cg) ∗ ((nV).view.loc (VT d L) ↦[pnSet L]{fullShare} pcntRes cg) ∗ semVal (VT d L, .dma cc0_scoped0.sem) 0 ∗ semVal (VT d L, .dma cc0_scoped1.sem) 0 ∗ semVal (VT d L, .dma cc0_scoped2.sem) 0 ∗ semVal (VT d L, .dma cc0_scoped3.sem) 0 ∗ semVal (VT d L, .dma cc0_scoped4.sem) 0 ∗ semVal (VT d L, .dma cc0_scoped5.sem) 0 ∗ semVal (VT d L, .dma cc0_scoped6.sem) 0 ∗ semVal (VT d L, .dma cc0_scoped7.sem) 0 ∗ semVal (VT d L, .dma cc0_scoped8.sem) 0 ∗ ow d L O W₀)) := by
  rw [cc0_segment_sums_eq_skeleton]; unfold cc0_segment_sums_skel
  rw [k0_part8_eq_skeleton]; unfold k0_part8_skel
  rw [k0_part9_eq_skeleton]; unfold k0_part9_skel
  rw [k0_part10_eq_skeleton]; unfold k0_part10_skel
  rw [k0_part11_eq_skeleton]; unfold k0_part11_skel
  rw [k0_part12_eq_skeleton]; unfold k0_part12_skel
  rw [k0_part13_eq_skeleton]; unfold k0_part13_skel
  rw [k0_part14_eq_skeleton]; unfold k0_part14_skel
  simp only [bind_assoc, pure_bind]
  iintro ⟨#Hlv, Hi, ⟨%ft0, Ht⟩, ⟨%fn0, Hn⟩, Hf0, Hf1, Hp0, Hp1, Hp2, Hp3, Hp4, Hp5, Hp6, Hp7, Hpn, Hs0, Hs1, Hs2, Hs3, Hs4, Hs5, Hs6, Hs7, Hs8, HO⟩
  iapply (issue0 d L zg sg cg 0 (k0_off1_inb L 0) (k0_off1_inb L 1) (k0_off2_inb L) (k0_off2_inb L) (off1_eq L 0) (off1_eq L 1) (off2_eq L)) $$ [Hi Hf0]
  · isplitl [Hi]; · iexact Hi
    iexact Hf0
  iintro ⟨Hi, Hy⟩
  iapply (loop1 d L _ _ _ _ _ ft0) $$ Ht
  iintro Ht
  iapply (loop2 d L _ _ _ _ _ fn0) $$ Hn
  iintro Hn
  ihave Hy := (show fly0 d L zg sg cg 0 ⊢ slot0 d L zg sg cg 0 from Entails.of_eq (if_pos (by decide)).symm) $$ Hy
  iapply (loop3 d L zg sg cg hO hc _ _ _ _ _ (O := O) (W₀ := W₀)) $$ [Hi Hy Ht Hn Hf1 HO]
  · unfold inv3
    isplitr; · iexact Hlv
    isplitl [Hi]; · iexact Hi
    isplitl [Ht]; · iexact Ht
    isplitl [Hn]; · iexact Hn
    isplitl [Hf1]; · iexact Hf1
    isplitl [Hy]; · iexact Hy
    iexact HO
  iintro H
  unfold inv3
  icases H with ⟨-, -, Ht, Hn, Hf1, Hf0, HO⟩
  ihave Hf0 := (show slot0 d L zg sg cg 72 ⊢ free0 (F := F) d L from Entails.of_eq (if_neg (by decide))) $$ Hf0
  generalize hft : tabAt L zg sg cg 72 = ft
  generalize hfn : cntAt L cg 72 = fn
  iapply (outP d L zg sg cg hO (sem := cc0_scoped0.sem) (k0_off16_inb L 0) inb_S65536_S8192_0 0 (by decide) (off16_eq L 0) rfl hft.symm) $$ [Ht Hp0 Hs0 HO]
  · isplitr; · iexact Hlv
    isplitl [Ht]; · iexact Ht
    isplitl [Hp0]; · iexact Hp0
    isplitl [Hs0]; · iexact Hs0
    iexact HO
  iintro ⟨Ht, Hp0, Hs0, HO⟩
  iapply (outP d L zg sg cg hO (sem := cc0_scoped1.sem) (k0_off16_inb L 1) inb_S65536_S8192_8192 1 (by decide) (off16_eq L 1) rfl hft.symm) $$ [Ht Hp1 Hs1 HO]
  · isplitr; · iexact Hlv
    isplitl [Ht]; · iexact Ht
    isplitl [Hp1]; · iexact Hp1
    isplitl [Hs1]; · iexact Hs1
    iexact HO
  iintro ⟨Ht, Hp1, Hs1, HO⟩
  iapply (outP d L zg sg cg hO (sem := cc0_scoped2.sem) (k0_off16_inb L 2) inb_S65536_S8192_16384 2 (by decide) (off16_eq L 2) rfl hft.symm) $$ [Ht Hp2 Hs2 HO]
  · isplitr; · iexact Hlv
    isplitl [Ht]; · iexact Ht
    isplitl [Hp2]; · iexact Hp2
    isplitl [Hs2]; · iexact Hs2
    iexact HO
  iintro ⟨Ht, Hp2, Hs2, HO⟩
  iapply (outP d L zg sg cg hO (sem := cc0_scoped3.sem) (k0_off16_inb L 3) inb_S65536_S8192_24576 3 (by decide) (off16_eq L 3) rfl hft.symm) $$ [Ht Hp3 Hs3 HO]
  · isplitr; · iexact Hlv
    isplitl [Ht]; · iexact Ht
    isplitl [Hp3]; · iexact Hp3
    isplitl [Hs3]; · iexact Hs3
    iexact HO
  iintro ⟨Ht, Hp3, Hs3, HO⟩
  iapply (outP d L zg sg cg hO (sem := cc0_scoped4.sem) (k0_off16_inb L 4) inb_S65536_S8192_32768 4 (by decide) (off16_eq L 4) rfl hft.symm) $$ [Ht Hp4 Hs4 HO]
  · isplitr; · iexact Hlv
    isplitl [Ht]; · iexact Ht
    isplitl [Hp4]; · iexact Hp4
    isplitl [Hs4]; · iexact Hs4
    iexact HO
  iintro ⟨Ht, Hp4, Hs4, HO⟩
  iapply (outP d L zg sg cg hO (sem := cc0_scoped5.sem) (k0_off16_inb L 5) inb_S65536_S8192_40960 5 (by decide) (off16_eq L 5) rfl hft.symm) $$ [Ht Hp5 Hs5 HO]
  · isplitr; · iexact Hlv
    isplitl [Ht]; · iexact Ht
    isplitl [Hp5]; · iexact Hp5
    isplitl [Hs5]; · iexact Hs5
    iexact HO
  iintro ⟨Ht, Hp5, Hs5, HO⟩
  iapply (outP d L zg sg cg hO (sem := cc0_scoped6.sem) (k0_off16_inb L 6) inb_S65536_S8192_49152 6 (by decide) (off16_eq L 6) rfl hft.symm) $$ [Ht Hp6 Hs6 HO]
  · isplitr; · iexact Hlv
    isplitl [Ht]; · iexact Ht
    isplitl [Hp6]; · iexact Hp6
    isplitl [Hs6]; · iexact Hs6
    iexact HO
  iintro ⟨Ht, Hp6, Hs6, HO⟩
  iapply (outP d L zg sg cg hO (sem := cc0_scoped7.sem) (k0_off16_inb L 7) inb_S65536_S8192_57344 7 (by decide) (off16_eq L 7) rfl hft.symm) $$ [Ht Hp7 Hs7 HO]
  · isplitr; · iexact Hlv
    isplitl [Ht]; · iexact Ht
    isplitl [Hp7]; · iexact Hp7
    isplitl [Hs7]; · iexact Hs7
    iexact HO
  iintro ⟨Ht, Hp7, Hs7, HO⟩
  iapply (outN d L cg hO (sem := cc0_scoped8.sem) (k0_off17_inb L) (off17_eq L) hfn.symm) $$ [Hn Hpn Hs8 HO]
  · isplitr; · iexact Hlv
    isplitl [Hn]; · iexact Hn
    isplitl [Hpn]; · iexact Hpn
    isplitl [Hs8]; · iexact Hs8
    iexact HO
  iintro ⟨Hn, Hpn, Hs8, HO⟩
  sl_step
  isplitl [Ht]; · iexists _; iexact Ht
  isplitl [Hn]; · iexists _; iexact Hn
  isplitl [Hf0]; · iexact Hf0
  isplitl [Hf1]; · iexact Hf1
  isplitl [Hp0]; · iexact Hp0
  isplitl [Hp1]; · iexact Hp1
  isplitl [Hp2]; · iexact Hp2
  isplitl [Hp3]; · iexact Hp3
  isplitl [Hp4]; · iexact Hp4
  isplitl [Hp5]; · iexact Hp5
  isplitl [Hp6]; · iexact Hp6
  isplitl [Hp7]; · iexact Hp7
  isplitl [Hpn]; · iexact Hpn
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  iexact HO

end Cert.Proof.SumsK
-- ==== Proof.TaskK.lean ====
/-
  A task of the SparseCore call from what the launch deals it to what it hands back.
-/
module

public import proofs.«01_k».proof.Proof.TileK

@[expose] public section

noncomputable section

namespace Cert.Proof.SumsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.Kernel.main_arg0_scv : Memref Cert.Kernel.sig Kind.scVector Space.hbm Cert.Kernel.S18x16x65536 EltTy.i32)
local notation "sV" => (Memref.whole Cert.Kernel.main_v0_scv : Memref Cert.Kernel.sig Kind.scVector Space.hbm Cert.Kernel.S18x4x65536 EltTy.f32)
local notation "kV" => (Memref.whole Cert.Kernel.main_v1_scv : Memref Cert.Kernel.sig Kind.scVector Space.hbm Cert.Kernel.S18x4x65536 EltTy.i32)
local notation "pV" => (Memref.whole Cert.Kernel.main_v2_0_scv : Memref Cert.Kernel.sig Kind.scVector Space.hbm Cert.Kernel.S4x64x8192 EltTy.f32)
local notation "nV" => (Memref.whole Cert.Kernel.main_v2_1_scv : Memref Cert.Kernel.sig Kind.scVector Space.hbm Cert.Kernel.S4x8x8192 EltTy.f32)
local notation "tabV" => (Memref.whole Cert.Kernel.cc0_scratch0 : Memref Cert.Kernel.sig Kind.scVector Space.vmem Cert.Kernel.S65536 EltTy.f32)
local notation "cntV" => (Memref.whole Cert.Kernel.cc0_scratch1 : Memref Cert.Kernel.sig Kind.scVector Space.vmem Cert.Kernel.S8192 EltTy.f32)
local notation "z0V" => (Memref.whole Cert.Kernel.cc0_scratch2 : Memref Cert.Kernel.sig Kind.scVector Space.vmem Cert.Kernel.S4096 EltTy.i32)
local notation "z1V" => (Memref.whole Cert.Kernel.cc0_scratch3 : Memref Cert.Kernel.sig Kind.scVector Space.vmem Cert.Kernel.S4096 EltTy.i32)
local notation "s0V" => (Memref.whole Cert.Kernel.cc0_scratch4 : Memref Cert.Kernel.sig Kind.scVector Space.vmem Cert.Kernel.S2048 EltTy.f32)
local notation "s1V" => (Memref.whole Cert.Kernel.cc0_scratch5 : Memref Cert.Kernel.sig Kind.scVector Space.vmem Cert.Kernel.S2048 EltTy.f32)
local notation "c0V" => (Memref.whole Cert.Kernel.cc0_scratch6 : Memref Cert.Kernel.sig Kind.scVector Space.vmem Cert.Kernel.S2048 EltTy.i32)
local notation "c1V" => (Memref.whole Cert.Kernel.cc0_scratch7 : Memref Cert.Kernel.sig Kind.scVector Space.vmem Cert.Kernel.S2048 EltTy.i32)

variable [FloatOps F]

variable (d : Dev nD) (L : grid0.Coords)
variable (zg : S18x16x65536.Idx → Elt F .i32) (sg : S18x4x65536.Idx → Elt F .f32) (cg : S18x4x65536.Idx → Elt F .i32)

abbrev pLoc (d : Dev nD) : Loc nD τ sig := (SparseCore.T d).loc main_v2_0
abbrev nLoc (d : Dev nD) : Loc nD τ sig := (SparseCore.T d).loc main_v2_1
abbrev zLoc (d : Dev nD) : Loc nD τ sig := (SparseCore.T d).loc main_arg0
abbrev sLoc (d : Dev nD) : Loc nD τ sig := (SparseCore.T d).loc main_v0
abbrev kLoc (d : Dev nD) : Loc nD τ sig := (SparseCore.T d).loc main_v1

/-! ## A task's own cells and buffers -/

abbrev csem (k : Nat) (hk : k < 11 := by decide) : DmaSem sig := ⟨k, hk⟩
abbrev dcell (d : Dev nD) (c : Fin τ.nSC) (i : Fin τ.nSub) (k : Fin 11) : GSem nD τ sig := (V d c i, .dma (csem k.val k.isLt))

omit [FloatOps F] in
theorem dcell_mem (c : Fin τ.nSC) (i : Fin τ.nSub) (k : Fin 11) : dcell d c i k ∈ ownCells (V d c i) :=
  mem_ownCells.mpr ⟨rfl, (show ∀ s : DmaSem sig, (SemLoc.dma s : SemLoc sig).isScoped .scVector = true by decide) _⟩

omit [FloatOps F] in
/-- The subcore's own cells at zero: the eleven the task names, and the rest. -/
theorem ownSems0_V :
    (ownSems0 (VT d L) : sProp 𝕄)
      = iprop((semVal (VT d L, SemLoc.dma cc0_scratch8.sem) 0 ∗ semVal (VT d L, SemLoc.dma cc0_scratch9.sem) 0 ∗ semVal (VT d L, SemLoc.dma cc0_scoped0.sem) 0 ∗ semVal (VT d L, SemLoc.dma cc0_scoped1.sem) 0 ∗ semVal (VT d L, SemLoc.dma cc0_scoped2.sem) 0 ∗ semVal (VT d L, SemLoc.dma cc0_scoped3.sem) 0 ∗ semVal (VT d L, SemLoc.dma cc0_scoped4.sem) 0 ∗ semVal (VT d L, SemLoc.dma cc0_scoped5.sem) 0 ∗ semVal (VT d L, SemLoc.dma cc0_scoped6.sem) 0 ∗ semVal (VT d L, SemLoc.dma cc0_scoped7.sem) 0 ∗ semVal (VT d L, SemLoc.dma cc0_scoped8.sem) 0)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 11)) = {0, 1, 2, 3, 4, 5, 6, 7, 8, 9, 10} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [FloatOps F] in
/-- The eight scratch buffers are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f) ∗ (∃ f, (VT d L).loc cc0_scratch2 ↦{fullShare} f) ∗ (∃ f, (VT d L).loc cc0_scratch3 ↦{fullShare} f) ∗ (∃ f, (VT d L).loc cc0_scratch4 ↦{fullShare} f) ∗ (∃ f, (VT d L).loc cc0_scratch5 ↦{fullShare} f) ∗ (∃ f, (VT d L).loc cc0_scratch6 ↦{fullShare} f) ∗ (∃ f, (VT d L).loc cc0_scratch7 ↦{fullShare} f)
          ∗ bigSep (((((((((((((((((ownRefs (τ := τ) (.scVector (cV L) (jV L))).erase ((Proc.scVector (cV L) (jV L)).devRef cc0_scratch0))).erase ((Proc.scVector (cV L) (jV L)).devRef cc0_scratch1))).erase ((Proc.scVector (cV L) (jV L)).devRef cc0_scratch2))).erase ((Proc.scVector (cV L) (jV L)).devRef cc0_scratch3))).erase ((Proc.scVector (cV L) (jV L)).devRef cc0_scratch4))).erase ((Proc.scVector (cV L) (jV L)).devRef cc0_scratch5))).erase ((Proc.scVector (cV L) (jV L)).devRef cc0_scratch6))).erase ((Proc.scVector (cV L) (jV L)).devRef cc0_scratch7))) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩)]

/-! ## The eight rows of a task -/

omit [FloatOps F] in
theorem rows_disj : ∀ i ∈ (Finset.univ : Finset (Fin 8)), ∀ j ∈ (Finset.univ : Finset (Fin 8)), i ≠ j → Disjoint (psRow L i.val) (psRow L j.val) := by
  intro i _ j _ h
  rw [Finset.disjoint_left]
  intro x hi hj
  unfold psRow at hi hj
  rw [Finset.mem_filter] at hi hj
  exact h (Fin.ext (by have := hi.2.2; have := hj.2.2; omega))

omit [FloatOps F] in
theorem rows_cover : (Finset.univ : Finset (Fin 8)).biUnion (fun r => psRow L r.val) = psSet L := by
  ext x
  simp only [Finset.mem_biUnion, Finset.mem_univ, true_and]
  unfold psRow psSet
  simp only [Finset.mem_filter, Finset.mem_univ, true_and]
  constructor
  · rintro ⟨r, h0, h1⟩
    have := r.isLt
    exact ⟨h0, by omega⟩
  · rintro ⟨h0, h1⟩
    exact ⟨⟨(x 1).val % 8, by omega⟩, h0, by show (x 1).val = _ + (x 1).val % 8; omega⟩

omit [FloatOps F] in
/-- A task's rows of the sums are its eight rows one by one. -/
theorem rows_eq (f : Buf (Elt F) (pLoc d)) :
    (pLoc d ↦[psSet L]{fullShare} f : sProp 𝕄) = iprop((pLoc d ↦[psRow L 0]{fullShare} f) ∗ (pLoc d ↦[psRow L 1]{fullShare} f) ∗ (pLoc d ↦[psRow L 2]{fullShare} f) ∗ (pLoc d ↦[psRow L 3]{fullShare} f) ∗ (pLoc d ↦[psRow L 4]{fullShare} f) ∗ (pLoc d ↦[psRow L 5]{fullShare} f) ∗ (pLoc d ↦[psRow L 6]{fullShare} f) ∗ (pLoc d ↦[psRow L 7]{fullShare} f)) := by
  rw [← rows_cover, pointsTo_biUnion Finset.univ (ℓ := pLoc d) (fun r : Fin 8 => psRow L r.val) (rows_disj L),
    show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-! ## A task from what the launch deals it -/

/-- What a task is dealt: the inputs, each at some share, and its rows of the two results. -/
def dealt (fp : Buf (Elt F) (pLoc d)) (fn : Buf (Elt F) (nLoc d)) : sProp 𝕄 :=
  iprop(inp d L zg sg cg ∗ (pLoc d ↦[psSet L]{fullShare} fp) ∗ (nLoc d ↦[pnSet L]{fullShare} fn))

/-- What a task hands back: its rows of the two results, written. -/
def handed : sProp 𝕄 :=
  iprop((pLoc d ↦[psSet L]{fullShare} psumRes zg sg cg) ∗ (nLoc d ↦[pnSet L]{fullShare} pcntRes cg))

set_option maxRecDepth 16384 in
set_option maxHeartbeats 2000000 in
theorem tile_body (hF : (K (F := F)).Facts) (fp : Buf (Elt F) (pLoc d)) (fn : Buf (Elt F) (nLoc d))
    (hc : ∀ k j, (cod L cg k j).toNat < 8192) (O : CellTallies nD τ sig (HIx 1)) (W : Waits sig (HIx 1)) (hO : ∀ g, O g none = 0) :
    iprop(levAts (K (F := F)).L (K (F := F)).lev ∗ emp ∗ dealt d L zg sg cg fp fn
        ∗ scopedBufs (VT d L) ∗ scopedSems0 (VT d L) ∗ owes (VT d L) O W)
      ⊢ wp frame (wpE (defs₀ (F := F)) 𝒱₀ (VT d L) none) Set.univ (cc0_segment_sums (F := F) L zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8)
          fun _ => iprop(handed d L zg sg cg
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold dealt handed
  rw [rows_eq, rows_eq]
  iintro ⟨#Hlv, -, ⟨Hi, ⟨Hp0, Hp1, Hp2, Hp3, Hp4, Hp5, Hp6, Hp7⟩, Hpn⟩, ⟨⟨%g0, HB0⟩, ⟨%g1, HB1⟩, ⟨%g2, HB2⟩, ⟨%g3, HB3⟩, ⟨%g4, HB4⟩, ⟨%g5, HB5⟩, ⟨%g6, HB6⟩, ⟨%g7, HB7⟩, Hbufs⟩, ⟨⟨HC0, HC1, Hs0, Hs1, Hs2, Hs3, Hs4, Hs5, Hs6, Hs7, Hs8⟩, Hsems⟩, HO⟩
  iapply (wp_wand_r Idealize.ShloMosaic.frame (wpE (defs₀ (F := F)) 𝒱₀ (VT d L) none) Set.univ)
  isplitl [Hi Hp0 Hp1 Hp2 Hp3 Hp4 Hp5 Hp6 Hp7 Hpn HB0 HB1 HB2 HB3 HB4 HB5 HB6 HB7 HC0 HC1 Hs0 Hs1 Hs2 Hs3 Hs4 Hs5 Hs6 Hs7 Hs8 HO]
  · iapply (tile_run d L zg sg cg (O := O) (W₀ := W) hO hc)
    isplitr; · iexact Hlv
    isplitl [Hi]; · iexact Hi
    isplitl [HB0]; · iexists g0; iexact HB0
    isplitl [HB1]; · iexists g1; iexact HB1
    isplitl [HB2 HB4 HB6 HC0]
    · unfold free0
      isplitl [HB2]; · iexists g2; iexact HB2
      isplitl [HB4]; · iexists g4; iexact HB4
      isplitl [HB6]; · iexists g6; iexact HB6
      iexact HC0
    isplitl [HB3 HB5 HB7 HC1]
    · unfold free1
      isplitl [HB3]; · iexists g3; iexact HB3
      isplitl [HB5]; · iexists g5; iexact HB5
      isplitl [HB7]; · iexists g7; iexact HB7
      iexact HC1
    isplitl [Hp0]; · iexists fp; iexact Hp0
    isplitl [Hp1]; · iexists fp; iexact Hp1
    isplitl [Hp2]; · iexists fp; iexact Hp2
    isplitl [Hp3]; · iexists fp; iexact Hp3
    isplitl [Hp4]; · iexists fp; iexact Hp4
    isplitl [Hp5]; · iexists fp; iexact Hp5
    isplitl [Hp6]; · iexists fp; iexact Hp6
    isplitl [Hp7]; · iexists fp; iexact Hp7
    isplitl [Hpn]; · iexists fn; iexact Hpn
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    unfold ow
    iexists W; isplitr
    · ipureintro; exact fun p hp => .inl hp
    · iexact HO
  iintro %_ ⟨⟨%h0, HB0⟩, ⟨%h1, HB1⟩, Hf0, Hf1, Hp0, Hp1, Hp2, Hp3, Hp4, Hp5, Hp6, Hp7, Hpn, Hs0, Hs1, Hs2, Hs3, Hs4, Hs5, Hs6, Hs7, Hs8, HO⟩
  unfold free0 free1 ow
  icases Hf0 with ⟨⟨%h2, HB2⟩, ⟨%h4, HB4⟩, ⟨%h6, HB6⟩, HC0⟩
  icases Hf1 with ⟨⟨%h3, HB3⟩, ⟨%h5, HB5⟩, ⟨%h7, HB7⟩, HC1⟩
  icases HO with ⟨%W', %hW', HO⟩
  isplitl [Hp0 Hp1 Hp2 Hp3 Hp4 Hp5 Hp6 Hp7 Hpn]
  · isplitr [Hpn]
    · isplitl [Hp0]; · iexact Hp0
      isplitl [Hp1]; · iexact Hp1
      isplitl [Hp2]; · iexact Hp2
      isplitl [Hp3]; · iexact Hp3
      isplitl [Hp4]; · iexact Hp4
      isplitl [Hp5]; · iexact Hp5
      isplitl [Hp6]; · iexact Hp6
      iexact Hp7
    iexact Hpn
  isplitl [HB0 HB1 HB2 HB3 HB4 HB5 HB6 HB7 Hbufs]
  · isplitl [HB0]; · iexists h0; iexact HB0
    isplitl [HB1]; · iexists h1; iexact HB1
    isplitl [HB2]; · iexists h2; iexact HB2
    isplitl [HB3]; · iexists h3; iexact HB3
    isplitl [HB4]; · iexists h4; iexact HB4
    isplitl [HB5]; · iexists h5; iexact HB5
    isplitl [HB6]; · iexists h6; iexact HB6
    isplitl [HB7]; · iexists h7; iexact HB7
    iexact Hbufs
  isplitl [HC0 HC1 Hs0 Hs1 Hs2 Hs3 Hs4 Hs5 Hs6 Hs7 Hs8 Hsems]
  · isplitr [Hsems]
    · isplitl [HC0]; · iexact HC0
      isplitl [HC1]; · iexact HC1
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    iexact Hsems
  iexists W'; isplitr
  · ipureintro; exact fun p hp => (hW' p hp).imp_right Or.inl
  · iexact HO

end Cert.Proof.SumsK
-- ==== Proof.LaunchK.lean ====
/-
  The two-core launch of the SparseCore call, and the host operations around it: the program's run.
-/
module

public import proofs.«01_k».proof.Proof.TaskK

@[expose] public section

noncomputable section

namespace Cert.Proof.SumsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.Kernel.main_arg0_scv : Memref Cert.Kernel.sig Kind.scVector Space.hbm Cert.Kernel.S18x16x65536 EltTy.i32)
local notation "sV" => (Memref.whole Cert.Kernel.main_v0_scv : Memref Cert.Kernel.sig Kind.scVector Space.hbm Cert.Kernel.S18x4x65536 EltTy.f32)
local notation "kV" => (Memref.whole Cert.Kernel.main_v1_scv : Memref Cert.Kernel.sig Kind.scVector Space.hbm Cert.Kernel.S18x4x65536 EltTy.i32)
local notation "pV" => (Memref.whole Cert.Kernel.main_v2_0_scv : Memref Cert.Kernel.sig Kind.scVector Space.hbm Cert.Kernel.S4x64x8192 EltTy.f32)
local notation "nV" => (Memref.whole Cert.Kernel.main_v2_1_scv : Memref Cert.Kernel.sig Kind.scVector Space.hbm Cert.Kernel.S4x8x8192 EltTy.f32)
local notation "tabV" => (Memref.whole Cert.Kernel.cc0_scratch0 : Memref Cert.Kernel.sig Kind.scVector Space.vmem Cert.Kernel.S65536 EltTy.f32)
local notation "cntV" => (Memref.whole Cert.Kernel.cc0_scratch1 : Memref Cert.Kernel.sig Kind.scVector Space.vmem Cert.Kernel.S8192 EltTy.f32)
local notation "z0V" => (Memref.whole Cert.Kernel.cc0_scratch2 : Memref Cert.Kernel.sig Kind.scVector Space.vmem Cert.Kernel.S4096 EltTy.i32)
local notation "z1V" => (Memref.whole Cert.Kernel.cc0_scratch3 : Memref Cert.Kernel.sig Kind.scVector Space.vmem Cert.Kernel.S4096 EltTy.i32)
local notation "s0V" => (Memref.whole Cert.Kernel.cc0_scratch4 : Memref Cert.Kernel.sig Kind.scVector Space.vmem Cert.Kernel.S2048 EltTy.f32)
local notation "s1V" => (Memref.whole Cert.Kernel.cc0_scratch5 : Memref Cert.Kernel.sig Kind.scVector Space.vmem Cert.Kernel.S2048 EltTy.f32)
local notation "c0V" => (Memref.whole Cert.Kernel.cc0_scratch6 : Memref Cert.Kernel.sig Kind.scVector Space.vmem Cert.Kernel.S2048 EltTy.i32)
local notation "c1V" => (Memref.whole Cert.Kernel.cc0_scratch7 : Memref Cert.Kernel.sig Kind.scVector Space.vmem Cert.Kernel.S2048 EltTy.i32)

variable [FloatOps F]

variable (m : (ℓ : Loc nD τ sig) → Buf (Elt F) ℓ) (ρ : Dev nD → PrngReg)

/-! ## What the call reads, and what it carries -/

/-- The words, the scales and the codes the call reads: the arguments, the last two transposed. -/
abbrev zA (d : Dev nD) : S18x16x65536.Idx → Elt F .i32 := m (zLoc d)
abbrev sA (d : Dev nD) : S18x4x65536.Idx → Elt F .f32 :=
  transpose S18x4x65536 [0, 2, 1] (m ((SparseCore.T d).loc main_arg1) : S18x65536x4.Idx → Elt F .f32) transposes_S18x65536x4_S18x4x65536_0_2_1
abbrev cA (d : Dev nD) : S18x4x65536.Idx → Elt F .i32 :=
  transpose S18x4x65536 [0, 2, 1] (m ((SparseCore.T d).loc main_arg2) : S18x65536x4.Idx → Elt F .i32) transposes_S18x65536x4_S18x4x65536_0_2_1

/-- What the proof asks of the launch memory: every code below 8192. -/
def PreOK : Prop := ∀ (d : Dev nD) (j : S18x65536x4.Idx), ((m ((SparseCore.T d).loc main_arg2) : S18x65536x4.Idx → BitVec 32) j).toNat < 8192

abbrev LL (c : Fin 2) (i : Fin 16) : grid0.Coords := coordsV ⟨c.val, c.isLt⟩ ⟨i.val, i.isLt⟩

abbrev goP (d : Dev nD) (c : Fin 2) (i : Fin 16) : sProp 𝕄 := dealt d (LL c i) (zA m d) (sA m d) (cA m d) (m (pLoc d)) (m (nLoc d))
abbrev tdP (d : Dev nD) (c : Fin 2) (i : Fin 16) : sProp 𝕄 := handed d (LL c i) (zA m d) (sA m d) (cA m d)

/-- The one call takes every task's pieces and brings back every task's rows. -/
def P : (K (F := F)).Pay (nD := nD) (Val := Elt F) (Name := ℕ) (U := UU) where
  st := fun q d c => match q with | 0 => bigSep Finset.univ fun i : Fin 16 => goP m d c i
  dn := fun q d c => match q with | 0 => bigSep Finset.univ fun i : Fin 16 => tdP m d c i
  go := fun q d c i => match q with | 0 => goP m d c i
  td := fun q d c i => match q with | 0 => tdP m d c i
  x := fun _ _ => iprop(emp)

instance goP_storable (d : Dev nD) (c : Fin 2) (i : Fin 16) : BI.Storable (upEmb : UEmb _ 𝕄) (goP m d c i) := by
  unfold goP dealt inp hold; infer_instance
instance tdP_storable (d : Dev nD) (c : Fin 2) (i : Fin 16) : BI.Storable (upEmb : UEmb _ 𝕄) (tdP m d c i) := by
  unfold tdP handed; infer_instance

instance P_storable : (P (F := F) m).IsStorable where
  st q d c := match q with
    | 0 => (inferInstance : BI.Storable (upEmb : UEmb _ 𝕄) (bigSep Finset.univ fun i : Fin 16 => goP m d c i))
  dn q d c := match q with
    | 0 => (inferInstance : BI.Storable (upEmb : UEmb _ 𝕄) (bigSep Finset.univ fun i : Fin 16 => tdP m d c i))
  go q d c i := match q with | 0 => goP_storable m d c i
  td q d c i := match q with | 0 => tdP_storable m d c i

/-! ## The obligation -/

theorem defs₀_vector (c : Fin τ.nSC) (s : Fin τ.nSub) :
    defs₀ (F := F) (.scVector c s) 0 ()
      = SparseCore.onTile hcore0 hsub0 (fun c s => cc0_segment_sums (F := F) (coordsV c s) zV (Memref.isWhole_whole _) sV (Memref.isWhole_whole _) kV (Memref.isWhole_whole _) pV (Memref.isWhole_whole _) nV (Memref.isWhole_whole _) tabV (Memref.isWhole_whole _) cntV (Memref.isWhole_whole _) z0V (Memref.isWhole_whole _) z1V (Memref.isWhole_whole _) s0V (Memref.isWhole_whole _) s1V (Memref.isWhole_whole _) c0V (Memref.isWhole_whole _) c1V (Memref.isWhole_whole _) cc0_scratch8 cc0_scratch9 cc0_scoped0 cc0_scoped1 cc0_scoped2 cc0_scoped3 cc0_scoped4 cc0_scoped5 cc0_scoped6 cc0_scoped7 cc0_scoped8) ⟨⟩ c s := rfl

theorem cod_lt (hpre : PreOK m) (d : Dev nD) (L : grid0.Coords) (k : Nat) (j : S2048.Idx) : (cod L (cA m d) k j).toNat < 8192 := hpre d _

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (zA m d) (sA m d) (cA m d) hF (m (pLoc d)) (m (nLoc d)) (cod_lt m hpre d _) O W hO

theorem vecSplit : (K (F := F)).VecSplit' (P m) 0 := by
  intro d c
  show (bigSep Finset.univ fun i : Fin 16 => goP m d c i) ⊢ |={Set.univ}=> iprop(
      (bigSep Finset.univ fun i : Fin 16 => goP m d c i)
      ∗ ((bigSep Finset.univ fun i : Fin 16 => tdP m d c i) -∗ (bigSep Finset.univ fun i : Fin 16 => tdP m d c i)))
  iintro H; imodintro
  isplitl [H]; · iexact H
  iintro H; iexact H

/-! ## The pieces of the whole arrays -/

theorem hold_fan {I : Type} [DecidableEq I] (ℓ : Loc nD τ sig) (f : Buf (Elt F) ℓ) (s : Finset I) :
    (hold ℓ f : sProp 𝕄) ⊢ iprop((bigSep s fun _ => hold ℓ f) ∗ hold ℓ f) := by
  induction s using Finset.induction with
  | empty =>
    rw [bigSep_empty]
    iintro H
    isplitr; · iempintro
    iexact H
  | insert a s ha ih =>
    rw [SparseCore.bigSep_insert' ha]
    iintro H
    ihave H := (hold_split ℓ f Finset.univ) $$ H
    icases H with ⟨H, H2⟩
    ihave H := ih $$ H
    icases H with ⟨H, H3⟩
    isplitl [H H2]
    · isplitl [H2]; · unfold hold; iexact H2
      iexact H
    iexact H3

abbrev LP (p : Fin 2 × Fin 16) : grid0.Coords := LL p.1 p.2

theorem LP0 (p : Fin 2 × Fin 16) : ((LP p) 0).val = p.1.val := rfl
theorem LP1 (p : Fin 2 × Fin 16) : ((LP p) 1).val = p.2.val := rfl

omit [FloatOps F] in
theorem ps_disj : ∀ p ∈ (Finset.univ : Finset (Fin 2 × Fin 16)), ∀ q ∈ (Finset.univ : Finset (Fin 2 × Fin 16)), p ≠ q → Disjoint (psSet (LP p)) (psSet (LP q)) := by
  intro p _ q _ h
  rw [Finset.disjoint_left]
  intro x hp hq
  unfold psSet at hp hq
  rw [Finset.mem_filter, LP0, LP1] at hp hq
  have := hp.2; have := hq.2
  have := p.1.isLt; have := q.1.isLt
  exact h (Prod.ext (Fin.ext (by omega)) (Fin.ext (by omega)))
omit [FloatOps F] in
theorem ps_cover : (Finset.univ : Finset (Fin 2 × Fin 16)).biUnion (fun p => psSet (LP p)) = Finset.univ := by
  refine Finset.eq_univ_of_forall fun x => Finset.mem_biUnion.mpr ?_
  have h0 : (x 0).val < 4 := (x 0).isLt
  have h1 : (x 1).val < 64 := (x 1).isLt
  refine ⟨(⟨(x 1).val / 8 % 2, by omega⟩, ⟨(x 0).val * 4 + (x 1).val / 16, by omega⟩), Finset.mem_univ _, ?_⟩
  unfold psSet
  rw [Finset.mem_filter, LP0, LP1]
  refine ⟨Finset.mem_univ _, ?_, ?_⟩
  · show (x 0).val = ((x 0).val * 4 + (x 1).val / 16) / 4; omega
  · show (x 1).val / 8 = ((x 0).val * 4 + (x 1).val / 16) % 4 * 2 + (x 1).val / 8 % 2; omega
omit [FloatOps F] in
theorem pn_disj : ∀ p ∈ (Finset.univ : Finset (Fin 2 × Fin 16)), ∀ q ∈ (Finset.univ : Finset (Fin 2 × Fin 16)), p ≠ q → Disjoint (pnSet (LP p)) (pnSet (LP q)) := by
  intro p _ q _ h
  rw [Finset.disjoint_left]
  intro x hp hq
  unfold pnSet at hp hq
  rw [Finset.mem_filter, LP0, LP1] at hp hq
  have := hp.2; have := hq.2
  have := p.1.isLt; have := q.1.isLt
  exact h (Prod.ext (Fin.ext (by omega)) (Fin.ext (by omega)))
omit [FloatOps F] in
theorem pn_cover : (Finset.univ : Finset (Fin 2 × Fin 16)).biUnion (fun p => pnSet (LP p)) = Finset.univ := by
  refine Finset.eq_univ_of_forall fun x => Finset.mem_biUnion.mpr ?_
  have h0 : (x 0).val < 4 := (x 0).isLt
  have h1 : (x 1).val < 8 := (x 1).isLt
  refine ⟨(⟨(x 1).val % 2, by omega⟩, ⟨(x 1).val / 2 * 4 + (x 0).val, by omega⟩), Finset.mem_univ _, ?_⟩
  unfold pnSet
  rw [Finset.mem_filter, LP0, LP1]
  refine ⟨Finset.mem_univ _, ?_, ?_⟩
  · show (x 0).val = ((x 1).val / 2 * 4 + (x 0).val) % 4; omega
  · show (x 1).val = ((x 1).val / 2 * 4 + (x 0).val) / 4 * 2 + (x 1).val % 2; omega

omit [FloatOps F] in
theorem p_split (d : Dev nD) (f : Buf (Elt F) (pLoc d)) :
    (pLoc d ↦{fullShare} f : sProp 𝕄) = bigSep Finset.univ fun p : Fin 2 × Fin 16 => pLoc d ↦[psSet (LP p)]{fullShare} f := by
  rw [← pointsTo_biUnion Finset.univ (ℓ := pLoc d) (fun p => psSet (LP p)) ps_disj, ps_cover]
omit [FloatOps F] in
theorem n_split (d : Dev nD) (f : Buf (Elt F) (nLoc d)) :
    (nLoc d ↦{fullShare} f : sProp 𝕄) = bigSep Finset.univ fun p : Fin 2 × Fin 16 => nLoc d ↦[pnSet (LP p)]{fullShare} f := by
  rw [← pointsTo_biUnion Finset.univ (ℓ := nLoc d) (fun p => pnSet (LP p)) pn_disj, pn_cover]

theorem st0_eq (d : Dev nD) : (bigSep Finset.univ fun c : Fin ((K (F := F)).nCore 0) => (P m).st 0 d c)
    = bigSep Finset.univ fun p : Fin 2 × Fin 16 => goP m d p.1 p.2 := by
  rw [BI.bigSep_univ_prod]; rfl
theorem dn0_eq (d : Dev nD) : (bigSep Finset.univ fun c : Fin ((K (F := F)).nCore 0) => (P m).dn 0 d c)
    = bigSep Finset.univ fun p : Fin 2 × Fin 16 => tdP m d p.1 p.2 := by
  rw [BI.bigSep_univ_prod]; rfl

/-- The inputs, each at some share, and the two results whole are every task's pieces. -/
theorem st_intro (d : Dev nD) :
    (iprop(hold (zLoc d) (zA m d) ∗ hold (sLoc d) (sA m d) ∗ hold (kLoc d) (cA m d) ∗ (pLoc d ↦{fullShare} m (pLoc d)) ∗ (nLoc d ↦{fullShare} m (nLoc d))) : sProp 𝕄)
      ⊢ iprop(hold (zLoc d) (zA m d) ∗ bigSep Finset.univ fun c : Fin ((K (F := F)).nCore 0) => (P m).st 0 d c) := by
  rw [st0_eq, p_split, n_split]
  unfold goP dealt inp
  rw [bigSep_sep', bigSep_sep', bigSep_sep', bigSep_sep']
  iintro ⟨Hz, Hs, Hk, Hp, Hn⟩
  ihave Hz := (hold_fan (zLoc d) (zA m d) (Finset.univ : Finset (Fin 2 × Fin 16))) $$ Hz
  ihave Hs := (hold_fan (sLoc d) (sA m d) (Finset.univ : Finset (Fin 2 × Fin 16))) $$ Hs
  ihave Hk := (hold_fan (kLoc d) (cA m d) (Finset.univ : Finset (Fin 2 × Fin 16))) $$ Hk
  icases Hz with ⟨Hz, Hz'⟩
  icases Hs with ⟨Hs, -⟩
  icases Hk with ⟨Hk, -⟩
  isplitl [Hz']; · iexact Hz'
  isplitl [Hz Hs Hk]
  · isplitl [Hz]; · iexact Hz
    isplitl [Hs]; · iexact Hs
    iexact Hk
  isplitl [Hp]; · iexact Hp
  iexact Hn

/-- What the tasks hand back is the two results whole. -/
theorem dn_elim (d : Dev nD) :
    (bigSep Finset.univ fun c : Fin ((K (F := F)).nCore 0) => (P m).dn 0 d c)
      ⊢ (iprop((pLoc d ↦{fullShare} psumRes (zA m d) (sA m d) (cA m d)) ∗ (nLoc d ↦{fullShare} pcntRes (cA m d))) : sProp 𝕄) := by
  rw [dn0_eq, p_split, n_split]
  unfold tdP handed
  rw [bigSep_sep']

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

open StableHlo (held tcRefs after seq)

/-- The host operations before the call, and those after it. -/
def ops1 : List (HloOp τ sig (Elt F)) :=
  [(StableHlo.unary main_arg1 main_v0 ((transpose S18x4x65536 [0, 2, 1] · transposes_S18x65536x4_S18x4x65536_0_2_1) : (⟨S18x65536x4, .f32⟩ : BufTy).Contents (Elt F) → (⟨S18x4x65536, .f32⟩ : BufTy).Contents (Elt F))),
   (StableHlo.unary main_arg2 main_v1 ((transpose S18x4x65536 [0, 2, 1] · transposes_S18x65536x4_S18x4x65536_0_2_1) : (⟨S18x65536x4, .i32⟩ : BufTy).Contents (Elt F) → (⟨S18x4x65536, .i32⟩ : BufTy).Contents (Elt F)))]
def ops2 : List (HloOp τ sig (Elt F)) :=
  [(StableHlo.nullary main_cst (constant S_ .f32 0x3F666666#32)),
   (StableHlo.unary main_cst main_v3 (broadcastInDim S4x8192 ![] bcast_S_S4x8192 : (⟨S_, .f32⟩ : BufTy).Contents (Elt F) → (⟨S4x8192, .f32⟩ : BufTy).Contents (Elt F))),
   (StableHlo.binary main_v3 main_arg3 main_v4 (mulf : (⟨S4x8192, .f32⟩ : BufTy).Contents (Elt F) → (⟨S4x8192, .f32⟩ : BufTy).Contents (Elt F) → (⟨S4x8192, .f32⟩ : BufTy).Contents (Elt F))),
   (StableHlo.nullary main_cst_0 (constant S_ .f32 0x00000000#32)),
   (StableHlo.binary main_v2_1 main_cst_0 main_v5 ((fun x v => Host.reduceAdd x v reducesTo_S4x8x8192_S4x8192_d1 h_S_) : (⟨S4x8x8192, .f32⟩ : BufTy).Contents (Elt F) → (⟨S_, .f32⟩ : BufTy).Contents (Elt F) → (⟨S4x8192, .f32⟩ : BufTy).Contents (Elt F))),
   (StableHlo.nullary main_cst_1 (constant S_ .f32 0x3DCCCCCD#32)),
   (StableHlo.unary main_cst_1 main_v6 (broadcastInDim S4x8192 ![] bcast_S_S4x8192 : (⟨S_, .f32⟩ : BufTy).Contents (Elt F) → (⟨S4x8192, .f32⟩ : BufTy).Contents (Elt F))),
   (StableHlo.binary main_v6 main_v5 main_v7 (mulf : (⟨S4x8192, .f32⟩ : BufTy).Contents (Elt F) → (⟨S4x8192, .f32⟩ : BufTy).Contents (Elt F) → (⟨S4x8192, .f32⟩ : BufTy).Contents (Elt F))),
   (StableHlo.binary main_v4 main_v7 main_v8 (addf : (⟨S4x8192, .f32⟩ : BufTy).Contents (Elt F) → (⟨S4x8192, .f32⟩ : BufTy).Contents (Elt F) → (⟨S4x8192, .f32⟩ : BufTy).Contents (Elt F))),
   (StableHlo.nullary main_cst_2 (constant S_ .f32 0x00000000#32)),
   (StableHlo.binary main_v2_0 main_cst_2 main_v9 ((fun x v => Host.reduceAdd x v reducesTo_S4x64x8192_S64x8192_d0 h_S_) : (⟨S4x64x8192, .f32⟩ : BufTy).Contents (Elt F) → (⟨S_, .f32⟩ : BufTy).Contents (Elt F) → (⟨S64x8192, .f32⟩ : BufTy).Contents (Elt F))),
   (StableHlo.reshape main_v9 main_v10 (rfl : (.f32 : EltTy) = .f32) shapeCasts_S64x8192_S4x16x8192),
   (StableHlo.unary main_arg4 main_v11 ((transpose S4x16x8192 [0, 2, 1] · transposes_S4x8192x16_S4x16x8192_0_2_1) : (⟨S4x8192x16, .f32⟩ : BufTy).Contents (Elt F) → (⟨S4x16x8192, .f32⟩ : BufTy).Contents (Elt F))),
   (StableHlo.nullary main_cst_3 (constant S_ .f32 0x3F666666#32)),
   (StableHlo.unary main_cst_3 main_v12 (broadcastInDim S4x16x8192 ![] bcast_S_S4x16x8192 : (⟨S_, .f32⟩ : BufTy).Contents (Elt F) → (⟨S4x16x8192, .f32⟩ : BufTy).Contents (Elt F))),
   (StableHlo.binary main_v12 main_v11 main_v13 (mulf : (⟨S4x16x8192, .f32⟩ : BufTy).Contents (Elt F) → (⟨S4x16x8192, .f32⟩ : BufTy).Contents (Elt F) → (⟨S4x16x8192, .f32⟩ : BufTy).Contents (Elt F))),
   (StableHlo.nullary main_cst_4 (constant S_ .f32 0x3DCCCCCD#32)),
   (StableHlo.unary main_cst_4 main_v14 (broadcastInDim S4x16x8192 ![] bcast_S_S4x16x8192 : (⟨S_, .f32⟩ : BufTy).Contents (Elt F) → (⟨S4x16x8192, .f32⟩ : BufTy).Contents (Elt F))),
   (StableHlo.binary main_v14 main_v10 main_v15 (mulf : (⟨S4x16x8192, .f32⟩ : BufTy).Contents (Elt F) → (⟨S4x16x8192, .f32⟩ : BufTy).Contents (Elt F) → (⟨S4x16x8192, .f32⟩ : BufTy).Contents (Elt F))),
   (StableHlo.binary main_v13 main_v15 main_v16 (addf : (⟨S4x16x8192, .f32⟩ : BufTy).Contents (Elt F) → (⟨S4x16x8192, .f32⟩ : BufTy).Contents (Elt F) → (⟨S4x16x8192, .f32⟩ : BufTy).Contents (Elt F))),
   (StableHlo.unary main_v16 main_v17 ((transpose S4x8192x16 [0, 2, 1] · transposes_S4x16x8192_S4x8192x16_0_2_1) : (⟨S4x16x8192, .f32⟩ : BufTy).Contents (Elt F) → (⟨S4x8192x16, .f32⟩ : BufTy).Contents (Elt F)))]

theorem main_eq (d : Dev nD) : main (F := F) d = (seq ops1 >>= fun _ => (K (F := F)).run d 0 >>= fun _ => seq ops2) := by
  unfold main ops1 ops2
  simp only [seq, bind_assoc, pure_bind]

abbrev dv (b : Ref sig .tc) : DevRef τ sig := Proc.devRef .tc b

/-- The contents at the launch; before the call; after it. -/
def V0 (d : Dev nD) : Valuation τ sig (Elt F) := fun b => m (d, b)
def V1 (d : Dev nD) : Valuation τ sig (Elt F) := after ops1 (V0 m d)
def V2 (d : Dev nD) : Valuation τ sig (Elt F) :=
  Function.update (Function.update (V1 m d) (dv main_v2_0) (psumRes (zA m d) (sA m d) (cA m d))) (dv main_v2_1) (pcntRes (cA m d))
/-- The contents at the end. -/
def V3 (d : Dev nD) : Valuation τ sig (Elt F) := after ops2 (V2 m d)

/-- The arrays the call reads; with those it writes; all but those it reads. -/
def Sin : Finset (DevRef τ sig) := {dv main_arg0, dv main_v0, dv main_v1}
def Sout : Finset (DevRef τ sig) := {dv main_v2_0, dv main_v2_1}
def Srest : Finset (DevRef τ sig) := tcRefs τ sig \ Sin

theorem ops1_sub : ∀ op ∈ ops1 (F := F), op.bufs ⊆ tcRefs τ sig := by
  intro op h
  simp only [ops1, List.mem_cons, List.mem_nil_iff, or_false] at h
  rcases h with rfl|rfl <;> simp
theorem ops1_fresh : ∀ op ∈ ops1 (F := F), op.fresh = ∅ := by
  intro op h
  simp only [ops1, List.mem_cons, List.mem_nil_iff, or_false] at h
  rcases h with rfl|rfl <;> rfl
theorem ops2_sub : ∀ op ∈ ops2 (F := F), op.bufs ⊆ Srest := by
  intro op h
  simp only [ops2, List.mem_cons, List.mem_nil_iff, or_false] at h
  unfold Srest
  rw [Finset.subset_sdiff]
  rcases h with rfl|rfl|rfl|rfl|rfl|rfl|rfl|rfl|rfl|rfl|rfl|rfl|rfl|rfl|rfl|rfl|rfl|rfl|rfl|rfl|rfl <;> refine ⟨by simp, ?_⟩ <;>
    first
    | (rw [StableHlo.nullary_bufs]; decide)
    | (rw [StableHlo.unary_bufs]; decide)
    | (rw [StableHlo.binary_bufs]; decide)
    | (rw [StableHlo.reshape_bufs]; decide)
theorem ops2_fresh : ∀ op ∈ ops2 (F := F), op.fresh = ∅ := by
  intro op h
  simp only [ops2, List.mem_cons, List.mem_nil_iff, or_false] at h
  rcases h with rfl|rfl|rfl|rfl|rfl|rfl|rfl|rfl|rfl|rfl|rfl|rfl|rfl|rfl|rfl|rfl|rfl|rfl|rfl|rfl|rfl <;> rfl

omit [FloatOps F] in
theorem unscopedBufs_held (d : Dev nD) (W : Valuation τ sig (Elt F)) :
    (unscopedBufs d (fun b => W (dv b)) : sProp 𝕄) = held (SparseCore.T d) (tcRefs τ sig) W := by
  unfold unscopedBufs held tcRefs
  rw [show (Finset.univ.filter fun b : Ref sig .tc => ¬ b.isScoped) = Finset.univ by decide, BI.bigSep_map]
  rfl

theorem V1_arg0 (d : Dev nD) : V1 m d (dv main_arg0) = zA m d := by
  unfold V1 ops1; after_results; rfl
theorem V1_v0 (d : Dev nD) : V1 m d (dv main_v0) = sA m d := by
  unfold V1 ops1; after_results; rfl
theorem V1_v1 (d : Dev nD) : V1 m d (dv main_v1) = cA m d := by
  unfold V1 ops1; after_results; rfl
theorem V1_p (d : Dev nD) : V1 m d (dv main_v2_0) = m (pLoc d) := by
  unfold V1 ops1; after_results; rfl
theorem V1_n (d : Dev nD) : V1 m d (dv main_v2_1) = m (nLoc d) := by
  unfold V1 ops1; after_results; rfl

omit [FloatOps F] in
theorem hold_intro {ℓ : Loc nD τ sig} {f g : Buf (Elt F) ℓ} (h : f = g) : (ℓ ↦{fullShare} f : sProp 𝕄) ⊢ hold ℓ g := by
  subst h; unfold hold; iintro H; iexists fullShare; iexact H

/-- Before the call: what it reads, what it writes, and the rest. -/
theorem held_call (d : Dev nD) :
    (held (SparseCore.T d) (tcRefs τ sig) (V1 m d) : sProp 𝕄)
      ⊢ iprop((hold (zLoc d) (zA m d) ∗ hold (sLoc d) (sA m d) ∗ hold (kLoc d) (cA m d) ∗ (pLoc d ↦{fullShare} m (pLoc d)) ∗ (nLoc d ↦{fullShare} m (nLoc d)))
          ∗ held (SparseCore.T d) (Srest \ Sout) (V1 m d)) := by
  rw [StableHlo.held_sub_split (SparseCore.T d) (S := tcRefs τ sig) (T := Sin) (by decide) (V1 m d), show tcRefs τ sig \ Sin = Srest from rfl,
    StableHlo.held_sub_split (SparseCore.T d) (S := Srest) (T := Sout) (by decide) (V1 m d)]
  rw [show (held (SparseCore.T d) Sin (V1 m d) : sProp 𝕄) = iprop((zLoc d ↦{fullShare} V1 m d (dv main_arg0)) ∗ (sLoc d ↦{fullShare} V1 m d (dv main_v0)) ∗ (kLoc d ↦{fullShare} V1 m d (dv main_v1))) from by
      unfold held Sin; rw [SparseCore.bigSep_insert' (by decide), SparseCore.bigSep_insert' (by decide), bigSep_singleton],
    show (held (SparseCore.T d) Sout (V1 m d) : sProp 𝕄) = iprop((pLoc d ↦{fullShare} V1 m d (dv main_v2_0)) ∗ (nLoc d ↦{fullShare} V1 m d (dv main_v2_1))) from by
      unfold held Sout; rw [SparseCore.bigSep_insert' (by decide), bigSep_singleton],
    V1_p, V1_n]
  iintro ⟨⟨Hz, Hs, Hk⟩, ⟨Hp, Hn⟩, Hr⟩
  isplitr [Hr]
  · isplitl [Hz]; · iapply (hold_intro (V1_arg0 m d)); iexact Hz
    isplitl [Hs]; · iapply (hold_intro (V1_v0 m d)); iexact Hs
    isplitl [Hk]; · iapply (hold_intro (V1_v1 m d)); iexact Hk
    isplitl [Hp]; · iexact Hp
    iexact Hn
  iexact Hr

theorem V2_p (d : Dev nD) : V2 m d (dv main_v2_0) = psumRes (zA m d) (sA m d) (cA m d) := by
  unfold V2; rw [Function.update_of_ne (by decide), Function.update_self]
theorem V2_n (d : Dev nD) : V2 m d (dv main_v2_1) = pcntRes (cA m d) := by
  unfold V2; rw [Function.update_self]
theorem V2_other (d : Dev nD) (b : DevRef τ sig) (h0 : b ≠ dv main_v2_0) (h1 : b ≠ dv main_v2_1) : V2 m d b = V1 m d b := by
  unfold V2; rw [Function.update_of_ne h1, Function.update_of_ne h0]

/-- After the call: its results put back among the rest. -/
theorem held_back (d : Dev nD) :
    (iprop(((pLoc d ↦{fullShare} psumRes (zA m d) (sA m d) (cA m d)) ∗ (nLoc d ↦{fullShare} pcntRes (cA m d))) ∗ held (SparseCore.T d) (Srest \ Sout) (V1 m d)) : sProp 𝕄)
      ⊢ held (SparseCore.T d) Srest (V2 m d) := by
  rw [StableHlo.held_sub_split (SparseCore.T d) (S := Srest) (T := Sout) (by decide) (V2 m d),
    show (held (SparseCore.T d) Sout (V2 m d) : sProp 𝕄) = iprop((pLoc d ↦{fullShare} V2 m d (dv main_v2_0)) ∗ (nLoc d ↦{fullShare} V2 m d (dv main_v2_1))) from by
      unfold held Sout; rw [SparseCore.bigSep_insert' (by decide), bigSep_singleton],
    V2_p, V2_n, StableHlo.held_congr (SparseCore.T d) (S := Srest \ Sout) (V := V2 m d) (V' := V1 m d) (fun b hb => by
      have h := (Finset.mem_sdiff.mp hb).2
      unfold Sout at h
      rw [Finset.mem_insert, Finset.mem_singleton, not_or] at h
      exact V2_other m d b h.1 h.2)]

abbrev FIN (d : Dev nD) : sProp 𝕄 := iprop(hold (zLoc d) (zA m d) ∗ held (SparseCore.T d) Srest (V3 m d))

/-- @main on device `d`'s TensorCore: the transposes, the call, the operations on its results. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (tcRefs τ sig) (V0 m d) from unscopedBufs_held d (V0 m d), main_eq]
  iintro ⟨#Hctx, Hst, ⟨Hb, Hheld, Hts, -⟩, -⟩
  iapply (StableHlo.wp_seq 𝒱 none Set.univ d (tcRefs τ sig) _ ops1 ops1_sub ops1_fresh (V0 m d)) $$ [Hb Hheld]
  · isplitl [Hb]; · iexact Hb
    iexact Hheld
  iintro ⟨Hb, Hheld⟩
  ihave Hh := (show (held (SparseCore.T d) (tcRefs τ sig) (after ops1 (V0 m d)) : sProp 𝕄) ⊢ _ from held_call m d) $$ Hheld
  icases Hh with ⟨Hin, Hrest⟩
  ihave Hin := (st_intro m d) $$ Hin
  icases Hin with ⟨Hz, Hin⟩
  rw [wp_bind]
  iapply ((K (F := F)).wp_run (D (F := F)) 𝒱 (EH := EH) (P := P m) κ d 0) $$ [Hst Hin Hb Hts Hrest Hz]
  isplitr; · iexact Hctx
  isplitl [Hst]; · iexact Hst
  isplitl [Hin]; · iexact Hin
  iintro ⟨Hst, Hdn⟩
  ihave Hdn := (dn_elim m d) $$ Hdn
  ihave Hheld := (held_back m d) $$ [Hdn Hrest]
  · isplitl [Hdn]; · iexact Hdn
    iexact Hrest
  rw [show (seq (ops2 (F := F)) : Prog (TpuEff nD τ sig (Elt F) (SparseCore.Sig (Pipeline.Sig Λ₀ (Fin 0) fun p => (pcfgs (F := F) p).Adm) 1) .tc) PUnit) = (seq ops2 >>= fun _ => pure ⟨⟩) from (bind_pure_unit).symm]
  iapply (StableHlo.wp_seq 𝒱 none Set.univ d Srest _ ops2 ops2_sub ops2_fresh (V2 m d)) $$ [Hb Hheld]
  · isplitl [Hb]; · iexact Hb
    iexact Hheld
  iintro ⟨Hb, Hheld⟩
  rw [wp_pure]
  imodintro
  isplitl [Hst]; · iexact Hst
  isplitl [Hz Hheld]
  · isplitl [Hz]; · iexact Hz
    iexact Hheld
  isplitl [Hb] <;> iassumption

omit [FloatOps F] in
theorem held_agree (d : Dev nD) (s' : Phys nD τ sig (Elt F)) (V : Valuation τ sig (Elt F)) (S : Finset (DevRef τ sig)) :
    iprop(held (SparseCore.T d) S V ∗ SI s') ⊢ (⌜∀ b ∈ S, s'.mem.mem (d, b) = V b⌝ : sProp 𝕄) := by
  unfold held
  induction S using Finset.induction with
  | empty => iintro H; ipureintro; intro b hb; exact absurd hb (Finset.notMem_empty b)
  | insert a s ha ih =>
    rw [SparseCore.bigSep_insert' ha]
    iintro ⟨⟨Ha, Hs⟩, HSI⟩
    ihave H := (persistent_entails_right (SI_pointsTo_agree (st := s') (ℓ := (d, a)) (I := Finset.univ) (q := fullShare) (f := V a))) $$ [HSI Ha]
    · isplitl [HSI] <;> iassumption
    icases H with ⟨%h1, HSI, -⟩
    ihave H := ih $$ [Hs HSI]
    · isplitl [Hs] <;> iassumption
    icases H with %h2
    ipureintro
    intro b hb
    rcases Finset.mem_insert.mp hb with rfl | hb
    · exact funext fun i => h1 i (Finset.mem_univ _)
    · exact h2 b hb

def fq (d : Dev nD) (s' : Phys nD τ sig (Elt F)) : Prop := s'.mem.mem (zLoc d) = m (zLoc d) ∧ ∀ b ∈ Srest, s'.mem.mem (d, b) = V3 m d b

theorem hfin (d : Dev nD) (s' : Phys nD τ sig (Elt F)) : iprop(FIN m d ∗ SI s') ⊢ (⌜fq m d s'⌝ : sProp 𝕄) := by
  unfold FIN hold
  iintro ⟨⟨⟨%q, Hz⟩, Hh⟩, HSI⟩
  ihave H := (persistent_entails_right (SI_pointsTo_agree (st := s') (ℓ := zLoc d) (I := Finset.univ) (q := q) (f := m (zLoc d)))) $$ [HSI Hz]
  · isplitl [HSI] <;> iassumption
  icases H with ⟨%h1, HSI, -⟩
  ihave H := (held_agree d s' (V3 m d) Srest) $$ [Hh HSI]
  · isplitl [Hh] <;> iassumption
  icases H with %h2
  ipureintro
  exact ⟨funext fun i => h1 i (Finset.mem_univ _), h2⟩

/-! ## The program's run -/

def QC : PUnit × MemSt nD τ sig (Elt F) → Prop := fun r =>
  (∀ d : Dev nD, r.2.mem (zLoc d) = m (zLoc d) ∧ ∀ b ∈ Srest, r.2.mem (d, b) = V3 m d b) ∧ r.2.sem = fun _ => 0

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- An argument array the call does not read holds at the end what it held at the launch. -/
theorem V3_arg (d : Dev nD) (b : Ref sig .tc) (hb : b = main_arg1 ∨ b = main_arg2 ∨ b = main_arg3 ∨ b = main_arg4) : V3 m d (dv b) = m (d, dv b) := by
  have h2 : V3 m d (dv b) = V2 m d (dv b) := by
    unfold V3 ops2; rcases hb with rfl | rfl | rfl | rfl <;> after_results
  have h1 : V1 m d (dv b) = V0 m d (dv b) := by
    unfold V1 ops1; rcases hb with rfl | rfl | rfl | rfl <;> after_results
  rw [h2, V2_other m d (dv b) (by rcases hb with rfl | rfl | rfl | rfl <;> decide) (by rcases hb with rfl | rfl | rfl | rfl <;> decide), h1]
  rfl

end Cert.Proof.SumsK
-- ==== Proof.FrameK.lean ====
/-
  The frame of the kernel's program, and its run with the values left in the two results.
-/
module

public import proofs.«01_k».proof.Proof.LaunchK
public import proofs.«01_k».proof.Defs
public import proofs.«01_k».proof.Proof.Gen.Pre_codes_in_range

@[expose] public section

noncomputable section

namespace Cert.Proof.SumsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "zV" => (Memref.whole Cert.Kernel.main_arg0_scv : Memref Cert.Kernel.sig Kind.scVector Space.hbm Cert.Kernel.S18x16x65536 EltTy.i32)
local notation "sV" => (Memref.whole Cert.Kernel.main_v0_scv : Memref Cert.Kernel.sig Kind.scVector Space.hbm Cert.Kernel.S18x4x65536 EltTy.f32)
local notation "kV" => (Memref.whole Cert.Kernel.main_v1_scv : Memref Cert.Kernel.sig Kind.scVector Space.hbm Cert.Kernel.S18x4x65536 EltTy.i32)
local notation "pV" => (Memref.whole Cert.Kernel.main_v2_0_scv : Memref Cert.Kernel.sig Kind.scVector Space.hbm Cert.Kernel.S4x64x8192 EltTy.f32)
local notation "nV" => (Memref.whole Cert.Kernel.main_v2_1_scv : Memref Cert.Kernel.sig Kind.scVector Space.hbm Cert.Kernel.S4x8x8192 EltTy.f32)
local notation "tabV" => (Memref.whole Cert.Kernel.cc0_scratch0 : Memref Cert.Kernel.sig Kind.scVector Space.vmem Cert.Kernel.S65536 EltTy.f32)
local notation "cntV" => (Memref.whole Cert.Kernel.cc0_scratch1 : Memref Cert.Kernel.sig Kind.scVector Space.vmem Cert.Kernel.S8192 EltTy.f32)
local notation "z0V" => (Memref.whole Cert.Kernel.cc0_scratch2 : Memref Cert.Kernel.sig Kind.scVector Space.vmem Cert.Kernel.S4096 EltTy.i32)
local notation "z1V" => (Memref.whole Cert.Kernel.cc0_scratch3 : Memref Cert.Kernel.sig Kind.scVector Space.vmem Cert.Kernel.S4096 EltTy.i32)
local notation "s0V" => (Memref.whole Cert.Kernel.cc0_scratch4 : Memref Cert.Kernel.sig Kind.scVector Space.vmem Cert.Kernel.S2048 EltTy.f32)
local notation "s1V" => (Memref.whole Cert.Kernel.cc0_scratch5 : Memref Cert.Kernel.sig Kind.scVector Space.vmem Cert.Kernel.S2048 EltTy.f32)
local notation "c0V" => (Memref.whole Cert.Kernel.cc0_scratch6 : Memref Cert.Kernel.sig Kind.scVector Space.vmem Cert.Kernel.S2048 EltTy.i32)
local notation "c1V" => (Memref.whole Cert.Kernel.cc0_scratch7 : Memref Cert.Kernel.sig Kind.scVector Space.vmem Cert.Kernel.S2048 EltTy.i32)

abbrev FF : FTy → Type := Bits

/-- The precondition, jax's own two comparisons all ones, says that every code is below 8192. -/
theorem ok_of_pre (m : (ℓ : Loc nD τ sig) → Buf (Elt FF) ℓ) (h : Cert.Pre_Kernel m) : PreOK (F := FF) m := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ (v b : BitVec 32), IntOp.andi (IntOp.cmpi .sge v 0#32) (IntOp.cmpi .slt v b) = 1#1 → b.toNat < 2147483648 → v.toNat < b.toNat := by
    intro v b e hb
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  intro d j
  have e := congrFun (h d) j
  simp only [Cert.Pre_codes_in_range.fn, andi, cmpi, broadcastInDim, constantI] at e
  exact key _ _ e (by decide)

theorem arg_mem (b : Ref sig .tc) (hb : b = main_arg1 ∨ b = main_arg2 ∨ b = main_arg3 ∨ b = main_arg4 ∨ b = main_v8 ∨ b = main_v17) : dv b ∈ Srest := by
  rcases hb with rfl | rfl | rfl | rfl | rfl | rfl <;> decide

/-- The program's run: the arguments unchanged, the two results at their values, every counter at zero. -/
theorem run_vals (m : (ℓ : Loc nD τ sig) → Buf (Elt FF) ℓ) (ρ : Dev nD → PrngReg) (h : Cert.Pre_Kernel m) :
    θ_run (Cert.Kernel.defs (F := FF)) (Cert.Kernel.threads (F := FF)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v8) = V3 m c (dv main_v8)
      ∧ r.2.mem ((c.tc : Thread nD τ).loc main_v17) = V3 m c (dv main_v17))
      ∧ r.2.sem = fun _ => 0) :=
  (θ_run Cert.Kernel.defs _ _).mono (fun _ hq => ⟨fun c => ⟨(hq.1 c).1,
    ((hq.1 c).2 _ (arg_mem main_arg1 (by decide))).trans (V3_arg m c main_arg1 (by decide)),
    ((hq.1 c).2 _ (arg_mem main_arg2 (by decide))).trans (V3_arg m c main_arg2 (by decide)),
    ((hq.1 c).2 _ (arg_mem main_arg3 (by decide))).trans (V3_arg m c main_arg3 (by decide)),
    ((hq.1 c).2 _ (arg_mem main_arg4 (by decide))).trans (V3_arg m c main_arg4 (by decide)),
    (hq.1 c).2 _ (arg_mem main_v8 (by decide)), (hq.1 c).2 _ (arg_mem main_v17 (by decide))⟩, hq.2⟩)
    (run_main (F := FF) m ρ (ok_of_pre m h))

/-- The frame claim of Defs.lean for this program. -/
theorem frame : Cert.quiescent_Kernel := fun m ρ hpre =>
  (θ_run Cert.Kernel.defs _ _).mono (fun _ h => ⟨fun c => ⟨(h.1 c).1, (h.1 c).2.1, (h.1 c).2.2.1, (h.1 c).2.2.2.1, (h.1 c).2.2.2.2.1⟩, h.2⟩) (run_vals m ρ hpre)

end Cert.Proof.SumsK
-- ==== Proof.RefI.lean ====
module

public import proofs.«01_k».proof.Defs
public import proofs.«01_k».proof.Proof.Gen.ReferenceIdeal.Read
-- ==== Proof.ScatI.lean ====
/-
  The reference's two scatters, read at an element as sums over all rows and groups.
-/
module

public import proofs.«01_k».proof.Proof.RefI
public import Idealize.ShloMosaic.Lib.Routing.OpsPair
public import Idealize.ShloMosaic.Lib.Pointwise.Index
public import Idealize.ShloMosaic.PureOps.Ideal
public import Idealize.ShloMosaic.PureOps.Ideal.Laws

@[expose] public section

noncomputable section

namespace Cert.Proof.RefV

open Cert.ReferenceIdeal Cert.ReferenceIdeal.Gen
open Idealize.ShloMosaic
open scoped BigOperators
open Finset

/-- The index words of update `k`. -/
def wrd (k : Nat) : S4718592x1.Idx := ix2 (⟨k % 4718592, Nat.mod_lt _ (by decide)⟩ : Fin 4718592) (0 : Fin 1)

theorem wrd_eq (k : Fin 4718592) (j : S4718592x1.Idx) (h : (j 0).val = k.val) : j = wrd k.val := by
  funext a; apply Fin.ext
  match a with
  | ⟨0, _⟩ => exact h.trans (Nat.mod_eq_of_lt k.isLt).symm
  | ⟨1, _⟩ =>
    have := (j 1).isLt
    have h1 : (j 1).val < 1 := this
    show (j 1).val = 0
    omega

/-- Where a count's update lands: at the element its word names. -/
theorem lands1 (k : Fin 4718592) (idx : IVec S4718592x1 32) (ι : S32768.Idx) :
    scatter_S32768_S4718592x1_S4718592_n_0_0_1.resultIdx? (ix1 k) idx = some ι ↔ (idx (wrd k.val)).toInt = ((ι 0).val : Int) := by
  rw [Routing.resultIdx?_eq_some]
  have hs : scatter_S32768_S4718592x1_S4718592_n_0_0_1.start (ix1 k) idx 0 = (idx (wrd k.val)).toInt := by
    unfold ScatterDims.start
    rw [dif_pos (by decide)]
    exact congrArg (fun j => (idx j).toInt) (wrd_eq k _ rfl)
  have hw : scatter_S32768_S4718592x1_S4718592_n_0_0_1.window (ix1 k) 0 = 0 := by
    unfold ScatterDims.window
    rw [dif_neg (by decide)]
  constructor
  · intro h
    have := h 0
    rw [hs, hw] at this
    simpa using this
  · intro h a
    match a with
    | ⟨0, _⟩ =>
      show scatter_S32768_S4718592x1_S4718592_n_0_0_1.start (ix1 k) idx 0 + (scatter_S32768_S4718592x1_S4718592_n_0_0_1.window (ix1 k) 0 : Int) = _
      rw [hs, hw, h]
      exact Int.add_zero _

/-- Where a sum's update lands: in the row its word names, at its own channel. -/
theorem lands2 (k : Fin 4718592) (c : Fin 16) (idx : IVec S4718592x1 32) (ι : S32768x16.Idx) :
    scatter_S32768x16_S4718592x1_S4718592x16_1_0_0_1.resultIdx? (ix2 k c) idx = some ι
      ↔ (idx (wrd k.val)).toInt = ((ι 0).val : Int) ∧ c.val = (ι 1).val := by
  rw [Routing.resultIdx?_eq_some]
  have hs : scatter_S32768x16_S4718592x1_S4718592x16_1_0_0_1.start (ix2 k c) idx 0 = (idx (wrd k.val)).toInt := by
    unfold ScatterDims.start
    rw [dif_pos (by decide)]
    exact congrArg (fun j => (idx j).toInt) (wrd_eq k _ rfl)
  have hw : scatter_S32768x16_S4718592x1_S4718592x16_1_0_0_1.window (ix2 k c) 0 = 0 := by
    unfold ScatterDims.window
    rw [dif_neg (by decide)]
  have hs1 : scatter_S32768x16_S4718592x1_S4718592x16_1_0_0_1.start (ix2 k c) idx 1 = 0 := by
    unfold ScatterDims.start
    rw [dif_neg (by decide)]
  have hw1 : scatter_S32768x16_S4718592x1_S4718592x16_1_0_0_1.window (ix2 k c) 1 = c.val := by
    unfold ScatterDims.window
    rw [dif_pos (by decide)]
    rfl
  constructor
  · intro h
    have a0 := h 0
    have a1 := h 1
    rw [hs, hw] at a0
    rw [hs1, hw1] at a1
    exact ⟨by simpa using a0, by omega⟩
  · rintro ⟨h, h'⟩ a
    match a with
    | ⟨0, _⟩ =>
      show scatter_S32768x16_S4718592x1_S4718592x16_1_0_0_1.start (ix2 k c) idx 0 + (scatter_S32768x16_S4718592x1_S4718592x16_1_0_0_1.window (ix2 k c) 0 : Int) = _
      rw [hs, hw, h]
      exact Int.add_zero _
    | ⟨1, _⟩ =>
      show scatter_S32768x16_S4718592x1_S4718592x16_1_0_0_1.start (ix2 k c) idx 1 + (scatter_S32768x16_S4718592x1_S4718592x16_1_0_0_1.window (ix2 k c) 1 : Int) = ((ι 1).val : Int)
      rw [hs1, hw1, h', Int.zero_add]

/-- The count scatter at an element. -/
theorem scat1_apply (x : S32768.Idx → EReal) (idx : IVec S4718592x1 32) (upd : S4718592.Idx → EReal) (i : S32768.Idx)
    (u : Nat → EReal) (hu : ∀ k : Fin 4718592, upd (ix1 k) = u k.val) :
    Host.scatterAdd (F := Ideal) (φ := .f32) scatter_S32768_S4718592x1_S4718592_n_0_0_1 x idx upd i
      = x i + ∑ k ∈ range 4718592, if (idx (wrd k)).toInt = ((i 0).val : Int) then u k else 0 := by
  show x i + ∑ j ∈ Finset.univ.filter (fun j => scatter_S32768_S4718592x1_S4718592_n_0_0_1.resultIdx? j idx = some i), upd j = _
  rw [Finset.sum_filter, sum_idx1, ← Fin.sum_univ_eq_sum_range (fun k => if (idx (wrd k)).toInt = ((i 0).val : Int) then u k else 0) 4718592]
  refine congrArg (x i + ·) (sum_congr rfl fun k _ => ?_)
  rw [hu k]
  exact if_congr (lands1 k idx i) rfl rfl

/-- The sum scatter at an element. -/
theorem scat2_apply (x : S32768x16.Idx → EReal) (idx : IVec S4718592x1 32) (upd : S4718592x16.Idx → EReal) (i : S32768x16.Idx)
    (u : Nat → EReal) (hu : ∀ (k : Fin 4718592) (c : Fin 16), c.val = (i 1).val → upd (ix2 k c) = u k.val) :
    Host.scatterAdd (F := Ideal) (φ := .f32) scatter_S32768x16_S4718592x1_S4718592x16_1_0_0_1 x idx upd i
      = x i + ∑ k ∈ range 4718592, if (idx (wrd k)).toInt = ((i 0).val : Int) then u k else 0 := by
  show x i + ∑ j ∈ Finset.univ.filter (fun j => scatter_S32768x16_S4718592x1_S4718592x16_1_0_0_1.resultIdx? j idx = some i), upd j = _
  rw [Finset.sum_filter, sum_idx2, ← Fin.sum_univ_eq_sum_range (fun k => if (idx (wrd k)).toInt = ((i 0).val : Int) then u k else 0) 4718592]
  refine congrArg (x i + ·) (sum_congr rfl fun k _ => ?_)
  have hi : (i 1).val < 16 := (i 1).isLt
  rw [Finset.sum_eq_single (⟨(i 1).val, hi⟩ : Fin 16) (fun c _ hc => if_neg fun h => hc (Fin.ext ((lands2 k c idx i).1 h).2)) (fun h => absurd (Finset.mem_univ _) h), hu k ⟨(i 1).val, hi⟩ rfl]
  exact if_congr ((lands2 k _ idx i).trans ⟨fun h => h.1, fun h => ⟨h, rfl⟩⟩) rfl rfl

end Cert.Proof.RefV
-- ==== Proof.AddI.lean ====
/-
  What one lane step adds, over the reals: `vector_store_idx {add}` at an element is the old element plus the sum of the
  lanes that name it; sixteen rows' step on the table and on the counts, read at an element.
-/
module

public import proofs.«01_k».proof.Proof.LoopsI
public import Idealize.ShloMosaic.PureOps.Ideal
public import Mathlib.Algebra.BigOperators.Fin
public import Mathlib.Tactic.IntervalCases

@[expose] public section

noncomputable section

namespace Cert.Proof.SumsI

open Cert.KernelIdeal Cert.KernelIdeal.Gen
open Idealize.ShloMosaic
open scoped BigOperators

/-- A left fold whose step adds a term at the places a lane names is the old value plus those terms. -/
theorem foldl_add {ι J : Type} (l : List ι) (p : ι → J → Prop) [∀ k j, Decidable (p k j)] (v : ι → EReal)
    (step : (J → EReal) → ι → J → EReal) (hs : ∀ g k j, step g k j = g j + if p k j then v k else 0) (f : J → EReal) (j : J) :
    l.foldl step f j = f j + (l.map fun k => if p k j then v k else 0).sum := by
  induction l generalizing f with
  | nil => simp
  | cons k l ih => rw [List.foldl_cons, ih, hs, List.map_cons, List.sum_cons, add_assoc]

/-- Lane `k`. -/
def ln (k : Fin 16) : S16.Idx := Shape.ofLane (d := ![16]) k

/-- The adding store at an element. -/
theorem storeIdx_add (f : S8192.Idx → EReal) (c : IVec S16 32) (v : S16.Idx → EReal)
    (h : ∀ a x, ((![c] : Fin 1 → IVec S16 32) a x).toNat < S8192.size a) (j : S8192.Idx) :
    storeIdx (F := Ideal) (s := S8192) (e := .f32) f (![c] : Fin 1 → IVec S16 32) v (fun _ => 1#1) true h j
      = f j + ∑ k : Fin 16, if (c (ln k)).toNat = (j 0).val then v (ln k) else 0 := by
  unfold storeIdx
  refine (foldl_add (List.finRange 16) (fun k (j : S8192.Idx) => (c (ln k)).toNat = (j 0).val) (fun k => v (ln k)) _ ?_ f j).trans ?_
  · intro g k j
    refine (congrFun (if_pos rfl) j).trans ?_
    by_cases e : (c (ln k)).toNat = (j 0).val
    · have hj : idxAt (s := S8192) (![c] : Fin 1 → IVec S16 32) h (ln k) = j := by
        funext a; fin_cases a; exact Fin.ext e
      refine (if_pos (fun a => (congrArg (fun i : S8192.Idx => (i a).val) hj).symm)).trans ?_
      rw [if_pos e]
      show g (idxAt (s := S8192) (![c] : Fin 1 → IVec S16 32) h (ln k)) + v (ln k) = _
      rw [hj]
    · refine (if_neg (fun q => e (q 0).symm)).trans ?_
      rw [if_neg e, add_zero]
  · rw [Fin.sum_univ_def]

theorem emb_tabS (o : Nat) (h : ∀ a, (![o] : Fin 1 → Nat) a + S8192.size a ≤ S65536.size a) (x : S8192.Idx) :
    (((tabS o h).access (.whole S8192)).emb x 0).val = o + (x 0).val := by
  show o + 1 * (0 + 1 * (x 0).val) = _
  omega

/-- One byte's store into its block of the table, at an element of the table. -/
theorem scat_apply (o : Nat) (h : ∀ a, (![o] : Fin 1 → Nat) a + S8192.size a ≤ S65536.size a) (c : IVec S16 32) (hc : ∀ x, (c x).toNat < 8192)
    (v : S16.Idx → EReal) (f : S65536.Idx → EReal) (p : S65536.Idx) :
    scat (F := Ideal) o h c hc v f p = f p + ∑ k : Fin 16, if o + (c (ln k)).toNat = (p 0).val then v (ln k) else 0 := by
  unfold scat
  by_cases hp : o ≤ (p 0).val ∧ (p 0).val < o + 8192
  · let x : S8192.Idx := fun a => ⟨(p 0).val - o, by fin_cases a; show (p 0).val - o < 8192; omega⟩
    have hx : ((tabS o h).access (.whole S8192)).emb x = p := by
      funext a; fin_cases a; apply Fin.ext; refine (emb_tabS o h x).trans ?_
      show o + ((p 0).val - o) = (p 0).val; omega
    rw [← hx]
    refine (View.write_emb_of_mem _ _ (Finset.mem_univ x)).trans ?_
    rw [hx]
    refine (storeIdx_add _ _ _ _ x).trans ?_
    congr 1
    · show f (((tabS o h).access (.whole S8192)).emb x) = f p
      rw [hx]
    · refine Finset.sum_congr rfl fun k _ => ?_
      have : ((c (ln k)).toNat = (x 0).val) ↔ (o + (c (ln k)).toNat = (p 0).val) := by
        show _ = (p 0).val - o ↔ _; omega
      simp only [this]
  · refine (View.write_of_not_mem _ _ _ ?_).trans ?_
    · intro hm
      obtain ⟨x, -, hx⟩ := Finset.mem_map.1 hm
      have e := emb_tabS o h x
      rw [hx] at e
      have := (x 0).isLt; change (x 0).val < 8192 at this
      omega
    · rw [Finset.sum_eq_zero, add_zero]
      intro k _
      rw [if_neg]
      have := hc (ln k); omega

/-- The counts' store, at an element. -/
theorem scatC_apply (c : IVec S16 32) (hc : ∀ x, (c x).toNat < 8192) (v : S16.Idx → EReal) (f : S8192.Idx → EReal) (p : S8192.Idx) :
    scatC (F := Ideal) c hc v f p = f p + ∑ k : Fin 16, if (c (ln k)).toNat = (p 0).val then v (ln k) else 0 := by
  unfold scatC
  refine (congrFun (Memref.write_access_whole_univ (Elt Ideal) cc0_scratch1 _ _) p).trans ?_
  have key : ∀ (q : S8192.Idx → EReal) (h : ∀ a x, ((![c] : Fin 1 → IVec S16 32) a x).toNat < S8192.size a), q = f →
      storeIdx (F := Ideal) (s := S8192) (e := .f32) q (![c] : Fin 1 → IVec S16 32) v (fun _ => 1#1) true h p
        = f p + ∑ k : Fin 16, if (c (ln k)).toNat = (p 0).val then v (ln k) else 0 := by
    intro q h e; rw [e]; exact storeIdx_add f c v h p
  exact key _ _ (Memref.read_access_whole (Elt Ideal) cc0_scratch1 f)

/-- Byte `q` of a word, read as a float. -/
def dec (z : BitVec 32) (q : Nat) : EReal := Ideal.ofBits .fp8e4m3 (z.extractLsb' (8 * q) 8)

theorem trunc_shift (z : BitVec 32) (q : Nat) (hq : q < 4) : BitVec.setWidth 8 (z.sshiftRight (8 * q)) = z.extractLsb' (8 * q) 8 := by
  apply BitVec.eq_of_getLsbD_eq
  intro i hi
  rw [BitVec.getLsbD_setWidth, BitVec.getLsbD_sshiftRight, BitVec.getLsbD_extractLsb']
  have h1 : ¬ (32 ≤ i) := by omega
  have h2 : 8 * q + i < 32 := by omega
  simp [h1, h2, hi]

theorem pay2_at (s : S16.Idx → EReal) (z : S16.Idx → BitVec 32) (x : S16.Idx) : k0_pay2 (F := Ideal) s z x = dec (z x) 0 * s x := by
  unfold dec; rw [← trunc_shift (z x) 0 (by decide)]; rfl
theorem pay3_at (s : S16.Idx → EReal) (z : S16.Idx → BitVec 32) (x : S16.Idx) : k0_pay3 (F := Ideal) s z x = dec (z x) 1 * s x := by
  unfold dec; rw [← trunc_shift (z x) 1 (by decide)]; rfl
theorem pay4_at (s : S16.Idx → EReal) (z : S16.Idx → BitVec 32) (x : S16.Idx) : k0_pay4 (F := Ideal) s z x = dec (z x) 2 * s x := by
  unfold dec; rw [← trunc_shift (z x) 2 (by decide)]; rfl
theorem pay5_at (s : S16.Idx → EReal) (z : S16.Idx → BitVec 32) (x : S16.Idx) : k0_pay5 (F := Ideal) s z x = dec (z x) 3 * s x := by
  unfold dec; rw [← trunc_shift (z x) 3 (by decide)]; rfl
theorem pay11_at (s : S16.Idx → EReal) (z : S16.Idx → BitVec 32) (x : S16.Idx) : k0_pay11 (F := Ideal) (k0_pay1 (F := Ideal) s) z x = dec (z x) 0 * s x := by
  unfold dec; rw [← trunc_shift (z x) 0 (by decide)]; rfl
theorem pay12_at (s : S16.Idx → EReal) (z : S16.Idx → BitVec 32) (x : S16.Idx) : k0_pay12 (F := Ideal) (k0_pay1 (F := Ideal) s) z x = dec (z x) 1 * s x := by
  unfold dec; rw [← trunc_shift (z x) 1 (by decide)]; rfl
theorem pay13_at (s : S16.Idx → EReal) (z : S16.Idx → BitVec 32) (x : S16.Idx) : k0_pay13 (F := Ideal) (k0_pay1 (F := Ideal) s) z x = dec (z x) 2 * s x := by
  unfold dec; rw [← trunc_shift (z x) 2 (by decide)]; rfl
theorem pay14_at (s : S16.Idx → EReal) (z : S16.Idx → BitVec 32) (x : S16.Idx) : k0_pay14 (F := Ideal) (k0_pay1 (F := Ideal) s) z x = dec (z x) 3 * s x := by
  unfold dec; rw [← trunc_shift (z x) 3 (by decide)]; rfl

/-- A block's sum is the whole of what its codes name in that block, and nothing elsewhere. -/
theorem block_sum (ch n : Nat) (c : Fin 16 → Nat) (hc : ∀ k, c k < 8192) (v : Fin 16 → EReal) :
    (∑ k : Fin 16, if 8192 * ch + c k = n then v k else 0) = if n / 8192 = ch then ∑ k : Fin 16, if c k = n % 8192 then v k else 0 else 0 := by
  by_cases e : n / 8192 = ch
  · rw [if_pos e]
    refine Finset.sum_congr rfl fun k _ => ?_
    have : (8192 * ch + c k = n) ↔ c k = n % 8192 := by omega
    simp only [this]
  · rw [if_neg e]
    refine Finset.sum_eq_zero fun k _ => ?_
    rw [if_neg]; have := hc k; omega

/-- One lane step's table at an element: block `n / 8192` gets byte `n / 8192 % 4` of the rows whose code is `n % 8192`. -/
theorem tab16_apply (c : IVec S16 32) (hc : ∀ x, (c x).toNat < 8192) (s : S16.Idx → EReal) (za zb : S16.Idx → BitVec 32)
    (f : S65536.Idx → EReal) (p : S65536.Idx) :
    tab16 (F := Ideal) c hc s za zb f p = f p + ∑ k : Fin 16, if (c (ln k)).toNat = (p 0).val % 8192 then
      dec (if (p 0).val / 8192 < 4 then za (ln k) else zb (ln k)) ((p 0).val / 8192 % 4) * s (ln k) else 0 := by
  have hp : (p 0).val < 65536 := (p 0).isLt
  have hcc : ∀ k : Fin 16, (c (ln k)).toNat < 8192 := fun k => hc _
  unfold tab16
  simp only [scat_apply, pay2_at, pay3_at, pay4_at, pay5_at, pay11_at, pay12_at, pay13_at, pay14_at]
  rw [show (57344 : Nat) = 8192 * 7 from rfl, show (49152 : Nat) = 8192 * 6 from rfl, show (40960 : Nat) = 8192 * 5 from rfl,
    show (32768 : Nat) = 8192 * 4 from rfl, show (24576 : Nat) = 8192 * 3 from rfl, show (16384 : Nat) = 8192 * 2 from rfl]
  have b0 := block_sum 0 (p 0).val (fun k => (c (ln k)).toNat) hcc (fun k => dec (za (ln k)) 0 * s (ln k))
  have b1 := block_sum 1 (p 0).val (fun k => (c (ln k)).toNat) hcc (fun k => dec (za (ln k)) 1 * s (ln k))
  have b2 := block_sum 2 (p 0).val (fun k => (c (ln k)).toNat) hcc (fun k => dec (za (ln k)) 2 * s (ln k))
  have b3 := block_sum 3 (p 0).val (fun k => (c (ln k)).toNat) hcc (fun k => dec (za (ln k)) 3 * s (ln k))
  have b4 := block_sum 4 (p 0).val (fun k => (c (ln k)).toNat) hcc (fun k => dec (zb (ln k)) 0 * s (ln k))
  have b5 := block_sum 5 (p 0).val (fun k => (c (ln k)).toNat) hcc (fun k => dec (zb (ln k)) 1 * s (ln k))
  have b6 := block_sum 6 (p 0).val (fun k => (c (ln k)).toNat) hcc (fun k => dec (zb (ln k)) 2 * s (ln k))
  have b7 := block_sum 7 (p 0).val (fun k => (c (ln k)).toNat) hcc (fun k => dec (zb (ln k)) 3 * s (ln k))
  simp only [Nat.mul_zero, Nat.mul_one] at b0 b1
  rw [b0, b1, b2, b3, b4, b5, b6, b7]
  have hq : (p 0).val / 8192 < 8 := by omega
  generalize (p 0).val / 8192 = q at hq ⊢
  interval_cases q <;> simp

end Cert.Proof.SumsI
-- ==== Proof.RangeSums.lean ====
/-
  Finite sums over ranges: rows regrouped into blocks, chunks of two thousand and forty-eight rows in a turned order,
  parts of a batch.
-/
module

public import Mathlib.Data.EReal.Operations
public import Mathlib.Algebra.BigOperators.Fin
public import Mathlib.Algebra.BigOperators.Group.Finset.Basic

@[expose] public section

namespace Cert.Proof

open scoped BigOperators
open Finset

/-- A range of `m * n` in `m` blocks of `n`. -/
theorem sum_blocks (m n : Nat) (f : Nat → EReal) : ∑ k ∈ range (m * n), f k = ∑ i ∈ range m, ∑ j ∈ range n, f (i * n + j) := by
  induction m with
  | zero => simp
  | succ m ih => rw [Nat.succ_mul, sum_range_add, ih, sum_range_succ]

/-- A range of `2 n` in pairs. -/
theorem sum_pairs (n : Nat) (f : Nat → EReal) : ∑ k ∈ range (2 * n), f k = ∑ t ∈ range n, (f (2 * t) + f (2 * t + 1)) := by
  induction n with
  | zero => simp
  | succ n ih =>
    rw [show 2 * (n + 1) = 2 * n + 1 + 1 by omega, sum_range_succ, sum_range_succ, ih, sum_range_succ, add_assoc]

theorem xor_one : ∀ t < 72, (2 * t) ^^^ 1 = 2 * t + 1 ∧ (2 * t + 1) ^^^ 1 = 2 * t := by decide

/-- The two halves' even chunks, turned, are all the chunks. -/
theorem sum_halves (f : Nat → EReal) :
    (∑ t ∈ range 72, f ((2 * t) ^^^ 0)) + (∑ t ∈ range 72, f ((2 * t) ^^^ 1)) = ∑ k ∈ range 144, f k := by
  rw [show (144 : Nat) = 2 * 72 from rfl, sum_pairs, ← sum_add_distrib]
  refine sum_congr rfl fun t ht => ?_
  rw [(xor_one t (mem_range.1 ht)).1, Nat.xor_zero]

/-- A turned order of the chunks is all the chunks. -/
theorem sum_turned (c : Nat) (hc : c < 2) (f : Nat → EReal) : ∑ k ∈ range 144, f (k ^^^ c) = ∑ k ∈ range 144, f k := by
  rcases (show c = 0 ∨ c = 1 by omega) with rfl | rfl
  · simp only [Nat.xor_zero]
  · rw [show (144 : Nat) = 2 * 72 from rfl, sum_pairs, sum_pairs]
    refine sum_congr rfl fun t ht => ?_
    rw [(xor_one t (mem_range.1 ht)).1, (xor_one t (mem_range.1 ht)).2, add_comm]

/-- The chunks of one part of every batch, row by row. -/
theorem sum_chunks (F : Nat → Nat → EReal) (base : Nat) :
    ∑ k ∈ range 144, ∑ r ∈ range 2048, F (k / 8) (base + k % 8 * 2048 + r) = ∑ b ∈ range 18, ∑ q ∈ range 16384, F b (base + q) := by
  rw [show (144 : Nat) = 18 * 8 from rfl, sum_blocks]
  refine sum_congr rfl fun b _ => ?_
  rw [show (16384 : Nat) = 8 * 2048 from rfl, sum_blocks]
  refine sum_congr rfl fun i hi => sum_congr rfl fun r _ => ?_
  have := mem_range.1 hi
  rw [show (b * 8 + i) / 8 = b by omega, show (b * 8 + i) % 8 = i by omega, Nat.add_assoc]

/-- The four parts of every batch are all its rows. -/
theorem sum_parts (F : Nat → Nat → EReal) :
    ∑ p ∈ range 4, ∑ b ∈ range 18, ∑ q ∈ range 16384, F b (p * 16384 + q) = ∑ b ∈ range 18, ∑ r ∈ range 65536, F b r := by
  rw [sum_comm]
  refine sum_congr rfl fun b _ => ?_
  rw [show (65536 : Nat) = 4 * 16384 from rfl, sum_blocks]

end Cert.Proof
-- ==== Proof.SumI.lean ====
/-
  What the SparseCore call's sums and counts are over the reals: summed over the four parts of a batch, each element is
  the sum over all rows whose code names it of the row's decoded byte times its scale, and of one.
-/
module

public import proofs.«01_k».proof.Proof.AddI
public import proofs.«01_k».proof.Proof.OutI
public import proofs.«01_k».proof.Proof.RangeSums
public import Idealize.ShloMosaic.PureOps.Ideal.Laws

@[expose] public section

noncomputable section

namespace Cert.Proof.SumsI

open Cert.KernelIdeal Cert.KernelIdeal.Gen
open Idealize.ShloMosaic
open scoped BigOperators
open Finset

/-- Positions `2048`-blocked: the element `r` of a buffer. -/
def ix (n r : Nat) (h : r < n) : (⟨1, ![n]⟩ : Shape).Idx := fun a => ⟨r, by rw [Fin.eq_zero a]; exact h⟩

theorem at16_ln {n : Nat} {α : Type} (f : (⟨1, ![n]⟩ : Shape).Idx → α) (o : Nat) (h : o + 16 ≤ n) (k : Fin 16) :
    at16 f o h (ln k) = f (ix n (o + k.val) (by have := k.isLt; omega)) := rfl

/-- A chunk's first `n` steps at an element of the table. -/
theorem chunkT_apply (zb : S4096.Idx → BitVec 32) (sb : S2048.Idx → EReal) (cb : S2048.Idx → BitVec 32) (hC : ∀ j, (cb j).toNat < 8192)
    (f : S65536.Idx → EReal) (p : S65536.Idx) (G : Nat → EReal)
    (hG : ∀ r (hr : r < 2048), G r = if (cb (ix 2048 r hr)).toNat = (p 0).val % 8192 then
      dec (if (p 0).val / 8192 < 4 then zb (ix 4096 r (by omega)) else zb (ix 4096 (2048 + r) (by omega))) ((p 0).val / 8192 % 4) * sb (ix 2048 r hr) else 0) :
    ∀ n, n ≤ 128 → chunkT (F := Ideal) zb sb cb n f p = f p + ∑ r ∈ range (16 * n), G r := by
  intro n
  induction n with
  | zero => intro _; simp [chunkT]
  | succ n ih =>
    intro hn
    have hcx : ∀ x, (at16 cb (16 * n) (by omega) x).toNat < 8192 := fun x => hC _
    rw [show chunkT (F := Ideal) zb sb cb (n + 1) f = stepT zb sb cb n (chunkT zb sb cb n f) from rfl,
      stepT_eq (F := Ideal) zb sb cb n (by omega) hcx, tab16_apply, ih (by omega), show 16 * (n + 1) = 16 * n + 16 by omega, sum_range_add,
      add_assoc, ← Fin.sum_univ_eq_sum_range (fun i => G (16 * n + i)) 16]
    congr 2
    refine sum_congr rfl fun k _ => ?_
    have hk := k.isLt
    rw [hG (16 * n + k.val) (by omega)]
    simp only [at16_ln]
    have e : (ix 4096 (2048 + 16 * n + k.val) (by omega)) = ix 4096 (2048 + (16 * n + k.val)) (by omega) := by
      funext _; apply Fin.ext; show 2048 + 16 * n + k.val = 2048 + (16 * n + k.val); omega
    rw [e]
    rfl

/-- A chunk's first `n` steps at an element of the counts. -/
theorem chunkC_apply (cb : S2048.Idx → BitVec 32) (hC : ∀ j, (cb j).toNat < 8192)
    (f : S8192.Idx → EReal) (p : S8192.Idx) (G : Nat → EReal)
    (hG : ∀ r (hr : r < 2048), G r = if (cb (ix 2048 r hr)).toNat = (p 0).val then Ideal.ofBits .f32 0x3F800000#32 else 0) :
    ∀ n, n ≤ 128 → chunkC (F := Ideal) cb n f p = f p + ∑ r ∈ range (16 * n), G r := by
  intro n
  induction n with
  | zero => intro _; simp [chunkC]
  | succ n ih =>
    intro hn
    have hcx : ∀ x, (at16 cb (16 * n) (by omega) x).toNat < 8192 := fun x => hC _
    rw [show chunkC (F := Ideal) cb (n + 1) f = stepC cb n (chunkC cb n f) from rfl,
      stepC_eq (F := Ideal) cb n (by omega) hcx, scatC_apply, ih (by omega), show 16 * (n + 1) = 16 * n + 16 by omega, sum_range_add,
      add_assoc, ← Fin.sum_univ_eq_sum_range (fun i => G (16 * n + i)) 16]
    congr 2
    refine sum_congr rfl fun k _ => ?_
    have hk := k.isLt
    rw [hG (16 * n + k.val) (by omega)]
    rfl

variable (zg : S18x16x65536.Idx → BitVec 32) (sg : S18x4x65536.Idx → EReal) (cg : S18x4x65536.Idx → BitVec 32)

/-- What row `r` of batch `b` gives element `n` of channel `ch` of codebook `g`. -/
def rowT (g ch n b r : Nat) : EReal :=
  if (cg (sat ![b, g, r] 0)).toNat = n then dec (zg (zat ![b, g * 4 + ch / 4, r] 0)) (ch % 4) * sg (sat ![b, g, r] 0) else 0
/-- What row `r` of batch `b` gives element `n` of the counts of codebook `g`. -/
def rowC (g n b r : Nat) : EReal := if (cg (sat ![b, g, r] 0)).toNat = n then Ideal.ofBits .f32 0x3F800000#32 else 0

theorem sat_add (b g r x : Nat) : sat ![b, g, r] x = sat ![b, g, r + x] 0 := by
  funext a; apply Fin.ext; fin_cases a <;> rfl
theorem zat_add (b w r x : Nat) : zat ![b, w, r] x = zat ![b, w, r + x] 0 := by
  funext a; apply Fin.ext; fin_cases a <;> rfl

variable (L : grid0.Coords)

theorem zc_ix (k r : Nat) (h : r < 4096) : zc (F := Ideal) L zg k (ix 4096 r h) = zg (zat (zoff L k (r / 2048)) (r % 2048)) := rfl
theorem scl_ix (k r : Nat) (h : r < 2048) : scl (F := Ideal) L sg k (ix 2048 r h) = sg (sat (soff L k) r) := rfl
theorem cod_ix (k r : Nat) (h : r < 2048) : cod (F := Ideal) L cg k (ix 2048 r h) = cg (sat (soff L k) r) := rfl

/-- A task's table after `t` trips, at an element. -/
theorem tabAt_apply (hC : ∀ j, (cg j).toNat < 8192) (p : S65536.Idx) :
    ∀ t, tabAt (F := Ideal) L zg sg cg t p = ∑ k ∈ range (2 * t), ∑ r ∈ range 2048,
      rowT zg sg cg ((L 1).val % 4) ((L 0).val * 8 + (p 0).val / 8192) ((p 0).val % 8192) ((k ^^^ (L 0).val) / 8)
        ((L 1).val / 4 * 16384 + (k ^^^ (L 0).val) % 8 * 2048 + r) := by
  have hp : (p 0).val < 65536 := (p 0).isLt
  have chunk : ∀ (k : Nat) (f : S65536.Idx → EReal), chunkT (F := Ideal) (zc (F := Ideal) L zg k) (scl (F := Ideal) L sg k) (cod (F := Ideal) L cg k) 128 f p
      = f p + ∑ r ∈ range 2048, rowT zg sg cg ((L 1).val % 4) ((L 0).val * 8 + (p 0).val / 8192) ((p 0).val % 8192) ((k ^^^ (L 0).val) / 8)
        ((L 1).val / 4 * 16384 + (k ^^^ (L 0).val) % 8 * 2048 + r) := by
    intro k f
    refine chunkT_apply (zc (F := Ideal) L zg k) (scl (F := Ideal) L sg k) (cod (F := Ideal) L cg k) (fun j => hC _) f p _ ?_ 128 le_rfl
    intro r hr
    unfold rowT
    have e1 : sat (soff L k) r = sat ![(k ^^^ (L 0).val) / 8, (L 1).val % 4, (L 1).val / 4 * 16384 + (k ^^^ (L 0).val) % 8 * 2048 + r] 0 := sat_add _ _ _ _
    have e2 : ∀ w, zat (zoff L k w) r = zat ![(k ^^^ (L 0).val) / 8, (L 1).val % 4 * 4 + (L 0).val * 2 + w, (L 1).val / 4 * 16384 + (k ^^^ (L 0).val) % 8 * 2048 + r] 0 := fun w => zat_add _ _ _ _
    rw [← e1]
    rw [cod_ix, scl_ix, zc_ix, zc_ix, show r / 2048 = 0 by omega, show r % 2048 = r by omega, show (2048 + r) / 2048 = 1 by omega, show (2048 + r) % 2048 = r by omega, e2, e2]
    have h3 : ((L 0).val * 8 + (p 0).val / 8192) % 4 = (p 0).val / 8192 % 4 := by omega
    rw [h3]
    by_cases h4 : (p 0).val / 8192 < 4
    · rw [if_pos h4, show (L 1).val % 4 * 4 + (L 0).val * 2 + 0 = (L 1).val % 4 * 4 + ((L 0).val * 8 + (p 0).val / 8192) / 4 by omega]
    · rw [if_neg h4, show (L 1).val % 4 * 4 + (L 0).val * 2 + 1 = (L 1).val % 4 * 4 + ((L 0).val * 8 + (p 0).val / 8192) / 4 by omega]
  intro t
  induction t with
  | zero => exact Ideal.ofBits_zero_f32
  | succ t ih =>
    rw [show tabAt (F := Ideal) L zg sg cg (t + 1) = chunkT (zc L zg (2 * t + 1)) (scl L sg (2 * t + 1)) (cod L cg (2 * t + 1)) 128
      (chunkT (zc L zg (2 * t)) (scl L sg (2 * t)) (cod L cg (2 * t)) 128 (tabAt L zg sg cg t)) from rfl, chunk, chunk, ih,
      show 2 * (t + 1) = 2 * t + 1 + 1 by omega, sum_range_succ _ (2 * t + 1), sum_range_succ _ (2 * t)]

/-- A task's counts after `t` trips, at an element. -/
theorem cntAt_apply (hC : ∀ j, (cg j).toNat < 8192) (p : S8192.Idx) :
    ∀ t, cntAt (F := Ideal) L cg t p = ∑ k ∈ range t, ∑ r ∈ range 2048,
      rowC cg ((L 1).val % 4) (p 0).val (((2 * k) ^^^ (L 0).val) / 8) ((L 1).val / 4 * 16384 + ((2 * k) ^^^ (L 0).val) % 8 * 2048 + r) := by
  intro t
  induction t with
  | zero => exact Ideal.ofBits_zero_f32
  | succ t ih =>
    rw [show cntAt (F := Ideal) L cg (t + 1) = chunkC (cod L cg (2 * t)) 128 (cntAt L cg t) from rfl]
    rw [chunkC_apply (cod (F := Ideal) L cg (2 * t)) (fun j => hC _) _ p (rowC cg ((L 1).val % 4) (p 0).val (((2 * t) ^^^ (L 0).val) / 8)
      <| (L 1).val / 4 * 16384 + ((2 * t) ^^^ (L 0).val) % 8 * 2048 + ·) ?_ 128 le_rfl, ih, sum_range_succ _ t]
    intro r hr
    unfold rowC
    rw [← sat_add, cod_ix]; rfl

theorem low_mod (c n : Nat) (hn : n < 8192) : (c * 8192 + n) % 8192 = n := by omega
theorem ch_split (c n : Nat) (hn : n < 8192) : c / 8 * 8 + (c % 8 * 8192 + n) / 8192 = c := by omega

/-- The sums of one element over the four parts. -/
theorem psum_total (hC : ∀ j, (cg j).toNat < 8192) (g ch n : Nat) (hg : g < 4) (hch : ch < 16) (hn : n < 8192)
    (j : Nat → S4x64x8192.Idx) (h0 : ∀ q < 4, (j q 0).val = q) (h1 : ∀ q < 4, (j q 1).val = g * 16 + ch) (h2 : ∀ q < 4, (j q 2).val = n) :
    ∑ q ∈ range 4, psumRes (F := Ideal) zg sg cg (j q) = ∑ b ∈ range 18, ∑ r ∈ range 65536, rowT zg sg cg g ch n b r := by
  rw [← sum_parts]
  refine sum_congr rfl fun q hq => ?_
  have hq := mem_range.1 hq
  unfold psumRes
  rw [tabAt_apply _ _ _ _ hC]
  have e0 : (taskP (j q) 0).val = ch / 8 := by show (j q 1).val / 8 % 2 = _; rw [h1 q hq]; omega
  have e1 : (taskP (j q) 1).val = q * 4 + g := by show ((j q 0).val * 4 + (j q 1).val / 16) % 16 = _; rw [h0 q hq, h1 q hq]; omega
  have ep : ((j q 1).val % 8 * 8192 + (j q 2).val) % 65536 = ch % 8 * 8192 + n := by rw [h1 q hq, h2 q hq]; omega
  simp only [ep, e0, e1]
  rw [show (q * 4 + g) % 4 = g by omega, show (q * 4 + g) / 4 = q by omega, ch_split ch n hn, low_mod _ n hn]
  rw [← sum_chunks]
  exact sum_turned (ch / 8) (by omega) (fun k => ∑ r ∈ range 2048, rowT zg sg cg g ch n (k / 8) (q * 16384 + k % 8 * 2048 + r))

/-- The counts of one element over the eight rows (a part and a half each). -/
theorem pcnt_total (hC : ∀ j, (cg j).toNat < 8192) (g n : Nat) (hg : g < 4) (hn : n < 8192)
    (j : Nat → S4x8x8192.Idx) (h0 : ∀ q < 8, (j q 0).val = g) (h1 : ∀ q < 8, (j q 1).val = q) (h2 : ∀ q < 8, (j q 2).val = n) :
    ∑ q ∈ range 8, pcntRes (F := Ideal) cg (j q) = ∑ b ∈ range 18, ∑ r ∈ range 65536, rowC cg g n b r := by
  rw [← sum_parts, show (8 : Nat) = 2 * 4 from rfl, sum_pairs]
  refine sum_congr rfl fun q hq => ?_
  have hq := mem_range.1 hq
  have one : ∀ q' < 8, pcntRes (F := Ideal) cg (j q') = ∑ k ∈ range 72, ∑ r ∈ range 2048,
      rowC cg g n (((2 * k) ^^^ (q' % 2)) / 8) (q' / 2 * 16384 + ((2 * k) ^^^ (q' % 2)) % 8 * 2048 + r) := by
    intro q' hq'
    unfold pcntRes
    rw [cntAt_apply _ _ hC]
    have e0 : (taskN (j q') 0).val = q' % 2 := by show (j q' 1).val % 2 = _; rw [h1 q' hq']
    have e1 : (taskN (j q') 1).val = q' / 2 * 4 + g := by show ((j q' 1).val / 2 * 4 + (j q' 0).val) % 16 = _; rw [h0 q' hq', h1 q' hq']; omega
    have ep : (j q' 2).val % 8192 = n := by rw [h2 q' hq']; omega
    simp only [ep, e0, e1]
    rw [show (q' / 2 * 4 + g) % 4 = g by omega, show (q' / 2 * 4 + g) / 4 = q' / 2 by omega]
  rw [one _ (by omega), one _ (by omega), show 2 * q % 2 = 0 by omega, show 2 * q / 2 = q by omega, show (2 * q + 1) % 2 = 1 by omega,
    show (2 * q + 1) / 2 = q by omega, ← sum_chunks]
  exact sum_halves (fun k => ∑ r ∈ range 2048, rowC cg g n (k / 8) (q * 16384 + k % 8 * 2048 + r))

end Cert.Proof.SumsI
-- ==== Proof.ValI.lean ====
/-
  The two results of the kernel's program over the reals, element by element: the old average, weighted, plus the new
  sum over all rows, weighted.
-/
module

public import proofs.«01_k».proof.Proof.LaunchI
public import proofs.«01_k».proof.Proof.SumI
public import Idealize.ShloMosaic.Lib.Pointwise.Reduce
public import Idealize.ShloMosaic.Lib.Pipeline.Value

@[expose] public section

noncomputable section

namespace Cert.Proof.SumsI

open Cert.KernelIdeal Cert.KernelIdeal.Gen
open Idealize.ShloMosaic Idealize.ShloMosaic.StableHlo Idealize.SL.Sem
open scoped BigOperators
open Finset

/-- The two weights. -/
abbrev w9 : EReal := Ideal.ofBits .f32 0x3F666666#32
abbrev w1 : EReal := Ideal.ofBits .f32 0x3DCCCCCD#32

set_option maxRecDepth 8192 in
set_option maxHeartbeats 2000000 in
theorem after_v8 (W : Valuation τ sig (Elt Ideal)) :
    after (ops2 (F := Ideal)) W (dv main_v8) = addf (F := Ideal) (mulf (F := Ideal) (broadcastInDim S4x8192 ![] bcast_S_S4x8192 (constant (F := Ideal) S_ .f32 0x3F666666#32)) (W (dv main_arg3)))
      (mulf (F := Ideal) (broadcastInDim S4x8192 ![] bcast_S_S4x8192 (constant (F := Ideal) S_ .f32 0x3DCCCCCD#32))
        (Host.reduceAdd (F := Ideal) (W (dv main_v2_1) : S4x8x8192.Idx → Ideal .f32) (constant (F := Ideal) S_ .f32 0x00000000#32) reducesTo_S4x8x8192_S4x8192_d1 h_S_)) := by
  unfold ops2
  after_results_simp <;> rfl

set_option maxRecDepth 8192 in
set_option maxHeartbeats 2000000 in
theorem after_v17 (W : Valuation τ sig (Elt Ideal)) :
    after (ops2 (F := Ideal)) W (dv main_v17) = transpose S4x8192x16 [0, 2, 1] (addf (F := Ideal)
      (mulf (F := Ideal) (broadcastInDim S4x16x8192 ![] bcast_S_S4x16x8192 (constant (F := Ideal) S_ .f32 0x3F666666#32))
        (transpose S4x16x8192 [0, 2, 1] (W (dv main_arg4) : S4x8192x16.Idx → Ideal .f32) transposes_S4x8192x16_S4x16x8192_0_2_1))
      (mulf (F := Ideal) (broadcastInDim S4x16x8192 ![] bcast_S_S4x16x8192 (constant (F := Ideal) S_ .f32 0x3DCCCCCD#32))
        (shapeCast S4x16x8192 (Host.reduceAdd (F := Ideal) (W (dv main_v2_0) : S4x64x8192.Idx → Ideal .f32) (constant (F := Ideal) S_ .f32 0x00000000#32) reducesTo_S4x64x8192_S64x8192_d0 h_S_)
          shapeCasts_S64x8192_S4x16x8192))) transposes_S4x16x8192_S4x8192x16_0_2_1 := by
  unfold ops2
  after_results_simp <;> rfl

variable (m : (ℓ : Loc nD τ sig) → Buf (Elt Ideal) ℓ)

/-- The codes the call reads are in range when the codes given are. -/
theorem cA_lt (hpre : PreOK m) (d : Dev nD) (j : S18x4x65536.Idx) : (cA m d j).toNat < 8192 := hpre d _

theorem red1_apply (v : S4x8x8192.Idx → EReal) (i : S4x8192.Idx) (j : Nat → S4x8x8192.Idx)
    (h0 : ∀ q < 8, (j q 0).val = (i 0).val) (h1 : ∀ q < 8, (j q 1).val = q) (h2 : ∀ q < 8, (j q 2).val = (i 1).val) :
    Host.reduceAdd (F := Ideal) (φ := .f32) v (constant (F := Ideal) S_ .f32 0x00000000#32) reducesTo_S4x8x8192_S4x8192_d1 h_S_ i = ∑ q ∈ range 8, v (j q) := by
  refine (Ideal.hostReduceAdd_r3_a1 reducesTo_S4x8x8192_S4x8192_d1 v _ i).trans ?_
  rw [show (constant (F := Ideal) S_ .f32 0x00000000#32 (Shape.Idx.first h_S_) : EReal) = 0 from Ideal.ofBits_zero_f32, zero_add,
    ← Fin.sum_univ_eq_sum_range (fun q => v (j q)) 8]
  refine sum_congr rfl fun q _ => congrArg v ?_
  funext a; apply Fin.ext
  fin_cases a
  · exact (h0 q.val q.isLt).symm
  · exact (h1 q.val q.isLt).symm
  · exact (h2 q.val q.isLt).symm

theorem red0_apply (v : S4x64x8192.Idx → EReal) (i : S64x8192.Idx) (j : Nat → S4x64x8192.Idx)
    (h0 : ∀ q < 4, (j q 0).val = q) (h1 : ∀ q < 4, (j q 1).val = (i 0).val) (h2 : ∀ q < 4, (j q 2).val = (i 1).val) :
    Host.reduceAdd (F := Ideal) (φ := .f32) v (constant (F := Ideal) S_ .f32 0x00000000#32) reducesTo_S4x64x8192_S64x8192_d0 h_S_ i = ∑ q ∈ range 4, v (j q) := by
  refine (Ideal.hostReduceAdd_r3_a0 reducesTo_S4x64x8192_S64x8192_d0 v _ i).trans ?_
  rw [show (constant (F := Ideal) S_ .f32 0x00000000#32 (Shape.Idx.first h_S_) : EReal) = 0 from Ideal.ofBits_zero_f32, zero_add,
    ← Fin.sum_univ_eq_sum_range (fun q => v (j q)) 4]
  refine sum_congr rfl fun q _ => congrArg v ?_
  funext a; apply Fin.ext
  fin_cases a
  · exact (h0 q.val q.isLt).symm
  · exact (h1 q.val q.isLt).symm
  · exact (h2 q.val q.isLt).symm

/-- The new counts at an element. -/
theorem v8_at (hpre : PreOK m) (d : Dev nD) (i : S4x8192.Idx) :
    (V3 m d (dv main_v8) : S4x8192.Idx → EReal) i = w9 * (m (d, dv main_arg3) : S4x8192.Idx → EReal) i
      + w1 * ∑ b ∈ range 18, ∑ r ∈ range 65536, rowC (cA m d) (i 0).val (i 1).val b r := by
  have hi0 : (i 0).val < 4 := (i 0).isLt
  have hi1 : (i 1).val < 8192 := (i 1).isLt
  have e3 : V2 m d (dv main_arg3) = m (d, dv main_arg3) := by
    rw [V2_other m d _ (by decide) (by decide)]; unfold V1 ops1; after_results; rfl
  let j : Nat → S4x8x8192.Idx := fun q => ix3 (⟨(i 0).val, hi0⟩ : Fin 4) (⟨q % 8, Nat.mod_lt _ (by decide)⟩ : Fin 8) (⟨(i 1).val, hi1⟩ : Fin 8192)
  have h0 : ∀ q < 8, (j q 0).val = (i 0).val := fun _ _ => rfl
  have h1 : ∀ q < 8, (j q 1).val = q := fun q hq => Nat.mod_eq_of_lt hq
  have h2 : ∀ q < 8, (j q 2).val = (i 1).val := fun _ _ => rfl
  unfold V3
  rw [after_v8, e3, V2_n]
  refine congrArg (fun y : EReal => w9 * (m (d, dv main_arg3) : S4x8192.Idx → EReal) i + w1 * y) ?_
  rw [red1_apply _ i j h0 h1 h2]
  exact pcnt_total (cA m d) (cA_lt m hpre d) _ _ hi0 hi1 j h0 h1 h2

/-- The new sums at an element. -/
theorem v17_at (hpre : PreOK m) (d : Dev nD) (i : S4x8192x16.Idx) :
    (V3 m d (dv main_v17) : S4x8192x16.Idx → EReal) i = w9 * (m (d, dv main_arg4) : S4x8192x16.Idx → EReal) i
      + w1 * ∑ b ∈ range 18, ∑ r ∈ range 65536, rowT (zA m d) (sA m d) (cA m d) (i 0).val (i 2).val (i 1).val b r := by
  have hi0 : (i 0).val < 4 := (i 0).isLt
  have hi1 : (i 1).val < 8192 := (i 1).isLt
  have hi2 : (i 2).val < 16 := (i 2).isLt
  have e4 : V2 m d (dv main_arg4) = m (d, dv main_arg4) := by
    rw [V2_other m d _ (by decide) (by decide)]; unfold V1 ops1; after_results; rfl
  let j : Nat → S4x64x8192.Idx := fun q => ix3 (⟨q % 4, Nat.mod_lt _ (by decide)⟩ : Fin 4) (⟨(i 0).val * 16 + (i 2).val, by omega⟩ : Fin 64) (⟨(i 1).val, hi1⟩ : Fin 8192)
  have h0 : ∀ q < 4, (j q 0).val = q := fun q hq => Nat.mod_eq_of_lt hq
  have h1 : ∀ q < 4, (j q 1).val = (i 0).val * 16 + (i 2).val := fun q hq => rfl
  have h2 : ∀ q < 4, (j q 2).val = (i 1).val := fun _ _ => rfl
  let t : S4x16x8192.Idx := ix3 (⟨(i 0).val, hi0⟩ : Fin 4) (⟨(i 2).val, hi2⟩ : Fin 16) (⟨(i 1).val, hi1⟩ : Fin 8192)
  let c : S64x8192.Idx := ix2 (⟨(i 0).val * 16 + (i 2).val, by omega⟩ : Fin 64) (⟨(i 1).val, hi1⟩ : Fin 8192)
  unfold V3
  rw [after_v17, e4, V2_p]
  refine (transpose_apply [0, 2, 1] _ transposes_S4x16x8192_S4x8192x16_0_2_1 i t (fun b => match b with
    | ⟨0, _⟩ => rfl
    | ⟨1, _⟩ => rfl
    | ⟨2, _⟩ => rfl)).trans ?_
  have ea := transpose_apply [0, 2, 1] (m (d, dv main_arg4) : S4x8192x16.Idx → EReal) transposes_S4x8192x16_S4x16x8192_0_2_1 t i (fun b => match b with
    | ⟨0, _⟩ => rfl
    | ⟨1, _⟩ => rfl
    | ⟨2, _⟩ => rfl)
  have eb := shapeCast_apply (Host.reduceAdd (F := Ideal) (φ := .f32) (psumRes (F := Ideal) (zA m d) (sA m d) (cA m d)) (constant (F := Ideal) S_ .f32 0x00000000#32) reducesTo_S4x64x8192_S64x8192_d0 h_S_)
    shapeCasts_S64x8192_S4x16x8192 t c (by
      rewrite [Shape.rowMajor_val_two, Shape.rowMajor_val_three]
      show ((i 0).val * 16 + (i 2).val) * 8192 + (i 1).val = ((i 0).val * 16 + (i 2).val) * 8192 + (i 1).val
      rfl)
  rw [red0_apply _ c j h0 h1 h2, psum_total _ _ _ (cA_lt m hpre d) _ _ _ hi0 hi2 hi1 j h0 h1 h2] at eb
  refine Eq.trans ?_ (congrArg₂ (fun x y : EReal => w9 * x + w1 * y) ea eb)
  rfl

end Cert.Proof.SumsI
-- ==== Proof.Rows.lean ====
/-
  One row's contribution to a sum, in the arguments themselves, and the kernel's two results as sums of these.
-/
module

public import proofs.«01_k».proof.Proof.ValI

@[expose] public section

noncomputable section

namespace Cert.Proof

open Idealize.ShloMosaic
open SumsI (dec w9 w1)
open scoped BigOperators
open Finset

/-- The element (batch, row, group) of the scales and the codes. -/
def q3 (b r g : Nat) : (⟨3, ![18, 65536, 4]⟩ : Shape).Idx :=
  ix3 (⟨b % 18, Nat.mod_lt _ (by decide)⟩ : Fin 18) (⟨r % 65536, Nat.mod_lt _ (by decide)⟩ : Fin 65536) (⟨g % 4, Nat.mod_lt _ (by decide)⟩ : Fin 4)

/-- The element (batch, word, row) of the packed vectors. -/
def z3 (b k r : Nat) : (⟨3, ![18, 16, 65536]⟩ : Shape).Idx :=
  ix3 (⟨b % 18, Nat.mod_lt _ (by decide)⟩ : Fin 18) (⟨k % 16, Nat.mod_lt _ (by decide)⟩ : Fin 16) (⟨r % 65536, Nat.mod_lt _ (by decide)⟩ : Fin 65536)

/-- What row `r` of batch `b` adds to channel `ch` of code `n` of group `g`. -/
def termT (x0 : (⟨3, ![18, 16, 65536]⟩ : Shape).Idx → BitVec 32) (x1 : (⟨3, ![18, 65536, 4]⟩ : Shape).Idx → EReal)
    (x2 : (⟨3, ![18, 65536, 4]⟩ : Shape).Idx → BitVec 32) (g ch n b r : Nat) : EReal :=
  if (x2 (q3 b r g)).toNat = n then dec (x0 (z3 b (g * 4 + ch / 4) r)) (ch % 4) * x1 (q3 b r g) else 0

/-- What it adds to the count of code `n` of group `g`. -/
def termC (x2 : (⟨3, ![18, 65536, 4]⟩ : Shape).Idx → BitVec 32) (g n b r : Nat) : EReal :=
  if (x2 (q3 b r g)).toNat = n then Ideal.ofBits .f32 0x3F800000#32 else 0

namespace SumsI

open Cert.KernelIdeal Cert.KernelIdeal.Gen Idealize.SL.Sem

variable (m : (ℓ : Loc nD τ sig) → Buf (Elt Ideal) ℓ)

theorem turn_apply {α : Type} (x : S18x65536x4.Idx → α) (b r g : Nat) (hb : b < 18) (hr : r < 65536) (hg : g < 4) :
    transpose S18x4x65536 [0, 2, 1] x transposes_S18x65536x4_S18x4x65536_0_2_1 (sat ![b, g, r] 0) = x (q3 b r g) :=
  transpose_apply [0, 2, 1] x transposes_S18x65536x4_S18x4x65536_0_2_1 (sat ![b, g, r] 0) (q3 b r g) (fun a => match a with
    | ⟨0, _⟩ => rfl
    | ⟨1, _⟩ => rfl
    | ⟨2, _⟩ => rfl)

theorem zat_eq (b k r : Nat) : zat ![b, k, r] 0 = z3 b k r := by
  funext a; apply Fin.ext; fin_cases a <;> rfl

theorem rowT_eq (d : Dev nD) (g ch n b r : Nat) (hb : b < 18) (hr : r < 65536) (hg : g < 4) :
    rowT (zA m d) (sA m d) (cA m d) g ch n b r = termT (m (d, dv main_arg0)) (m (d, dv main_arg1)) (m (d, dv main_arg2)) g ch n b r := by
  have es := turn_apply (m (d, dv main_arg1) : S18x65536x4.Idx → EReal) b r g hb hr hg
  have ec := turn_apply (m (d, dv main_arg2) : S18x65536x4.Idx → BitVec 32) b r g hb hr hg
  have ez := zat_eq b (g * 4 + ch / 4) r
  unfold rowT termT
  rw [← es, ← ec, ← ez]

theorem rowC_eq (d : Dev nD) (g n b r : Nat) (hb : b < 18) (hr : r < 65536) (hg : g < 4) :
    rowC (cA m d) g n b r = termC (m (d, dv main_arg2)) g n b r := by
  have ec := turn_apply (m (d, dv main_arg2) : S18x65536x4.Idx → BitVec 32) b r g hb hr hg
  unfold rowC termC
  rw [← ec]

/-- The kernel's new counts, in the arguments. -/
theorem v8_args (hpre : PreOK m) (d : Dev nD) (i : S4x8192.Idx) :
    (V3 m d (dv main_v8) : S4x8192.Idx → EReal) i = w9 * (m (d, dv main_arg3) : S4x8192.Idx → EReal) i
      + w1 * ∑ b ∈ range 18, ∑ r ∈ range 65536, termC (m (d, dv main_arg2)) (i 0).val (i 1).val b r := by
  rw [v8_at m hpre d i, sum_congr rfl fun b hb => sum_congr rfl fun r hr =>
    rowC_eq m d (i 0).val (i 1).val b r (mem_range.1 hb) (mem_range.1 hr) (i 0).isLt]

/-- The kernel's new sums, in the arguments. -/
theorem v17_args (hpre : PreOK m) (d : Dev nD) (i : S4x8192x16.Idx) :
    (V3 m d (dv main_v17) : S4x8192x16.Idx → EReal) i = w9 * (m (d, dv main_arg4) : S4x8192x16.Idx → EReal) i
      + w1 * ∑ b ∈ range 18, ∑ r ∈ range 65536,
          termT (m (d, dv main_arg0)) (m (d, dv main_arg1)) (m (d, dv main_arg2)) (i 0).val (i 2).val (i 1).val b r := by
  rw [v17_at m hpre d i, sum_congr rfl fun b hb => sum_congr rfl fun r hr =>
    rowT_eq m d (i 0).val (i 2).val (i 1).val b r (mem_range.1 hb) (mem_range.1 hr) (i 0).isLt]

end SumsI

end Cert.Proof
-- ==== Proof.RegionI.lean ====
/-
  The reference's decoding call: the array it leaves is the decoded words, one channel an element.
-/
module

public import proofs.«01_k».proof.Proof.RefI
public import proofs.«01_k».proof.Proof.Rows
public import Idealize.ShloMosaic.Lib.BitcastPair

@[expose] public section

noncomputable section

namespace Cert.Proof.RefV

open Cert.ReferenceIdeal Cert.ReferenceIdeal.Gen
open Idealize.ShloMosaic Idealize.ShloMosaic.TcCoe Idealize.SL.Sem
open SumsI (dec)

variable (m : (ℓ : Loc nD τ sig) → Buf (Elt Ideal) ℓ)

/-- Bytes of words: element `j` is byte `row j % 4` of the word in row `row j / 4` of its column. -/
theorem bitcast_32_8 {s t : Shape} (x : s.Idx → BitVec 32) (h : s.Bitcasts 32 t 8) (j : t.Idx) :
    bitcast t 8 x h j = (x (h.srcIdx j (t.row j / 4) (fun a ha => by
        have := h.pos_lt j 0 (by decide) a ha; omega))).extractLsb' (8 * (t.row j % 4)) 8 := by
  apply BitVec.eq_of_getLsbD_eq
  intro i hi
  rw [bitcast_getLsbD x h j i hi (by decide), BitVec.getLsbD_extractLsb']
  have ep : (t.row j * 8 + i) / 32 = t.row j / 4 := by omega
  have eq : (t.row j * 8 + i) % 32 = 8 * (t.row j % 4) + i := by omega
  rw [h.srcIdx_congr j ep _ (fun a ha => by have := h.pos_lt j 0 (by decide) a ha; omega), eq]
  simp [hi]

/-- The decoding of a whole array at an element. -/
theorem pay_apply (x : S18x16x65536.Idx → BitVec 32) (j : S18x64x65536.Idx) (b k r : Nat) (h0 : (j 0).val = b) (h1 : (j 1).val = k) (h2 : (j 2).val = r) :
    (k0_pay1 (F := Ideal) x : S18x64x65536.Idx → EReal) j = dec (x (z3 b (k / 4) r)) (k % 4) := by
  have hj0 : (j 0).val < 18 := (j 0).isLt
  have hj1 : (j 1).val < 64 := (j 1).isLt
  have hj2 : (j 2).val < 65536 := (j 2).isLt
  subst h0 h1 h2
  show Ideal.ofBits .fp8e4m3 (bitcast S18x64x65536 8 x bitcasts_S18x16x65536_w32_S18x64x65536_w8 j) = _
  rw [bitcast_32_8]
  refine congrArg (fun y => Ideal.ofBits .fp8e4m3 (BitVec.extractLsb' (8 * ((j 1).val % 4)) 8 (x y))) ?_
  funext a; apply Fin.ext
  match a with
  | ⟨0, _⟩ =>
    show (j 0).val = (j 0).val % 18
    omega
  | ⟨1, _⟩ =>
    show (j 1).val / 4 = (j 1).val / 4 % 16
    omega
  | ⟨2, _⟩ =>
    show (j 2).val = (j 2).val % 65536
    omega

theorem hz : (![0, 0, 0] : Fin 3 → Nat) = fun _ => 0 := funext fun a => by fin_cases a <;> rfl

theorem read_arg0 (c : Dev nD) (f : Buf (Elt Ideal) ((c : Thread nD τ).loc main_arg0)) : (win0_0.blk t0_0).view.read (Elt Ideal) f = f :=
  Memref.read_access_unit_zero (Elt Ideal) main_arg0
    (show (fun a => (win0_0.index t0_0) a * main_arg0.ty.shape.size a) = fun _ => 0 from
      funext fun a => by fin_cases a <;> decide) (fun a => by fin_cases a <;> decide) f

theorem read_v0 (c : Dev nD) (f : Buf (Elt Ideal) ((c : Thread nD τ).loc main_v0)) : (win0_1.blk t0_0).view.read (Elt Ideal) f = f :=
  Memref.read_access_unit_zero (Elt Ideal) main_v0
    (show (fun a => (win0_1.index t0_0) a * main_v0.ty.shape.size a) = fun _ => 0 from
      funext fun a => by fin_cases a <;> decide) (fun a => by fin_cases a <;> decide) f

theorem iblk_0 (c : Dev nD) : iblk (F := Ideal) m c 0 t0_0 = m ((c : Thread nD τ).loc main_arg0) := by
  show (win0_0.blk t0_0).view.read (Elt Ideal) (V m c main_arg0) = _
  rw [V_main_arg0]
  exact read_arg0 c _

/-- What the one point writes back: the decoded words. -/
theorem flushed_1 (c : Dev nD) : (dats (F := Ideal) m 0 c).flushed 1 t0_0 = k0_pay1 (F := Ideal) (m ((c : Thread nD τ).loc main_arg0)) := by
  show (cfg0.win 1).cut _ ((dats (F := Ideal) m 0 c).after 1 t0_0) = _
  rw [after0_1, iblk_0]
  unfold out0_1
  rw [View.canon_unit_zero hz, View.ld_unit_zero hz]
  exact funext fun _ => rfl

/-- What the decoding call leaves: the decoded words. -/
theorem region_eq (c : Dev nD) : (dats (F := Ideal) m 0 c).arrAt 1 cfg0.N = k0_pay1 (F := Ideal) (m ((c : Thread nD τ).loc main_arg0)) := by
  have hw : ((cfg0.win 1).blk t0_0).view.read (Elt Ideal) ((dats (F := Ideal) m 0 c).arrAt 1 cfg0.N)
      = (dats (F := Ideal) m 0 c).flushed 1 t0_0 := by
    rw [show cfg0.N = t0_0.val + 1 from rfl, (dats m 0 c).arrAt_succ (1 : Fin 2) t0_0, flush0_1, if_pos rfl]
    exact View.read_write_univ _ _
  rw [flushed_1] at hw
  exact (read_v0 c _).symm.trans hw

end Cert.Proof.RefV
-- ==== Proof.RefV.lean ====
/-
  The reference's two results, element by element, in its arguments: the old average, weighted, plus the sum of every row's
  contribution, weighted.
-/
module

public import proofs.«01_k».proof.Proof.ScatI
public import proofs.«01_k».proof.Proof.RegionI
public import proofs.«01_k».proof.Proof.RangeSums
public import Mathlib.Tactic.Ring

@[expose] public section

noncomputable section

namespace Cert.Proof.RefV

open Cert.ReferenceIdeal Cert.ReferenceIdeal.Gen Cert.ReferenceIdeal.Read
open Idealize.ShloMosaic Idealize.ShloMosaic.TcCoe Idealize.SL.Sem
open SumsI (dec w9 w1)
open scoped BigOperators
open Finset

/-- A code moved to its group's range, read signed: no wrap. -/
theorem moved (x : BitVec 32) (g : Nat) (hx : x.toNat < 8192) (hg : g < 4) :
    (x + BitVec.ofNat 32 g * 8192#32).toInt = ((x.toNat + g * 8192 : Nat) : Int) := by
  have e : (x + BitVec.ofNat 32 g * 8192#32).toNat = x.toNat + g * 8192 := by
    rw [BitVec.toNat_add, BitVec.toNat_mul, BitVec.toNat_ofNat]
    show (x.toNat + (g % 4294967296) * 8192 % 4294967296) % 4294967296 = x.toNat + g * 8192
    omega
  rw [BitVec.toInt_eq_toNat_of_lt (by rw [e]; omega), e]

/-- Only the terms of one group land in that group's range. -/
theorem one_group (X : Nat → Nat) (hX : ∀ g < 4, X g < 8192) (u : Nat → EReal) (G n : Nat) (hG : G < 4) (hn : n < 8192) :
    (∑ g ∈ range 4, if ((X g + g * 8192 : Nat) : Int) = ((G * 8192 + n : Nat) : Int) then u g else 0) = if X G = n then u G else 0 := by
  rw [Finset.sum_eq_single G]
  · refine if_congr ?_ rfl rfl
    omega
  · intro g hg hne
    have h1 := hX g (mem_range.1 hg)
    refine if_neg fun h => hne ?_
    omega
  · intro h
    exact absurd (mem_range.2 hG) h

theorem pos_split (b r g : Nat) (hb : b < 18) (hr : r < 65536) (hg : g < 4) :
    (b * 262144 + (r * 4 + g)) % 4718592 = b * 262144 + (r * 4 + g) ∧ (b * 262144 + (r * 4 + g)) / 262144 = b
      ∧ (b * 262144 + (r * 4 + g)) / 4 % 65536 = r ∧ (b * 262144 + (r * 4 + g)) % 4 = g := by
  omega

variable (x0 : S18x16x65536.Idx → BitVec 32) (x1 : S18x65536x4.Idx → EReal) (x2 : S18x65536x4.Idx → BitVec 32)

/-- The index word of row `r` of batch `b` in group `g`. -/
theorem word_at (b r g : Nat) (hb : b < 18) (hr : r < 65536) (hg : g < 4) :
    (val_main_v14 (F := Ideal) x2 : S4718592.Idx → BitVec 32) (ix1 (⟨(b * 262144 + (r * 4 + g)) % 4718592, Nat.mod_lt _ (by decide)⟩ : Fin 4718592))
      = x2 (q3 b r g) + BitVec.ofNat 32 g * 8192#32 := by
  obtain ⟨p, pb, pr, pg⟩ := pos_split b r g hb hr hg
  rw [val_main_v14_apply, val_main_v13_apply, val_main_v12_apply, val_main_v11_apply, val_main_v10_apply, val_main_v8_apply, val_main_v9_apply]
  have ei : idx_main_v14 (ix1 (⟨(b * 262144 + (r * 4 + g)) % 4718592, Nat.mod_lt _ (by decide)⟩ : Fin 4718592)) = q3 b r g := by
    funext a; apply Fin.ext
    match a with
    | ⟨0, _⟩ =>
      show (b * 262144 + (r * 4 + g)) % 4718592 / 262144 = b % 18
      rw [p, pb, Nat.mod_eq_of_lt hb]
    | ⟨1, _⟩ =>
      show (b * 262144 + (r * 4 + g)) % 4718592 / 4 % 65536 = r % 65536
      rw [p, pr, Nat.mod_eq_of_lt hr]
    | ⟨2, _⟩ =>
      show (b * 262144 + (r * 4 + g)) % 4718592 % 4 = g % 4
      rw [p, pg, Nat.mod_eq_of_lt hg]
  have eg : ((b * 262144 + (r * 4 + g)) % 4718592) % 4 = g := by rw [p, pg]
  show x2 _ + BitVec.ofNat 32 (((b * 262144 + (r * 4 + g)) % 4718592) % 4) * 8192#32 = _
  rw [eg]
  exact congrArg (fun j => x2 j + BitVec.ofNat 32 g * 8192#32) ei

/-- A sum over all index positions that takes what lands at code `n` of group `G` is the sum over that group's rows. -/
theorem landed (hc : ∀ j, (x2 j).toNat < 8192) (idx : IVec S4718592x1 32)
    (hi : ∀ k, idx (wrd k) = (val_main_v14 (F := Ideal) x2 : S4718592.Idx → BitVec 32) (ix1 (⟨k % 4718592, Nat.mod_lt _ (by decide)⟩ : Fin 4718592)))
    (u : Nat → EReal) (G n : Nat) (hG : G < 4) (hn : n < 8192) :
    (∑ k ∈ range 4718592, if (idx (wrd k)).toInt = ((G * 8192 + n : Nat) : Int) then u k else 0)
      = ∑ b ∈ range 18, ∑ r ∈ range 65536, if (x2 (q3 b r G)).toNat = n then u (b * 262144 + (r * 4 + G)) else 0 := by
  refine (sum_blocks 18 262144 (fun k => if (idx (wrd k)).toInt = ((G * 8192 + n : Nat) : Int) then u k else 0)).trans ?_
  refine sum_congr rfl fun b hb => ?_
  refine (sum_blocks 65536 4 (fun j => if (idx (wrd (b * 262144 + j))).toInt = ((G * 8192 + n : Nat) : Int) then u (b * 262144 + j) else 0)).trans ?_
  refine sum_congr rfl fun r hr => ?_
  refine Eq.trans ?_ (one_group (fun g => (x2 (q3 b r g)).toNat) (fun g _ => hc _) (fun g => u (b * 262144 + (r * 4 + g))) G n hG hn)
  refine sum_congr rfl fun g hg => ?_
  rw [hi, word_at x2 b r g (mem_range.1 hb) (mem_range.1 hr) (mem_range.1 hg), moved _ g (hc _) (mem_range.1 hg)]

/-- The reference's new counts. -/
theorem v28_apply (x3 : S4x8192.Idx → EReal) (hc : ∀ j, (x2 j).toNat < 8192) (i : S4x8192.Idx) :
    (val_main_v28 (F := Ideal) x2 x3 : S4x8192.Idx → EReal) i
      = w9 * x3 i + w1 * ∑ b ∈ range 18, ∑ r ∈ range 65536, termC x2 (i 0).val (i 1).val b r := by
  rw [val_main_v28_apply, val_main_v24_apply, val_main_v27_apply, val_main_v23_apply, val_main_v26_apply, val_main_v25_apply]
  unfold val_main_v18
  have key := scat1_apply (val_main_v16 (F := Ideal)) (val_main_v17 (F := Ideal) x2) (val_main_v15 (F := Ideal)) (idx_main_v25 i)
    (fun _ => Ideal.ofBits .f32 0x3F800000#32) (fun k => val_main_v15_apply (ix1 k))
  rw [show (val_main_v16 (F := Ideal) (idx_main_v25 i) : EReal) = 0 from (val_main_v16_apply _).trans Ideal.ofBits_zero_f32, zero_add] at key
  refine congrArg (fun y : EReal => w9 * x3 i + w1 * y) (key.trans ?_)
  exact landed x2 hc _ (fun k => (val_main_v17_apply x2 (wrd k)).trans (congrArg _ (by funext a; apply Fin.ext; fin_cases a; rfl))) _ (i 0).val (i 1).val (i 0).isLt (i 1).isLt

theorem wide_split (k c : Nat) (hc : c < 16) : (k * 16 + c) / 16 = k ∧ (k * 16 + c) % 16 = c := by omega

theorem quot_split (k c : Nat) (hk : k < 4718592) (hc : c < 16) : (k * 16 + c) / 4194304 = k / 262144 ∧ (k * 16 + c) / 64 = k / 4
    ∧ k / 262144 < 18 ∧ k / 4 % 65536 < 65536 ∧ k % 4 < 4 ∧ k % 4 * 16 + c < 64 := by
  obtain ⟨h, _⟩ := wide_split k c hc
  refine ⟨?_, ?_, by omega, by omega, by omega, by omega⟩
  · rw [show (4194304 : Nat) = 16 * 262144 from rfl, ← Nat.div_div_eq_div_mul, h]
  · rw [show (64 : Nat) = 16 * 4 from rfl, ← Nat.div_div_eq_div_mul, h]

theorem turn_split (b r q : Nat) (hr : r < 65536) (hq : q < 64) :
    ((b * 65536 + r) * 64 + q) / 4194304 = b ∧ ((b * 65536 + r) * 64 + q) / 64 % 65536 = r ∧ ((b * 65536 + r) * 64 + q) % 64 = q := by
  omega

/-- The value a row adds to a channel. -/
theorem upd_at (r0 : S18x64x65536.Idx → EReal) (hr0 : ∀ (j : S18x64x65536.Idx) (b k r : Nat), (j 0).val = b → (j 1).val = k → (j 2).val = r → r0 j = dec (x0 (z3 b (k / 4) r)) (k % 4))
    (k : Fin 4718592) (c : Fin 16) :
    (val_main_v19 (F := Ideal) x1 r0 : S4718592x16.Idx → EReal) (ix2 k c)
      = dec (x0 (z3 (k.val / 262144) (k.val % 4 * 4 + c.val / 4) (k.val / 4 % 65536))) (c.val % 4) * x1 (q3 (k.val / 262144) (k.val / 4 % 65536) (k.val % 4)) := by
  have hk := k.isLt
  have hc := c.isLt
  obtain ⟨w16, wc⟩ := wide_split k.val c.val hc
  obtain ⟨wA, wB, hb, hr, hg, hq⟩ := quot_split k.val c.val hk hc
  obtain ⟨tb, tr, tq⟩ := turn_split (k.val / 262144) (k.val / 4 % 65536) (k.val % 4 * 16 + c.val) hr hq
  have ew : (((k.val * 16 + c.val) / 4194304 * 65536 + (k.val * 16 + c.val) / 64 % 65536) * 4 + (k.val * 16 + c.val) / 16 % 4) * 16 + (k.val * 16 + c.val) % 16
      = (k.val / 262144 * 65536 + k.val / 4 % 65536) * 64 + (k.val % 4 * 16 + c.val) := by
    rw [wA, wB, w16, wc]; ring
  rw [val_main_v19_apply, val_main_v7_apply, val_main_v6_apply, val_main_v2_apply, val_main_v1_apply, val_main_v5_apply, val_main_v4_apply, val_main_v3_apply]
  have e1 := hr0 (idx_main_v1 (idx_main_v2 (idx_main_v7 (ix2 k c)))) (k.val / 262144) (k.val % 4 * 16 + c.val) (k.val / 4 % 65536)
    (by show ((((k.val * 16 + c.val) / 4194304 * 65536 + (k.val * 16 + c.val) / 64 % 65536) * 4 + (k.val * 16 + c.val) / 16 % 4) * 16 + (k.val * 16 + c.val) % 16) / 4194304 = _
        rw [ew, tb])
    (by show ((((k.val * 16 + c.val) / 4194304 * 65536 + (k.val * 16 + c.val) / 64 % 65536) * 4 + (k.val * 16 + c.val) / 16 % 4) * 16 + (k.val * 16 + c.val) % 16) % 64 = _
        rw [ew, tq])
    (by show ((((k.val * 16 + c.val) / 4194304 * 65536 + (k.val * 16 + c.val) / 64 % 65536) * 4 + (k.val * 16 + c.val) / 16 % 4) * 16 + (k.val * 16 + c.val) % 16) / 64 % 65536 = _
        rw [ew, tr])
  have e2 : idx_main_v4 (idx_main_v5 (idx_main_v7 (ix2 k c))) = q3 (k.val / 262144) (k.val / 4 % 65536) (k.val % 4) := by
    funext a; apply Fin.ext
    match a with
    | ⟨0, _⟩ =>
      show (k.val * 16 + c.val) / 4194304 = k.val / 262144 % 18
      rw [wA, Nat.mod_eq_of_lt hb]
    | ⟨1, _⟩ =>
      show (k.val * 16 + c.val) / 64 % 65536 = k.val / 4 % 65536 % 65536
      rw [wB, Nat.mod_mod]
    | ⟨2, _⟩ =>
      show (k.val * 16 + c.val) / 16 % 4 = k.val % 4 % 4
      rw [w16, Nat.mod_mod]
  rw [show (k.val % 4 * 16 + c.val) / 4 = k.val % 4 * 4 + c.val / 4 by omega, show (k.val % 4 * 16 + c.val) % 4 = c.val % 4 by omega] at e1
  exact congrArg₂ (fun x y : EReal => x * y) e1 (congrArg x1 e2)

/-- The reference's new sums. -/
theorem v34_apply (x4 : S4x8192x16.Idx → EReal) (r0 : S18x64x65536.Idx → EReal)
    (hr0 : ∀ (j : S18x64x65536.Idx) (b k r : Nat), (j 0).val = b → (j 1).val = k → (j 2).val = r → r0 j = dec (x0 (z3 b (k / 4) r)) (k % 4))
    (hc : ∀ j, (x2 j).toNat < 8192) (i : S4x8192x16.Idx) :
    (val_main_v34 (F := Ideal) x1 x2 x4 r0 : S4x8192x16.Idx → EReal) i
      = w9 * x4 i + w1 * ∑ b ∈ range 18, ∑ r ∈ range 65536, termT x0 x1 x2 (i 0).val (i 2).val (i 1).val b r := by
  have hi0 : (i 0).val < 4 := (i 0).isLt
  have hi1 : (i 1).val < 8192 := (i 1).isLt
  have hi2 : (i 2).val < 16 := (i 2).isLt
  have a0 : (((i 0).val * 8192 + (i 1).val) * 16 + (i 2).val) / 16 = (i 0).val * 8192 + (i 1).val := by omega
  have a1 : (((i 0).val * 8192 + (i 1).val) * 16 + (i 2).val) % 16 = (i 2).val := by omega
  rw [val_main_v34_apply, val_main_v30_apply, val_main_v33_apply, val_main_v29_apply, val_main_v32_apply, val_main_v31_apply]
  unfold val_main_v22
  have key := scat2_apply (val_main_v20 (F := Ideal)) (val_main_v21 (F := Ideal) x2) (val_main_v19 (F := Ideal) x1 r0) (idx_main_v31 i)
    (fun k => dec (x0 (z3 (k / 262144) (k % 4 * 4 + (i 2).val / 4) (k / 4 % 65536))) ((i 2).val % 4) * x1 (q3 (k / 262144) (k / 4 % 65536) (k % 4)))
    (fun k c h => by
      have h' : c.val = (i 2).val := h.trans a1
      rw [upd_at x0 x1 r0 hr0 k c, h'])
  rw [show (val_main_v20 (F := Ideal) (idx_main_v31 i) : EReal) = 0 from (val_main_v20_apply _).trans Ideal.ofBits_zero_f32, zero_add,
    show ((idx_main_v31 i) 0).val = (i 0).val * 8192 + (i 1).val from a0] at key
  refine congrArg (fun y : EReal => w9 * x4 i + w1 * y) (key.trans ?_)
  refine (landed x2 hc _ (fun k => (val_main_v21_apply x2 (wrd k)).trans (congrArg _ (by funext a; apply Fin.ext; fin_cases a; rfl))) _ (i 0).val (i 1).val hi0 hi1).trans ?_
  refine sum_congr rfl fun b hb => sum_congr rfl fun r hr => ?_
  obtain ⟨p, pb, pr, pg⟩ := pos_split b r (i 0).val (mem_range.1 hb) (mem_range.1 hr) hi0
  rw [pb, pr, pg]
  rfl

end Cert.Proof.RefV
-- ==== Proof.Algebra.lean ====
/-
  The value claim: over the extended reals the kernel's program and the reference end with the same two results.
-/
module

public import proofs.«01_k».proof.Proof.FrameI
public import proofs.«01_k».proof.Proof.RefV

@[expose] public section

noncomputable section

namespace Cert.Proof

open Idealize.ShloMosaic Idealize.ShloMosaic.TcCoe Idealize.SL.Sem
open SumsI (w9 w1)
open scoped BigOperators
open Finset

namespace RefV

open Cert.ReferenceIdeal Cert.ReferenceIdeal.Gen Cert.ReferenceIdeal.Read

variable (m : (ℓ : Loc nD τ sig) → Buf (Elt Ideal) ℓ)

/-- The reference's run, its results read element by element. -/
theorem run_vals (ρ : Dev nD → PrngReg) (hc : ∀ (c : Dev nD) j, ((m ((c.tc : Thread nD τ).loc main_arg2) : S18x65536x4.Idx → BitVec 32) j).toNat < 8192) :
    θ_run (defs (F := Ideal)) (onTc (τ := τ) (main (F := Ideal))) ⟨m, fun _ => 0, ρ⟩ fun r => ∀ c : Dev nD,
      (∀ i : S4x8192.Idx, (r.2.mem ((c.tc : Thread nD τ).loc main_v28) : S4x8192.Idx → EReal) i
          = w9 * (m ((c.tc : Thread nD τ).loc main_arg3) : S4x8192.Idx → EReal) i
            + w1 * ∑ b ∈ range 18, ∑ r ∈ range 65536, termC (m ((c.tc : Thread nD τ).loc main_arg2)) (i 0).val (i 1).val b r)
      ∧ (∀ i : S4x8192x16.Idx, (r.2.mem ((c.tc : Thread nD τ).loc main_v34) : S4x8192x16.Idx → EReal) i
          = w9 * (m ((c.tc : Thread nD τ).loc main_arg4) : S4x8192x16.Idx → EReal) i
            + w1 * ∑ b ∈ range 18, ∑ r ∈ range 65536,
              termT (m ((c.tc : Thread nD τ).loc main_arg0)) (m ((c.tc : Thread nD τ).loc main_arg1)) (m ((c.tc : Thread nD τ).loc main_arg2)) (i 0).val (i 2).val (i 1).val b r)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h28, h34, ha⟩ := h c
  refine ⟨fun i => ?_, fun i => ?_, ha⟩
  · have e := val_main_v28_eq (F := Ideal) (Value.exitV m c)
    rw [Value.exit_main_arg2, Value.exit_main_arg3] at e
    exact (congrFun (h28.trans e) i).trans (v28_apply (m ((c.tc : Thread nD τ).loc main_arg2)) (m ((c.tc : Thread nD τ).loc main_arg3)) (hc c) i)
  · have e := val_main_v34_eq (F := Ideal) (Value.exitV m c)
    rw [Value.exit_main_arg1, Value.exit_main_arg2, Value.exit_main_arg4, Value.exit_main_v0] at e
    refine (congrFun (h34.trans e) i).trans (v34_apply (m ((c.tc : Thread nD τ).loc main_arg0)) (m ((c.tc : Thread nD τ).loc main_arg1)) (m ((c.tc : Thread nD τ).loc main_arg2))
      (m ((c.tc : Thread nD τ).loc main_arg4)) (Value.reg_main_v0 m c) (fun j b k r h0 h1 h2 => ?_) (hc c) i)
    exact (congrFun (region_eq m c) j).trans (pay_apply (m ((c.tc : Thread nD τ).loc main_arg0)) j b k r h0 h1 h2)

end RefV

/-- The value claim. -/
theorem algebraic : Cert.algebraic_KernelIdeal_ReferenceIdeal := by
  intro m g m' g' hpre heq
  have hok := SumsI.ok_of_pre m hpre
  have hc : ∀ (c : Dev Cert.ReferenceIdeal.nD) j, ((m' ((c.tc : Thread Cert.ReferenceIdeal.nD Cert.ReferenceIdeal.τ).loc Cert.ReferenceIdeal.main_arg2) : Cert.ReferenceIdeal.S18x65536x4.Idx → BitVec 32) j).toNat < 8192 := by
    intro c j
    rw [(heq c).2.2.1]
    exact hok c j
  refine ⟨fun c => SumsI.V3 m c (SumsI.dv Cert.KernelIdeal.main_v8), fun c => SumsI.V3 m c (SumsI.dv Cert.KernelIdeal.main_v17), ?_, ?_⟩
  · refine (θ_run Cert.KernelIdeal.defs _ _).mono (fun r h c => ?_) (SumsI.run_vals m g hpre)
    obtain ⟨a0, a1, a2, a3, a4, v8, v17⟩ := h.1 c
    exact ⟨v8, v17, a0, a1, a2, a3, a4⟩
  · refine (θ_run Cert.ReferenceIdeal.defs _ _).mono (fun r h c => ?_) (RefV.run_vals m' g' hc)
    obtain ⟨v28, v34, ha⟩ := h c
    obtain ⟨e0, e1, e2, e3, e4⟩ := heq c
    refine ⟨funext fun i => (v28 i).trans ?_, funext fun i => (v34 i).trans ?_, ha⟩
    · rw [e2, e3]
      exact (SumsI.v8_args m hok c i).symm
    · rw [e0, e1, e2, e4]
      exact (SumsI.v17_args m hok c i).symm

end Cert.Proof
-- ==== Proof.UpdPow.lean ====
/-
  Powers of two as bit patterns, and two ways to find the next one above a number: the count of the powers that do not
  exceed it, and the least of the powers that do.
-/
module

public import Idealize.ShloMosaic.Lib.Pointwise

@[expose] public section

noncomputable section

namespace Cert.Upd

open Idealize.ShloMosaic

/-- `2 ^ (k - 127)`: the number whose f32 pattern has exponent field `k` and nothing else. -/
def P (k : ℕ) : EReal := (((2 : ℝ) ^ ((k : ℤ) - 127) : ℝ) : EReal)

theorem P_lt {j k : ℕ} (h : j < k) : P j < P k := by
  unfold P
  rw [EReal.coe_lt_coe_iff]
  exact zpow_lt_zpow_right₀ (by norm_num) (by omega)

theorem P_le {j k : ℕ} (h : j ≤ k) : P j ≤ P k := by
  rcases h.lt_or_eq with h | rfl
  · exact (P_lt h).le
  · exact le_rfl

theorem P_pos (k : ℕ) : 0 < P k := by
  unfold P
  rw [EReal.coe_pos]
  positivity

theorem P_127 : P 127 = 1 := by
  unfold P
  norm_num

/-- The reciprocal of a power is the power of the opposite exponent. -/
theorem P_inv {j k : ℕ} (h : j + k = 254) : (P j)⁻¹ = P k := by
  unfold P
  rw [← EReal.coe_inv, ← zpow_neg]
  congr 2
  omega

theorem ofBits_P (k : ℕ) (h1 : 1 ≤ k) (h2 : k ≤ 254) : Ideal.ofBits .f32 (BitVec.ofNat 32 (k * 2 ^ 23)) = P k := by
  show Ideal.ieee 8 23 (BitVec.ofNat 32 (k * 2 ^ 23)) = P k
  have e1 : ((BitVec.ofNat 32 (k * 2 ^ 23)).extractLsb' 23 8).toNat = k := by
    rw [BitVec.extractLsb'_toNat, BitVec.toNat_ofNat, Nat.shiftRight_eq_div_pow]; omega
  have e2 : ((BitVec.ofNat 32 (k * 2 ^ 23)).extractLsb' 0 23).toNat = 0 := by
    rw [BitVec.extractLsb'_toNat, BitVec.toNat_ofNat, Nat.shiftRight_eq_div_pow]; omega
  have e3 : ((BitVec.ofNat 32 (k * 2 ^ 23)).extractLsb' (8 + 23) 1 == 1#1) = false := by
    rw [beq_eq_false_iff_ne]
    intro h
    have h' := congrArg BitVec.toNat h
    rw [BitVec.extractLsb'_toNat, BitVec.toNat_ofNat, Nat.shiftRight_eq_div_pow] at h'
    simp at h'
    omega
  unfold Ideal.ieee P
  simp only [e1, e2, e3]
  rw [if_neg (by omega), if_neg (by omega)]
  norm_num
  have : ((k : ℤ) - 127) = 23 + ((k : ℤ) - 127 - 23) := by ring
  rw [this, zpow_add₀ (by norm_num)]
  norm_num

/-- How many of the 252 powers `P 1 … P 252` do not exceed `x`. -/
def cnt (x : EReal) : ℕ := (Finset.univ.filter fun k : Fin 252 => P (k.val + 1) ≤ x).card

/-- They are the first ones. -/
theorem cnt_spec (x : EReal) : cnt x ≤ 252 ∧ ∀ k : ℕ, k < 252 → (P (k + 1) ≤ x ↔ k < cnt x) := by
  classical
  have hex : ∃ k, 252 ≤ k ∨ ¬ P (k + 1) ≤ x := ⟨252, Or.inl le_rfl⟩
  obtain ⟨n, hn⟩ : ∃ n, n = Nat.find hex := ⟨_, rfl⟩
  have hle : n ≤ 252 := hn ▸ Nat.find_min' hex (Or.inl le_rfl)
  have hs : ∀ k : ℕ, k < 252 → (P (k + 1) ≤ x ↔ k < n) := by
    intro k hk
    constructor
    · intro h
      by_contra hc
      rcases (hn ▸ Nat.find_spec hex : 252 ≤ n ∨ ¬ P (n + 1) ≤ x) with h' | h'
      · omega
      · exact h' ((P_le (by omega)).trans h)
    · intro h
      have := Nat.find_min hex (hn ▸ h)
      push Not at this
      exact this.2
  have hc : cnt x = n := by
    unfold cnt
    have : (Finset.univ.filter fun k : Fin 252 => P (k.val + 1) ≤ x) = Finset.univ.filter fun k : Fin 252 => k.val < n :=
      Finset.filter_congr fun k _ => hs k.val k.isLt
    rw [this, Fin.card_filter_val_lt]
    omega
  rw [hc]
  exact ⟨hle, hs⟩

/-- The least of the powers above `x` (the largest power where none is) is the one after those counted. -/
theorem min_eq (x : EReal) :
    (Finset.univ : Finset (Fin 253)).fold min ⊤ (fun j => if x < P (j.val + 1) then P (j.val + 1) else P 253) = P (cnt x + 1) := by
  obtain ⟨hle, hs⟩ := cnt_spec x
  apply le_antisymm
  · rw [Finset.fold_min_le]
    right
    refine ⟨⟨cnt x, by omega⟩, Finset.mem_univ _, ?_⟩
    dsimp only
    rcases hle.lt_or_eq with h | h
    · rw [if_pos (lt_of_not_ge fun hc => absurd ((hs _ h).1 hc) (lt_irrefl _))]
    · split
      · exact le_rfl
      · exact h ▸ le_rfl
  · rw [Finset.le_fold_min]
    refine ⟨le_top, fun j _ => ?_⟩
    split
    · next h =>
      refine P_le ?_
      by_contra hc
      have hj : j.val < 252 := by omega
      exact absurd ((hs _ hj).2 (by omega)) (not_le.2 h)
    · exact P_le (by omega)

/-- Adding up 0 and 1 words counts. -/
theorem fold_addi (n : ℕ) (p : Fin n → Prop) [DecidablePred p] :
    (Finset.univ : Finset (Fin n)).fold IntOp.addi 0#32 (fun k => if p k then 1#32 else 0#32)
      = BitVec.ofNat 32 (Finset.univ.filter p).card := by
  classical
  have : ∀ S : Finset (Fin n), S.fold IntOp.addi 0#32 (fun k => if p k then 1#32 else 0#32)
      = BitVec.ofNat 32 (S.filter p).card := by
    intro S
    induction S using Finset.induction_on with
    | empty => rfl
    | insert a S ha ih =>
      rw [Finset.fold_insert ha, ih, Finset.filter_insert]
      split
      · rw [Finset.card_insert_of_notMem (by simp [ha])]
        show 1#32 + _ = _
        rw [BitVec.add_comm, BitVec.ofNat_add]
      · show 0#32 + _ = _
        rw [BitVec.zero_add]
  exact this _

end Cert.Upd

end
-- ==== Proof.UpdSpec.lean ====
/-
  One group's update as functions of its slices, element by element: what both programs are shown to compute.
  `C` the 8 rows of counts, `E` the counts so far, `S` the 4 partial sums (16 rows each), `M` the sums so far.
-/
module

public import proofs.«01_k».proof.Proof.UpdPow

@[expose] public section

noncomputable section

namespace Cert.Upd

open Idealize.ShloMosaic

abbrev lit (b : BitVec 32) : EReal := Ideal.ofBits .f32 b

theorem ofBits_bot : lit 0xFF800000#32 = ⊥ := by
  show Ideal.ieee 8 23 (0xFF800000#32) = ⊥
  unfold Ideal.ieee
  rw [if_pos (by decide), if_pos (by decide), if_pos (by decide)]

theorem ofBits_top : lit 0x7F800000#32 = ⊤ := by
  show Ideal.ieee 8 23 (0x7F800000#32) = ⊤
  unfold Ideal.ieee
  rw [if_pos (by decide), if_pos (by decide), if_neg (by decide)]

/-- The new count. -/
def nN (C : Fin 8 → Fin 8192 → EReal) (E : Fin 8192 → EReal) (l : Fin 8192) : EReal :=
  lit 0x3F666666#32 * E l + lit 0x3DCCCCCD#32 * ∑ k : Fin 8, C k l

/-- The smoothed count. -/
def nS (C : Fin 8 → Fin 8192 → EReal) (E : Fin 8192 → EReal) (l : Fin 8192) : EReal :=
  Ideal.div (nN C E l + lit 0x3727C5AC#32) ((∑ k : Fin 8192, nN C E k) + lit 0x3DA7C5AC#32) * ∑ k : Fin 8192, nN C E k

/-- The new sum. -/
def mM (S : Fin 4 → Fin 16 → Fin 8192 → EReal) (M : Fin 16 → Fin 8192 → EReal) (r : Fin 16) (l : Fin 8192) : EReal :=
  lit 0x3F666666#32 * M r l + lit 0x3DCCCCCD#32 * ∑ p : Fin 4, S p r l

/-- The codebook entry. -/
def vV (C : Fin 8 → Fin 8192 → EReal) (E : Fin 8192 → EReal) (S : Fin 4 → Fin 16 → Fin 8192 → EReal)
    (M : Fin 16 → Fin 8192 → EReal) (r : Fin 16) (l : Fin 8192) : EReal :=
  Ideal.div (mM S M r l) (nS C E l)

/-- The largest absolute value of 16. -/
def aA (v : Fin 16 → EReal) : EReal := (Finset.univ : Finset (Fin 16)).fold max ⊥ fun r => max (v r) (-v r)

/-- The exponent field of the scale of a column whose largest absolute value is `a`. -/
def sE (a : EReal) : ℕ := if a = 0 then 127 else cnt (a * lit 0x3B124925#32) + 1

theorem sE_le (a : EReal) : 1 ≤ sE a ∧ sE a ≤ 253 := by
  have := (cnt_spec (a * lit 0x3B124925#32)).1
  unfold sE
  split <;> omega

/-- The code of an entry `x`, before it is rounded to its format. -/
def qQ (a x : EReal) : EReal := min (lit 0x43E00000#32) (max (lit 0xC3E00000#32) (x * P (254 - sE a)))

/-- Dividing by the scale is multiplying by its reciprocal. -/
theorem div_scale (a x : EReal) : Ideal.div x (P (sE a)) = x * P (254 - sE a) := by
  have h := sE_le a
  unfold Ideal.div
  rw [if_neg (P_pos _).ne', P_inv (k := 254 - sE a) (by omega)]

end Cert.Upd

end
-- ==== Proof.UpdK.lean ====
/-
  The body of the second call, `UpdateIdeal`, read element by element.
-/
module

public import proofs.«01_k».proof.Proof.Gen.UpdateIdeal.Frame
public import proofs.«01_k».proof.Proof.UpdSpec

@[expose] public section

noncomputable section

namespace Cert.UpdateIdeal.Elem

open Cert.UpdateIdeal Cert.UpdateIdeal.Gen Cert.Upd Idealize.ShloMosaic Idealize.ShloMosaic.TcCoe Idealize.SL.Sem

/-- A power's pattern, made by shifting its exponent field into place. -/
theorem ofBits_shli (w : BitVec 32) (k : ℕ) (hw : w = BitVec.ofNat 32 k) (h1 : 1 ≤ k) (h2 : k ≤ 254) :
    Ideal.ofBits .f32 (IntOp.shli .vector w 23#32) = P k := by
  rw [← ofBits_P k h1 h2]
  refine congrArg (Ideal.ofBits .f32) ?_
  subst hw
  unfold IntOp.shli
  rw [if_pos (by decide)]
  apply BitVec.eq_of_toNat_eq
  simp only [BitVec.shiftLeft_eq', BitVec.toNat_shiftLeft, BitVec.toNat_ofNat, Nat.shiftLeft_eq]
  norm_num

theorem ofBits_iota (x : Fin 252) : Ideal.ofBits .f32 (IntOp.shli .vector (IntOp.addi (BitVec.ofNat 32 x.val) 1#32) 23#32) = P (x.val + 1) :=
  ofBits_shli _ _ (by show BitVec.ofNat 32 x.val + 1#32 = _; rw [BitVec.ofNat_add]) (by omega) (by omega)

theorem pay3_apply (v0 : FVec Ideal S1x8x8192 .f32) (v4 : FVec Ideal S1x1x8192 .f32) (l : Fin 8192) :
    k0_pay3 (F := Ideal) v0 v4 (ix2 0 l) = nN (fun k l => v0 (ix3 0 k l)) (fun l => v4 (ix3 0 0 l)) l := by
  unfold nN
  pointwise [k0_pay3]

theorem pay4_apply (v0 : FVec Ideal S1x8x8192 .f32) (v4 : FVec Ideal S1x1x8192 .f32) (l : Fin 8192) :
    k0_pay4 (F := Ideal) v0 v4 (ix3 0 0 l) = nN (fun k l => v0 (ix3 0 k l)) (fun l => v4 (ix3 0 0 l)) l := by
  rw [← pay3_apply]
  pointwise [k0_pay4]

theorem pay5_apply (v0 : FVec Ideal S1x8x8192 .f32) (v4 : FVec Ideal S1x1x8192 .f32) (l : Fin 8192) :
    k0_pay5 (F := Ideal) v0 v4 (ix2 0 l) = nS (fun k l => v0 (ix3 0 k l)) (fun l => v4 (ix3 0 0 l)) l := by
  unfold nS
  simp only [← pay3_apply]
  pointwise [k0_pay5]

theorem pay7_apply (a b c d e : FVec Ideal S1x16x8192 .f32) (r : Fin 16) (l : Fin 8192) :
    k0_pay7 (F := Ideal) (k0_pay6 a b c) d e (ix2 r l)
      = lit 0x3F666666#32 * e (ix3 0 r l) + lit 0x3DCCCCCD#32 * (a (ix3 0 r l) + b (ix3 0 r l) + c (ix3 0 r l) + d (ix3 0 r l)) := by
  pointwise [k0_pay7, k0_pay6]

theorem pay8_apply (v31 : FVec Ideal S16x8192 .f32) (d e : FVec Ideal S1x16x8192 .f32) (r : Fin 16) (l : Fin 8192) :
    k0_pay8 (F := Ideal) v31 d e (ix3 0 r l) = k0_pay7 v31 d e (ix2 r l) := by
  pointwise [k0_pay8]

theorem pay9_apply (v23 : FVec Ideal S1x8192 .f32) (v31 : FVec Ideal S16x8192 .f32) (d e : FVec Ideal S1x16x8192 .f32) (r : Fin 16) (l : Fin 8192) :
    k0_pay9 (F := Ideal) v23 v31 d e (ix2 r l) = Ideal.div (k0_pay7 v31 d e (ix2 r l)) (v23 (ix2 0 l)) := by
  pointwise [k0_pay9]

theorem pay10_apply (v23 : FVec Ideal S1x8192 .f32) (v31 : FVec Ideal S16x8192 .f32) (d e : FVec Ideal S1x16x8192 .f32) (l : Fin 8192) :
    k0_pay10 (F := Ideal) v23 v31 d e (ix2 0 l)
      = BitVec.ofNat 32 (sE (aA fun r => k0_pay9 (F := Ideal) v23 v31 d e (ix2 r l))) - 127#32 := by
  pointwise [k0_pay10]
  have hA : Finset.fold max (Ideal.ofBits FTy.f32 4286578688#32) (fun x => FloatOps.absf (k0_pay9 (F := Ideal) v23 v31 d e (ix2 x l))) Finset.univ
      = aA fun r => k0_pay9 (F := Ideal) v23 v31 d e (ix2 r l) := by
    unfold aA
    rw [← ofBits_bot]
    rfl
  rw [hA]
  generalize (aA fun r => k0_pay9 (F := Ideal) v23 v31 d e (ix2 r l)) = a
  simp only [ofBits_iota]
  unfold sE
  split
  · rfl
  · rw [fold_addi 252 fun x => P (x.val + 1) ≤ a * Ideal.ofBits FTy.f32 991054117#32]
    show BitVec.ofNat 32 (cnt (a * lit 0x3B124925#32)) - 126#32 = _
    rw [BitVec.ofNat_add]
    bv_omega

theorem pay1_apply (w : IVec S1x8192 32) (l : Fin 8192) (s : ℕ) (h1 : 1 ≤ s) (h2 : s ≤ 254) (hw : w (ix2 0 l) = BitVec.ofNat 32 s - 127#32) :
    k0_pay1 (F := Ideal) w 127#32 (ix3 0 0 l) = P s := by
  pointwise [k0_pay1]
  refine ofBits_shli _ s ?_ h1 h2
  rw [hw]
  show BitVec.ofNat 32 s - 127#32 + 127#32 = _
  rw [BitVec.sub_add_cancel]

theorem pay2_apply (v : FVec Ideal S16x8192 .f32) (w : IVec S1x8192 32) (r : Fin 16) (l : Fin 8192) (a : EReal)
    (hw : w (ix2 0 l) = BitVec.ofNat 32 (sE a) - 127#32) :
    k0_pay2 (F := Ideal) v w (ix3 0 r l) = qQ a (v (ix2 r l)) := by
  unfold qQ
  pointwise [k0_pay2]
  have h := sE_le a
  rw [ofBits_shli _ (254 - sE a) _ (by omega) (by omega)]
  rw [hw]
  show 127#32 - (BitVec.ofNat 32 (sE a) - 127#32) = _
  apply BitVec.eq_of_toNat_eq
  simp only [BitVec.toNat_sub, BitVec.toNat_ofNat]
  omega

end Cert.UpdateIdeal.Elem

end
-- ==== Proof.UpdR.lean ====
/-
  The reference of the second call, `UpdateReferenceIdeal`, read element by element.
-/
module

public import proofs.«01_k».proof.Proof.Gen.UpdateReferenceIdeal.Run
public import proofs.«01_k».proof.Proof.UpdSpec

@[expose] public section

noncomputable section

namespace Cert.UpdateReferenceIdeal.Elem

open Cert.UpdateReferenceIdeal Cert.UpdateReferenceIdeal.Gen Cert.Upd Idealize.ShloMosaic Idealize.ShloMosaic.TcCoe Idealize.SL.Sem

/-! ### The stages of the reference -/

def rN (a1 : FVec Ideal S4x8x8192 .f32) (a2 : FVec Ideal S4x8192 .f32) : FVec Ideal S4x8192 .f32 :=
  addf (mulf (broadcastInDim S4x8192 ![] bcast_S_S4x8192 (constant S_ .f32 0x3F666666#32)) a2)
    (mulf (broadcastInDim S4x8192 ![] bcast_S_S4x8192 (constant S_ .f32 0x3DCCCCCD#32))
      (Host.reduceAdd a1 (constant S_ .f32 0x00000000#32) reducesTo_S4x8x8192_S4x8192_d1 h_S_))

def rM (a0 : FVec Ideal S4x64x8192 .f32) (a3 : FVec Ideal S4x16x8192 .f32) : FVec Ideal S4x16x8192 .f32 :=
  addf (mulf (broadcastInDim S4x16x8192 ![] bcast_S_S4x16x8192 (constant S_ .f32 0x3F666666#32)) a3)
    (mulf (broadcastInDim S4x16x8192 ![] bcast_S_S4x16x8192 (constant S_ .f32 0x3DCCCCCD#32))
      (shapeCast _ (Host.reduceAdd a0 (constant S_ .f32 0x00000000#32) reducesTo_S4x64x8192_S64x8192_d0 h_S_) shapeCasts_S64x8192_S4x16x8192))

def rS (n : FVec Ideal S4x8192 .f32) : FVec Ideal S4x8192 .f32 :=
  mulf (Host.divf (addf n (broadcastInDim S4x8192 ![] bcast_S_S4x8192 (constant S_ .f32 0x3727C5AC#32)))
      (broadcastInDim S4x8192 ![0, 1] bcast_S4x1_S4x8192_0_1
        (addf (broadcastInDim S4x1 ![0] bcast_S4_S4x1_0 (Host.reduceAdd n (constant S_ .f32 0x00000000#32) reducesTo_S4x8192_S4_d1 h_S_))
          (broadcastInDim S4x1 ![] bcast_S_S4x1 (constant S_ .f32 0x3DA7C5AC#32)))))
    (broadcastInDim S4x8192 ![0, 1] bcast_S4x1_S4x8192_0_1
      (broadcastInDim S4x1 ![0] bcast_S4_S4x1_0 (Host.reduceAdd n (constant S_ .f32 0x00000000#32) reducesTo_S4x8192_S4_d1 h_S_)))

def rV (mm : FVec Ideal S4x16x8192 .f32) (s : FVec Ideal S4x8192 .f32) : FVec Ideal S4x16x8192 .f32 :=
  Host.divf mm (broadcastInDim S4x16x8192 ![0, 1, 2] bcast_S4x1x8192_S4x16x8192_0_1_2 (broadcastInDim S4x1x8192 ![0, 2] bcast_S4x8192_S4x1x8192_0_2 s))

def rA (v : FVec Ideal S4x16x8192 .f32) : FVec Ideal S4x8192 .f32 :=
  Host.reduce FloatOps.maximumf (Host.absf v) (constant S_ .f32 0xFF800000#32) reducesTo_S4x16x8192_S4x8192_d1 h_S_

def rT : FVec Ideal S253 .f32 := fun i => FloatOps.ofBits .f32 (lit0 (S253.rowMajor i))

def rC (a : FVec Ideal S4x8192 .f32) : FVec Ideal S4x8192 .f32 :=
  select (cmpf .oeq a (broadcastInDim S4x8192 ![] bcast_S_S4x8192 (constant S_ .f32 0x00000000#32)))
    (broadcastInDim S4x8192 ![] bcast_S_S4x8192 (id (constant S_ .f32 0x3F800000#32)))
    (Host.reduce FloatOps.minimumf
      (select (cmpf .olt
          (broadcastInDim S4x8192x253 ![0, 1, 2] bcast_S4x8192x1_S4x8192x253_0_1_2 (broadcastInDim S4x8192x1 ![0, 1] bcast_S4x8192_S4x8192x1_0_1
            (mulf a (broadcastInDim S4x8192 ![] bcast_S_S4x8192 (constant S_ .f32 0x3B124925#32)))))
          (broadcastInDim S4x8192x253 ![0, 1, 2] bcast_S1x1x253_S4x8192x253_0_1_2 (broadcastInDim S1x1x253 ![2] bcast_S253_S1x1x253_2 rT)))
        (broadcastInDim S4x8192x253 ![2] bcast_S253_S4x8192x253_2 rT)
        (broadcastInDim S4x8192x253 ![] bcast_S_S4x8192x253 (constant S_ .f32 0x7E800000#32)))
      (constant S_ .f32 0x7F800000#32) reducesTo_S4x8192x253_S4x8192_d2 h_S_)

def rQ (v : FVec Ideal S4x16x8192 .f32) (s : FVec Ideal S4x8192 .f32) : FVec Ideal S4x16x8192 .fp8e4m3 :=
  Host.convertf .fp8e4m3 (minimumf (broadcastInDim S4x16x8192 ![] bcast_S_S4x16x8192 (id (constant S_ .f32 0x43E00000#32)))
    (maximumf (broadcastInDim S4x16x8192 ![] bcast_S_S4x16x8192 (id (constant S_ .f32 0xC3E00000#32)))
      (Host.divf v (broadcastInDim S4x16x8192 ![0, 1, 2] bcast_S4x1x8192_S4x16x8192_0_1_2 (broadcastInDim S4x1x8192 ![0, 2] bcast_S4x8192_S4x1x8192_0_2 s)))))

/-! ### … read at an index -/

variable (a0 : FVec Ideal S4x64x8192 .f32) (a1 : FVec Ideal S4x8x8192 .f32) (a2 : FVec Ideal S4x8192 .f32) (a3 : FVec Ideal S4x16x8192 .f32)

/-- Group `g`'s slices of the four arguments. -/
abbrev sC (g : Fin 4) : Fin 8 → Fin 8192 → EReal := fun k l => a1 (ix3 g k l)
abbrev sN (g : Fin 4) : Fin 8192 → EReal := fun l => a2 (ix2 g l)
abbrev sS (g : Fin 4) : Fin 4 → Fin 16 → Fin 8192 → EReal := fun p r l => a0 (ix3 p ⟨g.val * 16 + r.val, by omega⟩ l)
abbrev sM (g : Fin 4) : Fin 16 → Fin 8192 → EReal := fun r l => a3 (ix3 g r l)

theorem rN_apply (g : Fin 4) (l : Fin 8192) : rN a1 a2 (ix2 g l) = nN (sC a1 g) (sN a2 g) l := by
  unfold nN
  pointwise [rN]

theorem rM_apply (g : Fin 4) (r : Fin 16) (l : Fin 8192) : rM a0 a3 (ix3 g r l) = mM (sS a0 g) (sM a3 g) r l := by
  unfold mM
  pointwise [rM]

theorem rS_apply (n : FVec Ideal S4x8192 .f32) (g : Fin 4) (l : Fin 8192) :
    rS n (ix2 g l) = Ideal.div (n (ix2 g l) + lit 0x3727C5AC#32) ((∑ k : Fin 8192, n (ix2 g k)) + lit 0x3DA7C5AC#32) * ∑ k : Fin 8192, n (ix2 g k) := by
  pointwise [rS]

theorem rV_apply (mm : FVec Ideal S4x16x8192 .f32) (s : FVec Ideal S4x8192 .f32) (g : Fin 4) (r : Fin 16) (l : Fin 8192) :
    rV mm s (ix3 g r l) = Ideal.div (mm (ix3 g r l)) (s (ix2 g l)) := by
  pointwise [rV]

theorem rA_apply (v : FVec Ideal S4x16x8192 .f32) (g : Fin 4) (l : Fin 8192) :
    rA v (ix2 g l) = aA fun r => v (ix3 g r l) := by
  unfold aA
  rw [← ofBits_bot]
  pointwise [rA]
  rfl

theorem rQ_apply (v : FVec Ideal S4x16x8192 .f32) (s : FVec Ideal S4x8192 .f32) (g : Fin 4) (r : Fin 16) (l : Fin 8192) :
    rQ v s (ix3 g r l) = min (lit 0x43E00000#32) (max (lit 0xC3E00000#32) (Ideal.div (v (ix3 g r l)) (s (ix2 g l)))) := by
  pointwise [rQ, id]

theorem rT_apply (j : Fin 253) : rT (ix1 j) = P (j.val + 1) := by
  have h : ∀ j : Fin 253, lit0 j = BitVec.ofNat 32 ((j.val + 1) * 2 ^ 23) := by decide +kernel
  have e : S253.rowMajor (ix1 j) = j := Fin.ext (by simp [Shape.rowMajor_val_one])
  have hj : j.val < 253 := j.isLt
  unfold rT
  rw [← ofBits_P (j.val + 1) (by omega) (by omega), ← h j]
  exact congrArg (fun i => Ideal.ofBits .f32 (lit0 i)) e

theorem rC_apply (a : FVec Ideal S4x8192 .f32) (g : Fin 4) (l : Fin 8192) : rC a (ix2 g l) = P (sE (a (ix2 g l))) := by
  pointwise [rC, id]
  have h : lit 2122317824#32 = P 253 := ofBits_P 253 (by omega) (by omega)
  unfold sE
  simp only [rT_apply]
  rw [show Ideal.ofBits FTy.f32 2122317824#32 = P 253 from h, show Ideal.ofBits FTy.f32 2139095040#32 = ⊤ from ofBits_top, min_eq]
  split
  · rw [P_127]
  · rfl

end Cert.UpdateReferenceIdeal.Elem

end
-- ==== Proof.UpdAlg.lean ====
/-
  The value claim of the second call: over the extended reals the kernel's program and the reference end with the same
  four results.
-/
module

public import proofs.«01_k».proof.Defs
public import proofs.«01_k».proof.Proof.UpdK
public import proofs.«01_k».proof.Proof.UpdR
public import Idealize.ShloMosaic.Lib.Pipeline.Value

@[expose] public section

noncomputable section

namespace Cert.UpdateIdeal.Elem

open Cert.UpdateIdeal Cert.UpdateIdeal.Gen Cert.Upd Idealize.ShloMosaic Idealize.ShloMosaic.TcCoe Idealize.SL.Sem
open Cert.UpdateReferenceIdeal.Elem (rN rM rS rV rA rC rQ sC sN sS sM rN_apply rM_apply rS_apply rV_apply rA_apply rC_apply rQ_apply)
open Idealize.ShloMosaic.Pipeline (Dat)

variable (m : (ℓ : Loc nD τ sig) → Buf (Elt Ideal) ℓ) (c : Dev nD)

/-! ### The windows' blocks -/

theorem idx_facts : ∀ t : Fin cfg0.N,
    (win0_0.index t (0 : Fin 3) = 0 ∧ win0_0.index t (1 : Fin 3) = t.val ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-- Grid point `t`'s group. -/
def gp (t : Fin cfg0.N) : Fin 4 := ⟨t.val, by have h := t.isLt; have : cfg0.N = 4 := N_0; omega⟩

theorem emb0 (t : Fin cfg0.N) (p : Fin 4) (r : Fin 16) (l : Fin 8192) :
    ((cfg0.win 0).blk t).view.emb (ix3 p r l : S4x16x8192.Idx) = (ix3 p ⟨(gp t).val * 16 + r.val, by omega⟩ l : S4x64x8192.Idx) := by
  obtain ⟨e0, e1, e2⟩ := (idx_facts t).1
  funext a; apply Fin.ext
  match a with
  | ⟨0, _⟩ => show win0_0.index t (0 : Fin 3) * 4 + 1 * p.val = p.val; omega
  | ⟨1, _⟩ => show win0_0.index t (1 : Fin 3) * 16 + 1 * r.val = t.val * 16 + r.val; omega
  | ⟨2, _⟩ => show win0_0.index t (2 : Fin 3) * 8192 + 1 * l.val = l.val; omega

theorem emb1 (t : Fin cfg0.N) (k : Fin 8) (l : Fin 8192) :
    ((cfg0.win 1).blk t).view.emb (ix3 0 k l : S1x8x8192.Idx) = (ix3 (gp t) k l : S4x8x8192.Idx) := by
  obtain ⟨e0, e1, e2⟩ := (idx_facts t).2.1
  funext a; apply Fin.ext
  match a with
  | ⟨0, _⟩ => show win0_1.index t (0 : Fin 3) * 1 + 1 * 0 = t.val; omega
  | ⟨1, _⟩ => show win0_1.index t (1 : Fin 3) * 8 + 1 * k.val = k.val; omega
  | ⟨2, _⟩ => show win0_1.index t (2 : Fin 3) * 8192 + 1 * l.val = l.val; omega

theorem emb2 (t : Fin cfg0.N) (l : Fin 8192) :
    ((cfg0.win 2).blk t).view.emb (ix3 0 0 l : S1x1x8192.Idx) = (ix3 (gp t) 0 l : S4x1x8192.Idx) := by
  obtain ⟨e0, e1, e2⟩ := (idx_facts t).2.2.1
  funext a; apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 8192 + 1 * l.val = l.val; omega

theorem emb3 (t : Fin cfg0.N) (r : Fin 16) (l : Fin 8192) :
    ((cfg0.win 3).blk t).view.emb (ix3 0 r l : S1x16x8192.Idx) = (ix3 (gp t) r l : S4x16x8192.Idx) := by
  obtain ⟨e0, e1, e2⟩ := (idx_facts t).2.2.2.1
  funext a; apply Fin.ext
  match a with
  | ⟨0, _⟩ => show win0_3.index t (0 : Fin 3) * 1 + 1 * 0 = t.val; omega
  | ⟨1, _⟩ => show win0_3.index t (1 : Fin 3) * 16 + 1 * r.val = r.val; omega
  | ⟨2, _⟩ => show win0_3.index t (2 : Fin 3) * 8192 + 1 * l.val = l.val; omega

theorem emb4 (t : Fin cfg0.N) (l : Fin 8192) :
    ((cfg0.win 4).blk t).view.emb (ix3 0 0 l : S1x1x8192.Idx) = (ix3 (gp t) 0 l : S4x1x8192.Idx) := by
  obtain ⟨e0, e1, e2⟩ := (idx_facts t).2.2.2.2.1
  funext a; apply Fin.ext
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 8192 + 1 * l.val = l.val; omega

theorem emb5 (t : Fin cfg0.N) (r : Fin 16) (l : Fin 8192) :
    ((cfg0.win 5).blk t).view.emb (ix3 0 r l : S1x16x8192.Idx) = (ix3 (gp t) r l : S4x16x8192.Idx) := by
  obtain ⟨e0, e1, e2⟩ := (idx_facts t).2.2.2.2.2.1
  funext a; apply Fin.ext
  match a with
  | ⟨0, _⟩ => show win0_5.index t (0 : Fin 3) * 1 + 1 * 0 = t.val; omega
  | ⟨1, _⟩ => show win0_5.index t (1 : Fin 3) * 16 + 1 * r.val = r.val; omega
  | ⟨2, _⟩ => show win0_5.index t (2 : Fin 3) * 8192 + 1 * l.val = l.val; omega

theorem emb6 (t : Fin cfg0.N) (r : Fin 16) (l : Fin 8192) :
    ((cfg0.win 6).blk t).view.emb (ix3 0 r l : S1x16x8192.Idx) = (ix3 (gp t) r l : S4x16x8192.Idx) := by
  obtain ⟨e0, e1, e2⟩ := (idx_facts t).2.2.2.2.2.2.1
  funext a; apply Fin.ext
  match a with
  | ⟨0, _⟩ => show win0_6.index t (0 : Fin 3) * 1 + 1 * 0 = t.val; omega
  | ⟨1, _⟩ => show win0_6.index t (1 : Fin 3) * 16 + 1 * r.val = r.val; omega
  | ⟨2, _⟩ => show win0_6.index t (2 : Fin 3) * 8192 + 1 * l.val = l.val; omega

theorem emb7 (t : Fin cfg0.N) (l : Fin 8192) :
    ((cfg0.win 7).blk t).view.emb (ix3 0 0 l : S1x1x8192.Idx) = (ix3 (gp t) 0 l : S4x1x8192.Idx) := by
  obtain ⟨e0, e1, e2⟩ := (idx_facts t).2.2.2.2.2.2.2
  funext a; apply Fin.ext
  match a with
  | ⟨0, _⟩ => show win0_7.index t (0 : Fin 3) * 1 + 1 * 0 = t.val; omega
  | ⟨1, _⟩ => show win0_7.index t (1 : Fin 3) * 1 + 1 * 0 = 0; omega
  | ⟨2, _⟩ => show win0_7.index t (2 : Fin 3) * 8192 + 1 * l.val = l.val; omega

/-! ### The argument arrays and their blocks -/

abbrev a0 : FVec Ideal S4x64x8192 .f32 := m ((c.tc : Thread nD τ).loc main_arg0)
abbrev a1 : FVec Ideal S4x8x8192 .f32 := m ((c.tc : Thread nD τ).loc main_arg1)
abbrev a2 : FVec Ideal S4x8192 .f32 := m ((c.tc : Thread nD τ).loc main_arg2)
abbrev a3 : FVec Ideal S4x16x8192 .f32 := m ((c.tc : Thread nD τ).loc main_arg3)

abbrev b0 (t : Fin cfg0.N) : FVec Ideal S4x16x8192 .f32 := iblk m c 0 t
abbrev b1 (t : Fin cfg0.N) : FVec Ideal S1x8x8192 .f32 := iblk m c 1 t
abbrev b2 (t : Fin cfg0.N) : FVec Ideal S1x1x8192 .f32 := iblk m c 2 t
abbrev b3 (t : Fin cfg0.N) : FVec Ideal S1x16x8192 .f32 := iblk m c 3 t

theorem b0_apply (t : Fin cfg0.N) (p : Fin 4) (r : Fin 16) (l : Fin 8192) : b0 m c t (ix3 p r l) = sS (a0 m c) (gp t) p r l := by
  show V m c main_arg0 (((cfg0.win 0).blk t).view.emb (ix3 p r l : S4x16x8192.Idx)) = _
  rw [emb0, V_main_arg0]

theorem b1_apply (t : Fin cfg0.N) (k : Fin 8) (l : Fin 8192) : b1 m c t (ix3 0 k l) = sC (a1 m c) (gp t) k l := by
  show V m c main_arg1 (((cfg0.win 1).blk t).view.emb (ix3 0 k l : S1x8x8192.Idx)) = _
  rw [emb1, V_main_arg1]

theorem V_main_v0 : V m c main_v0 = shapeCast S4x1x8192 (a2 m c) shapeCasts_S4x8192_S4x1x8192 := by
  rfl

theorem b2_apply (t : Fin cfg0.N) (l : Fin 8192) : b2 m c t (ix3 0 0 l) = sN (a2 m c) (gp t) l := by
  show V m c main_v0 (((cfg0.win 2).blk t).view.emb (ix3 0 0 l : S1x1x8192.Idx)) = _
  rw [emb2, V_main_v0]
  pointwise

theorem b3_apply (t : Fin cfg0.N) (r : Fin 16) (l : Fin 8192) : b3 m c t (ix3 0 r l) = sM (a3 m c) (gp t) r l := by
  show V m c main_arg3 (((cfg0.win 3).blk t).view.emb (ix3 0 r l : S1x16x8192.Idx)) = _
  rw [emb3, V_main_arg3]

/-! ### What a grid point computes -/

theorem hz : (![0, 0, 0] : Fin 3 → Nat) = fun _ => 0 := funext fun a => by fin_cases a <;> rfl

theorem ld6 (X : S1x16x8192.Idx → Elt Ideal .f32) : View.ld (Val := Elt Ideal) (e' := .f32) X r0_6 = X := View.ld_unit_zero hz _ X
theorem ld0 (X : S4x16x8192.Idx → Elt Ideal .f32) (r : Fin 16) (l : Fin 8192) : View.ld (Val := Elt Ideal) (e' := .f32) X r0_2 (ix3 0 r l) = X (ix3 0 r l) := by
  pointwise
theorem ld1 (X : S4x16x8192.Idx → Elt Ideal .f32) (r : Fin 16) (l : Fin 8192) : View.ld (Val := Elt Ideal) (e' := .f32) X r0_3 (ix3 0 r l) = X (ix3 1 r l) := by
  pointwise
theorem ld2 (X : S4x16x8192.Idx → Elt Ideal .f32) (r : Fin 16) (l : Fin 8192) : View.ld (Val := Elt Ideal) (e' := .f32) X r0_4 (ix3 0 r l) = X (ix3 2 r l) := by
  pointwise
theorem ld3 (X : S4x16x8192.Idx → Elt Ideal .f32) (r : Fin 16) (l : Fin 8192) : View.ld (Val := Elt Ideal) (e' := .f32) X r0_5 (ix3 0 r l) = X (ix3 3 r l) := by
  pointwise

/-- The group's slices of the arguments, at grid point `t`. -/
abbrev C (t : Fin cfg0.N) := sC (a1 m c) (gp t)
abbrev E (t : Fin cfg0.N) := sN (a2 m c) (gp t)
abbrev S (t : Fin cfg0.N) := sS (a0 m c) (gp t)
abbrev M (t : Fin cfg0.N) := sM (a3 m c) (gp t)

theorem p7_apply (t : Fin cfg0.N) (r : Fin 16) (l : Fin 8192) :
    k0_pay7 (F := Ideal) (k0_pay12 (b0 m c t) (b1 m c t) (b2 m c t) (b3 m c t)) (View.ld (b0 m c t) r0_5) (b3 m c t) (ix2 r l)
      = mM (S m c t) (M m c t) r l := by
  unfold k0_pay12 mM
  rw [pay7_apply, ld0, ld1, ld2, ld3, Fin.sum_univ_four, b3_apply]
  simp only [b0_apply]

theorem p11_apply (t : Fin cfg0.N) (l : Fin 8192) :
    k0_pay11 (F := Ideal) (b0 m c t) (b1 m c t) (b2 m c t) (b3 m c t) (ix2 0 l) = nS (C m c t) (E m c t) l := by
  unfold k0_pay11
  rw [View.ld_unit_zero hz, View.ld_unit_zero hz, pay5_apply]
  simp only [b1_apply, b2_apply]

theorem p9_apply (t : Fin cfg0.N) (r : Fin 16) (l : Fin 8192) :
    k0_pay9 (F := Ideal) (k0_pay11 (b0 m c t) (b1 m c t) (b2 m c t) (b3 m c t)) (k0_pay12 (b0 m c t) (b1 m c t) (b2 m c t) (b3 m c t))
        (View.ld (b0 m c t) r0_5) (b3 m c t) (ix2 r l)
      = vV (C m c t) (E m c t) (S m c t) (M m c t) r l := by
  unfold vV
  rw [pay9_apply, p7_apply, p11_apply]

theorem p13_apply (t : Fin cfg0.N) (l : Fin 8192) :
    k0_pay13 (F := Ideal) (b0 m c t) (b1 m c t) (b2 m c t) (b3 m c t) (ix2 0 l)
      = BitVec.ofNat 32 (sE (aA fun r => vV (C m c t) (E m c t) (S m c t) (M m c t) r l)) - 127#32 := by
  unfold k0_pay13
  rw [ld6, pay10_apply]
  simp only [p9_apply]

theorem o4_apply (t : Fin cfg0.N) (l : Fin 8192) :
    out0_4 (F := Ideal) (b0 m c t) (b1 m c t) (b2 m c t) (b3 m c t) (ix3 0 0 l) = nN (C m c t) (E m c t) l := by
  unfold out0_4
  rw [View.canon_unit_zero hz, View.ld_unit_zero hz, View.ld_unit_zero hz, pay4_apply]
  simp only [b1_apply, b2_apply]

theorem o5_apply (t : Fin cfg0.N) (r : Fin 16) (l : Fin 8192) :
    out0_5 (F := Ideal) (b0 m c t) (b1 m c t) (b2 m c t) (b3 m c t) (ix3 0 r l) = mM (S m c t) (M m c t) r l := by
  unfold out0_5
  rw [View.canon_unit_zero hz, ld6, pay8_apply, p7_apply]

theorem o6_apply (t : Fin cfg0.N) (r : Fin 16) (l : Fin 8192) :
    out0_6 (F := Ideal) (b0 m c t) (b1 m c t) (b2 m c t) (b3 m c t) (ix3 0 r l)
      = qQ (aA fun r => vV (C m c t) (E m c t) (S m c t) (M m c t) r l) (vV (C m c t) (E m c t) (S m c t) (M m c t) r l) := by
  unfold out0_6
  rw [View.canon_unit_zero hz, ld6, pay2_apply _ _ r l _ (p13_apply m c t l), p9_apply]

theorem o7_apply (t : Fin cfg0.N) (l : Fin 8192) :
    out0_7 (F := Ideal) (b0 m c t) (b1 m c t) (b2 m c t) (b3 m c t) (ix3 0 0 l)
      = P (sE (aA fun r => vV (C m c t) (E m c t) (S m c t) (M m c t) r l)) := by
  unfold out0_7
  have h := sE_le (aA fun r => vV (C m c t) (E m c t) (S m c t) (M m c t) r l)
  rw [View.canon_unit_zero hz]
  exact pay1_apply _ l _ h.1 (by omega) (p13_apply m c t l)

/-! ### The whole result arrays: the reference's terms of the same arguments -/

abbrev refN := rN (a1 m c) (a2 m c)
abbrev refM := rM (a0 m c) (a3 m c)
abbrev refV := rV (refM m c) (rS (refN m c))
abbrev refC := rC (rA (refV m c))

def G4 : FVec Ideal S4x1x8192 .f32 := broadcastInDim S4x1x8192 ![0, 2] Cert.UpdateReferenceIdeal.Facts₀.bcast_S4x8192_S4x1x8192_0_2 (refN m c)
def G5 : FVec Ideal S4x16x8192 .f32 := refM m c
def G6 : FVec Ideal S4x16x8192 .fp8e4m3 := rQ (refV m c) (refC m c)
def G7 : FVec Ideal S4x1x8192 .f32 := broadcastInDim S4x1x8192 ![0, 2] Cert.UpdateReferenceIdeal.Facts₀.bcast_S4x8192_S4x1x8192_0_2 (refC m c)

theorem refV_apply (g : Fin 4) (r : Fin 16) (l : Fin 8192) :
    refV m c (ix3 g r l) = vV (sC (a1 m c) g) (sN (a2 m c) g) (sS (a0 m c) g) (sM (a3 m c) g) r l := by
  unfold vV nS
  refine (rV_apply _ _ g r l).trans ?_
  refine congrArg₂ Ideal.div (rM_apply _ _ g r l) ((rS_apply _ g l).trans ?_)
  simp only [refN, rN_apply]

theorem refC_apply (g : Fin 4) (l : Fin 8192) :
    refC m c (ix2 g l) = P (sE (aA fun r => vV (sC (a1 m c) g) (sN (a2 m c) g) (sS (a0 m c) g) (sM (a3 m c) g) r l)) := by
  refine (rC_apply _ g l).trans ?_
  rw [rA_apply]
  simp only [refV_apply]

theorem G4_apply (g : Fin 4) (l : Fin 8192) : G4 m c (ix3 g 0 l) = nN (sC (a1 m c) g) (sN (a2 m c) g) l := by
  rw [← rN_apply]
  unfold G4
  pointwise

theorem G5_apply (g : Fin 4) (r : Fin 16) (l : Fin 8192) : G5 m c (ix3 g r l) = mM (sS (a0 m c) g) (sM (a3 m c) g) r l :=
  rM_apply _ _ g r l

theorem G6_apply (g : Fin 4) (r : Fin 16) (l : Fin 8192) :
    G6 m c (ix3 g r l) = qQ (aA fun r => vV (sC (a1 m c) g) (sN (a2 m c) g) (sS (a0 m c) g) (sM (a3 m c) g) r l)
      (vV (sC (a1 m c) g) (sN (a2 m c) g) (sS (a0 m c) g) (sM (a3 m c) g) r l) := by
  unfold G6 qQ
  rw [rQ_apply, refV_apply, refC_apply, div_scale]

theorem G7_apply (g : Fin 4) (l : Fin 8192) :
    G7 m c (ix3 g 0 l) = P (sE (aA fun r => vV (sC (a1 m c) g) (sN (a2 m c) g) (sS (a0 m c) g) (sM (a3 m c) g) r l)) := by
  rw [← refC_apply]
  unfold G7
  pointwise

theorem row_eq (j : S1x1x8192.Idx) : ∃ l : Fin 8192, j = ix3 0 0 l := by
  refine ⟨j 2, funext fun a => ?_⟩
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => rfl

theorem mat_eq (j : S1x16x8192.Idx) : ∃ (r : Fin 16) (l : Fin 8192), j = ix3 0 r l := by
  refine ⟨j 1, j 2, funext fun a => ?_⟩
  match a with
  | ⟨0, _⟩ => exact Fin.ext (by have h : (j 0).val < 1 := (j 0).isLt; show (j 0).val = 0; omega)
  | ⟨1, _⟩ => rfl
  | ⟨2, _⟩ => rfl

theorem rows_eq (j : S4x1x8192.Idx) : ∃ (g : Fin 4) (l : Fin 8192), j = ix3 g 0 l := by
  refine ⟨j 0, j 2, funext fun a => ?_⟩
  match a with
  | ⟨0, _⟩ => rfl
  | ⟨1, _⟩ => exact Fin.ext (by have h : (j 1).val < 1 := (j 1).isLt; show (j 1).val = 0; omega)
  | ⟨2, _⟩ => rfl

theorem mats_eq (j : S4x16x8192.Idx) : ∃ (g : Fin 4) (r : Fin 16) (l : Fin 8192), j = ix3 g r l := by
  refine ⟨j 0, j 1, j 2, funext fun a => ?_⟩
  match a with
  | ⟨0, _⟩ => rfl
  | ⟨1, _⟩ => rfl
  | ⟨2, _⟩ => rfl

/-- Group `g`'s grid point. -/
def pt (g : Fin 4) : Fin cfg0.N := ⟨g.val, by have : cfg0.N = 4 := N_0; omega⟩

theorem gp_pt (g : Fin 4) : gp (pt g) = g := rfl

theorem flushed4 (t : Fin cfg0.N) : (dats m 0 c).flushed 4 t = ((cfg0.win 4).blk t).view.read (Elt Ideal) (G4 m c) := by
  have key : ∀ j : S1x1x8192.Idx, out0_4 (F := Ideal) (b0 m c t) (b1 m c t) (b2 m c t) (b3 m c t) j = G4 m c (((cfg0.win 4).blk t).view.emb j) := by
    intro j
    obtain ⟨l, rfl⟩ := row_eq j
    rw [emb4, G4_apply, o4_apply]
  have cut : ∀ X : S1x1x8192.Idx → Elt Ideal (cfg0.win 4).elt, (cfg0.win 4).cut (grid0.coords t) X = X := fun _ => rfl
  show (cfg0.win 4).cut (grid0.coords t) ((dats m 0 c).after 4 t) = _
  rw [after0_4]
  refine (cut _).trans (funext fun j => (key j).trans ?_)
  generalize G4 m c = G
  rfl

theorem cover4 (i : S4x1x8192.Idx) : ∃ t : Fin cfg0.N, (cfg0.win 4).flush t = true ∧ i ∈ ((cfg0.win 4).blk t).view.set := by
  obtain ⟨g, l, rfl⟩ := rows_eq i
  refine ⟨pt g, flush0_4 _, ?_⟩
  have h := ((cfg0.win 4).blk (pt g)).view.emb_mem_set (ix3 0 0 l : S1x1x8192.Idx)
  rw [emb4, gp_pt] at h
  exact h

theorem final4 : (dats m 0 c).arrAt 4 cfg0.N = G4 m c :=
  (dats m 0 c).arrAt_eq_of_cover 4 (G4 m c) (fun t _ => flushed4 m c t) cover4

theorem flushed5 (t : Fin cfg0.N) : (dats m 0 c).flushed 5 t = ((cfg0.win 5).blk t).view.read (Elt Ideal) (G5 m c) := by
  have key : ∀ j : S1x16x8192.Idx, out0_5 (F := Ideal) (b0 m c t) (b1 m c t) (b2 m c t) (b3 m c t) j = G5 m c (((cfg0.win 5).blk t).view.emb j) := by
    intro j
    obtain ⟨r, l, rfl⟩ := mat_eq j
    rw [emb5, G5_apply, o5_apply]
  have cut : ∀ X : S1x16x8192.Idx → Elt Ideal (cfg0.win 5).elt, (cfg0.win 5).cut (grid0.coords t) X = X := fun _ => rfl
  show (cfg0.win 5).cut (grid0.coords t) ((dats m 0 c).after 5 t) = _
  rw [after0_5]
  refine (cut _).trans (funext fun j => (key j).trans ?_)
  generalize G5 m c = G
  rfl

theorem cover5 (i : S4x16x8192.Idx) : ∃ t : Fin cfg0.N, (cfg0.win 5).flush t = true ∧ i ∈ ((cfg0.win 5).blk t).view.set := by
  obtain ⟨g, r, l, rfl⟩ := mats_eq i
  refine ⟨pt g, flush0_5 _, ?_⟩
  have h := ((cfg0.win 5).blk (pt g)).view.emb_mem_set (ix3 0 r l : S1x16x8192.Idx)
  rw [emb5, gp_pt] at h
  exact h

theorem final5 : (dats m 0 c).arrAt 5 cfg0.N = G5 m c :=
  (dats m 0 c).arrAt_eq_of_cover 5 (G5 m c) (fun t _ => flushed5 m c t) cover5

theorem flushed6 (t : Fin cfg0.N) : (dats m 0 c).flushed 6 t = ((cfg0.win 6).blk t).view.read (Elt Ideal) (G6 m c) := by
  have key : ∀ j : S1x16x8192.Idx, out0_6 (F := Ideal) (b0 m c t) (b1 m c t) (b2 m c t) (b3 m c t) j = G6 m c (((cfg0.win 6).blk t).view.emb j) := by
    intro j
    obtain ⟨r, l, rfl⟩ := mat_eq j
    rw [emb6, G6_apply, o6_apply]
  have cut : ∀ X : S1x16x8192.Idx → Elt Ideal (cfg0.win 6).elt, (cfg0.win 6).cut (grid0.coords t) X = X := fun _ => rfl
  show (cfg0.win 6).cut (grid0.coords t) ((dats m 0 c).after 6 t) = _
  rw [after0_6]
  refine (cut _).trans (funext fun j => (key j).trans ?_)
  generalize G6 m c = G
  rfl

theorem cover6 (i : S4x16x8192.Idx) : ∃ t : Fin cfg0.N, (cfg0.win 6).flush t = true ∧ i ∈ ((cfg0.win 6).blk t).view.set := by
  obtain ⟨g, r, l, rfl⟩ := mats_eq i
  refine ⟨pt g, flush0_6 _, ?_⟩
  have h := ((cfg0.win 6).blk (pt g)).view.emb_mem_set (ix3 0 r l : S1x16x8192.Idx)
  rw [emb6, gp_pt] at h
  exact h

theorem final6 : (dats m 0 c).arrAt 6 cfg0.N = G6 m c :=
  (dats m 0 c).arrAt_eq_of_cover 6 (G6 m c) (fun t _ => flushed6 m c t) cover6

theorem flushed7 (t : Fin cfg0.N) : (dats m 0 c).flushed 7 t = ((cfg0.win 7).blk t).view.read (Elt Ideal) (G7 m c) := by
  have key : ∀ j : S1x1x8192.Idx, out0_7 (F := Ideal) (b0 m c t) (b1 m c t) (b2 m c t) (b3 m c t) j = G7 m c (((cfg0.win 7).blk t).view.emb j) := by
    intro j
    obtain ⟨l, rfl⟩ := row_eq j
    rw [emb7, G7_apply, o7_apply]
  have cut : ∀ X : S1x1x8192.Idx → Elt Ideal (cfg0.win 7).elt, (cfg0.win 7).cut (grid0.coords t) X = X := fun _ => rfl
  show (cfg0.win 7).cut (grid0.coords t) ((dats m 0 c).after 7 t) = _
  rw [after0_7]
  refine (cut _).trans (funext fun j => (key j).trans ?_)
  generalize G7 m c = G
  rfl

theorem cover7 (i : S4x1x8192.Idx) : ∃ t : Fin cfg0.N, (cfg0.win 7).flush t = true ∧ i ∈ ((cfg0.win 7).blk t).view.set := by
  obtain ⟨g, l, rfl⟩ := rows_eq i
  refine ⟨pt g, flush0_7 _, ?_⟩
  have h := ((cfg0.win 7).blk (pt g)).view.emb_mem_set (ix3 0 0 l : S1x1x8192.Idx)
  rw [emb7, gp_pt] at h
  exact h

theorem final7 : (dats m 0 c).arrAt 7 cfg0.N = G7 m c :=
  (dats m 0 c).arrAt_eq_of_cover 7 (G7 m c) (fun t _ => flushed7 m c t) cover7

/-- The kernel's run, its results read. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v1_0) = G4 m c
      ∧ r.2.mem ((c.tc : Thread nD τ).loc main_v1_1) = G5 m c
      ∧ r.2.mem ((c.tc : Thread nD τ).loc main_v1_2) = G6 m c
      ∧ r.2.mem ((c.tc : Thread nD τ).loc main_v1_3) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final4 m c), ((h c).1 5).trans (final5 m c),
      ((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c)))⟩)
    (run_main m ρ)

end Cert.UpdateIdeal.Elem

namespace Cert.Proof

open Idealize.ShloMosaic Idealize.ShloMosaic.TcCoe Idealize.SL.Sem
open Cert.UpdateIdeal.Elem (G4 G5 G6 G7)

/-- The value claim. -/
theorem algebraicUpdate : Cert.algebraic_UpdateIdeal_UpdateReferenceIdeal := by
  intro m g m' g' _ heq
  refine ⟨fun c => G4 m c, fun c => G5 m c, fun c => G6 m c, fun c => G7 m c, Cert.UpdateIdeal.Elem.run m g, ?_⟩
  refine (θ_run Cert.UpdateReferenceIdeal.defs _ _).mono (fun r h c => ?_) (Cert.UpdateReferenceIdeal.Value.run m' g')
  obtain ⟨h0, h1, h2, h3, ha⟩ := h c
  obtain ⟨e0, e1, e2, e3⟩ := heq c
  refine ⟨h0.trans ?_, h1.trans ?_, h2.trans ?_, h3.trans ?_, ha⟩
  · rw [e1, e2]; rfl
  · rw [e0, e3]; rfl
  · unfold Cert.UpdateReferenceIdeal.Value.res_main_v44
    rw [e0, e1, e2, e3]; rfl
  · unfold Cert.UpdateReferenceIdeal.Value.res_main_v40
    rw [e0, e1, e2, e3]; rfl

end Cert.Proof

end
-- ==== Proof.lean ====
/-
  The certificate: every claim of the statement, assembled from the modules that prove them.
-/
module

public import proofs.«01_k».proof.Proof.FrameI
public import proofs.«01_k».proof.Proof.FrameK
public import proofs.«01_k».proof.Proof.Algebra
public import proofs.«01_k».proof.Proof.Gen.Update.Frame
public import proofs.«01_k».proof.Proof.UpdAlg
public import proofs.«01_k».proof.Proof.Gen.Pre_codes_in_range
public import Idealize.ShloMosaic.Lib.Quiescent

@[expose] public section

namespace Cert.Proof

open Idealize.ShloMosaic Idealize.ShloMosaic.TcCoe Idealize.SL.Sem

/-- The update's reference runs and leaves its arguments as they were; it declares no semaphore. -/
theorem frameUpdateReference : Cert.quiescent_UpdateReferenceIdeal := fun m ρ _ =>
  (θ_run Cert.UpdateReferenceIdeal.defs _ _).mono (fun r h => ⟨fun c => (h c).2.2.2.2,
      sem_eq_zero_of_no_sems (by decide) r.2⟩)
    (Cert.UpdateReferenceIdeal.Value.run (F := Ideal) m ρ)

/-- Every claim of the statement. -/
theorem claim : Cert.Claim :=
  ⟨Cert.Kernel.Gen.facts, Cert.KernelIdeal.Gen.facts, Cert.ReferenceIdeal.Gen.facts, Cert.Update.Gen.facts, Cert.UpdateIdeal.Gen.facts,
    Cert.UpdateReferenceIdeal.Gen.facts, Cert.Pre_codes_in_range.Gen.facts,
    Cert.Proof.SumsK.frame, Cert.Proof.SumsI.frame, fun m ρ _ => Cert.ReferenceIdeal.Gen.frame m ρ,
    fun m ρ _ => Cert.ReferenceIdeal.Gen.frame m ρ, fun m ρ _ => Cert.Update.Gen.frame m ρ, fun m ρ _ => Cert.UpdateIdeal.Gen.frame m ρ,
    frameUpdateReference, trivial, Cert.Proof.algebraic, trivial, Cert.Proof.algebraicUpdate⟩

end Cert.Proof
